-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v39_1)) (v2 : (c : Dev Cert.KernelIdeal.nD) → Buf (Elt Ideal) ((c.tc : Thread Cert.KernelIdeal.nD Cert.KernelIdeal.τ).loc Cert.KernelIdeal.main_v39_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v39_1) = v1 c
          ∧ r.2.mem ((c.tc : Thread Cert.KernelIdeal.nD Cert.KernelIdeal.τ).loc Cert.KernelIdeal.main_v39_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_v6) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v26_0)) (v1 : (c : Dev Cert.Kernel3Ideal.nD) → Buf (Elt Ideal) ((c.tc : Thread Cert.Kernel3Ideal.nD Cert.Kernel3Ideal.τ).loc Cert.Kernel3Ideal.main_v26_1)) (v2 : (c : Dev Cert.Kernel3Ideal.nD) → Buf (Elt Ideal) ((c.tc : Thread Cert.Kernel3Ideal.nD Cert.Kernel3Ideal.τ).loc Cert.Kernel3Ideal.main_v26_2)) (v3 : (c : Dev Cert.Kernel3Ideal.nD) → Buf (Elt Ideal) ((c.tc : Thread Cert.Kernel3Ideal.nD Cert.Kernel3Ideal.τ).loc Cert.Kernel3Ideal.main_v26_3)) (v4 : (c : Dev Cert.Kernel3Ideal.nD) → Buf (Elt Ideal) ((c.tc : Thread Cert.Kernel3Ideal.nD Cert.Kernel3Ideal.τ).loc Cert.Kernel3Ideal.main_v26_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v26_0) = v0 c
          ∧ r.2.mem ((c.tc : Thread Cert.Kernel3Ideal.nD Cert.Kernel3Ideal.τ).loc Cert.Kernel3Ideal.main_v26_1) = v1 c
          ∧ r.2.mem ((c.tc : Thread Cert.Kernel3Ideal.nD Cert.Kernel3Ideal.τ).loc Cert.Kernel3Ideal.main_v26_2) = v2 c
          ∧ r.2.mem ((c.tc : Thread Cert.Kernel3Ideal.nD Cert.Kernel3Ideal.τ).loc Cert.Kernel3Ideal.main_v26_3) = v3 c
          ∧ r.2.mem ((c.tc : Thread Cert.Kernel3Ideal.nD Cert.Kernel3Ideal.τ).loc Cert.Kernel3Ideal.main_v26_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v93) = v0 c
          ∧ r.2.mem ((c.tc : Thread Cert.Reference3Ideal.nD Cert.Reference3Ideal.τ).loc Cert.Reference3Ideal.main_v58) = v1 c
          ∧ r.2.mem ((c.tc : Thread Cert.Reference3Ideal.nD Cert.Reference3Ideal.τ).loc Cert.Reference3Ideal.main_v94) = v2 c
          ∧ r.2.mem ((c.tc : Thread Cert.Reference3Ideal.nD Cert.Reference3Ideal.τ).loc Cert.Reference3Ideal.main_v41) = v3 c
          ∧ r.2.mem ((c.tc : Thread Cert.Reference3Ideal.nD Cert.Reference3Ideal.τ).loc Cert.Reference3Ideal.main_v76) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)) (v3 : (c : Dev Cert.Kernel4Ideal.nD) → Buf (Elt Ideal) ((c.tc : Thread Cert.Kernel4Ideal.nD Cert.Kernel4Ideal.τ).loc Cert.Kernel4Ideal.main_v3_3)) (v4 : (c : Dev Cert.Kernel4Ideal.nD) → Buf (Elt Ideal) ((c.tc : Thread Cert.Kernel4Ideal.nD Cert.Kernel4Ideal.τ).loc Cert.Kernel4Ideal.main_v3_4)) (v5 : (c : Dev Cert.Kernel4Ideal.nD) → Buf (Elt Ideal) ((c.tc : Thread Cert.Kernel4Ideal.nD Cert.Kernel4Ideal.τ).loc Cert.Kernel4Ideal.main_v3_5)) (v6 : (c : Dev Cert.Kernel4Ideal.nD) → Buf (Elt Ideal) ((c.tc : Thread Cert.Kernel4Ideal.nD Cert.Kernel4Ideal.τ).loc Cert.Kernel4Ideal.main_v3_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_v3_3) = v3 c
          ∧ r.2.mem ((c.tc : Thread Cert.Kernel4Ideal.nD Cert.Kernel4Ideal.τ).loc Cert.Kernel4Ideal.main_v3_4) = v4 c
          ∧ r.2.mem ((c.tc : Thread Cert.Kernel4Ideal.nD Cert.Kernel4Ideal.τ).loc Cert.Kernel4Ideal.main_v3_5) = v5 c
          ∧ r.2.mem ((c.tc : Thread Cert.Kernel4Ideal.nD Cert.Kernel4Ideal.τ).loc Cert.Kernel4Ideal.main_v3_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v65) = v0 c
          ∧ r.2.mem ((c.tc : Thread Cert.Reference4Ideal.nD Cert.Reference4Ideal.τ).loc Cert.Reference4Ideal.main_v66) = v1 c
          ∧ r.2.mem ((c.tc : Thread Cert.Reference4Ideal.nD Cert.Reference4Ideal.τ).loc Cert.Reference4Ideal.main_v67) = v2 c
          ∧ r.2.mem ((c.tc : Thread Cert.Reference4Ideal.nD Cert.Reference4Ideal.τ).loc Cert.Reference4Ideal.main_v45) = v3 c
          ∧ r.2.mem ((c.tc : Thread Cert.Reference4Ideal.nD Cert.Reference4Ideal.τ).loc Cert.Reference4Ideal.main_v68) = v4 c
          ∧ r.2.mem ((c.tc : Thread Cert.Reference4Ideal.nD Cert.Reference4Ideal.τ).loc Cert.Reference4Ideal.main_v48) = v5 c
          ∧ r.2.mem ((c.tc : Thread Cert.Reference4Ideal.nD Cert.Reference4Ideal.τ).loc Cert.Reference4Ideal.main_v69) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)) (v2 : (c : Dev Cert.Kernel5Ideal.nD) → Buf (Elt Ideal) ((c.tc : Thread Cert.Kernel5Ideal.nD Cert.Kernel5Ideal.τ).loc Cert.Kernel5Ideal.main_v1_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_v1_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_v14) = v1 c
          ∧ r.2.mem ((c.tc : Thread Cert.Reference5Ideal.nD Cert.Reference5Ideal.τ).loc Cert.Reference5Ideal.main_v15) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)) (v2 : (c : Dev Cert.Kernel6Ideal.nD) → Buf (Elt Ideal) ((c.tc : Thread Cert.Kernel6Ideal.nD Cert.Kernel6Ideal.τ).loc Cert.Kernel6Ideal.main_v5_2)) (v3 : (c : Dev Cert.Kernel6Ideal.nD) → Buf (Elt Ideal) ((c.tc : Thread Cert.Kernel6Ideal.nD Cert.Kernel6Ideal.τ).loc Cert.Kernel6Ideal.main_v5_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_v5_2) = v2 c
          ∧ r.2.mem ((c.tc : Thread Cert.Kernel6Ideal.nD Cert.Kernel6Ideal.τ).loc Cert.Kernel6Ideal.main_v5_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_v19) = v1 c
          ∧ r.2.mem ((c.tc : Thread Cert.Reference6Ideal.nD Cert.Reference6Ideal.τ).loc Cert.Reference6Ideal.main_v45) = v2 c
          ∧ r.2.mem ((c.tc : Thread Cert.Reference6Ideal.nD Cert.Reference6Ideal.τ).loc Cert.Reference6Ideal.main_v46) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite3 : Cert.Pre_finite3.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S4096x1024 .f32) (main_arg2 : FVec F S4096x1024 .f32) (main_arg3 : FVec F S4096x1024 .f32) : IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : IVec S4096x1024 1 := andi main_v2 main_v5
  let main_v7 : FVec F S4096x1024 .f32 := Host.absf main_arg2
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  let main_v10 : IVec S4096x1024 1 := andi main_v6 main_v9
  let main_v11 : FVec F S4096x1024 .f32 := Host.absf main_arg3
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_v14 : IVec S4096x1024 1 := andi main_v10 main_v13
  main_v14
-- ==== Pre_finite3.lean ====
abbrev S4096x1024 : Shape := ⟨2, ![4096, 1024]⟩
abbrev S4096x6144 : Shape := ⟨2, ![4096, 6144]⟩
abbrev S1x1024 : Shape := ⟨2, ![1, 1024]⟩
abbrev S6144x1024 : Shape := ⟨2, ![6144, 1024]⟩
abbrev S3072x1024 : Shape := ⟨2, ![3072, 1024]⟩
abbrev S_ : Shape := ⟨0, ![]⟩

class Facts : Prop where
  bcast_S_S4096x1024 : S_.BroadcastsInDim S4096x1024 (![] : Fin 0 → Fin S4096x1024.rank)
  bcast_S_S4096x6144 : S_.BroadcastsInDim S4096x6144 (![] : Fin 0 → Fin S4096x6144.rank)
  bcast_S_S1x1024 : S_.BroadcastsInDim S1x1024 (![] : Fin 0 → Fin S1x1024.rank)
  bcast_S_S6144x1024 : S_.BroadcastsInDim S6144x1024 (![] : Fin 0 → Fin S6144x1024.rank)
  bcast_S_S3072x1024 : S_.BroadcastsInDim S3072x1024 (![] : Fin 0 → Fin S3072x1024.rank)

variable [Facts]

def fn_part1 {F : FTy → Type} [FloatOps F] (main_arg6 : FVec F S3072x1024 .f32) (main_arg7 : FVec F S4096x1024 .f32) (main_arg8 : FVec F S4096x1024 .f32) (main_v2 : IVec S4096x1024 1) (main_v5 : IVec S4096x1024 1) (main_v8 : IVec S4096x6144 1) (main_v11 : IVec S1x1024 1) (main_v14 : IVec S1x1024 1) (main_v17 : IVec S6144x1024 1) : IVec S4096x1024 1 × IVec S4096x1024 1 × IVec S4096x6144 1 × IVec S1x1024 1 × IVec S1x1024 1 × IVec S6144x1024 1 × IVec S3072x1024 1 × IVec S4096x1024 1 × IVec S4096x1024 1 :=
  let main_v18 : FVec F S3072x1024 .f32 := Host.absf main_arg6
  let main_cst_5 : FVec F S_ .f32 := constant S_ .f32 0x7F800000#32
  let main_v19 : FVec F S3072x1024 .f32 := broadcastInDim S3072x1024 ![] bcast_S_S3072x1024 main_cst_5
  let main_v20 : IVec S3072x1024 1 := cmpf .olt main_v18 main_v19
  let main_v21 : FVec F S4096x1024 .f32 := Host.absf main_arg7
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  let main_v24 : FVec F S4096x1024 .f32 := Host.absf main_arg8
  let main_cst_7 : FVec F S_ .f32 := constant S_ .f32 0x7F800000#32
  let main_v25 : FVec F S4096x1024 .f32 := broadcastInDim S4096x1024 ![] bcast_S_S4096x1024 main_cst_7
  let main_v26 : IVec S4096x1024 1 := cmpf .olt main_v24 main_v25
  (main_v2, main_v5, main_v8, main_v11, main_v14, main_v17, main_v20, main_v23, main_v26)

def fn {F : FTy → Type} [FloatOps F] (main_arg0 : FVec F S4096x1024 .f32) (main_arg1 : FVec F S4096x1024 .f32) (main_arg2 : FVec F S4096x6144 .f32) (main_arg3 : FVec F S1x1024 .f32) (main_arg4 : FVec F S1x1024 .f32) (main_arg5 : FVec F S6144x1024 .f32) (main_arg6 : FVec F S3072x1024 .f32) (main_arg7 : FVec F S4096x1024 .f32) (main_arg8 : FVec F S4096x1024 .f32) : IVec S4096x1024 1 × IVec S4096x1024 1 × IVec S4096x6144 1 × IVec S1x1024 1 × IVec S1x1024 1 × IVec S6144x1024 1 × IVec S3072x1024 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x6144 .f32 := Host.absf main_arg2
  let main_cst_1 : FVec F S_ .f32 := constant S_ .f32 0x7F800000#32
  let main_v7 : FVec F S4096x6144 .f32 := broadcastInDim S4096x6144 ![] bcast_S_S4096x6144 main_cst_1
  let main_v8 : IVec S4096x6144 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S6144x1024 .f32 := Host.absf main_arg5
  let main_cst_4 : FVec F S_ .f32 := constant S_ .f32 0x7F800000#32
  let main_v16 : FVec F S6144x1024 .f32 := broadcastInDim S6144x1024 ![] bcast_S_S6144x1024 main_cst_4
  let main_v17 : IVec S6144x1024 1 := cmpf .olt main_v15 main_v16
  fn_part1 (F := F) main_arg6 main_arg7 main_arg8 main_v2 main_v5 main_v8 main_v11 main_v14 main_v17
-- ==== Pre_finite4.lean ====
abbrev S4096x1024 : Shape := ⟨2, ![4096, 1024]⟩
abbrev S1x1024 : Shape := ⟨2, ![1, 1024]⟩
abbrev S6144x1024 : Shape := ⟨2, ![6144, 1024]⟩
abbrev S3072x1024 : Shape := ⟨2, ![3072, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S6144x1024 : S_.BroadcastsInDim S6144x1024 (![] : Fin 0 → Fin S6144x1024.rank)
  bcast_S_S3072x1024 : S_.BroadcastsInDim S3072x1024 (![] : Fin 0 → Fin S3072x1024.rank)

variable [Facts]

def fn {F : FTy → Type} [FloatOps F] (main_arg0 : FVec F S4096x1024 .f32) (main_arg1 : FVec F S4096x1024 .f32) (main_arg2 : FVec F S4096x1024 .f32) (main_arg3 : FVec F S1x1024 .f32) (main_arg4 : FVec F S6144x1024 .f32) (main_arg5 : FVec F S3072x1024 .f32) : IVec S4096x1024 1 × IVec S4096x1024 1 × IVec S4096x1024 1 × IVec S1x1024 1 × IVec S6144x1024 1 × IVec S3072x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S6144x1024 .f32 := Host.absf main_arg4
  let main_cst_3 : FVec F S_ .f32 := constant S_ .f32 0x7F800000#32
  let main_v13 : FVec F S6144x1024 .f32 := broadcastInDim S6144x1024 ![] bcast_S_S6144x1024 main_cst_3
  let main_v14 : IVec S6144x1024 1 := cmpf .olt main_v12 main_v13
  let main_v15 : FVec F S3072x1024 .f32 := Host.absf main_arg5
  let main_cst_4 : FVec F S_ .f32 := constant S_ .f32 0x7F800000#32
  let main_v16 : FVec F S3072x1024 .f32 := broadcastInDim S3072x1024 ![] bcast_S_S3072x1024 main_cst_4
  let main_v17 : IVec S3072x1024 1 := cmpf .olt main_v15 main_v16
  (main_v2, main_v5, main_v8, main_v11, main_v14, main_v17)
-- ==== Kernel.lean ====
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x8 : Shape := ⟨2, ![4096, 8]⟩
abbrev S4096x8x1 : Shape := ⟨3, ![4096, 8, 1]⟩
abbrev S512x256 : Shape := ⟨2, ![512, 256]⟩
abbrev S4096x256 : Shape := ⟨2, ![4096, 256]⟩
abbrev S512x512 : Shape := ⟨2, ![512, 512]⟩
abbrev S512x128 : Shape := ⟨2, ![512, 128]⟩
abbrev S512x1 : Shape := ⟨2, ![512, 1]⟩

abbrev nBuf : Space → Nat
  | .hbm => 54
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x8x128, .f32⟩
  | .hbm, ⟨5, _⟩ => ⟨S4096x8x128, .f32⟩
  | .hbm, ⟨6, _⟩ => ⟨S8x4096x4096, .f32⟩
  | .hbm, ⟨7, _⟩ => ⟨S_, .f32⟩
  | .hbm, ⟨8, _⟩ => ⟨S8x4096x4096, .f32⟩
  | .hbm, ⟨9, _⟩ => ⟨S8x4096x4096, .f32⟩
  | .hbm, ⟨10, _⟩ => ⟨S4096, .i32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S_, .f32⟩
  | .hbm, ⟨17, _⟩ => ⟨S_, .f32⟩
  | .hbm, ⟨18, _⟩ => ⟨S8x4096x4096, .i1⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S8x4096x1, .f32⟩
  | .hbm, ⟨31, _⟩ => ⟨S8x4096x1, .f32⟩
  | .hbm, ⟨32, _⟩ => ⟨S8x4096x4096, .f32⟩
  | .hbm, ⟨33, _⟩ => ⟨S8x4096x4096, .f32⟩
  | .hbm, ⟨34, _⟩ => ⟨S4096x8x128, .f32⟩
  | .hbm, ⟨35, _⟩ => ⟨S8x128x4096, .f32⟩
  | .hbm, ⟨36, _⟩ => ⟨S4096x8x128, .f32⟩
  | .hbm, ⟨37, _⟩ => ⟨S4096x8x128, .f32⟩
  | .hbm, ⟨38, _⟩ => ⟨S4096x8x128, .f32⟩
  | .hbm, ⟨39, _⟩ => ⟨S_, .f32⟩
  | .hbm, ⟨40, _⟩ => ⟨S4096x8, .f32⟩
  | .hbm, ⟨41, _⟩ => ⟨S4096x8x1, .f32⟩
  | .hbm, ⟨42, _⟩ => ⟨S4096x1024, .bf16⟩
  | .hbm, ⟨43, _⟩ => ⟨S4096x1024, .bf16⟩
  | .hbm, ⟨44, _⟩ => ⟨S4096x1024, .bf16⟩
  | .hbm, ⟨45, _⟩ => ⟨S4096x1024, .bf16⟩
  | .hbm, ⟨46, _⟩ => ⟨S4096x8x1, .f32⟩
  | .hbm, ⟨47, _⟩ => ⟨S4096x8x128, .f32⟩
  | .hbm, ⟨48, _⟩ => ⟨S4096x1024, .f32⟩
  | .hbm, ⟨49, _⟩ => ⟨S4096x8x128, .f32⟩
  | .hbm, ⟨50, _⟩ => ⟨S4096x1024, .f32⟩
  | .hbm, ⟨51, _⟩ => ⟨S4096x1024, .bf16⟩
  | .hbm, ⟨52, _⟩ => ⟨S4096x1024, .bf16⟩
  | .hbm, ⟨53, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .f32⟩
  | .local _ .vmem, ⟨9, _⟩ => ⟨S4096x256, .f32⟩
  | .local _ .vmem, ⟨10, _⟩ => ⟨S4096x256, .f32⟩
  | .local _ .vmem, ⟨11, _⟩ => ⟨S4096x256, .f32⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S4096x256, .f32⟩
  | .local _ .vmem, ⟨17, _⟩ => ⟨S4096x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39_0 : Ref sig .tc := ⟨.hbm, 51, rfl⟩
abbrev main_v39_1 : Ref sig .tc := ⟨.hbm, 52, rfl⟩
abbrev main_v39_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v4 : BitVec 32 := Scalar.muli arg1 c512_i32
  v4
def k0_off1 (i : grid0.Coords) : Fin 2 → Nat :=
  let arg1 : BitVec 32 := BitVec.ofNat 32 (i 1).val
  let c512_i32 : BitVec 32 := 512#32
  let v4 : BitVec 32 := Scalar.muli arg1 c512_i32
  let v5 : BitVec 32 := v4
  let v13 : Index := Scalar.indexCast v5
  let c0_4 : Index := 0#32
  ![v13.toNat, 0]
def k0_off2 (i : grid0.Coords) : Fin 2 → Nat :=
  let arg1 : BitVec 32 := BitVec.ofNat 32 (i 1).val
  let c512_i32 : BitVec 32 := 512#32
  let v4 : BitVec 32 := Scalar.muli arg1 c512_i32
  let v5 : BitVec 32 := v4
  let v24 : Index := Scalar.indexCast v5
  let c0_8 : Index := 0#32
  ![v24.toNat, 0]
def k0_off3 (i : grid0.Coords) : Fin 2 → Nat :=
  let arg1 : BitVec 32 := BitVec.ofNat 32 (i 1).val
  let c512_i32 : BitVec 32 := 512#32
  let v4 : BitVec 32 := Scalar.muli arg1 c512_i32
  let v5 : BitVec 32 := v4
  let v55 : Index := Scalar.indexCast v5
  let c128_20 : Index := 128#32
  ![v55.toNat, 128]
def k0_off4 (i : grid0.Coords) : Fin 2 → Nat :=
  let arg1 : BitVec 32 := BitVec.ofNat 32 (i 1).val
  let c512_i32 : BitVec 32 := 512#32
  let v4 : BitVec 32 := Scalar.muli arg1 c512_i32
  let v5 : BitVec 32 := v4
  let v66 : Index := Scalar.indexCast v5
  let c128_25 : Index := 128#32
  ![v66.toNat, 128]
@[reducible] def k0_t1_loop (i : grid0.Coords) : Scf.Loop 32 :=
  let arg1 : BitVec 32 := BitVec.ofNat 32 (i 1).val
  let c1_i32 : BitVec 32 := 1#32
  let v3 : BitVec 32 := Scalar.addi arg1 c1_i32
  let c8_i32 : BitVec 32 := 8#32
  let v93 : BitVec 32 := Scalar.subi c8_i32 v3
  let c1_i32_34 : BitVec 32 := 1#32
  let v95 : BitVec 32 := Scalar.divsi v93 c1_i32_34
  let v96 : BitVec 32 := Scalar.muli v95 c1_i32_34
  let v97 : BitVec 32 := Scalar.addi v3 v96
  let c1_i32_35 : BitVec 32 := 1#32
  ⟨v3, v97, c1_i32_35⟩
def k0_mult2 (i : grid0.Coords) (k0_t1 : Fin (k0_t1_loop i).trips) : BitVec 32 :=
  let arg1 : BitVec 32 := BitVec.ofNat 32 (i 1).val
  let c1_i32 : BitVec 32 := 1#32
  let v3 : BitVec 32 := Scalar.addi arg1 c1_i32
  let c1_i32_35 : BitVec 32 := 1#32
  let arg11 : BitVec 32 := Scf.iv v3 c1_i32_35 k0_t1
  let c512_i32_45 : BitVec 32 := 512#32
  let v108 : BitVec 32 := Scalar.muli arg11 c512_i32_45
  v108
def k0_off5 (i : grid0.Coords) (k0_t1 : Fin (k0_t1_loop i).trips) : Fin 2 → Nat :=
  let arg1 : BitVec 32 := BitVec.ofNat 32 (i 1).val
  let c1_i32 : BitVec 32 := 1#32
  let v3 : BitVec 32 := Scalar.addi arg1 c1_i32
  let c1_i32_35 : BitVec 32 := 1#32
  let arg11 : BitVec 32 := Scf.iv v3 c1_i32_35 k0_t1
  let c512_i32_45 : BitVec 32 := 512#32
  let v108 : BitVec 32 := Scalar.muli arg11 c512_i32_45
  let v109 : BitVec 32 := v108
  let v114 : Index := Scalar.indexCast v109
  let c0_50 : Index := 0#32
  ![v114.toNat, 0]
def k0_off6 (i : grid0.Coords) (k0_t1 : Fin (k0_t1_loop i).trips) : Fin 2 → Nat :=
  let arg1 : BitVec 32 := BitVec.ofNat 32 (i 1).val
  let c1_i32 : BitVec 32 := 1#32
  let v3 : BitVec 32 := Scalar.addi arg1 c1_i32
  let c1_i32_35 : BitVec 32 := 1#32
  let arg11 : BitVec 32 := Scf.iv v3 c1_i32_35 k0_t1
  let c512_i32_45 : BitVec 32 := 512#32
  let v108 : BitVec 32 := Scalar.muli arg11 c512_i32_45
  let v109 : BitVec 32 := v108
  let v123 : Index := Scalar.indexCast v109
  let c0_54 : Index := 0#32
  ![v123.toNat, 0]
def k0_off7 (i : grid0.Coords) (k0_t1 : Fin (k0_t1_loop i).trips) : Fin 2 → Nat :=
  let arg1 : BitVec 32 := BitVec.ofNat 32 (i 1).val
  let c1_i32 : BitVec 32 := 1#32
  let v3 : BitVec 32 := Scalar.addi arg1 c1_i32
  let c1_i32_35 : BitVec 32 := 1#32
  let arg11 : BitVec 32 := Scf.iv v3 c1_i32_35 k0_t1
  let c512_i32_45 : BitVec 32 := 512#32
  let v108 : BitVec 32 := Scalar.muli arg11 c512_i32_45
  let v109 : BitVec 32 := v108
  let v156 : Index := Scalar.indexCast v109
  let c128_67 : Index := 128#32
  ![v156.toNat, 128]
def k0_off8 (i : grid0.Coords) (k0_t1 : Fin (k0_t1_loop i).trips) : Fin 2 → Nat :=
  let arg1 : BitVec 32 := BitVec.ofNat 32 (i 1).val
  let c1_i32 : BitVec 32 := 1#32
  let v3 : BitVec 32 := Scalar.addi arg1 c1_i32
  let c1_i32_35 : BitVec 32 := 1#32
  let arg11 : BitVec 32 := Scf.iv v3 c1_i32_35 k0_t1
  let c512_i32_45 : BitVec 32 := 512#32
  let v108 : BitVec 32 := Scalar.muli arg11 c512_i32_45
  let v109 : BitVec 32 := v108
  let v165 : Index := Scalar.indexCast v109
  let c128_71 : Index := 128#32
  ![v165.toNat, 128]
@[reducible] def k0_t2_loop (i : grid0.Coords) : Scf.Loop 32 :=
  let arg1 : BitVec 32 := BitVec.ofNat 32 (i 1).val
  let c1_i32 : BitVec 32 := 1#32
  let v3 : BitVec 32 := Scalar.addi arg1 c1_i32
  let c8_i32 : BitVec 32 := 8#32
  let v93 : BitVec 32 := Scalar.subi c8_i32 v3
  let c1_i32_34 : BitVec 32 := 1#32
  let v95 : BitVec 32 := Scalar.divsi v93 c1_i32_34
  let v96 : BitVec 32 := Scalar.muli v95 c1_i32_34
  let v97 : BitVec 32 := Scalar.addi v3 v96
  let v94 : BitVec 32 := Scalar.addi v3 v93
  let c1_i32_36 : BitVec 32 := 1#32
  ⟨v97, v94, c1_i32_36⟩
def k0_mult3 (i : grid0.Coords) (k0_t2 : Fin (k0_t2_loop i).trips) : BitVec 32 :=
  let arg1 : BitVec 32 := BitVec.ofNat 32 (i 1).val
  let c1_i32 : BitVec 32 := 1#32
  let v3 : BitVec 32 := Scalar.addi arg1 c1_i32
  let c8_i32 : BitVec 32 := 8#32
  let v93 : BitVec 32 := Scalar.subi c8_i32 v3
  let c1_i32_34 : BitVec 32 := 1#32
  let v95 : BitVec 32 := Scalar.divsi v93 c1_i32_34
  let v96 : BitVec 32 := Scalar.muli v95 c1_i32_34
  let v97 : BitVec 32 := Scalar.addi v3 v96
  let c1_i32_36 : BitVec 32 := 1#32
  let arg11 : BitVec 32 := Scf.iv v97 c1_i32_36 k0_t2
  let c512_i32_45 : BitVec 32 := 512#32
  let v108 : BitVec 32 := Scalar.muli arg11 c512_i32_45
  v108
def k0_off9 (i : grid0.Coords) (k0_t2 : Fin (k0_t2_loop i).trips) : Fin 2 → Nat :=
  let arg1 : BitVec 32 := BitVec.ofNat 32 (i 1).val
  let c1_i32 : BitVec 32 := 1#32
  let v3 : BitVec 32 := Scalar.addi arg1 c1_i32
  let c8_i32 : BitVec 32 := 8#32
  let v93 : BitVec 32 := Scalar.subi c8_i32 v3
  let c1_i32_34 : BitVec 32 := 1#32
  let v95 : BitVec 32 := Scalar.divsi v93 c1_i32_34
  let v96 : BitVec 32 := Scalar.muli v95 c1_i32_34
  let v97 : BitVec 32 := Scalar.addi v3 v96
  let c1_i32_36 : BitVec 32 := 1#32
  let arg11 : BitVec 32 := Scf.iv v97 c1_i32_36 k0_t2
  let c512_i32_45 : BitVec 32 := 512#32
  let v108 : BitVec 32 := Scalar.muli arg11 c512_i32_45
  let v109 : BitVec 32 := v108
  let v114 : Index := Scalar.indexCast v109
  let c0_50 : Index := 0#32
  ![v114.toNat, 0]
def k0_off10 (i : grid0.Coords) (k0_t2 : Fin (k0_t2_loop i).trips) : Fin 2 → Nat :=
  let arg1 : BitVec 32 := BitVec.ofNat 32 (i 1).val
  let c1_i32 : BitVec 32 := 1#32
  let v3 : BitVec 32 := Scalar.addi arg1 c1_i32
  let c8_i32 : BitVec 32 := 8#32
  let v93 : BitVec 32 := Scalar.subi c8_i32 v3
  let c1_i32_34 : BitVec 32 := 1#32
  let v95 : BitVec 32 := Scalar.divsi v93 c1_i32_34
  let v96 : BitVec 32 := Scalar.muli v95 c1_i32_34
  let v97 : BitVec 32 := Scalar.addi v3 v96
  let c1_i32_36 : BitVec 32 := 1#32
  let arg11 : BitVec 32 := Scf.iv v97 c1_i32_36 k0_t2
  let c512_i32_45 : BitVec 32 := 512#32
  let v108 : BitVec 32 := Scalar.muli arg11 c512_i32_45
  let v109 : BitVec 32 := v108
  let v123 : Index := Scalar.indexCast v109
  let c0_54 : Index := 0#32
  ![v123.toNat, 0]
def k0_off11 (i : grid0.Coords) (k0_t2 : Fin (k0_t2_loop i).trips) : Fin 2 → Nat :=
  let arg1 : BitVec 32 := BitVec.ofNat 32 (i 1).val
  let c1_i32 : BitVec 32 := 1#32
  let v3 : BitVec 32 := Scalar.addi arg1 c1_i32
  let c8_i32 : BitVec 32 := 8#32
  let v93 : BitVec 32 := Scalar.subi c8_i32 v3
  let c1_i32_34 : BitVec 32 := 1#32
  let v95 : BitVec 32 := Scalar.divsi v93 c1_i32_34
  let v96 : BitVec 32 := Scalar.muli v95 c1_i32_34
  let v97 : BitVec 32 := Scalar.addi v3 v96
  let c1_i32_36 : BitVec 32 := 1#32
  let arg11 : BitVec 32 := Scf.iv v97 c1_i32_36 k0_t2
  let c512_i32_45 : BitVec 32 := 512#32
  let v108 : BitVec 32 := Scalar.muli arg11 c512_i32_45
  let v109 : BitVec 32 := v108
  let v156 : Index := Scalar.indexCast v109
  let c128_67 : Index := 128#32
  ![v156.toNat, 128]
def k0_off12 (i : grid0.Coords) (k0_t2 : Fin (k0_t2_loop i).trips) : Fin 2 → Nat :=
  let arg1 : BitVec 32 := BitVec.ofNat 32 (i 1).val
  let c1_i32 : BitVec 32 := 1#32
  let v3 : BitVec 32 := Scalar.addi arg1 c1_i32
  let c8_i32 : BitVec 32 := 8#32
  let v93 : BitVec 32 := Scalar.subi c8_i32 v3
  let c1_i32_34 : BitVec 32 := 1#32
  let v95 : BitVec 32 := Scalar.divsi v93 c1_i32_34
  let v96 : BitVec 32 := Scalar.muli v95 c1_i32_34
  let v97 : BitVec 32 := Scalar.addi v3 v96
  let c1_i32_36 : BitVec 32 := 1#32
  let arg11 : BitVec 32 := Scf.iv v97 c1_i32_36 k0_t2
  let c512_i32_45 : BitVec 32 := 512#32
  let v108 : BitVec 32 := Scalar.muli arg11 c512_i32_45
  let v109 : BitVec 32 := v108
  let v165 : Index := Scalar.indexCast v109
  let c128_71 : Index := 128#32
  ![v165.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4096x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x128 : Shape := ⟨3, ![8, 4096, 128]⟩

abbrev nBuf : Space → Nat
  | .hbm => 99
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x8x128, .f32⟩
  | .hbm, ⟨5, _⟩ => ⟨S4096x8x128, .f32⟩
  | .hbm, ⟨6, _⟩ => ⟨S8x4096x4096, .f32⟩
  | .hbm, ⟨7, _⟩ => ⟨S_, .f32⟩
  | .hbm, ⟨8, _⟩ => ⟨S8x4096x4096, .f32⟩
  | .hbm, ⟨9, _⟩ => ⟨S8x4096x4096, .f32⟩
  | .hbm, ⟨10, _⟩ => ⟨S4096, .i32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S_, .f32⟩
  | .hbm, ⟨17, _⟩ => ⟨S_, .f32⟩
  | .hbm, ⟨18, _⟩ => ⟨S8x4096x4096, .i1⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096x4096, .f32⟩
  | .hbm, ⟨23, _⟩ => ⟨S_, .f32⟩
  | .hbm, ⟨24, _⟩ => ⟨S8x4096, .f32⟩
  | .hbm, ⟨25, _⟩ => ⟨S8x4096x1, .f32⟩
  | .hbm, ⟨26, _⟩ => ⟨S8x4096x4096, .f32⟩
  | .hbm, ⟨27, _⟩ => ⟨S8x4096x4096, .i1⟩
  | .hbm, ⟨28, _⟩ => ⟨S8x4096x4096, .f32⟩
  | .hbm, ⟨29, _⟩ => ⟨S_, .f32⟩
  | .hbm, ⟨30, _⟩ => ⟨S8x4096, .f32⟩
  | .hbm, ⟨31, _⟩ => ⟨S_, .f32⟩
  | .hbm, ⟨32, _⟩ => ⟨S8x4096, .f32⟩
  | .hbm, ⟨33, _⟩ => ⟨S8x4096, .f32⟩
  | .hbm, ⟨34, _⟩ => ⟨S_, .f32⟩
  | .hbm, ⟨35, _⟩ => ⟨S8x4096, .f32⟩
  | .hbm, ⟨36, _⟩ => ⟨S8x4096, .i1⟩
  | .hbm, ⟨37, _⟩ => ⟨S_, .f32⟩
  | .hbm, ⟨38, _⟩ => ⟨S8x4096, .f32⟩
  | .hbm, ⟨39, _⟩ => ⟨S8x4096, .i1⟩
  | .hbm, ⟨40, _⟩ => ⟨S_, .f32⟩
  | .hbm, ⟨41, _⟩ => ⟨S8x4096, .f32⟩
  | .hbm, ⟨42, _⟩ => ⟨S_, .f32⟩
  | .hbm, ⟨43, _⟩ => ⟨S8x4096, .f32⟩
  | .hbm, ⟨44, _⟩ => ⟨S_, .f32⟩
  | .hbm, ⟨45, _⟩ => ⟨S8x4096, .f32⟩
  | .hbm, ⟨46, _⟩ => ⟨S8x4096, .f32⟩
  | .hbm, ⟨47, _⟩ => ⟨S8x4096, .f32⟩
  | .hbm, ⟨48, _⟩ => ⟨S8x4096x1, .f32⟩
  | .hbm, ⟨49, _⟩ => ⟨S8x4096x4096, .f32⟩
  | .hbm, ⟨50, _⟩ => ⟨S8x4096x4096, .f32⟩
  | .hbm, ⟨51, _⟩ => ⟨S8x4096x4096, .f32⟩
  | .hbm, ⟨52, _⟩ => ⟨S_, .f32⟩
  | .hbm, ⟨53, _⟩ => ⟨S8x4096, .f32⟩
  | .hbm, ⟨54, _⟩ => ⟨S8x4096x1, .f32⟩
  | .hbm, ⟨55, _⟩ => ⟨S8x4096x4096, .f32⟩
  | .hbm, ⟨56, _⟩ => ⟨S8x4096x4096, .f32⟩
  | .hbm, ⟨57, _⟩ => ⟨S8x4096x1, .f32⟩
  | .hbm, ⟨58, _⟩ => ⟨S_, .f32⟩
  | .hbm, ⟨59, _⟩ => ⟨S8x4096x1, .f32⟩
  | .hbm, ⟨60, _⟩ => ⟨S8x4096x1, .f32⟩
  | .hbm, ⟨61, _⟩ => ⟨S4096x8x128, .f32⟩
  | .hbm, ⟨62, _⟩ => ⟨S8x128x4096, .f32⟩
  | .hbm, ⟨63, _⟩ => ⟨S4096x8x128, .f32⟩
  | .hbm, ⟨64, _⟩ => ⟨S4096x1024, .f32⟩
  | .hbm, ⟨65, _⟩ => ⟨S4096x8x128, .f32⟩
  | .hbm, ⟨66, _⟩ => ⟨S8x128x4096, .f32⟩
  | .hbm, ⟨67, _⟩ => ⟨S8x4096x4096, .f32⟩
  | .hbm, ⟨68, _⟩ => ⟨S8x128x4096, .f32⟩
  | .hbm, ⟨69, _⟩ => ⟨S4096x8x128, .f32⟩
  | .hbm, ⟨70, _⟩ => ⟨S4096x1024, .f32⟩
  | .hbm, ⟨71, _⟩ => ⟨S8x4096x4096, .f32⟩
  | .hbm, ⟨72, _⟩ => ⟨S8x4096x4096, .f32⟩
  | .hbm, ⟨73, _⟩ => ⟨S8x4096x4096, .f32⟩
  | .hbm, ⟨74, _⟩ => ⟨S_, .f32⟩
  | .hbm, ⟨75, _⟩ => ⟨S8x4096, .f32⟩
  | .hbm, ⟨76, _⟩ => ⟨S8x4096x1, .f32⟩
  | .hbm, ⟨77, _⟩ => ⟨S8x4096x1, .f32⟩
  | .hbm, ⟨78, _⟩ => ⟨S8x4096x4096, .f32⟩
  | .hbm, ⟨79, _⟩ => ⟨S8x4096x4096, .f32⟩
  | .hbm, ⟨80, _⟩ => ⟨S_, .f32⟩
  | .hbm, ⟨81, _⟩ => ⟨S8x4096, .f32⟩
  | .hbm, ⟨82, _⟩ => ⟨S8x4096x4096, .f32⟩
  | .hbm, ⟨83, _⟩ => ⟨S8x4096x4096, .f32⟩
  | .hbm, ⟨84, _⟩ => ⟨S8x4096x4096, .f32⟩
  | .hbm, ⟨85, _⟩ => ⟨S_, .f32⟩
  | .hbm, ⟨86, _⟩ => ⟨S8x4096x4096, .f32⟩
  | .hbm, ⟨87, _⟩ => ⟨S8x4096x4096, .f32⟩
  | .hbm, ⟨88, _⟩ => ⟨S_, .f32⟩
  | .hbm, ⟨89, _⟩ => ⟨S8x4096x4096, .f32⟩
  | .hbm, ⟨90, _⟩ => ⟨S8x4096x4096, .f32⟩
  | .hbm, ⟨91, _⟩ => ⟨S8x4096x128, .f32⟩
  | .hbm, ⟨92, _⟩ => ⟨S4096x8x128, .f32⟩
  | .hbm, ⟨93, _⟩ => ⟨S8x4096x128, .f32⟩
  | .hbm, ⟨94, _⟩ => ⟨S4096x8x128, .f32⟩
  | .hbm, ⟨95, _⟩ => ⟨S4096x1024, .f32⟩
  | .hbm, ⟨96, _⟩ => ⟨S4096x1024, .f32⟩
  | .hbm, ⟨97, _⟩ => ⟨S4096x1024, .bf16⟩
  | .hbm, ⟨98, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_v11_1 : Ref sig .tc := ⟨.hbm, 18, rfl⟩
abbrev main_call0_v2 : Ref sig .tc := ⟨.hbm, 19, rfl⟩
abbrev main_v11_0 : Ref sig .tc := ⟨.hbm, 20, rfl⟩
abbrev main_call0_cst : Ref sig .tc := ⟨.hbm, 21, rfl⟩
abbrev main_v11_2 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_call1_cst : Ref sig .tc := ⟨.hbm, 85, rfl⟩
abbrev main_call1_v0 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]
-- ==== Kernel2.lean ====
abbrev S4096x1024 : Shape := ⟨2, ![4096, 1024]⟩
abbrev S4096x3072 : Shape := ⟨2, ![4096, 3072]⟩
abbrev S4096x6144 : Shape := ⟨2, ![4096, 6144]⟩
abbrev S6144x1024 : Shape := ⟨2, ![6144, 1024]⟩
abbrev S3072x1024 : Shape := ⟨2, ![3072, 1024]⟩
abbrev S1024x1024 : Shape := ⟨2, ![1024, 1024]⟩
abbrev S1024x768 : Shape := ⟨2, ![1024, 768]⟩
abbrev S1024x1536 : Shape := ⟨2, ![1024, 1536]⟩
abbrev S1536x1024 : Shape := ⟨2, ![1536, 1024]⟩
abbrev S768x1024 : Shape := ⟨2, ![768, 1024]⟩

abbrev nBuf : Space → Nat
  | .hbm => 12
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S4096x6144, .f32⟩
  | .hbm, ⟨3, _⟩ => ⟨S4096x1024, .f32⟩
  | .hbm, ⟨4, _⟩ => ⟨S6144x1024, .f32⟩
  | .hbm, ⟨5, _⟩ => ⟨S3072x1024, .f32⟩
  | .hbm, ⟨6, _⟩ => ⟨S4096x1024, .bf16⟩
  | .hbm, ⟨7, _⟩ => ⟨S4096x3072, .bf16⟩
  | .hbm, ⟨8, _⟩ => ⟨S4096x6144, .bf16⟩
  | .hbm, ⟨9, _⟩ => ⟨S4096x1024, .bf16⟩
  | .hbm, ⟨10, _⟩ => ⟨S6144x1024, .bf16⟩
  | .hbm, ⟨11, _⟩ => ⟨S3072x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1024, .bf16⟩
  | .local _ .vmem, ⟨7, _⟩ => ⟨S1024x1024, .bf16⟩
  | .local _ .vmem, ⟨8, _⟩ => ⟨S1536x1024, .bf16⟩
  | .local _ .vmem, ⟨9, _⟩ => ⟨S1536x1024, .bf16⟩
  | .local _ .vmem, ⟨10, _⟩ => ⟨S768x1024, .bf16⟩
  | .local _ .vmem, ⟨11, _⟩ => ⟨S768x1024, .bf16⟩
  | .local _ .vmem, ⟨12, _⟩ => ⟨S1536x1024, .f32⟩
  | .local _ .vmem, ⟨13, _⟩ => ⟨S768x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_11 : BitVec 32 := 0#32
  let v18 : BitVec 1 := Scalar.cmpi .ne v17 c0_i32_11
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1536x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S4096x1024 : Shape := ⟨2, ![4096, 1024]⟩
abbrev S4096x3072 : Shape := ⟨2, ![4096, 3072]⟩
abbrev S4096x6144 : Shape := ⟨2, ![4096, 6144]⟩
abbrev S6144x1024 : Shape := ⟨2, ![6144, 1024]⟩
abbrev S3072x1024 : Shape := ⟨2, ![3072, 1024]⟩
abbrev S1024x3072 : Shape := ⟨2, ![1024, 3072]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S4096x6144, .f32⟩
  | .hbm, ⟨3, _⟩ => ⟨S4096x1024, .f32⟩
  | .hbm, ⟨4, _⟩ => ⟨S6144x1024, .f32⟩
  | .hbm, ⟨5, _⟩ => ⟨S3072x1024, .f32⟩
  | .hbm, ⟨6, _⟩ => ⟨S4096x6144, .f32⟩
  | .hbm, ⟨7, _⟩ => ⟨S4096x1024, .f32⟩
  | .hbm, ⟨8, _⟩ => ⟨S1024x3072, .f32⟩
  | .hbm, ⟨9, _⟩ => ⟨S3072x1024, .f32⟩
  | .hbm, ⟨10, _⟩ => ⟨S6144x1024, .f32⟩
  | .hbm, ⟨11, _⟩ => ⟨S6144x1024, .bf16⟩
  | .hbm, ⟨12, _⟩ => ⟨S3072x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel3.lean ====
abbrev S4096x1024 : Shape := ⟨2, ![4096, 1024]⟩
abbrev S4096x6144 : Shape := ⟨2, ![4096, 6144]⟩
abbrev S1x1024 : Shape := ⟨2, ![1, 1024]⟩
abbrev S6144x1024 : Shape := ⟨2, ![6144, 1024]⟩
abbrev S3072x1024 : Shape := ⟨2, ![3072, 1024]⟩
abbrev S4096x8x2x384 : Shape := ⟨4, ![4096, 8, 2, 384]⟩
abbrev S4096x8x1x384 : Shape := ⟨4, ![4096, 8, 1, 384]⟩
abbrev S4096x8x384 : Shape := ⟨3, ![4096, 8, 384]⟩
abbrev S4096x3072 : Shape := ⟨2, ![4096, 3072]⟩
abbrev S_ : Shape := ⟨0, ![]⟩
abbrev S512x1024 : Shape := ⟨2, ![512, 1024]⟩
abbrev S512x768 : Shape := ⟨2, ![512, 768]⟩
abbrev S1536x1024 : Shape := ⟨2, ![1536, 1024]⟩
abbrev S768x1024 : Shape := ⟨2, ![768, 1024]⟩
abbrev S512x1536 : Shape := ⟨2, ![512, 1536]⟩
abbrev S512x384 : Shape := ⟨2, ![512, 384]⟩
abbrev S512 : Shape := ⟨1, ![512]⟩
abbrev S512x1 : Shape := ⟨2, ![512, 1]⟩
abbrev S1024 : Shape := ⟨1, ![1024]⟩

abbrev nBuf : Space → Nat
  | .hbm => 44
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x6144, .f32⟩
  | .hbm, ⟨3, _⟩ => ⟨S1x1024, .f32⟩
  | .hbm, ⟨4, _⟩ => ⟨S1x1024, .f32⟩
  | .hbm, ⟨5, _⟩ => ⟨S6144x1024, .f32⟩
  | .hbm, ⟨6, _⟩ => ⟨S3072x1024, .f32⟩
  | .hbm, ⟨7, _⟩ => ⟨S4096x1024, .f32⟩
  | .hbm, ⟨8, _⟩ => ⟨S4096x1024, .f32⟩
  | .hbm, ⟨9, _⟩ => ⟨S4096x8x2x384, .f32⟩
  | .hbm, ⟨10, _⟩ => ⟨S4096x8x1x384, .f32⟩
  | .hbm, ⟨11, _⟩ => ⟨S4096x8x384, .f32⟩
  | .hbm, ⟨12, _⟩ => ⟨S4096x3072, .f32⟩
  | .hbm, ⟨13, _⟩ => ⟨S4096x8x1x384, .f32⟩
  | .hbm, ⟨14, _⟩ => ⟨S4096x8x384, .f32⟩
  | .hbm, ⟨15, _⟩ => ⟨S4096x3072, .f32⟩
  | .hbm, ⟨16, _⟩ => ⟨S4096x3072, .f32⟩
  | .hbm, ⟨17, _⟩ => ⟨S4096x3072, .f32⟩
  | .hbm, ⟨18, _⟩ => ⟨S_, .f32⟩
  | .hbm, ⟨19, _⟩ => ⟨S4096x3072, .f32⟩
  | .hbm, ⟨20, _⟩ => ⟨S4096x3072, .f32⟩
  | .hbm, ⟨21, _⟩ => ⟨S_, .f32⟩
  | .hbm, ⟨22, _⟩ => ⟨S4096x3072, .f32⟩
  | .hbm, ⟨23, _⟩ => ⟨S4096x3072, .f32⟩
  | .hbm, ⟨24, _⟩ => ⟨S4096x1024, .bf16⟩
  | .hbm, ⟨25, _⟩ => ⟨S_, .f32⟩
  | .hbm, ⟨26, _⟩ => ⟨S4096x3072, .f32⟩
  | .hbm, ⟨27, _⟩ => ⟨S4096x3072, .f32⟩
  | .hbm, ⟨28, _⟩ => ⟨S4096x3072, .f32⟩
  | .hbm, ⟨29, _⟩ => ⟨S_, .f32⟩
  | .hbm, ⟨30, _⟩ => ⟨S4096x3072, .f32⟩
  | .hbm, ⟨31, _⟩ => ⟨S4096x3072, .f32⟩
  | .hbm, ⟨32, _⟩ => ⟨S4096x3072, .f32⟩
  | .hbm, ⟨33, _⟩ => ⟨S4096x3072, .f32⟩
  | .hbm, ⟨34, _⟩ => ⟨S4096x3072, .bf16⟩
  | .hbm, ⟨35, _⟩ => ⟨S4096x3072, .f32⟩
  | .hbm, ⟨36, _⟩ => ⟨S4096x3072, .bf16⟩
  | .hbm, ⟨37, _⟩ => ⟨S6144x1024, .bf16⟩
  | .hbm, ⟨38, _⟩ => ⟨S3072x1024, .bf16⟩
  | .hbm, ⟨39, _⟩ => ⟨S4096x6144, .bf16⟩
  | .hbm, ⟨40, _⟩ => ⟨S4096x1024, .f32⟩
  | .hbm, ⟨41, _⟩ => ⟨S4096x1024, .bf16⟩
  | .hbm, ⟨42, _⟩ => ⟨S1x1024, .f32⟩
  | .hbm, ⟨43, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S1536x1024, .bf16⟩
  | .local _ .vmem, ⟨7, _⟩ => ⟨S1536x1024, .bf16⟩
  | .local _ .vmem, ⟨8, _⟩ => ⟨S768x1024, .bf16⟩
  | .local _ .vmem, ⟨9, _⟩ => ⟨S768x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1x1024, .f32⟩
  | .local _ .vmem, ⟨18, _⟩ => ⟨S512x1536, .bf16⟩
  | .local _ .vmem, ⟨19, _⟩ => ⟨S512x1536, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S1x1024, .f32⟩
  | .local _ .vmem, ⟨25, _⟩ => ⟨S1x1024, .f32⟩
  | .local _ .vmem, ⟨26, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26_0 : Ref sig .tc := ⟨.hbm, 39, rfl⟩
abbrev main_v26_1 : Ref sig .tc := ⟨.hbm, 40, rfl⟩
abbrev main_v26_2 : Ref sig .tc := ⟨.hbm, 41, rfl⟩
abbrev main_v26_3 : Ref sig .tc := ⟨.hbm, 42, rfl⟩
abbrev main_v26_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_18 : BitVec 32 := 0#32
  let v37 : BitVec 1 := Scalar.cmpi .ne v36 c0_i32_18
  v37

def k0_cond3 (i : grid0.Coords) : BitVec 1 :=
  let arg0 : BitVec 32 := BitVec.ofNat 32 (i 0).val
  let c0_i32_15 : BitVec 32 := 0#32
  let v30 : BitVec 1 := Scalar.cmpi .eq arg0 c0_i32_15
  let arg1 : BitVec 32 := BitVec.ofNat 32 (i 1).val
  let c0_i32_16 : BitVec 32 := 0#32
  let v31 : BitVec 1 := Scalar.cmpi .eq arg1 c0_i32_16
  let v32 : BitVec 1 := Scalar.andi v30 v31
  let v33 : BitVec 32 := Scalar.extui v32
  let c0_i32_17 : BitVec 32 := 0#32
  let v34 : BitVec 1 := Scalar.cmpi .ne v33 c0_i32_17
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1536x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== Reference3Ideal.lean ====
abbrev S4096x1024 : Shape := ⟨2, ![4096, 1024]⟩
abbrev S4096x6144 : Shape := ⟨2, ![4096, 6144]⟩
abbrev S1x1024 : Shape := ⟨2, ![1, 1024]⟩
abbrev S6144x1024 : Shape := ⟨2, ![6144, 1024]⟩
abbrev S3072x1024 : Shape := ⟨2, ![3072, 1024]⟩
abbrev S4096x8x2x384 : Shape := ⟨4, ![4096, 8, 2, 384]⟩
abbrev S4096x8x1x384 : Shape := ⟨4, ![4096, 8, 1, 384]⟩
abbrev S4096x8x384 : Shape := ⟨3, ![4096, 8, 384]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 137
  | .vmem => 0
  | .smem => 0
  | _ => 0

abbrev hbmTy0_0 (i : Nat) : BufTy := match i % 128 with
  | 0 => ⟨S4096x1024, .f32⟩
  | 1 => ⟨S4096x1024, .f32⟩
  | 2 => ⟨S4096x6144, .f32⟩
  | 3 => ⟨S1x1024, .f32⟩
  | 4 => ⟨S1x1024, .f32⟩
  | 5 => ⟨S6144x1024, .f32⟩
  | 6 => ⟨S3072x1024, .f32⟩
  | 7 => ⟨S4096x1024, .f32⟩
  | 8 => ⟨S4096x1024, .f32⟩
  | 9 => ⟨S4096x8x2x384, .f32⟩
  | 10 => ⟨S4096x8x1x384, .f32⟩
  | 11 => ⟨S4096x8x384, .f32⟩
  | 12 => ⟨S4096x3072, .f32⟩
  | 13 => ⟨S4096x8x1x384, .f32⟩
  | 14 => ⟨S4096x8x384, .f32⟩
  | 15 => ⟨S4096x3072, .f32⟩
  | 16 => ⟨S4096x3072, .f32⟩
  | 17 => ⟨S4096x3072, .f32⟩
  | 18 => ⟨S_, .f32⟩
  | 19 => ⟨S4096x3072, .f32⟩
  | 20 => ⟨S4096x3072, .f32⟩
  | 21 => ⟨S_, .f32⟩
  | 22 => ⟨S4096x3072, .f32⟩
  | 23 => ⟨S4096x3072, .f32⟩
  | 24 => ⟨S_, .f32⟩
  | 25 => ⟨S4096x3072, .f32⟩
  | 26 => ⟨S4096x3072, .f32⟩
  | 27 => ⟨S4096x3072, .f32⟩
  | 28 => ⟨S4096x3072, .f32⟩
  | 29 => ⟨S4096x3072, .f32⟩
  | 30 => ⟨S4096x1024, .f32⟩
  | 31 => ⟨S4096x3072, .f32⟩
  | 32 => ⟨S4096x3072, .f32⟩
  | 33 => ⟨S4096x3072, .f32⟩
  | 34 => ⟨S4096x3072, .f32⟩
  | 35 => ⟨S4096x3072, .f32⟩
  | 36 => ⟨S4096x3072, .f32⟩
  | 37 => ⟨S4096x3072, .f32⟩
  | 38 => ⟨S4096x8x384, .f32⟩
  | 39 => ⟨S4096x8x1x384, .f32⟩
  | 40 => ⟨S_, .f32⟩
  | 41 => ⟨S4096x8x2x384, .f32⟩
  | 42 => ⟨S4096x8x384, .f32⟩
  | 43 => ⟨S4096x8x1x384, .f32⟩
  | 44 => ⟨S_, .f32⟩
  | 45 => ⟨S4096x8x2x384, .f32⟩
  | 46 => ⟨S4096x8x2x384, .f32⟩
  | 47 => ⟨S4096x6144, .f32⟩
  | 48 => ⟨S4096x1024, .f32⟩
  | 49 => ⟨S_, .f32⟩
  | 50 => ⟨S4096, .f32⟩
  | 51 => ⟨S4096x1, .f32⟩
  | 52 => ⟨S_, .f32⟩
  | 53 => ⟨S4096x1, .f32⟩
  | 54 => ⟨S4096x1, .f32⟩
  | 55 => ⟨S_, .f32⟩
  | 56 => ⟨S4096x1, .f32⟩
  | 57 => ⟨S4096x1, .f32⟩
  | 58 => ⟨S4096x1, .f32⟩
  | 59 => ⟨S4096x1, .f32⟩
  | 60 => ⟨S_, .f32⟩
  | 61 => ⟨S4096x1, .f32⟩
  | 62 => ⟨S4096x1, .f32⟩
  | 63 => ⟨S4096x1024, .f32⟩
  | 64 => ⟨S4096x1024, .f32⟩
  | 65 => ⟨S4096x1024, .f32⟩
  | 66 => ⟨S4096x1024, .f32⟩
  | 67 => ⟨S4096x6144, .f32⟩
  | 68 => ⟨S4096x1024, .f32⟩
  | 69 => ⟨S4096x1024, .f32⟩
  | 70 => ⟨S_, .f32⟩
  | 71 => ⟨S1024, .f32⟩
  | 72 => ⟨S1x1024, .f32⟩
  | 73 => ⟨S4096x1024, .f32⟩
  | 74 => ⟨S4096x1024, .f32⟩
  | 75 => ⟨S4096x1024, .f32⟩
  | 76 => ⟨S_, .f32⟩
  | 77 => ⟨S4096, .f32⟩
  | 78 => ⟨S4096x1, .f32⟩
  | 79 => ⟨S4096x1024, .f32⟩
  | 80 => ⟨S4096x1024, .f32⟩
  | 81 => ⟨S4096x1024, .f32⟩
  | 82 => ⟨S4096x1, .f32⟩
  | 83 => ⟨S_, .f32⟩
  | 84 => ⟨S4096x1, .f32⟩
  | 85 => ⟨S4096x1, .f32⟩
  | 86 => ⟨S_, .f32⟩
  | 87 => ⟨S4096, .f32⟩
  | 88 => ⟨S4096x1024, .f32⟩
  | 89 => ⟨S4096x1024, .f32⟩
  | 90 => ⟨S4096x1024, .f32⟩
  | 91 => ⟨S4096x1024, .f32⟩
  | 92 => ⟨S4096x1024, .f32⟩
  | 93 => ⟨S4096x1024, .f32⟩
  | 94 => ⟨S_, .f32⟩
  | 95 => ⟨S4096, .f32⟩
  | 96 => ⟨S4096x1, .f32⟩
  | 97 => ⟨S_, .f32⟩
  | 98 => ⟨S4096x1, .f32⟩
  | 99 => ⟨S4096x1, .f32⟩
  | 100 => ⟨S_, .f32⟩
  | 101 => ⟨S4096x1, .f32⟩
  | 102 => ⟨S4096x1, .f32⟩
  | 103 => ⟨S4096x1, .f32⟩
  | 104 => ⟨S4096x1, .f32⟩
  | 105 => ⟨S_, .f32⟩
  | 106 => ⟨S4096x1, .f32⟩
  | 107 => ⟨S4096x1, .f32⟩
  | 108 => ⟨S4096x1024, .f32⟩
  | 109 => ⟨S4096x1024, .f32⟩
  | 110 => ⟨S4096x1024, .f32⟩
  | 111 => ⟨S4096x1024, .f32⟩
  | 112 => ⟨S4096x1024, .f32⟩
  | 113 => ⟨S_, .f32⟩
  | 114 => ⟨S1024, .f32⟩
  | 115 => ⟨S1x1024, .f32⟩
  | 116 => ⟨S4096x1024, .f32⟩
  | 117 => ⟨S4096x1024, .f32⟩
  | 118 => ⟨S4096x1024, .f32⟩
  | 119 => ⟨S_, .f32⟩
  | 120 => ⟨S4096, .f32⟩
  | 121 => ⟨S4096x1, .f32⟩
  | 122 => ⟨S4096x1024, .f32⟩
  | 123 => ⟨S4096x1024, .f32⟩
  | 124 => ⟨S4096x1, .f32⟩
  | 125 => ⟨S_, .f32⟩
  | 126 => ⟨S4096x1, .f32⟩
  | 127 => ⟨S4096x1, .f32⟩
  | _ => ⟨S4096x1024, .f32⟩

abbrev hbmTy0_1 (i : Nat) : BufTy := match i % 128 with
  | 0 => ⟨S_, .f32⟩
  | 1 => ⟨S4096, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S4096x6144, .bf16⟩
  | 8 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_v7_2 : Ref sig .tc := ⟨.hbm, 23, rfl⟩
abbrev main_call0_cst_1 : Ref sig .tc := ⟨.hbm, 24, rfl⟩
abbrev main_call0_v6 : Ref sig .tc := ⟨.hbm, 25, rfl⟩
abbrev main_call0_v7 : Ref sig .tc := ⟨.hbm, 26, rfl⟩
abbrev main_v7_1 : Ref sig .tc := ⟨.hbm, 27, rfl⟩
abbrev main_v7_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_0 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_1 : Ref sig .tc := ⟨.hbm, 49, rfl⟩
abbrev main_v23 : Ref sig .tc := ⟨.hbm, 50, rfl⟩
abbrev main_v24 : Ref sig .tc := ⟨.hbm, 51, rfl⟩
abbrev main_cst_2 : Ref sig .tc := ⟨.hbm, 52, rfl⟩
abbrev main_v25 : Ref sig .tc := ⟨.hbm, 53, rfl⟩
abbrev main_v26 : Ref sig .tc := ⟨.hbm, 54, rfl⟩
abbrev main_cst_3 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_4 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_5 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_6 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_7 : Ref sig .tc := ⟨.hbm, 83, rfl⟩
abbrev main_v51 : Ref sig .tc := ⟨.hbm, 84, rfl⟩
abbrev main_v52 : Ref sig .tc := ⟨.hbm, 85, rfl⟩
abbrev main_cst_8 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_9 : Ref sig .tc := ⟨.hbm, 94, rfl⟩
abbrev main_v60 : Ref sig .tc := ⟨.hbm, 95, rfl⟩
abbrev main_v61 : Ref sig .tc := ⟨.hbm, 96, rfl⟩
abbrev main_cst_10 : Ref sig .tc := ⟨.hbm, 97, rfl⟩
abbrev main_v62 : Ref sig .tc := ⟨.hbm, 98, rfl⟩
abbrev main_v63 : Ref sig .tc := ⟨.hbm, 99, rfl⟩
abbrev main_cst_11 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_12 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_13 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_14 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_15 : Ref sig .tc := ⟨.hbm, 125, rfl⟩
abbrev main_v85 : Ref sig .tc := ⟨.hbm, 126, rfl⟩
abbrev main_v86 : Ref sig .tc := ⟨.hbm, 127, rfl⟩
abbrev main_cst_16 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S6144x1024 : Shape := ⟨2, ![6144, 1024]⟩
abbrev S3072x1024 : Shape := ⟨2, ![3072, 1024]⟩
abbrev S4096x3072 : Shape := ⟨2, ![4096, 3072]⟩
abbrev S1x128 : Shape := ⟨2, ![1, 128]⟩
abbrev S512x1024 : Shape := ⟨2, ![512, 1024]⟩
abbrev S1536x1024 : Shape := ⟨2, ![1536, 1024]⟩
abbrev S768x1024 : Shape := ⟨2, ![768, 1024]⟩
abbrev S512x768 : Shape := ⟨2, ![512, 768]⟩
abbrev S512x1536 : Shape := ⟨2, ![512, 1536]⟩
abbrev S512x384 : Shape := ⟨2, ![512, 384]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 16
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S6144x1024, .f32⟩
  | .hbm, ⟨5, _⟩ => ⟨S3072x1024, .f32⟩
  | .hbm, ⟨6, _⟩ => ⟨S4096x1024, .bf16⟩
  | .hbm, ⟨7, _⟩ => ⟨S6144x1024, .bf16⟩
  | .hbm, ⟨8, _⟩ => ⟨S3072x1024, .bf16⟩
  | .hbm, ⟨9, _⟩ => ⟨S4096x3072, .bf16⟩
  | .hbm, ⟨10, _⟩ => ⟨S4096x3072, .bf16⟩
  | .hbm, ⟨11, _⟩ => ⟨S4096x3072, .bf16⟩
  | .hbm, ⟨12, _⟩ => ⟨S4096x1024, .f32⟩
  | .hbm, ⟨13, _⟩ => ⟨S4096x1024, .bf16⟩
  | .hbm, ⟨14, _⟩ => ⟨S1x1024, .f32⟩
  | .hbm, ⟨15, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S1536x1024, .bf16⟩
  | .local _ .vmem, ⟨3, _⟩ => ⟨S1536x1024, .bf16⟩
  | .local _ .vmem, ⟨4, _⟩ => ⟨S768x1024, .bf16⟩
  | .local _ .vmem, ⟨5, _⟩ => ⟨S768x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x768, .bf16⟩
  | .local _ .vmem, ⟨12, _⟩ => ⟨S512x768, .bf16⟩
  | .local _ .vmem, ⟨13, _⟩ => ⟨S512x768, .bf16⟩
  | .local _ .vmem, ⟨14, _⟩ => ⟨S512x768, .bf16⟩
  | .local _ .vmem, ⟨15, _⟩ => ⟨S512x768, .bf16⟩
  | .local _ .vmem, ⟨16, _⟩ => ⟨S512x768, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S1x1024, .f32⟩
  | .local _ .vmem, ⟨22, _⟩ => ⟨S1x128, .f32⟩
  | .local _ .vmem, ⟨23, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_v3_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_23 : BitVec 32 := 0#32
  let v49 : BitVec 1 := Scalar.cmpi .ne v48 c0_i32_23
  v49

def k0_cond3 (i : grid0.Coords) : BitVec 1 :=
  let arg0 : BitVec 32 := BitVec.ofNat 32 (i 0).val
  let c0_i32_20 : BitVec 32 := 0#32
  let v42 : BitVec 1 := Scalar.cmpi .eq arg0 c0_i32_20
  let arg1 : BitVec 32 := BitVec.ofNat 32 (i 1).val
  let c0_i32_21 : BitVec 32 := 0#32
  let v43 : BitVec 1 := Scalar.cmpi .eq arg1 c0_i32_21
  let v44 : BitVec 1 := Scalar.andi v42 v43
  let v45 : BitVec 32 := Scalar.extui v44
  let c0_i32_22 : BitVec 32 := 0#32
  let v46 : BitVec 1 := Scalar.cmpi .ne v45 c0_i32_22
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Reference4Ideal.lean ====
abbrev S4096x1024 : Shape := ⟨2, ![4096, 1024]⟩
abbrev S1x1024 : Shape := ⟨2, ![1, 1024]⟩
abbrev S6144x1024 : Shape := ⟨2, ![6144, 1024]⟩
abbrev S3072x1024 : Shape := ⟨2, ![3072, 1024]⟩
abbrev S4096x6144 : Shape := ⟨2, ![4096, 6144]⟩
abbrev S4096x8x2x384 : Shape := ⟨4, ![4096, 8, 2, 384]⟩
abbrev S4096x8x1x384 : Shape := ⟨4, ![4096, 8, 1, 384]⟩
abbrev S4096x8x384 : Shape := ⟨3, ![4096, 8, 384]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 108
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S6144x1024, .f32⟩
  | .hbm, ⟨5, _⟩ => ⟨S3072x1024, .f32⟩
  | .hbm, ⟨6, _⟩ => ⟨S4096x6144, .f32⟩
  | .hbm, ⟨7, _⟩ => ⟨S4096x8x2x384, .f32⟩
  | .hbm, ⟨8, _⟩ => ⟨S4096x8x1x384, .f32⟩
  | .hbm, ⟨9, _⟩ => ⟨S4096x8x384, .f32⟩
  | .hbm, ⟨10, _⟩ => ⟨S4096x3072, .f32⟩
  | .hbm, ⟨11, _⟩ => ⟨S4096x8x1x384, .f32⟩
  | .hbm, ⟨12, _⟩ => ⟨S4096x8x384, .f32⟩
  | .hbm, ⟨13, _⟩ => ⟨S4096x3072, .f32⟩
  | .hbm, ⟨14, _⟩ => ⟨S4096x3072, .f32⟩
  | .hbm, ⟨15, _⟩ => ⟨S4096x3072, .f32⟩
  | .hbm, ⟨16, _⟩ => ⟨S_, .f32⟩
  | .hbm, ⟨17, _⟩ => ⟨S4096x3072, .f32⟩
  | .hbm, ⟨18, _⟩ => ⟨S4096x3072, .f32⟩
  | .hbm, ⟨19, _⟩ => ⟨S_, .f32⟩
  | .hbm, ⟨20, _⟩ => ⟨S4096x3072, .f32⟩
  | .hbm, ⟨21, _⟩ => ⟨S4096x3072, .f32⟩
  | .hbm, ⟨22, _⟩ => ⟨S_, .f32⟩
  | .hbm, ⟨23, _⟩ => ⟨S4096x3072, .f32⟩
  | .hbm, ⟨24, _⟩ => ⟨S4096x3072, .f32⟩
  | .hbm, ⟨25, _⟩ => ⟨S4096x3072, .f32⟩
  | .hbm, ⟨26, _⟩ => ⟨S4096x3072, .f32⟩
  | .hbm, ⟨27, _⟩ => ⟨S4096x3072, .f32⟩
  | .hbm, ⟨28, _⟩ => ⟨S_, .f32⟩
  | .hbm, ⟨29, _⟩ => ⟨S4096x3072, .f32⟩
  | .hbm, ⟨30, _⟩ => ⟨S4096x3072, .f32⟩
  | .hbm, ⟨31, _⟩ => ⟨S4096x3072, .f32⟩
  | .hbm, ⟨32, _⟩ => ⟨S4096x3072, .f32⟩
  | .hbm, ⟨33, _⟩ => ⟨S4096x3072, .f32⟩
  | .hbm, ⟨34, _⟩ => ⟨S4096x3072, .f32⟩
  | .hbm, ⟨35, _⟩ => ⟨S4096x3072, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S_, .f32⟩
  | .hbm, ⟨65, _⟩ => ⟨S4096, .f32⟩
  | .hbm, ⟨66, _⟩ => ⟨S4096, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S4096, .f32⟩
  | .hbm, ⟨75, _⟩ => ⟨S_, .f32⟩
  | .hbm, ⟨76, _⟩ => ⟨S4096, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S4096x1024, .f32⟩
  | .hbm, ⟨91, _⟩ => ⟨S4096x1024, .f32⟩
  | .hbm, ⟨92, _⟩ => ⟨S4096x1, .f32⟩
  | .hbm, ⟨93, _⟩ => ⟨S_, .f32⟩
  | .hbm, ⟨94, _⟩ => ⟨S4096x1, .f32⟩
  | .hbm, ⟨95, _⟩ => ⟨S4096x1, .f32⟩
  | .hbm, ⟨96, _⟩ => ⟨S_, .f32⟩
  | .hbm, ⟨97, _⟩ => ⟨S4096, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x3072, .bf16⟩
  | .hbm, ⟨104, _⟩ => ⟨S4096x3072, .bf16⟩
  | .hbm, ⟨105, _⟩ => ⟨S4096x3072, .bf16⟩
  | .hbm, ⟨106, _⟩ => ⟨S4096x1024, .bf16⟩
  | .hbm, ⟨107, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v8_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v8_1 : Ref sig .tc := ⟨.hbm, 25, rfl⟩
abbrev main_v8_0 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_0 : Ref sig .tc := ⟨.hbm, 38, rfl⟩
abbrev main_v16 : Ref sig .tc := ⟨.hbm, 39, rfl⟩
abbrev main_v17 : Ref sig .tc := ⟨.hbm, 40, rfl⟩
abbrev main_cst_1 : Ref sig .tc := ⟨.hbm, 41, rfl⟩
abbrev main_v18 : Ref sig .tc := ⟨.hbm, 42, rfl⟩
abbrev main_v19 : Ref sig .tc := ⟨.hbm, 43, rfl⟩
abbrev main_cst_2 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_3 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_cst_6 : Ref sig .tc := ⟨.hbm, 64, rfl⟩
abbrev main_v36 : Ref sig .tc := ⟨.hbm, 65, rfl⟩
abbrev main_v37 : Ref sig .tc := ⟨.hbm, 66, rfl⟩
abbrev main_cst_7 : Ref sig .tc := ⟨.hbm, 67, rfl⟩
abbrev main_v38 : Ref sig .tc := ⟨.hbm, 68, rfl⟩
abbrev main_cst_8 : Ref sig .tc := ⟨.hbm, 69, rfl⟩
abbrev main_v39 : Ref sig .tc := ⟨.hbm, 70, rfl⟩
abbrev main_cst_9 : Ref sig .tc := ⟨.hbm, 71, rfl⟩
abbrev main_cst_10 : Ref sig .tc := ⟨.hbm, 72, rfl⟩
abbrev main_v40 : Ref sig .tc := ⟨.hbm, 73, rfl⟩
abbrev main_v41 : Ref sig .tc := ⟨.hbm, 74, rfl⟩
abbrev main_cst_11 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_12 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_13 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_14 : Ref sig .tc := ⟨.hbm, 93, rfl⟩
abbrev main_v57 : Ref sig .tc := ⟨.hbm, 94, rfl⟩
abbrev main_v58 : Ref sig .tc := ⟨.hbm, 95, rfl⟩
abbrev main_cst_15 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S1024x2688 : Shape := ⟨2, ![1024, 2688]⟩
abbrev S4096x640 : Shape := ⟨2, ![4096, 640]⟩
abbrev S4096x2048 : Shape := ⟨2, ![4096, 2048]⟩
abbrev S512x1024 : Shape := ⟨2, ![512, 1024]⟩
abbrev S512x640 : Shape := ⟨2, ![512, 640]⟩
abbrev S512x2048 : Shape := ⟨2, ![512, 2048]⟩
abbrev S512 : Shape := ⟨1, ![512]⟩
abbrev S512x1 : Shape := ⟨2, ![512, 1]⟩
abbrev S1024x640 : Shape := ⟨2, ![1024, 640]⟩
abbrev S1024x2048 : Shape := ⟨2, ![1024, 2048]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2688, .f32⟩
  | .hbm, ⟨3, _⟩ => ⟨S1024x2688, .bf16⟩
  | .hbm, ⟨4, _⟩ => ⟨S4096x640, .f32⟩
  | .hbm, ⟨5, _⟩ => ⟨S4096x2048, .f32⟩
  | .hbm, ⟨6, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2688, .bf16⟩
  | .local _ .vmem, ⟨4, _⟩ => ⟨S512x640, .f32⟩
  | .local _ .vmem, ⟨5, _⟩ => ⟨S512x640, .f32⟩
  | .local _ .vmem, ⟨6, _⟩ => ⟨S512x2048, .f32⟩
  | .local _ .vmem, ⟨7, _⟩ => ⟨S512x2048, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S4096x1024 : Shape := ⟨2, ![4096, 1024]⟩
abbrev S1x1024 : Shape := ⟨2, ![1, 1024]⟩
abbrev S1024x2688 : Shape := ⟨2, ![1024, 2688]⟩
abbrev S_ : Shape := ⟨0, ![]⟩
abbrev S4096 : Shape := ⟨1, ![4096]⟩
abbrev S4096x1 : Shape := ⟨2, ![4096, 1]⟩
abbrev S4096x2688 : Shape := ⟨2, ![4096, 2688]⟩
abbrev S4096x640 : Shape := ⟨2, ![4096, 640]⟩
abbrev S4096x2048 : Shape := ⟨2, ![4096, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2688, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x2688, .f32⟩
  | .hbm, ⟨19, _⟩ => ⟨S4096x640, .f32⟩
  | .hbm, ⟨20, _⟩ => ⟨S4096x2048, .f32⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel6.lean ====
abbrev S4096x8x64 : Shape := ⟨3, ![4096, 8, 64]⟩
abbrev S4096x512 : Shape := ⟨2, ![4096, 512]⟩
abbrev S4096x1024 : Shape := ⟨2, ![4096, 1024]⟩
abbrev S1x1024 : Shape := ⟨2, ![1, 1024]⟩
abbrev S1536x1024 : Shape := ⟨2, ![1536, 1024]⟩
abbrev S_ : Shape := ⟨0, ![]⟩
abbrev S4096x8x128 : Shape := ⟨3, ![4096, 8, 128]⟩
abbrev S4096x1536 : Shape := ⟨2, ![4096, 1536]⟩
abbrev S512x1024 : Shape := ⟨2, ![512, 1024]⟩
abbrev S512x512 : Shape := ⟨2, ![512, 512]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩
abbrev S1x128 : Shape := ⟨2, ![1, 128]⟩

abbrev nBuf : Space → Nat
  | .hbm => 17
  | .vmem => 18
  | .smem => 0
  | _ => 0

abbrev bufTy : (tb : Table) → Fin (tcTables nBuf tb) → BufTy
  | .hbm, ⟨0, _⟩ => ⟨S4096x8x64, .f32⟩
  | .hbm, ⟨1, _⟩ => ⟨S4096x512, .f32⟩
  | .hbm, ⟨2, _⟩ => ⟨S4096x1024, .f32⟩
  | .hbm, ⟨3, _⟩ => ⟨S1x1024, .f32⟩
  | .hbm, ⟨4, _⟩ => ⟨S1536x1024, .f32⟩
  | .hbm, ⟨5, _⟩ => ⟨S1x1024, .f32⟩
  | .hbm, ⟨6, _⟩ => ⟨S1x1024, .f32⟩
  | .hbm, ⟨7, _⟩ => ⟨S4096x8x64, .bf16⟩
  | .hbm, ⟨8, _⟩ => ⟨S_, .bf16⟩
  | .hbm, ⟨9, _⟩ => ⟨S4096x8x64, .bf16⟩
  | .hbm, ⟨10, _⟩ => ⟨S4096x8x128, .bf16⟩
  | .hbm, ⟨11, _⟩ => ⟨S4096x1024, .bf16⟩
  | .hbm, ⟨12, _⟩ => ⟨S1536x1024, .bf16⟩
  | .hbm, ⟨13, _⟩ => ⟨S4096x1024, .f32⟩
  | .hbm, ⟨14, _⟩ => ⟨S4096x1024, .f32⟩
  | .hbm, ⟨15, _⟩ => ⟨S4096x1024, .bf16⟩
  | .hbm, ⟨16, _⟩ => ⟨S4096x1536, .bf16⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1536x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1536, .bf16⟩
  | .local _ .vmem, ⟨17, _⟩ => ⟨S512x1536, .bf16⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S4096x8x64 : Shape := ⟨3, ![4096, 8, 64]⟩
abbrev S4096x512 : Shape := ⟨2, ![4096, 512]⟩
abbrev S4096x1024 : Shape := ⟨2, ![4096, 1024]⟩
abbrev S1x1024 : Shape := ⟨2, ![1, 1024]⟩
abbrev S1536x1024 : Shape := ⟨2, ![1536, 1024]⟩
abbrev S8x128 : Shape := ⟨2, ![8, 128]⟩
abbrev S8x64 : Shape := ⟨2, ![8, 64]⟩
abbrev S_ : Shape := ⟨0, ![]⟩
abbrev S4096x8 : Shape := ⟨2, ![4096, 8]⟩
abbrev S4096x8x1 : Shape := ⟨3, ![4096, 8, 1]⟩
abbrev S1x8x64 : Shape := ⟨3, ![1, 8, 64]⟩
abbrev S4096x8x128 : Shape := ⟨3, ![4096, 8, 128]⟩
abbrev S4096x1536 : Shape := ⟨2, ![4096, 1536]⟩
abbrev S4096 : Shape := ⟨1, ![4096]⟩
abbrev S4096x1 : Shape := ⟨2, ![4096, 1]⟩

abbrev nBuf : Space → Nat
  | .hbm => 64
  | .vmem => 0
  | .smem => 0
  | _ => 0

abbrev bufTy : (tb : Table) → Fin (tcTables nBuf tb) → BufTy
  | .hbm, ⟨0, _⟩ => ⟨S4096x8x64, .f32⟩
  | .hbm, ⟨1, _⟩ => ⟨S4096x512, .f32⟩
  | .hbm, ⟨2, _⟩ => ⟨S4096x1024, .f32⟩
  | .hbm, ⟨3, _⟩ => ⟨S1x1024, .f32⟩
  | .hbm, ⟨4, _⟩ => ⟨S1536x1024, .f32⟩
  | .hbm, ⟨5, _⟩ => ⟨S1x1024, .f32⟩
  | .hbm, ⟨6, _⟩ => ⟨S1x1024, .f32⟩
  | .hbm, ⟨7, _⟩ => ⟨S8x128, .f32⟩
  | .hbm, ⟨8, _⟩ => ⟨S8x64, .f32⟩
  | .hbm, ⟨9, _⟩ => ⟨S4096x8x64, .f32⟩
  | .hbm, ⟨10, _⟩ => ⟨S_, .f32⟩
  | .hbm, ⟨11, _⟩ => ⟨S4096x8, .f32⟩
  | .hbm, ⟨12, _⟩ => ⟨S4096x8x1, .f32⟩
  | .hbm, ⟨13, _⟩ => ⟨S_, .f32⟩
  | .hbm, ⟨14, _⟩ => ⟨S4096x8x1, .f32⟩
  | .hbm, ⟨15, _⟩ => ⟨S4096x8x1, .f32⟩
  | .hbm, ⟨16, _⟩ => ⟨S_, .f32⟩
  | .hbm, ⟨17, _⟩ => ⟨S4096x8x1, .f32⟩
  | .hbm, ⟨18, _⟩ => ⟨S4096x8x1, .f32⟩
  | .hbm, ⟨19, _⟩ => ⟨S4096x8x1, .f32⟩
  | .hbm, ⟨20, _⟩ => ⟨S4096x8x64, .f32⟩
  | .hbm, ⟨21, _⟩ => ⟨S4096x8x64, .f32⟩
  | .hbm, ⟨22, _⟩ => ⟨S1x8x64, .f32⟩
  | .hbm, ⟨23, _⟩ => ⟨S4096x8x64, .f32⟩
  | .hbm, ⟨24, _⟩ => ⟨S4096x8x64, .f32⟩
  | .hbm, ⟨25, _⟩ => ⟨S_, .f32⟩
  | .hbm, ⟨26, _⟩ => ⟨S4096x8x64, .f32⟩
  | .hbm, ⟨27, _⟩ => ⟨S4096x8x128, .f32⟩
  | .hbm, ⟨28, _⟩ => ⟨S4096x1024, .f32⟩
  | .hbm, ⟨29, _⟩ => ⟨S4096x1536, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .bf16⟩
  | .hbm, ⟨63, _⟩ => ⟨S4096x1536, .bf16⟩
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Proof.KernelFrame.lean ====
module

public import proofs.«01_k».proof.Proof.Gen.Kernel.Frame
public import proofs.«01_k».proof.Proof.Gen.Kernel.Loops
public import Idealize.ShloMosaic.Lib.WordCmp
public import Idealize.ShloMosaic.Lib.Claim

@[expose] public section

set_option maxRecDepth 16384

noncomputable section

namespace Cert.Kernel.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

/-! ## The frame of the kernel as printed

The body is run with nothing said of what it leaves in its three results: it faults nowhere, hands every block back, and
leaves the six it reads as they were. -/

variable {F : FTy → Type} [FloatOps F]

local notation "𝕄" => MT nD τ sig Unit (Elt F) ℕ (UR sig nD τ) ℕ

/-- The grid point starts a new pair of heads. -/
abbrev fresh (i : grid0.Coords) : Prop := (Scalar.cmpi .ne (Scalar.extui (Scalar.cmpi .eq (BitVec.ofNat 32 (i 1).val) 0#32)) 0#32) = 1#1

set_option maxHeartbeats 2000000 in
/-- The body, at a grid point that starts a pair of heads and at one that does not. -/
theorem body_runs (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .f32) (harg6 : arg6.IsWhole) (arg7 : Memref sig .tc .vmem S4096x256 .f32) (harg7 : arg7.IsWhole) (arg8 : Memref sig .tc .vmem S512x256 .bf16) (harg8 : arg8.IsWhole) (arg9 : Memref sig .tc .vmem S512x256 .bf16) (harg9 : arg9.IsWhole) (arg10 : Memref sig .tc .vmem S4096x256 .f32) (harg10 : arg10.IsWhole)
    (x0 : Vec F S512x256 .bf16) (x1 : Vec F S512x256 .bf16) (x2 : Vec F S4096x256 .bf16) (x3 : Vec F S4096x256 .bf16) (x4 : Vec F S4096x256 .f32) (x5 : Vec F S4096x256 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ (∃ d, owns (c : Thread nD τ) arg8 fullShare d)
        ∗ (∃ d, owns (c : Thread nD τ) arg9 fullShare d)
        ∗ (∃ d, owns (c : Thread nD τ) arg10 fullShare d)
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ (∃ d, owns (c : Thread nD τ) arg8 fullShare d)
        ∗ (∃ d, owns (c : Thread nD τ) arg9 fullShare d)
        ∗ (∃ d, owns (c : Thread nD τ) arg10 fullShare d)) -∗ K ⟨⟩))
      ⊢ wp frame (wpE (defs₀ (F := F)) Variants.none c none) E (cc0_flash_bwd i arg2 harg2 arg3 harg3 arg4 harg4 arg5 harg5 arg6 harg6 arg7 harg7 arg8 harg8 arg9 harg9 arg10 harg10) K := by
  simp only [cc0_flash_bwd_eq_skeleton]; unfold cc0_flash_bwd_skel
  simp only [k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  by_cases hc : fresh i
  all_goals
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

variable (m : (ℓ : Loc nD τ sig) → Buf (Elt F) ℓ) (ρ : Dev nD → PrngReg)

/-- The windows of the three results, of which nothing is said. -/
def results : Fin 9 → Bool := fun w => decide (6 ≤ w.val)

/-- What the pipeline holds: the arrays as the call finds them, each input's block after the body as before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- The body at any grid point, from what the pipeline hands it to what it hands back. -/
theorem sound_body (c : Dev nD) (t : Fin cfg0.N) :
    iprop((dats m 0 c).Φ t.castSucc ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d))
      ∗ (∃ d, owns (c : Thread nD τ) (win0_5.stage (cfg0.slots t 5)) fullShare ((dats m 0 c).before 5 t d))
      ∗ (∃ d, owns (c : Thread nD τ) (win0_6.stage (cfg0.slots t 6)) fullShare d)
      ∗ (∃ d, owns (c : Thread nD τ) (win0_7.stage (cfg0.slots t 7)) fullShare d)
      ∗ (∃ d, owns (c : Thread nD τ) (win0_8.stage (cfg0.slots t 8)) fullShare d))
    ⊢ wp frame (wpE (defs₀ (F := F)) Variants.none c none) Set.univ (bodyAt0 t) (fun _ =>
      iprop((dats m 0 c).Φ t.succ ∗ (dats m 0 c).owesAt () t.succ
      ∗ owns (c : Thread nD τ) (win0_0.stage (cfg0.slots t 0)) fullShare ((dats m 0 c).after 0 t)
      ∗ owns (c : Thread nD τ) (win0_1.stage (cfg0.slots t 1)) fullShare ((dats m 0 c).after 1 t)
      ∗ owns (c : Thread nD τ) (win0_2.stage (cfg0.slots t 2)) fullShare ((dats m 0 c).after 2 t)
      ∗ owns (c : Thread nD τ) (win0_3.stage (cfg0.slots t 3)) fullShare ((dats m 0 c).after 3 t)
      ∗ owns (c : Thread nD τ) (win0_4.stage (cfg0.slots t 4)) fullShare ((dats m 0 c).after 4 t)
      ∗ owns (c : Thread nD τ) (win0_5.stage (cfg0.slots t 5)) fullShare ((dats m 0 c).after 5 t)
      ∗ (∃ d, owns (c : Thread nD τ) (win0_6.stage (cfg0.slots t 6)) fullShare d)
      ∗ (∃ d, owns (c : Thread nD τ) (win0_7.stage (cfg0.slots t 7)) fullShare d)
      ∗ (∃ d, owns (c : Thread nD τ) (win0_8.stage (cfg0.slots t 8)) fullShare d))) := by
  unfold bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_runs c (grid0.coords t) _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ results := fun t => by
  rw [bigSep_W0, bigSep_W0, body_row]
  exact triple_restated (sound_body m c t) rfl .rfl fun _ => .rfl

set_option backward.isDefEq.respectTransparency.types false in
/-- The run. -/
theorem run_quiescent : θ_run defs (onTc (τ := τ) (main (F := F))) (s₀ m ρ)
    (fun r => Pipeline.RDat.FramePost (cfgs 0) (fun c => (dats m 0 c).toRForget results) (V m) r ∧ r.2.sem = fun _ => 0) :=
  Pipeline.θ_run_frame_forget (Q' := _) cfgs (dats m) (0 : Fin 1) launch0 defs₀ Variants.none results m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- No window reads or writes an argument of the program, and no host line does. -/
theorem kept (b : Ref sig .tc) (hb : b ∈ Pipeline.restRefs sig spec0) (c : Dev nD) (hV : V m c b = m ((c : Thread nD τ).loc b))
    {r : PUnit × MemSt nD τ sig (Elt F)} (h : Pipeline.RDat.FramePost (cfgs 0) (fun c => (dats m 0 c).toRForget results) (V m) r) :
    r.2.mem ((c.tc : Thread nD τ).loc b) = m ((c.tc : Thread nD τ).loc b) := ((h c).2 b hb).trans hV

/-- The frame: every argument array as it was, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
      kept m main_arg0 (Pipeline.mem_restRefs_of main_arg0 (by decide) (by decide)) c (V_main_arg0 m c) h.1,
      kept m main_arg1 (Pipeline.mem_restRefs_of main_arg1 (by decide) (by decide)) c (V_main_arg1 m c) h.1,
      kept m main_arg2 (Pipeline.mem_restRefs_of main_arg2 (by decide) (by decide)) c (V_main_arg2 m c) h.1,
      kept m main_arg3 (Pipeline.mem_restRefs_of main_arg3 (by decide) (by decide)) c (V_main_arg3 m c) h.1⟩, h.2⟩)
    (run_quiescent m ρ)

end Cert.Kernel.Flash
-- ==== Proof.Base.lean ====
module

public import Idealize.ShloMosaic.Lib.Pointwise
public import Idealize.ShloMosaic.Lib.VecWindow

@[expose] public section

noncomputable section

namespace Cert.Flash

open Idealize.ShloMosaic
open scoped BigOperators

/-- Small numbers compare as words as they do as numbers. -/
theorem sle_ofNat (a b : ℕ) (ha : a < 4096) (hb : b < 4096) :
    IntOp.cmpi .sle (BitVec.ofNat 32 a) (BitVec.ofNat 32 b) = if a ≤ b then 1#1 else 0#1 := by
  have e : ∀ n, n < 4096 → (BitVec.ofNat 32 n).toInt = (n : ℤ) := fun n hn => by
    rw [BitVec.toInt_eq_toNat_of_lt (by rw [BitVec.toNat_ofNat]; omega), BitVec.toNat_ofNat, Nat.mod_eq_of_lt (by omega)]
  unfold IntOp.cmpi
  show BitVec.ofBool ((BitVec.ofNat 32 a).sle (BitVec.ofNat 32 b)) = _
  unfold BitVec.sle
  rw [e a ha, e b hb]
  by_cases h : a ≤ b
  · rw [if_pos h, decide_eq_true (by exact_mod_cast h)]; rfl
  · rw [if_neg h, decide_eq_false (by exact_mod_cast h)]; rfl

/-- An array of rows and columns as a function of two numbers. -/
def at2 {m n : ℕ} (x : (⟨2, ![m, n]⟩ : Shape).Idx → EReal) (r c : ℕ) : EReal :=
  if h : r < m ∧ c < n then x (ix2 ⟨r, h.1⟩ ⟨c, h.2⟩) else 0

theorem at2_of {m n : ℕ} (x : (⟨2, ![m, n]⟩ : Shape).Idx → EReal) (r : Fin m) (c : Fin n) : at2 x r.val c.val = x (ix2 r c) :=
  dif_pos ⟨r.isLt, c.isLt⟩

theorem at2_lt {m n : ℕ} (x : (⟨2, ![m, n]⟩ : Shape).Idx → EReal) {r c : ℕ} (hr : r < m) (hc : c < n) : at2 x r c = x (ix2 ⟨r, hr⟩ ⟨c, hc⟩) :=
  dif_pos ⟨hr, hc⟩

/-- A window read at an index is the array read at the window's offsets. -/
theorem window_ix2 {m n p q : ℕ} (x : (⟨2, ![m, n]⟩ : Shape).Idx → EReal) (off : Fin 2 → ℕ)
    (inb : ∀ a, off a + (![p, q] : Fin 2 → ℕ) a ≤ (⟨2, ![m, n]⟩ : Shape).size a) (r : Fin p) (c : Fin q) :
    VecWindow.window (s := ⟨2, ![m, n]⟩) x off ![p, q] inb (ix2 r c) = at2 x (off 0 + r.val) (off 1 + c.val) := by
  have h0 : off 0 + p ≤ m := inb 0
  have h1 : off 1 + q ≤ n := inb 1
  have hr := r.isLt
  have hc := c.isLt
  rw [at2_lt x (show off 0 + r.val < m by omega) (show off 1 + c.val < n by omega)]
  unfold VecWindow.window
  refine congrArg x (funext fun a => Fin.ext ?_)
  match a with
  | ⟨0, _⟩ => show off 0 + 1 * r.val = off 0 + r.val; omega
  | ⟨1, _⟩ => show off 1 + 1 * c.val = off 1 + c.val; omega

/-- A window stored, read at an index: the stored block inside, what was there outside. -/
theorem put_ix2 {m n p q : ℕ} (x : (⟨2, ![m, n]⟩ : Shape).Idx → EReal) (off : Fin 2 → ℕ) (w : (⟨2, ![p, q]⟩ : Shape).Idx → EReal)
    (r : Fin m) (c : Fin n) :
    VecWindow.put (s := ⟨2, ![m, n]⟩) x off ![p, q] w (ix2 r c)
      = if off 0 ≤ r.val ∧ r.val < off 0 + p ∧ off 1 ≤ c.val ∧ c.val < off 1 + q then at2 w (r.val - off 0) (c.val - off 1) else x (ix2 r c) := by
  unfold VecWindow.put
  by_cases h : off 0 ≤ r.val ∧ r.val < off 0 + p ∧ off 1 ≤ c.val ∧ c.val < off 1 + q
  · rw [if_pos h, dif_pos (by
      intro a
      match a with
      | ⟨0, _⟩ => exact ⟨h.1, h.2.1⟩
      | ⟨1, _⟩ => exact ⟨h.2.2.1, h.2.2.2⟩), at2_lt w (show r.val - off 0 < p by omega) (show c.val - off 1 < q by omega)]
    refine congrArg w (funext fun a => Fin.ext ?_)
    match a with
    | ⟨0, _⟩ => rfl
    | ⟨1, _⟩ => rfl
  · rw [if_neg h, dif_neg (by
      intro H
      exact h ⟨(H 0).1, (H 0).2, (H 1).1, (H 1).2⟩)]

/-- A sum over the indices of an axis as a sum over numbers. -/
theorem sum_fin (n : ℕ) (f : ℕ → EReal) : ∑ i : Fin n, f i.val = ∑ i ∈ Finset.range n, f i := Fin.sum_univ_eq_sum_range f n

end Cert.Flash
-- ==== Proof.Tile.lean ====
module

public import proofs.«01_k».proof.Proof.Gen.KernelIdeal.Skeleton
public import proofs.«01_k».proof.Proof.Base
public import Idealize.ShloMosaic.Lib.Pipeline.Value

@[expose] public section

set_option maxRecDepth 16384

noncomputable section

namespace Cert.KernelIdeal.Flash

open Idealize.ShloMosaic
open Cert.KernelIdeal Cert.KernelIdeal.Gen
open scoped BigOperators

/-- The scale of the scores, the same constant in the call and in the reference. -/
def sc : EReal := Ideal.ofBits .f32 0x3DD105EC#32

variable (K V Q D : FVec Ideal S512x128 .bf16) (L E : FVec Ideal S512x1 .f32)

/-- The probability of a query row and a key row below the diagonal's tile. -/
def prob (r c : Fin 512) : EReal := Ideal.exp ((∑ d : Fin 128, Q (ix2 r d) * K (ix2 c d)) * sc - L (ix2 r 0))

/-- The gradient of their score. -/
def grad (r c : Fin 512) : EReal := prob K Q L r c * ((∑ d : Fin 128, D (ix2 r d) * V (ix2 c d)) - E (ix2 r 0)) * sc

theorem pay15_apply (r c : Fin 512) : k0_pay15 (F := Ideal) K Q L (ix2 r c) = prob K Q L r c := by
  simp only [k0_pay15, k0_pay12, k0_pay13, shapeCast_self]
  unfold prob sc
  pointwise

theorem pay16_apply (r c : Fin 512) : k0_pay16 (F := Ideal) K V Q D L E (ix2 r c) = grad K V Q D L E r c := by
  unfold grad
  rw [← pay15_apply]
  simp only [k0_pay16, k0_pay14, shapeCast_self]
  unfold sc
  pointwise

theorem pay17_apply (y : FVec Ideal S512x128 .f32) (r : Fin 512) (d : Fin 128) : k0_pay17 (F := Ideal) K V Q D L E y (ix2 r d)
    = y (ix2 r d) + ∑ c : Fin 512, grad K V Q D L E r c * K (ix2 c d) := by
  simp only [← pay16_apply, k0_pay17, k0_pay12, shapeCast_self]
  pointwise

theorem pay18_apply (c : Fin 512) (d : Fin 128) : k0_pay18 (F := Ideal) K V Q D L E (ix2 c d)
    = ∑ r : Fin 512, grad K V Q D L E r c * Q (ix2 r d) := by
  simp only [← pay16_apply, k0_pay18, k0_pay13, shapeCast_self]
  pointwise

theorem pay21_apply (a : FVec Ideal S512x128 .f32) (c : Fin 512) (d : Fin 128) :
    k0_pay21 (F := Ideal) a (k0_pay14 (F := Ideal) D) (k0_pay19 (F := Ideal) K Q L) (ix2 c d)
    = a (ix2 c d) + ∑ r : Fin 512, prob K Q L r c * D (ix2 r d) := by
  simp only [← pay15_apply, k0_pay21, k0_pay14, k0_pay19, shapeCast_self]
  pointwise

/-- The mask of the diagonal's tile: the key row is not after the query row. -/
theorem mask_apply (r c : Fin 512) : k0_pay49 (ix2 r c) = if c.val ≤ r.val then 1#1 else 0#1 := by
  simp only [k0_pay49]
  pointwise
  exact Cert.Flash.sle_ofNat c.val r.val (by have := c.isLt; omega) (by have := r.isLt; omega)

/-- The probability on the diagonal's tile: zero where the key row comes after the query row. -/
def probM (r c : Fin 512) : EReal := if c.val ≤ r.val then prob K Q L r c else 0

/-- The gradient there. -/
def gradM (r c : Fin 512) : EReal := if c.val ≤ r.val then grad K V Q D L E r c else 0

theorem pay53_apply (r c : Fin 512) : k0_pay53 (F := Ideal) K Q L (ix2 r c) = probM K Q L r c := by
  have hm := mask_apply r c
  have hn : (Named.named (F := Ideal) (φ := .f32) κ "mask" 0xF149F2CA#32 : EReal) = ⊥ := IdealRules.named_const.ideal_named_scalar _ _ _ _ rfl
  unfold probM prob sc
  by_cases h : c.val ≤ r.val
  · rw [if_pos h] at hm ⊢
    simp only [k0_pay53, k0_pay50, k0_pay51, shapeCast_self]
    pointwise
    rw [hm]
    rfl
  · rw [if_neg h] at hm ⊢
    simp only [k0_pay53, k0_pay50, k0_pay51, shapeCast_self, hn]
    pointwise
    rw [hm]
    show Ideal.exp (⊥ - L (ix2 r 0)) = 0
    rw [sub_eq_add_neg, EReal.bot_add]
    rfl

theorem pay54_apply (r c : Fin 512) : k0_pay54 (F := Ideal) K V Q D L E (ix2 r c) = gradM K V Q D L E r c := by
  have e : k0_pay54 (F := Ideal) K V Q D L E (ix2 r c)
      = k0_pay53 (F := Ideal) K Q L (ix2 r c) * ((∑ d : Fin 128, D (ix2 r d) * V (ix2 c d)) - E (ix2 r 0)) * sc := by
    simp only [k0_pay54, k0_pay52, shapeCast_self]
    unfold sc
    pointwise
  rw [e, pay53_apply]
  unfold probM gradM grad
  by_cases h : c.val ≤ r.val
  · rw [if_pos h, if_pos h]
  · rw [if_neg h, if_neg h, zero_mul, zero_mul]

theorem pay55_apply (y : FVec Ideal S512x128 .f32) (r : Fin 512) (d : Fin 128) :
    k0_pay55 (F := Ideal) (k0_pay50 (F := Ideal) K) (k0_pay54 (F := Ideal) K V Q D L E) y (ix2 r d)
    = y (ix2 r d) + ∑ c : Fin 512, gradM K V Q D L E r c * K (ix2 c d) := by
  simp only [← pay54_apply, k0_pay55, k0_pay50, shapeCast_self]
  pointwise

theorem pay56_apply (c : Fin 512) (d : Fin 128) :
    k0_pay56 (F := Ideal) (k0_pay51 (F := Ideal) Q) (k0_pay54 (F := Ideal) K V Q D L E) (ix2 c d)
    = ∑ r : Fin 512, gradM K V Q D L E r c * Q (ix2 r d) := by
  simp only [← pay54_apply, k0_pay56, k0_pay51, shapeCast_self]
  pointwise

theorem pay57_apply (c : Fin 512) (d : Fin 128) :
    k0_pay57 (F := Ideal) (k0_pay52 (F := Ideal) D) (k0_pay53 (F := Ideal) K Q L) (ix2 c d)
    = ∑ r : Fin 512, probM K Q L r c * D (ix2 r d) := by
  simp only [← pay53_apply, k0_pay57, k0_pay52, shapeCast_self]
  pointwise

/-! The second head's products are the first head's, at the second head's blocks. -/

theorem pay27_eq : k0_pay27 (F := Ideal) = k0_pay17 (F := Ideal) := rfl
theorem pay28_eq : k0_pay28 (F := Ideal) = k0_pay18 (F := Ideal) := rfl
theorem pay5_eq (a : FVec Ideal S512x128 .f32) : k0_pay5 (F := Ideal) a (k0_pay24 (F := Ideal) D) (k0_pay29 (F := Ideal) K Q L)
    = k0_pay21 (F := Ideal) a (k0_pay14 (F := Ideal) D) (k0_pay19 (F := Ideal) K Q L) := rfl
theorem pay1_eq : k0_pay1 (F := Ideal) (k0_pay58 (F := Ideal) K) (k0_pay62 (F := Ideal) k0_pay49 K V Q D L E)
    = k0_pay55 (F := Ideal) (k0_pay50 (F := Ideal) K) (k0_pay54 (F := Ideal) K V Q D L E) := rfl
theorem pay2_eq : k0_pay2 (F := Ideal) (k0_pay59 (F := Ideal) Q) (k0_pay62 (F := Ideal) k0_pay49 K V Q D L E)
    = k0_pay56 (F := Ideal) (k0_pay51 (F := Ideal) Q) (k0_pay54 (F := Ideal) K V Q D L E) := rfl
theorem pay3_eq : k0_pay3 (F := Ideal) (k0_pay60 (F := Ideal) D) (k0_pay61 (F := Ideal) k0_pay49 K Q L)
    = k0_pay57 (F := Ideal) (k0_pay52 (F := Ideal) D) (k0_pay53 (F := Ideal) K Q L) := rfl

end Cert.KernelIdeal.Flash
-- ==== Proof.Trip.lean ====
module

public import proofs.«01_k».proof.Proof.Gen.KernelIdeal.Frame
public import proofs.«01_k».proof.Proof.Gen.KernelIdeal.Loops
public import Idealize.ShloMosaic.Lib.VecWindow

@[expose] public section

set_option maxRecDepth 16384

noncomputable section

namespace Cert.KernelIdeal.Flash

open Idealize.ShloMosaic Idealize.ShloMosaic.TcCoe Idealize.ShloMosaic.Tactic
open Idealize.SL Idealize.SL.Sem
open Cert.KernelIdeal Cert.KernelIdeal.Gen

/-- The four 512x128 blocks a trip carries: dk and dv of the block's first head, then of its second. -/
abbrev Acc : Type := FVec Ideal S512x128 .f32 × FVec Ideal S512x128 .f32 × FVec Ideal S512x128 .f32 × FVec Ideal S512x128 .f32

/-- A 512x128 window of a block held by values. -/
abbrev win {s : Shape} {e : EltTy} (x : s.Idx → Elt Ideal e) (off size : Fin s.rank → ℕ) (inb : ∀ a, off a + size a ≤ s.size a) :=
  VecWindow.window x off size inb

/-- The blocks after trip `k`, from those before it. -/
def accTrip (i : grid0.Coords) (k : Fin (k0_t1_loop i).trips) (x2 x3 : FVec Ideal S512x256 .bf16) (x4 x5 : FVec Ideal S4096x256 .bf16)
    (x6 x7 : FVec Ideal S4096x256 .f32) (a : Acc) : Acc :=
  let K0 := win (e := .bf16) x2 ![0, 0] S512x128.size inb_S512x256_S512x128_0_0
  let V0 := win (e := .bf16) x3 ![0, 0] S512x128.size inb_S512x256_S512x128_0_0
  let K1 := win (e := .bf16) x2 ![0, 128] S512x128.size inb_S512x256_S512x128_0_128
  let V1 := win (e := .bf16) x3 ![0, 128] S512x128.size inb_S512x256_S512x128_0_128
  let Q0 := win (e := .bf16) x4 (k0_off5 i k) S512x128.size (k0_off5_inb i k)
  let D0 := win (e := .bf16) x5 (k0_off5 i k) S512x128.size (k0_off5_inb i k)
  let L0 := win (e := .f32) x6 (k0_off6 i k) S512x1.size (k0_off6_inb i k)
  let E0 := win (e := .f32) x7 (k0_off6 i k) S512x1.size (k0_off6_inb i k)
  let Q1 := win (e := .bf16) x4 (k0_off7 i k) S512x128.size (k0_off7_inb i k)
  let D1 := win (e := .bf16) x5 (k0_off7 i k) S512x128.size (k0_off7_inb i k)
  let L1 := win (e := .f32) x6 (k0_off8 i k) S512x1.size (k0_off8_inb i k)
  let E1 := win (e := .f32) x7 (k0_off8 i k) S512x1.size (k0_off8_inb i k)
  (k0_pay20 (F := Ideal) a.1 (k0_pay18 (F := Ideal) K0 V0 Q0 D0 L0 E0), k0_pay21 (F := Ideal) a.2.1 (k0_pay14 (F := Ideal) D0) (k0_pay19 (F := Ideal) K0 Q0 L0),
    k0_pay4 (F := Ideal) a.2.2.1 (k0_pay28 (F := Ideal) K1 V1 Q1 D1 L1 E1), k0_pay5 (F := Ideal) a.2.2.2 (k0_pay24 (F := Ideal) D1) (k0_pay29 (F := Ideal) K1 Q1 L1))

/-- The block of dq after trip `k`, from the one before it: the window of each head is replaced by its sum with the trip's product. -/
def dqTrip (i : grid0.Coords) (k : Fin (k0_t1_loop i).trips) (x2 x3 : FVec Ideal S512x256 .bf16) (x4 x5 : FVec Ideal S4096x256 .bf16)
    (x6 x7 : FVec Ideal S4096x256 .f32) (y : FVec Ideal S4096x256 .f32) : FVec Ideal S4096x256 .f32 :=
  let K0 := win (e := .bf16) x2 ![0, 0] S512x128.size inb_S512x256_S512x128_0_0
  let V0 := win (e := .bf16) x3 ![0, 0] S512x128.size inb_S512x256_S512x128_0_0
  let K1 := win (e := .bf16) x2 ![0, 128] S512x128.size inb_S512x256_S512x128_0_128
  let V1 := win (e := .bf16) x3 ![0, 128] S512x128.size inb_S512x256_S512x128_0_128
  let Q0 := win (e := .bf16) x4 (k0_off5 i k) S512x128.size (k0_off5_inb i k)
  let D0 := win (e := .bf16) x5 (k0_off5 i k) S512x128.size (k0_off5_inb i k)
  let L0 := win (e := .f32) x6 (k0_off6 i k) S512x1.size (k0_off6_inb i k)
  let E0 := win (e := .f32) x7 (k0_off6 i k) S512x1.size (k0_off6_inb i k)
  let Q1 := win (e := .bf16) x4 (k0_off7 i k) S512x128.size (k0_off7_inb i k)
  let D1 := win (e := .bf16) x5 (k0_off7 i k) S512x128.size (k0_off7_inb i k)
  let L1 := win (e := .f32) x6 (k0_off8 i k) S512x1.size (k0_off8_inb i k)
  let E1 := win (e := .f32) x7 (k0_off8 i k) S512x1.size (k0_off8_inb i k)
  let y1 : FVec Ideal S4096x256 .f32 := VecWindow.put y (k0_off5 i k) S512x128.size
    (k0_pay17 (F := Ideal) K0 V0 Q0 D0 L0 E0 (win (e := .f32) y (k0_off5 i k) S512x128.size (k0_off5_inb i k)))
  VecWindow.put y1 (k0_off7 i k) S512x128.size
    (k0_pay27 (F := Ideal) K1 V1 Q1 D1 L1 E1 (win (e := .f32) y (k0_off7 i k) S512x128.size (k0_off7_inb i k)))

variable (c : Dev nD) (i : grid0.Coords)
  (arg2 : Memref sig .tc .vmem S512x256 .bf16) (harg2 : arg2.IsWhole) (arg3 : Memref sig .tc .vmem S512x256 .bf16) (harg3 : arg3.IsWhole)
  (arg4 : Memref sig .tc .vmem S4096x256 .bf16) (harg4 : arg4.IsWhole) (arg5 : Memref sig .tc .vmem S4096x256 .bf16) (harg5 : arg5.IsWhole)
  (arg6 : Memref sig .tc .vmem S4096x256 .f32) (harg6 : arg6.IsWhole) (arg7 : Memref sig .tc .vmem S4096x256 .f32) (harg7 : arg7.IsWhole)
  (arg8 : Memref sig .tc .vmem S512x256 .bf16) (harg8 : arg8.IsWhole) (arg9 : Memref sig .tc .vmem S512x256 .bf16) (harg9 : arg9.IsWhole)
  (arg10 : Memref sig .tc .vmem S4096x256 .f32) (harg10 : arg10.IsWhole) (v3 : BitVec 32)
  (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)
  (X6 : BufTy.Contents (Elt Ideal) arg6.view.ty) (X7 : BufTy.Contents (Elt Ideal) arg7.view.ty)

/-- What a trip yields. -/
theorem tripR_eq (k : Fin (k0_t1_loop i).trips) (acc : Acc) (f : BufTy.Contents (Elt Ideal) arg10.view.ty) :
    tripR_k0_t1 (F := Ideal) Variants.none c none i arg2 harg2 arg3 harg3 arg4 harg4 arg5 harg5 arg6 harg6 arg7 harg7 arg8 harg8 arg9 harg9 arg10 harg10 v3 X2 X3 X4 X5 X6 X7 k acc f
      = accTrip i k (arg2.view.read (Elt Ideal) X2) (arg3.view.read (Elt Ideal) X3) (arg4.view.read (Elt Ideal) X4) (arg5.view.read (Elt Ideal) X5) (arg6.view.read (Elt Ideal) X6) (arg7.view.read (Elt Ideal) X7) acc := by
  unfold tripR_k0_t1 trip_k0_t1
  dsimp only
  rfl

/-- What a trip leaves in the block of dq. -/
theorem tripL_eq (k : Fin (k0_t1_loop i).trips) (acc : Acc) (f : BufTy.Contents (Elt Ideal) arg10.view.ty) (T : List (View.Piece (Elt Ideal) S4096x256 .f32)) :
    arg10.view.read (Elt Ideal) (arg10.view.writes (Elt Ideal) f (tripL_k0_t1 (F := Ideal) Variants.none c none i arg2 harg2 arg3 harg3 arg4 harg4 arg5 harg5 arg6 harg6 arg7 harg7 arg8 harg8 arg9 harg9 arg10 harg10 v3 X2 X3 X4 X5 X6 X7 k acc (arg10.view.writes (Elt Ideal) f T) ++ T))
      = dqTrip i k (arg2.view.read (Elt Ideal) X2) (arg3.view.read (Elt Ideal) X3) (arg4.view.read (Elt Ideal) X4) (arg5.view.read (Elt Ideal) X5) (arg6.view.read (Elt Ideal) X6) (arg7.view.read (Elt Ideal) X7) (arg10.view.read (Elt Ideal) (arg10.view.writes (Elt Ideal) f T)) := by
  unfold tripL_k0_t1 trip_k0_t1
  dsimp only [List.cons_append, List.nil_append]
  rw [View.read_writes_cons_put (h := rfl), View.read_writes_cons_put (h := rfl)]
  rfl

end Cert.KernelIdeal.Flash
-- ==== Proof.Body.lean ====
module

public import proofs.«01_k».proof.Proof.Trip
public import Idealize.ShloMosaic.Lib.WordCmp

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

/-- The carried blocks before trip `n`. -/
def accN (i : grid0.Coords) (x2 x3 : FVec Ideal S512x256 .bf16) (x4 x5 : FVec Ideal S4096x256 .bf16)
    (x6 x7 : FVec Ideal S4096x256 .f32) (a : Acc) : ℕ → Acc
  | 0 => a
  | n + 1 => if h : n < (k0_t1_loop i).trips then accTrip i ⟨n, h⟩ x2 x3 x4 x5 x6 x7 (accN i x2 x3 x4 x5 x6 x7 a n) else accN i x2 x3 x4 x5 x6 x7 a n

/-- The block of dq before trip `n`. -/
def dqN (i : grid0.Coords) (x2 x3 : FVec Ideal S512x256 .bf16) (x4 x5 : FVec Ideal S4096x256 .bf16)
    (x6 x7 : FVec Ideal S4096x256 .f32) (y : FVec Ideal S4096x256 .f32) : ℕ → FVec Ideal S4096x256 .f32
  | 0 => y
  | n + 1 => if h : n < (k0_t1_loop i).trips then dqTrip i ⟨n, h⟩ x2 x3 x4 x5 x6 x7 (dqN i x2 x3 x4 x5 x6 x7 y n) else dqN i x2 x3 x4 x5 x6 x7 y n

/-- The carried blocks at loop entry: the products of the tile on the diagonal. -/
def accDiag (i : grid0.Coords) (x2 x3 : FVec Ideal S512x256 .bf16) (x4 x5 : FVec Ideal S4096x256 .bf16)
    (x6 x7 : FVec Ideal S4096x256 .f32) : Acc :=
  let K0 := win (e := .bf16) x2 ![0, 0] S512x128.size inb_S512x256_S512x128_0_0
  let V0 := win (e := .bf16) x3 ![0, 0] S512x128.size inb_S512x256_S512x128_0_0
  let K1 := win (e := .bf16) x2 ![0, 128] S512x128.size inb_S512x256_S512x128_0_128
  let V1 := win (e := .bf16) x3 ![0, 128] S512x128.size inb_S512x256_S512x128_0_128
  let Q0 := win (e := .bf16) x4 (k0_off1 i) S512x128.size (k0_off1_inb i)
  let D0 := win (e := .bf16) x5 (k0_off1 i) S512x128.size (k0_off1_inb i)
  let L0 := win (e := .f32) x6 (k0_off2 i) S512x1.size (k0_off2_inb i)
  let E0 := win (e := .f32) x7 (k0_off2 i) S512x1.size (k0_off2_inb i)
  let Q1 := win (e := .bf16) x4 (k0_off3 i) S512x128.size (k0_off3_inb i)
  let D1 := win (e := .bf16) x5 (k0_off3 i) S512x128.size (k0_off3_inb i)
  let L1 := win (e := .f32) x6 (k0_off4 i) S512x1.size (k0_off4_inb i)
  let E1 := win (e := .f32) x7 (k0_off4 i) S512x1.size (k0_off4_inb i)
  (k0_pay56 (F := Ideal) (k0_pay51 (F := Ideal) Q0) (k0_pay54 (F := Ideal) K0 V0 Q0 D0 L0 E0), k0_pay57 (F := Ideal) (k0_pay52 (F := Ideal) D0) (k0_pay53 (F := Ideal) K0 Q0 L0),
    k0_pay2 (F := Ideal) (k0_pay59 (F := Ideal) Q1) (k0_pay62 (F := Ideal) k0_pay49 K1 V1 Q1 D1 L1 E1), k0_pay3 (F := Ideal) (k0_pay60 (F := Ideal) D1) (k0_pay61 (F := Ideal) k0_pay49 K1 Q1 L1))

/-- The block of dq at loop entry, from what the body found (or zeroed) in it. -/
def dqDiag (i : grid0.Coords) (x2 x3 : FVec Ideal S512x256 .bf16) (x4 x5 : FVec Ideal S4096x256 .bf16)
    (x6 x7 : FVec Ideal S4096x256 .f32) (y : FVec Ideal S4096x256 .f32) : FVec Ideal S4096x256 .f32 :=
  let K0 := win (e := .bf16) x2 ![0, 0] S512x128.size inb_S512x256_S512x128_0_0
  let V0 := win (e := .bf16) x3 ![0, 0] S512x128.size inb_S512x256_S512x128_0_0
  let K1 := win (e := .bf16) x2 ![0, 128] S512x128.size inb_S512x256_S512x128_0_128
  let V1 := win (e := .bf16) x3 ![0, 128] S512x128.size inb_S512x256_S512x128_0_128
  let Q0 := win (e := .bf16) x4 (k0_off1 i) S512x128.size (k0_off1_inb i)
  let D0 := win (e := .bf16) x5 (k0_off1 i) S512x128.size (k0_off1_inb i)
  let L0 := win (e := .f32) x6 (k0_off2 i) S512x1.size (k0_off2_inb i)
  let E0 := win (e := .f32) x7 (k0_off2 i) S512x1.size (k0_off2_inb i)
  let Q1 := win (e := .bf16) x4 (k0_off3 i) S512x128.size (k0_off3_inb i)
  let D1 := win (e := .bf16) x5 (k0_off3 i) S512x128.size (k0_off3_inb i)
  let L1 := win (e := .f32) x6 (k0_off4 i) S512x1.size (k0_off4_inb i)
  let E1 := win (e := .f32) x7 (k0_off4 i) S512x1.size (k0_off4_inb i)
  let y1 : FVec Ideal S4096x256 .f32 := VecWindow.put y (k0_off1 i) S512x128.size
    (k0_pay55 (F := Ideal) (k0_pay50 (F := Ideal) K0) (k0_pay54 (F := Ideal) K0 V0 Q0 D0 L0 E0) (win (e := .f32) y (k0_off1 i) S512x128.size (k0_off1_inb i)))
  VecWindow.put y1 (k0_off3 i) S512x128.size
    (k0_pay1 (F := Ideal) (k0_pay58 (F := Ideal) K1) (k0_pay62 (F := Ideal) k0_pay49 K1 V1 Q1 D1 L1 E1) (win (e := .f32) y (k0_off3 i) S512x128.size (k0_off3_inb i)))

/-- The carried blocks after the last trip. -/
def accEnd (i : grid0.Coords) (x2 x3 : FVec Ideal S512x256 .bf16) (x4 x5 : FVec Ideal S4096x256 .bf16)
    (x6 x7 : FVec Ideal S4096x256 .f32) : Acc :=
  accN i x2 x3 x4 x5 x6 x7 (accDiag i x2 x3 x4 x5 x6 x7) (k0_t1_loop i).trips

/-- The block of dq after the body, from what was in it when the first product was added. -/
def dqEnd (i : grid0.Coords) (x2 x3 : FVec Ideal S512x256 .bf16) (x4 x5 : FVec Ideal S4096x256 .bf16)
    (x6 x7 : FVec Ideal S4096x256 .f32) (y : FVec Ideal S4096x256 .f32) : FVec Ideal S4096x256 .f32 :=
  dqN i x2 x3 x4 x5 x6 x7 (dqDiag i x2 x3 x4 x5 x6 x7 y) (k0_t1_loop i).trips

/-- Two 512x128 blocks side by side. -/
def beside (a b : FVec Ideal S512x128 .bf16) : FVec Ideal S512x256 .bf16 :=
  VecWindow.put (VecWindow.put (fun _ => (0 : EReal)) ![0, 0] S512x128.size a) ![0, 128] S512x128.size b

/-- What the body stores in its block of dk. -/
def dkEnd (i : grid0.Coords) (x2 x3 : FVec Ideal S512x256 .bf16) (x4 x5 : FVec Ideal S4096x256 .bf16)
    (x6 x7 : FVec Ideal S4096x256 .f32) : FVec Ideal S512x256 .bf16 :=
  beside (k0_pay8 (F := Ideal) (accEnd i x2 x3 x4 x5 x6 x7).1) (k0_pay10 (F := Ideal) (accEnd i x2 x3 x4 x5 x6 x7).2.2.1)

/-- What the body stores in its block of dv. -/
def dvEnd (i : grid0.Coords) (x2 x3 : FVec Ideal S512x256 .bf16) (x4 x5 : FVec Ideal S4096x256 .bf16)
    (x6 x7 : FVec Ideal S4096x256 .f32) : FVec Ideal S512x256 .bf16 :=
  beside (k0_pay9 (F := Ideal) (accEnd i x2 x3 x4 x5 x6 x7).2.1) (k0_pay11 (F := Ideal) (accEnd i x2 x3 x4 x5 x6 x7).2.2.2)

/-- Two stores that fill a 512x256 block leave nothing of what was there. -/
theorem put_put_beside (x : FVec Ideal S512x256 .bf16) (a b : FVec Ideal S512x128 .bf16) :
    VecWindow.put (VecWindow.put x ![0, 0] S512x128.size a) ![0, 128] S512x128.size b = beside a b := by
  funext y
  unfold beside VecWindow.put
  by_cases h : ∀ d, (![0, 128] : Fin 2 → ℕ) d ≤ (y d).val ∧ (y d).val < (![0, 128] : Fin 2 → ℕ) d + S512x128.size d
  · rw [dif_pos h, dif_pos h]
  · rw [dif_neg h, dif_neg h]
    have h' : ∀ d, (![0, 0] : Fin 2 → ℕ) d ≤ (y d).val ∧ (y d).val < (![0, 0] : Fin 2 → ℕ) d + S512x128.size d := by
      have h0 : (y 0).val < 512 := (y 0).isLt
      have h1 : (y 1).val < 256 := (y 1).isLt
      intro d
      match d with
      | ⟨0, _⟩ => exact ⟨Nat.zero_le _, by show (y 0).val < 0 + 512; omega⟩
      | ⟨1, _⟩ =>
        refine ⟨Nat.zero_le _, ?_⟩
        show (y 1).val < 0 + 128
        by_contra hlt
        refine h fun e => ?_
        match e with
        | ⟨0, _⟩ => exact ⟨Nat.zero_le _, by show (y 0).val < 0 + 512; omega⟩
        | ⟨1, _⟩ => exact ⟨by show 128 ≤ (y 1).val; omega, by show (y 1).val < 128 + 128; omega⟩
    rw [dif_pos h', dif_pos h']

section
variable (c : Dev nD) (i : grid0.Coords)
  (arg2 : Memref sig .tc .vmem S512x256 .bf16) (harg2 : arg2.IsWhole) (arg3 : Memref sig .tc .vmem S512x256 .bf16) (harg3 : arg3.IsWhole)
  (arg4 : Memref sig .tc .vmem S4096x256 .bf16) (harg4 : arg4.IsWhole) (arg5 : Memref sig .tc .vmem S4096x256 .bf16) (harg5 : arg5.IsWhole)
  (arg6 : Memref sig .tc .vmem S4096x256 .f32) (harg6 : arg6.IsWhole) (arg7 : Memref sig .tc .vmem S4096x256 .f32) (harg7 : arg7.IsWhole)
  (arg8 : Memref sig .tc .vmem S512x256 .bf16) (harg8 : arg8.IsWhole) (arg9 : Memref sig .tc .vmem S512x256 .bf16) (harg9 : arg9.IsWhole)
  (arg10 : Memref sig .tc .vmem S4096x256 .f32) (harg10 : arg10.IsWhole) (v3 : BitVec 32)
  (X2 : BufTy.Contents (Elt Ideal) arg2.view.ty)  (X3 : BufTy.Contents (Elt Ideal) arg3.view.ty)  (X4 : BufTy.Contents (Elt Ideal) arg4.view.ty)  (X5 : BufTy.Contents (Elt Ideal) arg5.view.ty)  (X6 : BufTy.Contents (Elt Ideal) arg6.view.ty)  (X7 : BufTy.Contents (Elt Ideal) arg7.view.ty)

/-- The loop's state before trip `n`: the carried blocks, and the block of dq as read back. -/
theorem st_eq (G : BufTy.Contents (Elt Ideal) arg10.view.ty) (a : Acc) : ∀ n, n ≤ (k0_t1_loop i).trips →
    (st_k0_t1 (F := Ideal) Variants.none c none i arg2 harg2 arg3 harg3 arg4 harg4 arg5 harg5 arg6 harg6 arg7 harg7 arg8 harg8 arg9 harg9 arg10 harg10 v3 X2 X3 X4 X5 X6 X7 G a n).1 = accN i (arg2.view.read (Elt Ideal) X2) (arg3.view.read (Elt Ideal) X3) (arg4.view.read (Elt Ideal) X4) (arg5.view.read (Elt Ideal) X5) (arg6.view.read (Elt Ideal) X6) (arg7.view.read (Elt Ideal) X7) a n
    ∧ arg10.view.read (Elt Ideal) (arg10.view.writes (Elt Ideal) G (st_k0_t1 (F := Ideal) Variants.none c none i arg2 harg2 arg3 harg3 arg4 harg4 arg5 harg5 arg6 harg6 arg7 harg7 arg8 harg8 arg9 harg9 arg10 harg10 v3 X2 X3 X4 X5 X6 X7 G a n).2) = dqN i (arg2.view.read (Elt Ideal) X2) (arg3.view.read (Elt Ideal) X3) (arg4.view.read (Elt Ideal) X4) (arg5.view.read (Elt Ideal) X5) (arg6.view.read (Elt Ideal) X6) (arg7.view.read (Elt Ideal) X7) (arg10.view.read (Elt Ideal) G) n
  | 0, _ => ⟨rfl, rfl⟩
  | n + 1, h => by
    have hn : n < (k0_t1_loop i).trips := h
    obtain ⟨h1, h2⟩ := st_eq G a n hn.le
    have e := st_k0_t1_succ (F := Ideal) Variants.none c none i arg2 harg2 arg3 harg3 arg4 harg4 arg5 harg5 arg6 harg6 arg7 harg7 arg8 harg8 arg9 harg9 arg10 harg10 v3 X2 X3 X4 X5 X6 X7 G a ⟨n, hn⟩
    dsimp only at e
    rw [e]
    refine ⟨?_, ?_⟩
    · dsimp only
      rw [tripR_eq, h1]
      show _ = dite _ _ _
      rw [dif_pos hn]
    · dsimp only
      rw [tripL_eq, h2]
      show _ = dite _ _ _
      rw [dif_pos hn]
end

/-- The first point of a head pair, at which the body zeroes its block of dq. -/
abbrev first (i : grid0.Coords) : Prop := (Scalar.cmpi .ne (Scalar.extui (Scalar.cmpi .eq (BitVec.ofNat 32 (i 1).val) 0#32)) 0#32) = 1#1

/-- The second of the body's two loops makes no trip. -/
theorem trips2 (i : grid0.Coords) : (k0_t2_loop i).trips = 0 := Nat.le_zero.1 (k0_t2_abs i).2.1

section
variable (c : Dev nD) (i : grid0.Coords)
  (arg2 : Memref sig .tc .vmem S512x256 .bf16) (harg2 : arg2.IsWhole) (arg3 : Memref sig .tc .vmem S512x256 .bf16) (harg3 : arg3.IsWhole)
  (arg4 : Memref sig .tc .vmem S4096x256 .bf16) (harg4 : arg4.IsWhole) (arg5 : Memref sig .tc .vmem S4096x256 .bf16) (harg5 : arg5.IsWhole)
  (arg6 : Memref sig .tc .vmem S4096x256 .f32) (harg6 : arg6.IsWhole) (arg7 : Memref sig .tc .vmem S4096x256 .f32) (harg7 : arg7.IsWhole)
  (arg8 : Memref sig .tc .vmem S512x256 .bf16) (harg8 : arg8.IsWhole) (arg9 : Memref sig .tc .vmem S512x256 .bf16) (harg9 : arg9.IsWhole)
  (arg10 : Memref sig .tc .vmem S4096x256 .f32) (harg10 : arg10.IsWhole) (v97 : BitVec 32)
  (X2 : BufTy.Contents (Elt Ideal) arg2.view.ty)  (X3 : BufTy.Contents (Elt Ideal) arg3.view.ty)  (X4 : BufTy.Contents (Elt Ideal) arg4.view.ty)  (X5 : BufTy.Contents (Elt Ideal) arg5.view.ty)  (X6 : BufTy.Contents (Elt Ideal) arg6.view.ty)  (X7 : BufTy.Contents (Elt Ideal) arg7.view.ty)

/-- It yields what it was given. -/
theorem st2_fst (G : BufTy.Contents (Elt Ideal) arg10.view.ty) (a : Acc) :
    (st_k0_t2 (F := Ideal) Variants.none c none i arg2 harg2 arg3 harg3 arg4 harg4 arg5 harg5 arg6 harg6 arg7 harg7 arg8 harg8 arg9 harg9 arg10 harg10 v97 X2 X3 X4 X5 X6 X7 G a (Scf.trips (k0_t2_loop i).lb (k0_t2_loop i).ub (k0_t2_loop i).st)).1 = a := by
  rw [show Scf.trips (k0_t2_loop i).lb (k0_t2_loop i).ub (k0_t2_loop i).st = 0 from trips2 i]; rfl

/-- It writes nothing. -/
theorem st2_snd (G : BufTy.Contents (Elt Ideal) arg10.view.ty) (a : Acc) :
    (st_k0_t2 (F := Ideal) Variants.none c none i arg2 harg2 arg3 harg3 arg4 harg4 arg5 harg5 arg6 harg6 arg7 harg7 arg8 harg8 arg9 harg9 arg10 harg10 v97 X2 X3 X4 X5 X6 X7 G a (Scf.trips (k0_t2_loop i).lb (k0_t2_loop i).ub (k0_t2_loop i).st)).2 = [] := by
  rw [show Scf.trips (k0_t2_loop i).lb (k0_t2_loop i).ub (k0_t2_loop i).st = 0 from trips2 i]; rfl
end

set_option maxHeartbeats 4000000 in
/-- The body at the first point of a head pair, with what it leaves in its three result blocks. -/
theorem run_first (c : Dev nD) (i : grid0.Coords) (arg2 : Memref sig .tc .vmem S512x256 .bf16) (harg2 : arg2.IsWhole) (arg3 : Memref sig .tc .vmem S512x256 .bf16) (harg3 : arg3.IsWhole)
  (arg4 : Memref sig .tc .vmem S4096x256 .bf16) (harg4 : arg4.IsWhole) (arg5 : Memref sig .tc .vmem S4096x256 .bf16) (harg5 : arg5.IsWhole)
  (arg6 : Memref sig .tc .vmem S4096x256 .f32) (harg6 : arg6.IsWhole) (arg7 : Memref sig .tc .vmem S4096x256 .f32) (harg7 : arg7.IsWhole)
  (arg8 : Memref sig .tc .vmem S512x256 .bf16) (harg8 : arg8.IsWhole) (arg9 : Memref sig .tc .vmem S512x256 .bf16) (harg9 : arg9.IsWhole)
  (arg10 : Memref sig .tc .vmem S4096x256 .f32) (harg10 : arg10.IsWhole) (hc0 : first i)
    (x2 x3 : Vec Ideal S512x256 .bf16) (x4 x5 : Vec Ideal S4096x256 .bf16) (x6 x7 : Vec Ideal S4096x256 .f32) :
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (dkEnd i x2 x3 x4 x5 x6 x7) ∗ owns (c : Thread nD τ) arg9 fullShare (dvEnd i x2 x3 x4 x5 x6 x7) ∗ owns (c : Thread nD τ) arg10 fullShare (dqEnd i x2 x3 x4 x5 x6 x7 (k0_pay48 (F := Ideal)))) -∗ K ⟨⟩))
          ⊢ wp frame (wpE (defs₀ (F := Ideal)) Variants.none c none) E (cc0_flash_bwd i arg2 harg2 arg3 harg3 arg4 harg4 arg5 harg5 arg6 harg6 arg7 harg7 arg8 harg8 arg9 harg9 arg10 harg10) K := by
    intro E K
    simp only [cc0_flash_bwd_eq_skeleton]; unfold cc0_flash_bwd_skel
    simp only [k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    subst hf0 hf1 hf2 hf3 hf4 hf5
    sl_exec (disch := first | sl_exact hc0)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; swap; · iexact H6
      ipureintro
      rw [st2_fst, View.read_writes_cons_put (h := rfl), View.read_writes_cons_put (h := rfl), (st_eq ..).1]
      exact put_put_beside _ _ _
      exact le_rfl
    isplitl [H7]
    · iexists _; isplitr; swap; · iexact H7
      ipureintro
      rw [st2_fst, View.read_writes_cons_put (h := rfl), View.read_writes_cons_put (h := rfl), (st_eq ..).1]
      exact put_put_beside _ _ _
      exact le_rfl
    iexists _; isplitr; swap; · iexact H8
    ipureintro
    rw [st2_snd, List.nil_append, View.writes_append, (st_eq ..).2]
    have hz : arg10.view.read (Elt Ideal) (arg10.view.writes (Elt Ideal) arg10.view.junk run_first.sl.H8_1) = k0_pay48 (F := Ideal) := by
      unfold run_first.sl.H8_1; exact View.read_writes_full _ _ _ _ _
    have h1 : run_first.sl.v82 c i arg2 arg3 arg4 arg5 arg6 arg7 arg10 f0 f1 f2 f3 f4 f5
        = win (e := .f32) (k0_pay48 (F := Ideal)) (k0_off3 i) S512x128.size (k0_off3_inb i) := by
      unfold run_first.sl.v82
      rw [View.readAt_unit _ _ _ rfl (k0_off3_inb i)]
      unfold run_first.sl.H8_2
      rw [View.read_writes_cons_put (h := rfl), hz]
      exact VecWindow.window_put_of_disjoint _ _ _ _ _ _ _ (1 : Fin 2) (Or.inr (by rw [k0_off1_eq, k0_off3_eq]; exact Nat.le_refl 128))
    rw [View.read_writes_cons_put (h := rfl), h1]
    unfold run_first.sl.H8_2
    rw [View.read_writes_cons_put (h := rfl), View.readAt_unit _ _ _ rfl (k0_off1_inb i), hz]
    rfl
    exact le_rfl

set_option maxHeartbeats 4000000 in
/-- The body at a later point, which adds to what it finds in its block of dq. -/
theorem run_later (c : Dev nD) (i : grid0.Coords) (arg2 : Memref sig .tc .vmem S512x256 .bf16) (harg2 : arg2.IsWhole) (arg3 : Memref sig .tc .vmem S512x256 .bf16) (harg3 : arg3.IsWhole)
  (arg4 : Memref sig .tc .vmem S4096x256 .bf16) (harg4 : arg4.IsWhole) (arg5 : Memref sig .tc .vmem S4096x256 .bf16) (harg5 : arg5.IsWhole)
  (arg6 : Memref sig .tc .vmem S4096x256 .f32) (harg6 : arg6.IsWhole) (arg7 : Memref sig .tc .vmem S4096x256 .f32) (harg7 : arg7.IsWhole)
  (arg8 : Memref sig .tc .vmem S512x256 .bf16) (harg8 : arg8.IsWhole) (arg9 : Memref sig .tc .vmem S512x256 .bf16) (harg9 : arg9.IsWhole)
  (arg10 : Memref sig .tc .vmem S4096x256 .f32) (harg10 : arg10.IsWhole) (hc0 : ¬ first i)
    (x2 x3 : Vec Ideal S512x256 .bf16) (x4 x5 : Vec Ideal S4096x256 .bf16) (x6 x7 : Vec Ideal S4096x256 .f32) (y : Vec Ideal S4096x256 .f32) :
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ owns (c : Thread nD τ) arg10 fullShare y
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (dkEnd i x2 x3 x4 x5 x6 x7) ∗ owns (c : Thread nD τ) arg9 fullShare (dvEnd i x2 x3 x4 x5 x6 x7) ∗ owns (c : Thread nD τ) arg10 fullShare (dqEnd i x2 x3 x4 x5 x6 x7 y)) -∗ K ⟨⟩))
          ⊢ wp frame (wpE (defs₀ (F := Ideal)) Variants.none c none) E (cc0_flash_bwd i arg2 harg2 arg3 harg3 arg4 harg4 arg5 harg5 arg6 harg6 arg7 harg7 arg8 harg8 arg9 harg9 arg10 harg10) K := by
    intro E K
    simp only [cc0_flash_bwd_eq_skeleton]; unfold cc0_flash_bwd_skel
    simp only [k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
    subst hf0 hf1 hf2 hf3 hf4 hf5 hf8
    sl_exec (disch := first | sl_exact hc0)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; swap; · iexact H6
      ipureintro
      rw [st2_fst, View.read_writes_cons_put (h := rfl), View.read_writes_cons_put (h := rfl), (st_eq ..).1]
      exact put_put_beside _ _ _
      exact le_rfl
    isplitl [H7]
    · iexists _; isplitr; swap; · iexact H7
      ipureintro
      rw [st2_fst, View.read_writes_cons_put (h := rfl), View.read_writes_cons_put (h := rfl), (st_eq ..).1]
      exact put_put_beside _ _ _
      exact le_rfl
    iexists _; isplitr; swap; · iexact H8
    ipureintro
    rw [st2_snd, List.nil_append, View.writes_append, (st_eq ..).2]
    rw [View.read_writes_cons_put (h := rfl), View.read_writes_cons_put (h := rfl)]
    rfl
    exact le_rfl

end Cert.KernelIdeal.Flash
-- ==== Proof.Block.lean ====
module

public import proofs.«01_k».proof.Proof.Tile
public import proofs.«01_k».proof.Proof.Body

@[expose] public section

set_option maxRecDepth 16384

noncomputable section

namespace Cert.KernelIdeal.Flash

open Idealize.ShloMosaic Cert.Flash
open Cert.KernelIdeal Cert.KernelIdeal.Gen
open scoped BigOperators

/-- The first loop visits the query tiles after the diagonal's. -/
theorem trips1 (i : grid0.Coords) : (k0_t1_loop i).trips = 7 - (i 1).val := by
  have h : (i 1).val < 8 := (i 1).isLt
  have key : ∀ n, n < 8 → Scf.trips (Scalar.addi (BitVec.ofNat 32 n) 1#32) (Scalar.addi (Scalar.addi (BitVec.ofNat 32 n) 1#32) (Scalar.muli (Scalar.divsi (Scalar.subi 8#32 (Scalar.addi (BitVec.ofNat 32 n) 1#32)) 1#32) 1#32)) 1#32 = 7 - n := by
    decide
  exact key _ h

/-- The probability of query row `r` and key row `c` for the head whose columns start at `o`, without the mask. -/
def pr (x2 : FVec Ideal S512x256 .bf16) (x4 : FVec Ideal S4096x256 .bf16) (x6 : FVec Ideal S4096x256 .f32) (o r c : ℕ) : EReal :=
  Ideal.exp ((∑ d ∈ Finset.range 128, at2 x4 r (o + d) * at2 x2 c (o + d)) * sc - at2 x6 r o)

/-- The gradient of their score, without the mask. -/
def gr (x2 x3 : FVec Ideal S512x256 .bf16) (x4 x5 : FVec Ideal S4096x256 .bf16) (x6 x7 : FVec Ideal S4096x256 .f32) (o r c : ℕ) : EReal :=
  pr x2 x4 x6 o r c * ((∑ d ∈ Finset.range 128, at2 x5 r (o + d) * at2 x3 c (o + d)) - at2 x7 r o) * sc

variable (x2 x3 : FVec Ideal S512x256 .bf16) (x4 x5 : FVec Ideal S4096x256 .bf16) (x6 x7 : FVec Ideal S4096x256 .f32)

theorem prob_win {o b : ℕ} {ok oq ol : Fin 2 → ℕ} (hk : ok = ![0, o]) (hq : oq = ![b, o]) (hl : ol = ![b, o])
    (ik : ∀ a, ok a + S512x128.size a ≤ S512x256.size a) (iq : ∀ a, oq a + S512x128.size a ≤ S4096x256.size a)
    (il : ∀ a, ol a + S512x1.size a ≤ S4096x256.size a) (r c : Fin 512) :
    prob (win (e := .bf16) x2 ok S512x128.size ik) (win (e := .bf16) x4 oq S512x128.size iq) (win (e := .f32) x6 ol S512x1.size il) r c
      = pr x2 x4 x6 o (b + r.val) c.val := by
  subst hk hq hl
  unfold prob pr
  rw [← sum_fin 128 (fun d => at2 x4 (b + r.val) (o + d) * at2 x2 c.val (o + d))]
  have e6 := window_ix2 x6 ![b, o] il r 0
  have e4 := fun d => window_ix2 x4 ![b, o] iq r d
  have e2 := fun d => window_ix2 x2 ![0, o] ik c d
  rw [show win (e := .f32) x6 ![b, o] S512x1.size il (ix2 r 0) = _ from e6]
  simp only [show ∀ d, win (e := .bf16) x4 ![b, o] S512x128.size iq (ix2 r d) = _ from e4,
    show ∀ d, win (e := .bf16) x2 ![0, o] S512x128.size ik (ix2 c d) = _ from e2]
  simp [Matrix.cons_val_zero, Matrix.cons_val_one]

theorem grad_win {o b : ℕ} {ok ov oq od ol oe : Fin 2 → ℕ} (hk : ok = ![0, o]) (hv : ov = ![0, o]) (hq : oq = ![b, o]) (hd : od = ![b, o])
    (hl : ol = ![b, o]) (he : oe = ![b, o])
    (ik : ∀ a, ok a + S512x128.size a ≤ S512x256.size a) (iv : ∀ a, ov a + S512x128.size a ≤ S512x256.size a)
    (iq : ∀ a, oq a + S512x128.size a ≤ S4096x256.size a) (id : ∀ a, od a + S512x128.size a ≤ S4096x256.size a)
    (il : ∀ a, ol a + S512x1.size a ≤ S4096x256.size a) (ie : ∀ a, oe a + S512x1.size a ≤ S4096x256.size a) (r c : Fin 512) :
    grad (win (e := .bf16) x2 ok S512x128.size ik) (win (e := .bf16) x3 ov S512x128.size iv) (win (e := .bf16) x4 oq S512x128.size iq)
      (win (e := .bf16) x5 od S512x128.size id) (win (e := .f32) x6 ol S512x1.size il) (win (e := .f32) x7 oe S512x1.size ie) r c
      = gr x2 x3 x4 x5 x6 x7 o (b + r.val) c.val := by
  unfold grad gr
  rw [prob_win x2 x4 x6 hk hq hl ik iq il r c]
  subst hv hd he
  rw [← sum_fin 128 (fun d => at2 x5 (b + r.val) (o + d) * at2 x3 c.val (o + d))]
  have e7 := window_ix2 x7 ![b, o] ie r 0
  have e5 := fun d => window_ix2 x5 ![b, o] id r d
  have e3 := fun d => window_ix2 x3 ![0, o] iv c d
  rw [show win (e := .f32) x7 ![b, o] S512x1.size ie (ix2 r 0) = _ from e7]
  simp only [show ∀ d, win (e := .bf16) x5 ![b, o] S512x128.size id (ix2 r d) = _ from e5,
    show ∀ d, win (e := .bf16) x3 ![0, o] S512x128.size iv (ix2 c d) = _ from e3]
  simp [Matrix.cons_val_zero, Matrix.cons_val_one]

end Cert.KernelIdeal.Flash
-- ==== Proof.BlockSum.lean ====
module

public import proofs.«01_k».proof.Proof.Block

@[expose] public section

set_option maxRecDepth 16384

noncomputable section

namespace Cert.KernelIdeal.Flash

open Idealize.ShloMosaic Cert.Flash
open Cert.KernelIdeal Cert.KernelIdeal.Gen
open scoped BigOperators

variable (x2 x3 : FVec Ideal S512x256 .bf16) (x4 x5 : FVec Ideal S4096x256 .bf16) (x6 x7 : FVec Ideal S4096x256 .f32)

/-- The probability at key tile `j`, with the mask. -/
def P (j o r c : ℕ) : EReal := if 512 * j + c ≤ r then pr x2 x4 x6 o r c else 0

/-- The score's gradient at key tile `j`, with the mask. -/
def G (j o r c : ℕ) : EReal := if 512 * j + c ≤ r then gr x2 x3 x4 x5 x6 x7 o r c else 0

section windows
variable {o b : ℕ} {ok ov oq od ol oe : Fin 2 → ℕ} (hk : ok = ![0, o]) (hv : ov = ![0, o]) (hq : oq = ![b, o]) (hd : od = ![b, o])
    (hl : ol = ![b, o]) (he : oe = ![b, o])
    (ik : ∀ a, ok a + S512x128.size a ≤ S512x256.size a) (iv : ∀ a, ov a + S512x128.size a ≤ S512x256.size a)
    (iq : ∀ a, oq a + S512x128.size a ≤ S4096x256.size a) (id : ∀ a, od a + S512x128.size a ≤ S4096x256.size a)
    (il : ∀ a, ol a + S512x1.size a ≤ S4096x256.size a) (ie : ∀ a, oe a + S512x1.size a ≤ S4096x256.size a)
include hk hv hq hd hl he

/-- A tile after the diagonal's: what it adds to dk. -/
theorem tile_dk {j : ℕ} (hb : 512 * j + 512 ≤ b) (c : Fin 512) (d : Fin 128) :
    k0_pay18 (F := Ideal) (win (e := .bf16) x2 ok S512x128.size ik) (win (e := .bf16) x3 ov S512x128.size iv) (win (e := .bf16) x4 oq S512x128.size iq) (win (e := .bf16) x5 od S512x128.size id) (win (e := .f32) x6 ol S512x1.size il) (win (e := .f32) x7 oe S512x1.size ie) (ix2 c d)
      = ∑ r ∈ Finset.range 512, G x2 x3 x4 x5 x6 x7 j o (b + r) c * at2 x4 (b + r) (o + d) := by
  rw [pay18_apply, ← sum_fin 512 (fun r => G x2 x3 x4 x5 x6 x7 j o (b + r) c * at2 x4 (b + r) (o + d))]
  refine Finset.sum_congr rfl fun r _ => ?_
  rw [grad_win x2 x3 x4 x5 x6 x7 hk hv hq hd hl he]
  unfold G
  rw [if_pos (by have := c.isLt; omega)]
  subst hq
  rw [show (win (e := .bf16) x4 ![b, o] S512x128.size iq) (ix2 r d) = _ from window_ix2 x4 ![b, o] iq r d]
  rfl

omit hv he in
/-- What it adds to dv. -/
theorem tile_dv {j : ℕ} (hb : 512 * j + 512 ≤ b) (a : FVec Ideal S512x128 .f32) (c : Fin 512) (d : Fin 128) :
    k0_pay21 (F := Ideal) a (k0_pay14 (F := Ideal) (win (e := .bf16) x5 od S512x128.size id)) (k0_pay19 (F := Ideal) (win (e := .bf16) x2 ok S512x128.size ik) (win (e := .bf16) x4 oq S512x128.size iq) (win (e := .f32) x6 ol S512x1.size il)) (ix2 c d)
      = a (ix2 c d) + ∑ r ∈ Finset.range 512, P x2 x4 x6 j o (b + r) c * at2 x5 (b + r) (o + d) := by
  rw [pay21_apply, ← sum_fin 512 (fun r => P x2 x4 x6 j o (b + r) c * at2 x5 (b + r) (o + d))]
  refine congrArg (a (ix2 c d) + ·) (Finset.sum_congr rfl fun r _ => ?_)
  rw [prob_win x2 x4 x6 hk hq hl]
  unfold P
  rw [if_pos (by have := c.isLt; omega)]
  subst hd
  rw [show (win (e := .bf16) x5 ![b, o] S512x128.size id) (ix2 r d) = _ from window_ix2 x5 ![b, o] id r d]
  rfl

/-- What it adds to dq. -/
theorem tile_dq {j : ℕ} (hb : 512 * j + 512 ≤ b) (y : FVec Ideal S512x128 .f32) (r : Fin 512) (d : Fin 128) :
    k0_pay17 (F := Ideal) (win (e := .bf16) x2 ok S512x128.size ik) (win (e := .bf16) x3 ov S512x128.size iv) (win (e := .bf16) x4 oq S512x128.size iq) (win (e := .bf16) x5 od S512x128.size id) (win (e := .f32) x6 ol S512x1.size il) (win (e := .f32) x7 oe S512x1.size ie) y (ix2 r d)
      = y (ix2 r d) + ∑ c ∈ Finset.range 512, G x2 x3 x4 x5 x6 x7 j o (b + r) c * at2 x2 c (o + d) := by
  rw [pay17_apply, ← sum_fin 512 (fun c => G x2 x3 x4 x5 x6 x7 j o (b + r) c * at2 x2 c (o + d))]
  refine congrArg (y (ix2 r d) + ·) (Finset.sum_congr rfl fun c _ => ?_)
  rw [grad_win x2 x3 x4 x5 x6 x7 hk hv hq hd hl he]
  unfold G
  rw [if_pos (by have := c.isLt; omega)]
  subst hk
  rw [show (win (e := .bf16) x2 ![0, o] S512x128.size ik) (ix2 c d) = _ from window_ix2 x2 ![0, o] ik c d]
  show _ * at2 x2 (0 + c.val) _ = _
  rw [Nat.zero_add]
  rfl

theorem gradM_win {j : ℕ} (hb : b = 512 * j) (r c : Fin 512) : gradM (win (e := .bf16) x2 ok S512x128.size ik) (win (e := .bf16) x3 ov S512x128.size iv) (win (e := .bf16) x4 oq S512x128.size iq) (win (e := .bf16) x5 od S512x128.size id) (win (e := .f32) x6 ol S512x1.size il) (win (e := .f32) x7 oe S512x1.size ie) r c = G x2 x3 x4 x5 x6 x7 j o (b + r) c := by
  unfold gradM G
  rw [grad_win x2 x3 x4 x5 x6 x7 hk hv hq hd hl he]
  subst hb
  by_cases h : c.val ≤ r.val
  · rw [if_pos h, if_pos (by omega)]
  · rw [if_neg h, if_neg (by omega)]

omit hv hd he in
theorem probM_win {j : ℕ} (hb : b = 512 * j) (r c : Fin 512) : probM (win (e := .bf16) x2 ok S512x128.size ik) (win (e := .bf16) x4 oq S512x128.size iq) (win (e := .f32) x6 ol S512x1.size il) r c = P x2 x4 x6 j o (b + r) c := by
  unfold probM P
  rw [prob_win x2 x4 x6 hk hq hl]
  subst hb
  by_cases h : c.val ≤ r.val
  · rw [if_pos h, if_pos (by omega)]
  · rw [if_neg h, if_neg (by omega)]

/-- The diagonal's tile: its part of dk. -/
theorem diag_dk {j : ℕ} (hb : b = 512 * j) (c : Fin 512) (d : Fin 128) :
    k0_pay56 (F := Ideal) (k0_pay51 (F := Ideal) (win (e := .bf16) x4 oq S512x128.size iq)) (k0_pay54 (F := Ideal) (win (e := .bf16) x2 ok S512x128.size ik) (win (e := .bf16) x3 ov S512x128.size iv) (win (e := .bf16) x4 oq S512x128.size iq) (win (e := .bf16) x5 od S512x128.size id) (win (e := .f32) x6 ol S512x1.size il) (win (e := .f32) x7 oe S512x1.size ie)) (ix2 c d)
      = ∑ r ∈ Finset.range 512, G x2 x3 x4 x5 x6 x7 j o (b + r) c * at2 x4 (b + r) (o + d) := by
  rw [pay56_apply, ← sum_fin 512 (fun r => G x2 x3 x4 x5 x6 x7 j o (b + r) c * at2 x4 (b + r) (o + d))]
  refine Finset.sum_congr rfl fun r _ => ?_
  rw [gradM_win x2 x3 x4 x5 x6 x7 hk hv hq hd hl he _ _ _ _ _ _ hb]
  subst hq
  rw [show (win (e := .bf16) x4 ![b, o] S512x128.size iq) (ix2 r d) = _ from window_ix2 x4 ![b, o] iq r d]
  rfl

omit hv he in
/-- Its part of dv. -/
theorem diag_dv {j : ℕ} (hb : b = 512 * j) (c : Fin 512) (d : Fin 128) :
    k0_pay57 (F := Ideal) (k0_pay52 (F := Ideal) (win (e := .bf16) x5 od S512x128.size id)) (k0_pay53 (F := Ideal) (win (e := .bf16) x2 ok S512x128.size ik) (win (e := .bf16) x4 oq S512x128.size iq) (win (e := .f32) x6 ol S512x1.size il)) (ix2 c d)
      = ∑ r ∈ Finset.range 512, P x2 x4 x6 j o (b + r) c * at2 x5 (b + r) (o + d) := by
  rw [pay57_apply, ← sum_fin 512 (fun r => P x2 x4 x6 j o (b + r) c * at2 x5 (b + r) (o + d))]
  refine Finset.sum_congr rfl fun r _ => ?_
  rw [probM_win x2 x4 x6 hk hq hl _ _ _ hb]
  subst hd
  rw [show (win (e := .bf16) x5 ![b, o] S512x128.size id) (ix2 r d) = _ from window_ix2 x5 ![b, o] id r d]
  rfl

/-- Its part of dq. -/
theorem diag_dq {j : ℕ} (hb : b = 512 * j) (y : FVec Ideal S512x128 .f32) (r : Fin 512) (d : Fin 128) :
    k0_pay55 (F := Ideal) (k0_pay50 (F := Ideal) (win (e := .bf16) x2 ok S512x128.size ik)) (k0_pay54 (F := Ideal) (win (e := .bf16) x2 ok S512x128.size ik) (win (e := .bf16) x3 ov S512x128.size iv) (win (e := .bf16) x4 oq S512x128.size iq) (win (e := .bf16) x5 od S512x128.size id) (win (e := .f32) x6 ol S512x1.size il) (win (e := .f32) x7 oe S512x1.size ie)) y (ix2 r d)
      = y (ix2 r d) + ∑ c ∈ Finset.range 512, G x2 x3 x4 x5 x6 x7 j o (b + r) c * at2 x2 c (o + d) := by
  rw [pay55_apply, ← sum_fin 512 (fun c => G x2 x3 x4 x5 x6 x7 j o (b + r) c * at2 x2 c (o + d))]
  refine congrArg (y (ix2 r d) + ·) (Finset.sum_congr rfl fun c _ => ?_)
  rw [gradM_win x2 x3 x4 x5 x6 x7 hk hv hq hd hl he _ _ _ _ _ _ hb]
  subst hk
  rw [show (win (e := .bf16) x2 ![0, o] S512x128.size ik) (ix2 c d) = _ from window_ix2 x2 ![0, o] ik c d]
  show _ * at2 x2 (0 + c.val) _ = _
  rw [Nat.zero_add]
  rfl

end windows

/-! ## The loop -/

/-- A sum built tile by tile, from the diagonal's on. -/
theorem tiles_sum (f : ℕ → EReal) (j T : ℕ) (F : ℕ → EReal) (hz : ∀ r, r < 512 * j → f r = 0)
    (h0 : F 0 = ∑ r ∈ Finset.range 512, f (512 * j + r))
    (hs : ∀ n, n < T → F (n + 1) = F n + ∑ r ∈ Finset.range 512, f (512 * j + 512 * n + 512 + r)) :
    ∀ n, n ≤ T → F n = ∑ r ∈ Finset.range (512 * (j + 1 + n)), f r
  | 0, _ => by
    rw [h0, show 512 * (j + 1 + 0) = 512 * j + 512 by ring, Finset.sum_range_add,
      Finset.sum_eq_zero fun r hr => hz r (Finset.mem_range.mp hr), zero_add]
  | n + 1, h => by
    rw [hs n h, tiles_sum f j T F hz h0 hs n (Nat.le_of_succ_le h), show 512 * (j + 1 + (n + 1)) = 512 * (j + 1 + n) + 512 by ring,
      Finset.sum_range_add]
    exact congrArg (_ + ·) (Finset.sum_congr rfl fun r _ => congrArg f (by ring))

/-- The same at the last tile. -/
theorem tiles_all (f : ℕ → EReal) (j T N : ℕ) (hN : 512 * (j + 1 + T) = N) (F : ℕ → EReal) (hz : ∀ r, r < 512 * j → f r = 0)
    (h0 : F 0 = ∑ r ∈ Finset.range 512, f (512 * j + r))
    (hs : ∀ n, n < T → F (n + 1) = F n + ∑ r ∈ Finset.range 512, f (512 * j + 512 * n + 512 + r)) : F T = ∑ r ∈ Finset.range N, f r := by
  rw [tiles_sum f j T F hz h0 hs T le_rfl, hN]

variable (i : grid0.Coords)

theorem G_before (j o r c : ℕ) (h : r < 512 * j) : G x2 x3 x4 x5 x6 x7 j o r c = 0 := if_neg (by omega)
theorem P_before (j o r c : ℕ) (h : r < 512 * j) : P x2 x4 x6 j o r c = 0 := if_neg (by omega)

theorem accN_succ (a : Acc) {n : ℕ} (h : n < (k0_t1_loop i).trips) :
    accN i x2 x3 x4 x5 x6 x7 a (n + 1) = accTrip i ⟨n, h⟩ x2 x3 x4 x5 x6 x7 (accN i x2 x3 x4 x5 x6 x7 a n) := dif_pos h

theorem dqN_succ (y : FVec Ideal S4096x256 .f32) {n : ℕ} (h : n < (k0_t1_loop i).trips) :
    dqN i x2 x3 x4 x5 x6 x7 y (n + 1) = dqTrip i ⟨n, h⟩ x2 x3 x4 x5 x6 x7 (dqN i x2 x3 x4 x5 x6 x7 y n) := dif_pos h

/-- The end of the loop is the end of the queries. -/
theorem rows_all : 512 * ((i 1).val + 1 + (k0_t1_loop i).trips) = 4096 := by
  have h : (i 1).val < 8 := (i 1).isLt
  rw [trips1]; omega

theorem dk_first (c : Fin 512) (d : Fin 128) : (accEnd i x2 x3 x4 x5 x6 x7).1 (ix2 c d)
    = ∑ r ∈ Finset.range 4096, G x2 x3 x4 x5 x6 x7 (i 1).val 0 r c * at2 x4 r (0 + d) := by
  refine tiles_all (fun r => G x2 x3 x4 x5 x6 x7 (i 1).val 0 r c * at2 x4 r (0 + d)) (i 1).val (k0_t1_loop i).trips 4096 (rows_all i)
    (fun n => (accN i x2 x3 x4 x5 x6 x7 (accDiag i x2 x3 x4 x5 x6 x7) n).1 (ix2 c d)) (fun r hr => ?_) ?_ (fun n hn => ?_)
  · dsimp only; rw [G_before _ _ _ _ _ _ _ _ _ _ hr, zero_mul]
  · exact diag_dk x2 x3 x4 x5 x6 x7 rfl rfl (k0_off1_eq i) (k0_off1_eq i) (k0_off2_eq i) (k0_off2_eq i) _ _ _ _ _ _ rfl c d
  · dsimp only
    rw [accN_succ x2 x3 x4 x5 x6 x7 i _ hn]
    exact congrArg (_ + ·) (tile_dk x2 x3 x4 x5 x6 x7 rfl rfl (k0_off5_eq i ⟨n, hn⟩) (k0_off5_eq i ⟨n, hn⟩) (k0_off6_eq i ⟨n, hn⟩) (k0_off6_eq i ⟨n, hn⟩) _ _ _ _ _ _
      (by dsimp only; omega) c d)

theorem dk_second (c : Fin 512) (d : Fin 128) : (accEnd i x2 x3 x4 x5 x6 x7).2.2.1 (ix2 c d)
    = ∑ r ∈ Finset.range 4096, G x2 x3 x4 x5 x6 x7 (i 1).val 128 r c * at2 x4 r (128 + d) := by
  refine tiles_all (fun r => G x2 x3 x4 x5 x6 x7 (i 1).val 128 r c * at2 x4 r (128 + d)) (i 1).val (k0_t1_loop i).trips 4096 (rows_all i)
    (fun n => (accN i x2 x3 x4 x5 x6 x7 (accDiag i x2 x3 x4 x5 x6 x7) n).2.2.1 (ix2 c d)) (fun r hr => ?_) ?_ (fun n hn => ?_)
  · dsimp only; rw [G_before _ _ _ _ _ _ _ _ _ _ hr, zero_mul]
  · exact diag_dk x2 x3 x4 x5 x6 x7 rfl rfl (k0_off3_eq i) (k0_off3_eq i) (k0_off4_eq i) (k0_off4_eq i) _ _ _ _ _ _ rfl c d
  · dsimp only
    rw [accN_succ x2 x3 x4 x5 x6 x7 i _ hn]
    exact congrArg (_ + ·) (tile_dk x2 x3 x4 x5 x6 x7 rfl rfl (k0_off7_eq i ⟨n, hn⟩) (k0_off7_eq i ⟨n, hn⟩) (k0_off8_eq i ⟨n, hn⟩) (k0_off8_eq i ⟨n, hn⟩) _ _ _ _ _ _
      (by dsimp only; omega) c d)

theorem dv_first (c : Fin 512) (d : Fin 128) : (accEnd i x2 x3 x4 x5 x6 x7).2.1 (ix2 c d)
    = ∑ r ∈ Finset.range 4096, P x2 x4 x6 (i 1).val 0 r c * at2 x5 r (0 + d) := by
  refine tiles_all (fun r => P x2 x4 x6 (i 1).val 0 r c * at2 x5 r (0 + d)) (i 1).val (k0_t1_loop i).trips 4096 (rows_all i)
    (fun n => (accN i x2 x3 x4 x5 x6 x7 (accDiag i x2 x3 x4 x5 x6 x7) n).2.1 (ix2 c d)) (fun r hr => ?_) ?_ (fun n hn => ?_)
  · dsimp only; rw [P_before _ _ _ _ _ _ _ hr, zero_mul]
  · exact diag_dv x2 x4 x5 x6 rfl (k0_off1_eq i) (k0_off1_eq i) (k0_off2_eq i) _ _ _ _ rfl c d
  · dsimp only
    rw [accN_succ x2 x3 x4 x5 x6 x7 i _ hn]
    exact tile_dv x2 x4 x5 x6 rfl (k0_off5_eq i ⟨n, hn⟩) (k0_off5_eq i ⟨n, hn⟩) (k0_off6_eq i ⟨n, hn⟩) _ _ _ _
      (by dsimp only; omega) _ c d

theorem dv_second (c : Fin 512) (d : Fin 128) : (accEnd i x2 x3 x4 x5 x6 x7).2.2.2 (ix2 c d)
    = ∑ r ∈ Finset.range 4096, P x2 x4 x6 (i 1).val 128 r c * at2 x5 r (128 + d) := by
  refine tiles_all (fun r => P x2 x4 x6 (i 1).val 128 r c * at2 x5 r (128 + d)) (i 1).val (k0_t1_loop i).trips 4096 (rows_all i)
    (fun n => (accN i x2 x3 x4 x5 x6 x7 (accDiag i x2 x3 x4 x5 x6 x7) n).2.2.2 (ix2 c d)) (fun r hr => ?_) ?_ (fun n hn => ?_)
  · dsimp only; rw [P_before _ _ _ _ _ _ _ hr, zero_mul]
  · exact diag_dv x2 x4 x5 x6 rfl (k0_off3_eq i) (k0_off3_eq i) (k0_off4_eq i) _ _ _ _ rfl c d
  · dsimp only
    rw [accN_succ x2 x3 x4 x5 x6 x7 i _ hn]
    exact tile_dv x2 x4 x5 x6 rfl (k0_off7_eq i ⟨n, hn⟩) (k0_off7_eq i ⟨n, hn⟩) (k0_off8_eq i ⟨n, hn⟩) _ _ _ _
      (by dsimp only; omega) _ c d

/-- Two 512x128 blocks side by side, read at an index. -/
theorem beside_apply (a b : FVec Ideal S512x128 .bf16) (c : Fin 512) (x : Fin 256) :
    beside a b (ix2 c x) = if 128 ≤ x.val then at2 b c.val (x.val - 128) else at2 a c.val x.val := by
  have hc := c.isLt
  have hx := x.isLt
  unfold beside
  rw [put_ix2, put_ix2]
  by_cases h : 128 ≤ x.val
  · rw [if_pos h, if_pos (by show 0 ≤ _ ∧ _ < 0 + 512 ∧ 128 ≤ _ ∧ _ < 128 + 128; omega)]; rfl
  · rw [if_neg h, if_neg (by show ¬(0 ≤ _ ∧ _ < 0 + 512 ∧ 128 ≤ _ ∧ _ < 128 + 128); omega), if_pos (by show 0 ≤ _ ∧ _ < 0 + 512 ∧ 0 ≤ _ ∧ _ < 0 + 128; omega)]
    rfl

/-- The block of dk after the body. -/
theorem dkEnd_apply (c : Fin 512) (x : Fin 256) : dkEnd i x2 x3 x4 x5 x6 x7 (ix2 c x)
    = ∑ r ∈ Finset.range 4096, G x2 x3 x4 x5 x6 x7 (i 1).val (128 * (x.val / 128)) r c * at2 x4 r x := by
  have hx := x.isLt
  unfold dkEnd
  rw [beside_apply]
  by_cases h : 128 ≤ x.val
  · rw [if_pos h, at2_lt _ c.isLt (show x.val - 128 < 128 by omega), show x.val / 128 = 1 by omega,
      show 128 * 1 = 128 from rfl, show at2 x4 = fun r c => at2 x4 r c from rfl]
    refine (dk_second x2 x3 x4 x5 x6 x7 i c ⟨x.val - 128, by omega⟩).trans (Finset.sum_congr rfl fun r _ => ?_)
    dsimp only; rw [Nat.add_sub_cancel' h]
  · rw [if_neg h, at2_lt _ c.isLt (show x.val < 128 by omega), show x.val / 128 = 0 by omega]
    refine (dk_first x2 x3 x4 x5 x6 x7 i c ⟨x.val, by omega⟩).trans (Finset.sum_congr rfl fun r _ => ?_)
    dsimp only; rw [Nat.zero_add]

/-- The block of dv after the body. -/
theorem dvEnd_apply (c : Fin 512) (x : Fin 256) : dvEnd i x2 x3 x4 x5 x6 x7 (ix2 c x)
    = ∑ r ∈ Finset.range 4096, P x2 x4 x6 (i 1).val (128 * (x.val / 128)) r c * at2 x5 r x := by
  have hx := x.isLt
  unfold dvEnd
  rw [beside_apply]
  by_cases h : 128 ≤ x.val
  · rw [if_pos h, at2_lt _ c.isLt (show x.val - 128 < 128 by omega), show x.val / 128 = 1 by omega]
    refine (dv_second x2 x3 x4 x5 x6 x7 i c ⟨x.val - 128, by omega⟩).trans (Finset.sum_congr rfl fun r _ => ?_)
    dsimp only; rw [Nat.add_sub_cancel' h]
  · rw [if_neg h, at2_lt _ c.isLt (show x.val < 128 by omega), show x.val / 128 = 0 by omega]
    refine (dv_first x2 x3 x4 x5 x6 x7 i c ⟨x.val, by omega⟩).trans (Finset.sum_congr rfl fun r _ => ?_)
    dsimp only; rw [Nat.zero_add]

/-! ## dq -/

/-- What a key tile adds to dq at a row and a column of the block. -/
def inc (j r x : ℕ) : EReal := ∑ c ∈ Finset.range 512, G x2 x3 x4 x5 x6 x7 j (128 * (x / 128)) r c * at2 x2 c x

/-- Two windows side by side, each with the tile's product added: rows `b … b + 511` of the block get it, the others stay. -/
theorem put_two {j b : ℕ} (y : FVec Ideal S4096x256 .f32) {o0 o1 : Fin 2 → ℕ} (h0 : o0 = ![b, 0]) (h1 : o1 = ![b, 128])
    (i0 : ∀ a, o0 a + S512x128.size a ≤ S4096x256.size a) (i1 : ∀ a, o1 a + S512x128.size a ≤ S4096x256.size a)
    (w0 w1 : FVec Ideal S512x128 .f32)
    (e0 : ∀ (r : Fin 512) (d : Fin 128), w0 (ix2 r d) = win (e := .f32) y o0 S512x128.size i0 (ix2 r d) + ∑ c ∈ Finset.range 512, G x2 x3 x4 x5 x6 x7 j 0 (b + r) c * at2 x2 c (0 + d))
    (e1 : ∀ (r : Fin 512) (d : Fin 128), w1 (ix2 r d) = win (e := .f32) y o1 S512x128.size i1 (ix2 r d) + ∑ c ∈ Finset.range 512, G x2 x3 x4 x5 x6 x7 j 128 (b + r) c * at2 x2 c (128 + d))
    (r : Fin 4096) (x : Fin 256) :
    (VecWindow.put (VecWindow.put y o0 S512x128.size w0 : FVec Ideal S4096x256 .f32) o1 S512x128.size w1 : FVec Ideal S4096x256 .f32) (ix2 r x)
      = if b ≤ r.val ∧ r.val < b + 512 then y (ix2 r x) + inc x2 x3 x4 x5 x6 x7 j r x else y (ix2 r x) := by
  subst h0 h1
  have hx := x.isLt
  have hb : b + 512 ≤ 4096 := i0 0
  rw [put_ix2 (p := 512) (q := 128), put_ix2 (p := 512) (q := 128)]
  unfold inc
  by_cases hr : b ≤ r.val ∧ r.val < b + 512
  · rw [if_pos hr]
    by_cases h : 128 ≤ x.val
    · rw [if_pos (by show b ≤ _ ∧ _ < b + 512 ∧ 128 ≤ _ ∧ _ < 128 + 128; omega)]
      show at2 w1 (r.val - b) (x.val - 128) = _
      rw [at2_lt _ (show r.val - b < 512 by omega) (show x.val - 128 < 128 by omega), e1, show x.val / 128 = 1 by omega]
      rw [show win (e := .f32) y ![b, 128] S512x128.size i1 (ix2 ⟨r.val - b, by omega⟩ ⟨x.val - 128, by omega⟩) = _ from window_ix2 y ![b, 128] i1 _ _]
      show at2 y (b + (r.val - b)) (128 + (x.val - 128)) + ∑ c ∈ Finset.range 512, G x2 x3 x4 x5 x6 x7 j 128 (b + (r.val - b)) c * at2 x2 c (128 + (x.val - 128)) = _
      rw [Nat.add_sub_cancel' h, Nat.add_sub_cancel' hr.1, at2_of]
    · rw [if_neg (by show ¬(b ≤ _ ∧ _ < b + 512 ∧ 128 ≤ _ ∧ _ < 128 + 128); omega), if_pos (by show b ≤ _ ∧ _ < b + 512 ∧ 0 ≤ _ ∧ _ < 0 + 128; omega)]
      show at2 w0 (r.val - b) x.val = _
      rw [at2_lt _ (show r.val - b < 512 by omega) (show x.val < 128 by omega), e0, show x.val / 128 = 0 by omega]
      rw [show win (e := .f32) y ![b, 0] S512x128.size i0 (ix2 ⟨r.val - b, by omega⟩ ⟨x.val, by omega⟩) = _ from window_ix2 y ![b, 0] i0 _ _]
      show at2 y (b + (r.val - b)) (0 + x.val) + ∑ c ∈ Finset.range 512, G x2 x3 x4 x5 x6 x7 j 0 (b + (r.val - b)) c * at2 x2 c (0 + x.val) = _
      rw [Nat.zero_add, Nat.add_sub_cancel' hr.1, at2_of]
  · rw [if_neg hr, if_neg (by show ¬(b ≤ _ ∧ _ < b + 512 ∧ 128 ≤ _ ∧ _ < 128 + 128); omega), if_neg (by show ¬(b ≤ _ ∧ _ < b + 512 ∧ 0 ≤ _ ∧ _ < 0 + 128); omega)]

theorem dqDiag_apply (y : FVec Ideal S4096x256 .f32) (r : Fin 4096) (x : Fin 256) : dqDiag i x2 x3 x4 x5 x6 x7 y (ix2 r x)
    = if 512 * (i 1).val ≤ r.val ∧ r.val < 512 * (i 1).val + 512 then y (ix2 r x) + inc x2 x3 x4 x5 x6 x7 (i 1).val r x else y (ix2 r x) :=
  put_two x2 x3 x4 x5 x6 x7 y (k0_off1_eq i) (k0_off3_eq i) (k0_off1_inb i) (k0_off3_inb i) _ _
    (fun r d => diag_dq x2 x3 x4 x5 x6 x7 rfl rfl (k0_off1_eq i) (k0_off1_eq i) (k0_off2_eq i) (k0_off2_eq i) _ _ _ _ _ _ rfl _ r d)
    (fun r d => diag_dq x2 x3 x4 x5 x6 x7 rfl rfl (k0_off3_eq i) (k0_off3_eq i) (k0_off4_eq i) (k0_off4_eq i) _ _ _ _ _ _ rfl _ r d) r x

theorem dqTrip_apply (k : Fin (k0_t1_loop i).trips) (y : FVec Ideal S4096x256 .f32) (r : Fin 4096) (x : Fin 256) : dqTrip i k x2 x3 x4 x5 x6 x7 y (ix2 r x)
    = if 512 * (i 1).val + 512 * k.val + 512 ≤ r.val ∧ r.val < 512 * (i 1).val + 512 * k.val + 512 + 512 then y (ix2 r x) + inc x2 x3 x4 x5 x6 x7 (i 1).val r x else y (ix2 r x) :=
  put_two x2 x3 x4 x5 x6 x7 y (k0_off5_eq i k) (k0_off7_eq i k) (k0_off5_inb i k) (k0_off7_inb i k) _ _
    (fun r d => tile_dq x2 x3 x4 x5 x6 x7 rfl rfl (k0_off5_eq i k) (k0_off5_eq i k) (k0_off6_eq i k) (k0_off6_eq i k) _ _ _ _ _ _ (by omega) _ r d)
    (fun r d => tile_dq x2 x3 x4 x5 x6 x7 rfl rfl (k0_off7_eq i k) (k0_off7_eq i k) (k0_off8_eq i k) (k0_off8_eq i k) _ _ _ _ _ _ (by omega) _ r d) r x

/-- The block of dq before trip `n`: the rows of the tiles already visited have the key tile's part added. -/
theorem dqN_apply (y : FVec Ideal S4096x256 .f32) (r : Fin 4096) (x : Fin 256) : ∀ n, n ≤ (k0_t1_loop i).trips →
    dqN i x2 x3 x4 x5 x6 x7 (dqDiag i x2 x3 x4 x5 x6 x7 y) n (ix2 r x)
      = if 512 * (i 1).val ≤ r.val ∧ r.val < 512 * ((i 1).val + 1 + n) then y (ix2 r x) + inc x2 x3 x4 x5 x6 x7 (i 1).val r x else y (ix2 r x)
  | 0, _ => by
    refine (dqDiag_apply x2 x3 x4 x5 x6 x7 i y r x).trans ?_
    rw [show 512 * ((i 1).val + 1 + 0) = 512 * (i 1).val + 512 by ring]
  | n + 1, h => by
    rw [dqN_succ x2 x3 x4 x5 x6 x7 i _ h, dqTrip_apply, dqN_apply y r x n (Nat.le_of_succ_le h)]
    dsimp only
    by_cases h1 : 512 * (i 1).val + 512 * n + 512 ≤ r.val ∧ r.val < 512 * (i 1).val + 512 * n + 512 + 512
    · rw [if_pos h1, if_neg (by omega), if_pos (by omega)]
    · rw [if_neg h1]
      by_cases h2 : 512 * (i 1).val ≤ r.val ∧ r.val < 512 * ((i 1).val + 1 + n)
      · rw [if_pos h2, if_pos (by omega)]
      · rw [if_neg h2, if_neg (by omega)]

/-- The block of dq after the body. -/
theorem dqEnd_apply (y : FVec Ideal S4096x256 .f32) (r : Fin 4096) (x : Fin 256) :
    dqEnd i x2 x3 x4 x5 x6 x7 y (ix2 r x) = y (ix2 r x) + inc x2 x3 x4 x5 x6 x7 (i 1).val r x := by
  have hr := r.isLt
  refine (dqN_apply x2 x3 x4 x5 x6 x7 i y r x _ le_rfl).trans ?_
  rw [rows_all]
  by_cases h : 512 * (i 1).val ≤ r.val ∧ r.val < 4096
  · rw [if_pos h]
  · rw [if_neg h]
    unfold inc
    rw [Finset.sum_eq_zero fun c _ => by rw [G_before _ _ _ _ _ _ _ _ _ _ (by omega), zero_mul], add_zero]

end Cert.KernelIdeal.Flash
-- ==== Proof.Run.lean ====
module

public import proofs.«01_k».proof.Proof.Body
public import proofs.«01_k».proof.Proof.Gen.KernelIdeal.Points
public import Idealize.ShloMosaic.Lib.Claim

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The body zeroes its block of dq at the points 0, 8, 16 and 24. -/
theorem first_iff : ∀ t : Fin cfg0.N, first (grid0.coords t) ↔ t.val % 8 = 0 :=
  (fun t => by
    have ht : t.val < 32 := Nat.lt_of_lt_of_eq t.isLt N_0
    have e1 : (grid0.coords t 1).val = t.val / 1 % 8 := Pipeline.Grid.coords_val t 1 (by decide) rfl
    simp only [first, e1]
    word_cmp
   : ∀ t : Fin grid0.N, first (grid0.coords t) ↔ t.val % 8 = 0)

/-- The block of dq after the body at point `n`: zeroed at a head pair's first point, carried from point to point within the pair. -/
def dqAfter (c : Dev nD) : (n : ℕ) → n < cfg0.N → FVec Ideal S4096x256 .f32
  | 0, h => dqEnd (grid0.coords ⟨0, h⟩) (iblk m c 0 ⟨0, h⟩) (iblk m c 1 ⟨0, h⟩) (iblk m c 2 ⟨0, h⟩) (iblk m c 3 ⟨0, h⟩) (iblk m c 4 ⟨0, h⟩) (iblk m c 5 ⟨0, h⟩) (k0_pay48 (F := Ideal))
  | n + 1, h => dqEnd (grid0.coords ⟨n + 1, h⟩) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩)
      (if (n + 1) % 8 = 0 then k0_pay48 (F := Ideal) else dqAfter c n (Nat.lt_of_succ_lt h))

/-- At a head pair's first point. -/
theorem dqAfter_first (c : Dev nD) (t : Fin cfg0.N) (h : t.val % 8 = 0) :
    dqAfter m c t.val t.isLt = dqEnd (grid0.coords t) (iblk m c 0 t) (iblk m c 1 t) (iblk m c 2 t) (iblk m c 3 t) (iblk m c 4 t) (iblk m c 5 t) (k0_pay48 (F := Ideal)) := by
  obtain ⟨n, hn⟩ := t
  match n with
  | 0 => rfl
  | n + 1 => unfold dqAfter; rw [if_pos h]

/-- At a later point of the pair. -/
theorem dqAfter_later (c : Dev nD) (t : Fin cfg0.N) (h : ¬t.val % 8 = 0) :
    dqAfter m c t.val t.isLt = dqEnd (grid0.coords t) (iblk m c 0 t) (iblk m c 1 t) (iblk m c 2 t) (iblk m c 3 t) (iblk m c 4 t) (iblk m c 5 t) (dqAfter m c (t.val - 1) (by omega)) := by
  obtain ⟨n, hn⟩ := t
  match n with
  | 0 => exact absurd rfl h
  | n + 1 =>
    rw [show dqAfter m c (⟨n + 1, hn⟩ : Fin cfg0.N).val hn = dqAfter m c (n + 1) hn from rfl, dqAfter.eq_2, if_neg h]
    rfl

/-- What the pipeline's buffers hold after each point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dkEnd (grid0.coords t) (iblk m c 0 t) (iblk m c 1 t) (iblk m c 2 t) (iblk m c 3 t) (iblk m c 4 t) (iblk m c 5 t)
    | ⟨7, _⟩ => dvEnd (grid0.coords t) (iblk m c 0 t) (iblk m c 1 t) (iblk m c 2 t) (iblk m c 3 t) (iblk m c 4 t) (iblk m c 5 t)
    | ⟨8, _⟩ => dqAfter m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dkEnd (grid0.coords t) (iblk m c 0 t) (iblk m c 1 t) (iblk m c 2 t) (iblk m c 3 t) (iblk m c 4 t) (iblk m c 5 t) := by dsimp only [dats]
theorem after0_7 (c : Dev nD) (t : Fin cfg0.N) : (dats m 0 c).after 7 t = dvEnd (grid0.coords t) (iblk m c 0 t) (iblk m c 1 t) (iblk m c 2 t) (iblk m c 3 t) (iblk m c 4 t) (iblk m c 5 t) := by dsimp only [dats]
theorem after0_8 (c : Dev nD) (t : Fin cfg0.N) : (dats m 0 c).after 8 t = dqAfter m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- At a later point the block of dq is found as the point before left it. -/
theorem before0_8 (c : Dev nD) (t : Fin cfg0.N) (h : ¬t.val % 8 = 0) (d) :
    (dats m 0 c).before 8 t d = dqAfter m c (t.val - 1) (by omega) := by
  have ht : t.val < 32 := Nat.lt_of_lt_of_eq t.isLt N_0
  rw [(dats m 0 c).before_out_acc 8 rfl t (by omega) (by
    have := (flush0_8 ⟨t.val - 1, by omega⟩).not.mpr (by show ¬(t.val - 1) % 8 = 7; omega)
    simpa using this) (by first | rfl | (intros; rfl))]
  exact after0_8 m c _

abbrev ms0_0 (t : Fin cfg0.N) : Memref sig .tc .vmem S512x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4096x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4096x256 .f32 := win0_8.stage (cfg0.slots t 8)
abbrev hs0_8 (t : Fin cfg0.N) : (ms0_8 t).IsWhole := hstage0_8 ((cfg0.slots t 8).cast nbuf0_8)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What the body returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

/-- The body at every point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [before0_0 m c t, before0_1 m c t, before0_2 m c t, before0_3 m c t, before0_4 m c t, before0_5 m c t, after0_0 m c t, after0_1 m c t, after0_2 m c t, after0_3 m c t, after0_4 m c t, after0_5 m c t, after0_6 m c t, after0_7 m c t, after0_8 m c t]
  by_cases h0 : t.val % 8 = 0
  · rw [dqAfter_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((first_iff t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, H6, H7, H8⟩
    isplitl [HΦ]
    · rw [show (dats m 0 c).Φ t.succ = (dats m 0 c).Φ t.castSucc from rfl]; iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [dqAfter_later m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    rw [before0_8 m c t h0]
    iapply (run_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((first_iff t).mp h)) (iblk m c 0 t) (iblk m c 1 t) (iblk m c 2 t) (iblk m c 3 t) (iblk m c 4 t) (iblk m c 5 t) (dqAfter m c (t.val - 1) (by omega)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    iintro ⟨H0, H1, H2, H3, H4, H5, H6, H7, H8⟩
    isplitl [HΦ]
    · rw [show (dats m 0 c).Φ t.succ = (dats m 0 c).Φ t.castSucc from rfl]; iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at a point's slots is the body there. -/
theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The run: every array of the pipeline as the points left it, and every counter at zero. -/
theorem run_quiescent : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every argument array as it was, and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.KernelIdeal.Flash
-- ==== Proof.Arrays.lean ====
module

public import proofs.«01_k».proof.Proof.BlockSum
public import proofs.«01_k».proof.Proof.Run

@[expose] public section

set_option maxRecDepth 16384

noncomputable section

namespace Cert.KernelIdeal.Flash

open Idealize.ShloMosaic Idealize.ShloMosaic.TcCoe Cert.Flash
open Idealize.SL Idealize.SL.Sem
open Cert.KernelIdeal Cert.KernelIdeal.Gen
open scoped BigOperators

variable (m : (ℓ : Loc nD τ sig) → Buf (Elt Ideal) ℓ) (ρ : Dev nD → PrngReg)

/-! ## The blocks of the arrays -/

theorem index0 : ∀ t : Fin grid0.N, win0_0.index t 0 = t.val % 8 ∧ win0_0.index t 1 = t.val / 8 := by decide +kernel
theorem index1 : ∀ t : Fin grid0.N, win0_1.index t 0 = t.val % 8 ∧ win0_1.index t 1 = t.val / 8 := by decide +kernel
theorem index2 : ∀ t : Fin grid0.N, win0_2.index t 0 = 0 ∧ win0_2.index t 1 = t.val / 8 := by decide +kernel
theorem index3 : ∀ t : Fin grid0.N, win0_3.index t 0 = 0 ∧ win0_3.index t 1 = t.val / 8 := by decide +kernel
theorem index4 : ∀ t : Fin grid0.N, win0_4.index t 0 = 0 ∧ win0_4.index t 1 = t.val / 8 := by decide +kernel
theorem index5 : ∀ t : Fin grid0.N, win0_5.index t 0 = 0 ∧ win0_5.index t 1 = t.val / 8 := by decide +kernel
theorem index6 : ∀ t : Fin grid0.N, win0_6.index t 0 = t.val % 8 ∧ win0_6.index t 1 = t.val / 8 := by decide +kernel
theorem index7 : ∀ t : Fin grid0.N, win0_7.index t 0 = t.val % 8 ∧ win0_7.index t 1 = t.val / 8 := by decide +kernel
theorem index8 : ∀ t : Fin grid0.N, win0_8.index t 0 = 0 ∧ win0_8.index t 1 = t.val / 8 := by decide +kernel

/-- The key tile of a point. -/
theorem coord1 (t : Fin cfg0.N) : (grid0.coords t 1).val = t.val % 8 := by
  rw [show (grid0.coords t 1).val = t.val / 1 % 8 from Pipeline.Grid.coords_val t 1 (by decide) rfl, Nat.div_one]

theorem lt32 (t : Fin cfg0.N) : t.val < 32 := Nat.lt_of_lt_of_eq t.isLt N_0

theorem read0_apply (A : (⟨2, ![4096, 1024]⟩ : Shape).Idx → EReal) (t : Fin grid0.N) (r : Fin 512) (x : Fin 256) :
    (win0_0.blk t).view.read (Elt Ideal) A (ix2 r x) = at2 A (512 * (t.val % 8) + r.val) (256 * (t.val / 8) + x.val) := by
  have ht : t.val < 32 := lt32 t
  have hr := r.isLt
  have hx := x.isLt
  have hi := index0 t
  have hR : 512 * (t.val % 8) + r.val < 4096 := by omega
  have hX : 256 * (t.val / 8) + x.val < 1024 := by omega
  rw [at2_lt A hR hX, View.read_apply]
  refine congrArg A (funext fun a => Fin.ext ?_)
  match a with
  | ⟨0, _⟩ =>
    have e : win0_0.index t 0 * 512 + 1 * r.val = 512 * (t.val % 8) + r.val := by rw [hi.1]; omega
    exact e
  | ⟨1, _⟩ =>
    have e : win0_0.index t 1 * 256 + 1 * x.val = 256 * (t.val / 8) + x.val := by rw [hi.2]; omega
    exact e

theorem blk0_apply (c : Dev nD) (t : Fin cfg0.N) (r : Fin 512) (x : Fin 256) :
    (iblk m c 0 t : FVec Ideal S512x256 .bf16) (ix2 r x) = at2 (m := 4096) (n := 1024) (V m c main_v31) (512 * (t.val % 8) + r.val) (256 * (t.val / 8) + x.val) :=
  read0_apply (V m c main_v31) t r x

theorem read1_apply (A : (⟨2, ![4096, 1024]⟩ : Shape).Idx → EReal) (t : Fin grid0.N) (r : Fin 512) (x : Fin 256) :
    (win0_1.blk t).view.read (Elt Ideal) A (ix2 r x) = at2 A (512 * (t.val % 8) + r.val) (256 * (t.val / 8) + x.val) := by
  have ht : t.val < 32 := lt32 t
  have hr := r.isLt
  have hx := x.isLt
  have hi := index1 t
  have hR : 512 * (t.val % 8) + r.val < 4096 := by omega
  have hX : 256 * (t.val / 8) + x.val < 1024 := by omega
  rw [at2_lt A hR hX, View.read_apply]
  refine congrArg A (funext fun a => Fin.ext ?_)
  match a with
  | ⟨0, _⟩ =>
    have e : win0_1.index t 0 * 512 + 1 * r.val = 512 * (t.val % 8) + r.val := by rw [hi.1]; omega
    exact e
  | ⟨1, _⟩ =>
    have e : win0_1.index t 1 * 256 + 1 * x.val = 256 * (t.val / 8) + x.val := by rw [hi.2]; omega
    exact e

theorem blk1_apply (c : Dev nD) (t : Fin cfg0.N) (r : Fin 512) (x : Fin 256) :
    (iblk m c 1 t : FVec Ideal S512x256 .bf16) (ix2 r x) = at2 (m := 4096) (n := 1024) (V m c main_v32) (512 * (t.val % 8) + r.val) (256 * (t.val / 8) + x.val) :=
  read1_apply (V m c main_v32) t r x

theorem read2_apply (A : (⟨2, ![4096, 1024]⟩ : Shape).Idx → EReal) (t : Fin grid0.N) (r : Fin 4096) (x : Fin 256) :
    (win0_2.blk t).view.read (Elt Ideal) A (ix2 r x) = at2 A (r.val) (256 * (t.val / 8) + x.val) := by
  have ht : t.val < 32 := lt32 t
  have hr := r.isLt
  have hx := x.isLt
  have hi := index2 t
  have hR : r.val < 4096 := by omega
  have hX : 256 * (t.val / 8) + x.val < 1024 := by omega
  rw [at2_lt A hR hX, View.read_apply]
  refine congrArg A (funext fun a => Fin.ext ?_)
  match a with
  | ⟨0, _⟩ =>
    have e : win0_2.index t 0 * 4096 + 1 * r.val = r.val := by rw [hi.1]; omega
    exact e
  | ⟨1, _⟩ =>
    have e : win0_2.index t 1 * 256 + 1 * x.val = 256 * (t.val / 8) + x.val := by rw [hi.2]; omega
    exact e

theorem blk2_apply (c : Dev nD) (t : Fin cfg0.N) (r : Fin 4096) (x : Fin 256) :
    (iblk m c 2 t : FVec Ideal S4096x256 .bf16) (ix2 r x) = at2 (m := 4096) (n := 1024) (V m c main_v30) (r.val) (256 * (t.val / 8) + x.val) :=
  read2_apply (V m c main_v30) t r x

theorem read3_apply (A : (⟨2, ![4096, 1024]⟩ : Shape).Idx → EReal) (t : Fin grid0.N) (r : Fin 4096) (x : Fin 256) :
    (win0_3.blk t).view.read (Elt Ideal) A (ix2 r x) = at2 A (r.val) (256 * (t.val / 8) + x.val) := by
  have ht : t.val < 32 := lt32 t
  have hr := r.isLt
  have hx := x.isLt
  have hi := index3 t
  have hR : r.val < 4096 := by omega
  have hX : 256 * (t.val / 8) + x.val < 1024 := by omega
  rw [at2_lt A hR hX, View.read_apply]
  refine congrArg A (funext fun a => Fin.ext ?_)
  match a with
  | ⟨0, _⟩ =>
    have e : win0_3.index t 0 * 4096 + 1 * r.val = r.val := by rw [hi.1]; omega
    exact e
  | ⟨1, _⟩ =>
    have e : win0_3.index t 1 * 256 + 1 * x.val = 256 * (t.val / 8) + x.val := by rw [hi.2]; omega
    exact e

theorem blk3_apply (c : Dev nD) (t : Fin cfg0.N) (r : Fin 4096) (x : Fin 256) :
    (iblk m c 3 t : FVec Ideal S4096x256 .bf16) (ix2 r x) = at2 (m := 4096) (n := 1024) (V m c main_v33) (r.val) (256 * (t.val / 8) + x.val) :=
  read3_apply (V m c main_v33) t r x

theorem read4_apply (A : (⟨2, ![4096, 1024]⟩ : Shape).Idx → EReal) (t : Fin grid0.N) (r : Fin 4096) (x : Fin 256) :
    (win0_4.blk t).view.read (Elt Ideal) A (ix2 r x) = at2 A (r.val) (256 * (t.val / 8) + x.val) := by
  have ht : t.val < 32 := lt32 t
  have hr := r.isLt
  have hx := x.isLt
  have hi := index4 t
  have hR : r.val < 4096 := by omega
  have hX : 256 * (t.val / 8) + x.val < 1024 := by omega
  rw [at2_lt A hR hX, View.read_apply]
  refine congrArg A (funext fun a => Fin.ext ?_)
  match a with
  | ⟨0, _⟩ =>
    have e : win0_4.index t 0 * 4096 + 1 * r.val = r.val := by rw [hi.1]; omega
    exact e
  | ⟨1, _⟩ =>
    have e : win0_4.index t 1 * 256 + 1 * x.val = 256 * (t.val / 8) + x.val := by rw [hi.2]; omega
    exact e

theorem blk4_apply (c : Dev nD) (t : Fin cfg0.N) (r : Fin 4096) (x : Fin 256) :
    (iblk m c 4 t : FVec Ideal S4096x256 .f32) (ix2 r x) = at2 (m := 4096) (n := 1024) (V m c main_v36) (r.val) (256 * (t.val / 8) + x.val) :=
  read4_apply (V m c main_v36) t r x

theorem read5_apply (A : (⟨2, ![4096, 1024]⟩ : Shape).Idx → EReal) (t : Fin grid0.N) (r : Fin 4096) (x : Fin 256) :
    (win0_5.blk t).view.read (Elt Ideal) A (ix2 r x) = at2 A (r.val) (256 * (t.val / 8) + x.val) := by
  have ht : t.val < 32 := lt32 t
  have hr := r.isLt
  have hx := x.isLt
  have hi := index5 t
  have hR : r.val < 4096 := by omega
  have hX : 256 * (t.val / 8) + x.val < 1024 := by omega
  rw [at2_lt A hR hX, View.read_apply]
  refine congrArg A (funext fun a => Fin.ext ?_)
  match a with
  | ⟨0, _⟩ =>
    have e : win0_5.index t 0 * 4096 + 1 * r.val = r.val := by rw [hi.1]; omega
    exact e
  | ⟨1, _⟩ =>
    have e : win0_5.index t 1 * 256 + 1 * x.val = 256 * (t.val / 8) + x.val := by rw [hi.2]; omega
    exact e

theorem blk5_apply (c : Dev nD) (t : Fin cfg0.N) (r : Fin 4096) (x : Fin 256) :
    (iblk m c 5 t : FVec Ideal S4096x256 .f32) (ix2 r x) = at2 (m := 4096) (n := 1024) (V m c main_v38) (r.val) (256 * (t.val / 8) + x.val) :=
  read5_apply (V m c main_v38) t r x

theorem read6_apply (A : (⟨2, ![4096, 1024]⟩ : Shape).Idx → EReal) (t : Fin grid0.N) (r : Fin 512) (x : Fin 256) :
    (win0_6.blk t).view.read (Elt Ideal) A (ix2 r x) = at2 A (512 * (t.val % 8) + r.val) (256 * (t.val / 8) + x.val) := by
  have ht : t.val < 32 := lt32 t
  have hr := r.isLt
  have hx := x.isLt
  have hi := index6 t
  have hR : 512 * (t.val % 8) + r.val < 4096 := by omega
  have hX : 256 * (t.val / 8) + x.val < 1024 := by omega
  rw [at2_lt A hR hX, View.read_apply]
  refine congrArg A (funext fun a => Fin.ext ?_)
  match a with
  | ⟨0, _⟩ =>
    have e : win0_6.index t 0 * 512 + 1 * r.val = 512 * (t.val % 8) + r.val := by rw [hi.1]; omega
    exact e
  | ⟨1, _⟩ =>
    have e : win0_6.index t 1 * 256 + 1 * x.val = 256 * (t.val / 8) + x.val := by rw [hi.2]; omega
    exact e

theorem read7_apply (A : (⟨2, ![4096, 1024]⟩ : Shape).Idx → EReal) (t : Fin grid0.N) (r : Fin 512) (x : Fin 256) :
    (win0_7.blk t).view.read (Elt Ideal) A (ix2 r x) = at2 A (512 * (t.val % 8) + r.val) (256 * (t.val / 8) + x.val) := by
  have ht : t.val < 32 := lt32 t
  have hr := r.isLt
  have hx := x.isLt
  have hi := index7 t
  have hR : 512 * (t.val % 8) + r.val < 4096 := by omega
  have hX : 256 * (t.val / 8) + x.val < 1024 := by omega
  rw [at2_lt A hR hX, View.read_apply]
  refine congrArg A (funext fun a => Fin.ext ?_)
  match a with
  | ⟨0, _⟩ =>
    have e : win0_7.index t 0 * 512 + 1 * r.val = 512 * (t.val % 8) + r.val := by rw [hi.1]; omega
    exact e
  | ⟨1, _⟩ =>
    have e : win0_7.index t 1 * 256 + 1 * x.val = 256 * (t.val / 8) + x.val := by rw [hi.2]; omega
    exact e

theorem read8_apply (A : (⟨2, ![4096, 1024]⟩ : Shape).Idx → EReal) (t : Fin grid0.N) (r : Fin 4096) (x : Fin 256) :
    (win0_8.blk t).view.read (Elt Ideal) A (ix2 r x) = at2 A (r.val) (256 * (t.val / 8) + x.val) := by
  have ht : t.val < 32 := lt32 t
  have hr := r.isLt
  have hx := x.isLt
  have hi := index8 t
  have hR : r.val < 4096 := by omega
  have hX : 256 * (t.val / 8) + x.val < 1024 := by omega
  rw [at2_lt A hR hX, View.read_apply]
  refine congrArg A (funext fun a => Fin.ext ?_)
  match a with
  | ⟨0, _⟩ =>
    have e : win0_8.index t 0 * 4096 + 1 * r.val = r.val := by rw [hi.1]; omega
    exact e
  | ⟨1, _⟩ =>
    have e : win0_8.index t 1 * 256 + 1 * x.val = 256 * (t.val / 8) + x.val := by rw [hi.2]; omega
    exact e

end Cert.KernelIdeal.Flash
-- ==== Proof.Global.lean ====
module

public import proofs.«01_k».proof.Proof.Arrays

@[expose] public section

set_option maxRecDepth 16384

noncomputable section

namespace Cert.KernelIdeal.Flash

open Idealize.ShloMosaic Idealize.ShloMosaic.TcCoe Cert.Flash
open Idealize.SL Idealize.SL.Sem
open Cert.KernelIdeal Cert.KernelIdeal.Gen
open scoped BigOperators

/-! ## The three results, from the call's six arrays -/

section closed
variable (kA vA qA dA lA eA : (⟨2, ![4096, 1024]⟩ : Shape).Idx → EReal)

/-- The probability of query row `r` and key row `c` for the head whose columns start at `o`. -/
def PA (o r c : ℕ) : EReal :=
  if c ≤ r then Ideal.exp ((∑ d ∈ Finset.range 128, at2 qA r (o + d) * at2 kA c (o + d)) * sc - at2 lA r o) else 0

/-- The gradient of their score. -/
def GA (o r c : ℕ) : EReal :=
  if c ≤ r then Ideal.exp ((∑ d ∈ Finset.range 128, at2 qA r (o + d) * at2 kA c (o + d)) * sc - at2 lA r o)
    * ((∑ d ∈ Finset.range 128, at2 dA r (o + d) * at2 vA c (o + d)) - at2 eA r o) * sc else 0

def dkA : (⟨2, ![4096, 1024]⟩ : Shape).Idx → EReal := fun i =>
  ∑ r ∈ Finset.range 4096, GA kA vA qA dA lA eA (128 * ((i 1).val / 128)) r (i 0).val * at2 qA r (i 1).val

def dvA : (⟨2, ![4096, 1024]⟩ : Shape).Idx → EReal := fun i =>
  ∑ r ∈ Finset.range 4096, PA kA qA lA (128 * ((i 1).val / 128)) r (i 0).val * at2 dA r (i 1).val

def dqA : (⟨2, ![4096, 1024]⟩ : Shape).Idx → EReal := fun i =>
  ∑ c ∈ Finset.range 4096, GA kA vA qA dA lA eA (128 * ((i 1).val / 128)) (i 0).val c * at2 kA c (i 1).val

end closed

variable (m : (ℓ : Loc nD τ sig) → Buf (Elt Ideal) ℓ) (ρ : Dev nD → PrngReg) (c : Dev nD)

theorem at2_blk0 (t : Fin cfg0.N) {r x : ℕ} (hr : r < 512) (hx : x < 256) :
    at2 (m := 512) (n := 256) (iblk m c 0 t) r x = at2 (m := 4096) (n := 1024) (V m c main_v31) (512 * (t.val % 8) + r) (256 * (t.val / 8) + x) := by
  rw [at2_lt (m := 512) (n := 256) _ hr hx]; exact blk0_apply m c t ⟨r, hr⟩ ⟨x, hx⟩
theorem at2_blk1 (t : Fin cfg0.N) {r x : ℕ} (hr : r < 512) (hx : x < 256) :
    at2 (m := 512) (n := 256) (iblk m c 1 t) r x = at2 (m := 4096) (n := 1024) (V m c main_v32) (512 * (t.val % 8) + r) (256 * (t.val / 8) + x) := by
  rw [at2_lt (m := 512) (n := 256) _ hr hx]; exact blk1_apply m c t ⟨r, hr⟩ ⟨x, hx⟩
theorem at2_blk2 (t : Fin cfg0.N) {r x : ℕ} (hr : r < 4096) (hx : x < 256) :
    at2 (m := 4096) (n := 256) (iblk m c 2 t) r x = at2 (m := 4096) (n := 1024) (V m c main_v30) r (256 * (t.val / 8) + x) := by
  rw [at2_lt (m := 4096) (n := 256) _ hr hx]; exact blk2_apply m c t ⟨r, hr⟩ ⟨x, hx⟩
theorem at2_blk3 (t : Fin cfg0.N) {r x : ℕ} (hr : r < 4096) (hx : x < 256) :
    at2 (m := 4096) (n := 256) (iblk m c 3 t) r x = at2 (m := 4096) (n := 1024) (V m c main_v33) r (256 * (t.val / 8) + x) := by
  rw [at2_lt (m := 4096) (n := 256) _ hr hx]; exact blk3_apply m c t ⟨r, hr⟩ ⟨x, hx⟩
theorem at2_blk4 (t : Fin cfg0.N) {r x : ℕ} (hr : r < 4096) (hx : x < 256) :
    at2 (m := 4096) (n := 256) (iblk m c 4 t) r x = at2 (m := 4096) (n := 1024) (V m c main_v36) r (256 * (t.val / 8) + x) := by
  rw [at2_lt (m := 4096) (n := 256) _ hr hx]; exact blk4_apply m c t ⟨r, hr⟩ ⟨x, hx⟩
theorem at2_blk5 (t : Fin cfg0.N) {r x : ℕ} (hr : r < 4096) (hx : x < 256) :
    at2 (m := 4096) (n := 256) (iblk m c 5 t) r x = at2 (m := 4096) (n := 1024) (V m c main_v38) r (256 * (t.val / 8) + x) := by
  rw [at2_lt (m := 4096) (n := 256) _ hr hx]; exact blk5_apply m c t ⟨r, hr⟩ ⟨x, hx⟩

/-- The call's arrays. -/
abbrev kV : (⟨2, ![4096, 1024]⟩ : Shape).Idx → EReal := V m c main_v31
abbrev vV : (⟨2, ![4096, 1024]⟩ : Shape).Idx → EReal := V m c main_v32
abbrev qV : (⟨2, ![4096, 1024]⟩ : Shape).Idx → EReal := V m c main_v30
abbrev dV : (⟨2, ![4096, 1024]⟩ : Shape).Idx → EReal := V m c main_v33
abbrev lV : (⟨2, ![4096, 1024]⟩ : Shape).Idx → EReal := V m c main_v36
abbrev eV : (⟨2, ![4096, 1024]⟩ : Shape).Idx → EReal := V m c main_v38

theorem P_blk (t : Fin cfg0.N) {o r x : ℕ} (ho : o + 128 ≤ 256) (hr : r < 4096) (hx : x < 512) :
    P (iblk m c 0 t) (iblk m c 2 t) (iblk m c 4 t) (t.val % 8) o r x
      = PA (kV m c) (qV m c) (lV m c) (256 * (t.val / 8) + o) r (512 * (t.val % 8) + x) := by
  unfold P PA pr
  rw [at2_blk4 m c t hr (by omega)]
  have e1 : ∑ d ∈ Finset.range 128, at2 (m := 4096) (n := 256) (iblk m c 2 t) r (o + d) * at2 (m := 512) (n := 256) (iblk m c 0 t) x (o + d)
      = ∑ d ∈ Finset.range 128, at2 (qV m c) r (256 * (t.val / 8) + o + d) * at2 (kV m c) (512 * (t.val % 8) + x) (256 * (t.val / 8) + o + d) :=
    Finset.sum_congr rfl fun d hd => by
      have hd := Finset.mem_range.mp hd
      rw [at2_blk2 m c t hr (by omega), at2_blk0 m c t hx (by omega), ← Nat.add_assoc]
  rw [e1]

theorem G_blk (t : Fin cfg0.N) {o r x : ℕ} (ho : o + 128 ≤ 256) (hr : r < 4096) (hx : x < 512) :
    G (iblk m c 0 t) (iblk m c 1 t) (iblk m c 2 t) (iblk m c 3 t) (iblk m c 4 t) (iblk m c 5 t) (t.val % 8) o r x
      = GA (kV m c) (vV m c) (qV m c) (dV m c) (lV m c) (eV m c) (256 * (t.val / 8) + o) r (512 * (t.val % 8) + x) := by
  unfold G GA gr pr
  have e1 : ∑ d ∈ Finset.range 128, at2 (m := 4096) (n := 256) (iblk m c 2 t) r (o + d) * at2 (m := 512) (n := 256) (iblk m c 0 t) x (o + d)
      = ∑ d ∈ Finset.range 128, at2 (qV m c) r (256 * (t.val / 8) + o + d) * at2 (kV m c) (512 * (t.val % 8) + x) (256 * (t.val / 8) + o + d) :=
    Finset.sum_congr rfl fun d hd => by
      have hd := Finset.mem_range.mp hd
      rw [at2_blk2 m c t hr (by omega), at2_blk0 m c t hx (by omega), ← Nat.add_assoc]
  have e2 : ∑ d ∈ Finset.range 128, at2 (m := 4096) (n := 256) (iblk m c 3 t) r (o + d) * at2 (m := 512) (n := 256) (iblk m c 1 t) x (o + d)
      = ∑ d ∈ Finset.range 128, at2 (dV m c) r (256 * (t.val / 8) + o + d) * at2 (vV m c) (512 * (t.val % 8) + x) (256 * (t.val / 8) + o + d) :=
    Finset.sum_congr rfl fun d hd => by
      have hd := Finset.mem_range.mp hd
      rw [at2_blk3 m c t hr (by omega), at2_blk1 m c t hx (by omega), ← Nat.add_assoc]
  rw [at2_blk4 m c t hr (by omega), at2_blk5 m c t hr (by omega), e1, e2]

/-- Column `x` of the block of head pair `t / 8` is in the head whose columns start here. -/
theorem head_col (t x : ℕ) (hx : x < 256) : 256 * t + 128 * (x / 128) = 128 * ((256 * t + x) / 128) := by omega

theorem flushed6 (t : Fin cfg0.N) : (dats m 0 c).flushed 6 t
    = (win0_6.blk t).view.read (Elt Ideal) (dkA (kV m c) (vV m c) (qV m c) (dV m c) (lV m c) (eV m c)) := by
  funext y
  obtain ⟨r, x, rfl⟩ : ∃ (r : Fin 512) (x : Fin 256), y = ix2 r x := ⟨y 0, y 1, eq_ix2 (n0 := 512) (n1 := 256) y⟩
  have ht := lt32 t
  have hr := r.isLt
  have hx := x.isLt
  rw [read6_apply, at2_lt (m := 4096) (n := 1024) _ (show 512 * (t.val % 8) + r.val < 4096 by omega) (show 256 * (t.val / 8) + x.val < 1024 by omega)]
  refine (congrFun (after0_6 m c t) (ix2 r x)).trans ((dkEnd_apply _ _ _ _ _ _ (grid0.coords t) r x).trans ?_)
  rw [coord1]
  refine Finset.sum_congr rfl fun q hq => ?_
  have hq := Finset.mem_range.mp hq
  rw [G_blk m c t (by omega) hq hr, at2_blk2 m c t hq hx, head_col _ _ hx]
  rfl

theorem flushed7 (t : Fin cfg0.N) : (dats m 0 c).flushed 7 t
    = (win0_7.blk t).view.read (Elt Ideal) (dvA (kV m c) (qV m c) (dV m c) (lV m c)) := by
  funext y
  obtain ⟨r, x, rfl⟩ : ∃ (r : Fin 512) (x : Fin 256), y = ix2 r x := ⟨y 0, y 1, eq_ix2 (n0 := 512) (n1 := 256) y⟩
  have ht := lt32 t
  have hr := r.isLt
  have hx := x.isLt
  rw [read7_apply, at2_lt (m := 4096) (n := 1024) _ (show 512 * (t.val % 8) + r.val < 4096 by omega) (show 256 * (t.val / 8) + x.val < 1024 by omega)]
  refine (congrFun (after0_7 m c t) (ix2 r x)).trans ((dvEnd_apply _ _ _ _ _ _ (grid0.coords t) r x).trans ?_)
  rw [coord1]
  refine Finset.sum_congr rfl fun q hq => ?_
  have hq := Finset.mem_range.mp hq
  rw [P_blk m c t (by omega) hq hr, at2_blk3 m c t hq hx, head_col _ _ hx]
  rfl

/-- One key row's part of an entry of dq. -/
def dqTerm (r X k : ℕ) : EReal :=
  GA (kV m c) (vV m c) (qV m c) (dV m c) (lV m c) (eV m c) (128 * (X / 128)) r k * at2 (kV m c) k X

theorem inc_blk (t : Fin cfg0.N) (r : Fin 4096) (x : Fin 256) :
    inc (iblk m c 0 t) (iblk m c 1 t) (iblk m c 2 t) (iblk m c 3 t) (iblk m c 4 t) (iblk m c 5 t) (t.val % 8) r x
      = ∑ k ∈ Finset.range 512, dqTerm m c r.val (256 * (t.val / 8) + x.val) (512 * (t.val % 8) + k) := by
  have hr := r.isLt
  have hx := x.isLt
  refine Finset.sum_congr rfl fun k hk => ?_
  have hk := Finset.mem_range.mp hk
  rw [G_blk m c t (by omega) hr hk, at2_blk0 m c t hk hx, head_col _ _ hx]
  rfl

theorem dq_step (t : Fin cfg0.N) (r : Fin 4096) (x : Fin 256) {y : FVec Ideal S4096x256 .f32}
    (e : dqAfter m c t.val t.isLt = dqEnd (grid0.coords t) (iblk m c 0 t) (iblk m c 1 t) (iblk m c 2 t) (iblk m c 3 t) (iblk m c 4 t) (iblk m c 5 t) y)
    (hy : y (ix2 r x) = ∑ k ∈ Finset.range (512 * (t.val % 8)), dqTerm m c r.val (256 * (t.val / 8) + x.val) k) :
    dqAfter m c t.val t.isLt (ix2 r x) = ∑ k ∈ Finset.range (512 * (t.val % 8 + 1)), dqTerm m c r.val (256 * (t.val / 8) + x.val) k := by
  rw [e, dqEnd_apply, coord1, inc_blk, hy, Nat.mul_succ, Finset.sum_range_add]

theorem dq_zero (t : Fin cfg0.N) (h : t.val % 8 = 0) (r : Fin 4096) (x : Fin 256) :
    (k0_pay48 (F := Ideal)) (ix2 r x) = ∑ k ∈ Finset.range (512 * (t.val % 8)), dqTerm m c r.val (256 * (t.val / 8) + x.val) k := by
  rw [h]
  refine Eq.trans ?_ (Finset.sum_range_zero _).symm
  simp only [k0_pay48]
  pointwise

/-- The block of dq after a point: the key tiles so far. -/
theorem dqAfter_apply (r : Fin 4096) (x : Fin 256) : ∀ (n : ℕ) (hn : n < cfg0.N), dqAfter m c n hn (ix2 r x)
    = ∑ k ∈ Finset.range (512 * (n % 8 + 1)), dqTerm m c r.val (256 * (n / 8) + x.val) k := by
  intro n
  induction n with
  | zero =>
    intro hn
    exact dq_step m c ⟨0, hn⟩ r x (dqAfter_first m c ⟨0, hn⟩ rfl) (dq_zero m c ⟨0, hn⟩ rfl r x)
  | succ n ih =>
    intro hn
    by_cases h : (n + 1) % 8 = 0
    · exact dq_step m c ⟨n + 1, hn⟩ r x (dqAfter_first m c ⟨n + 1, hn⟩ h) (dq_zero m c ⟨n + 1, hn⟩ h r x)
    · refine dq_step m c ⟨n + 1, hn⟩ r x (dqAfter_later m c ⟨n + 1, hn⟩ h) ?_
      refine (ih _).trans ?_
      show _ = ∑ k ∈ Finset.range (512 * ((n + 1) % 8)), dqTerm m c r.val (256 * ((n + 1) / 8) + x.val) k
      rw [show (n + 1) % 8 = n % 8 + 1 by omega, show (n + 1) / 8 = n / 8 by omega]

theorem flushed8 (t : Fin cfg0.N) (h : t.val % 8 = 7) : (dats m 0 c).flushed 8 t
    = (win0_8.blk t).view.read (Elt Ideal) (dqA (kV m c) (vV m c) (qV m c) (dV m c) (lV m c) (eV m c)) := by
  funext y
  obtain ⟨r, x, rfl⟩ : ∃ (r : Fin 4096) (x : Fin 256), y = ix2 r x := ⟨y 0, y 1, eq_ix2 (n0 := 4096) (n1 := 256) y⟩
  have ht := lt32 t
  have hr := r.isLt
  have hx := x.isLt
  rw [read8_apply, at2_lt (m := 4096) (n := 1024) _ (show r.val < 4096 by omega) (show 256 * (t.val / 8) + x.val < 1024 by omega)]
  refine (congrFun (after0_8 m c t) (ix2 r x)).trans ((dqAfter_apply m c r x t.val t.isLt).trans ?_)
  rw [h]
  rfl

/-! ## The arrays after the run -/

theorem mem6 (t : Fin cfg0.N) (i : S4096x1024.Idx) (h0 : (i 0 : Nat) / 512 = t.val % 8) (h1 : (i 1 : Nat) / 256 = t.val / 8) :
    i ∈ (win0_6.blk t).view.set := by
  show i ∈ ((View.whole main_v39_0).slice (win0_6.rect t)).set
  rw [View.set_slice_whole, Rect.mem_set_unit]
  intro a
  match a with
  | ⟨0, _⟩ =>
    show win0_6.index t 0 * 512 ≤ (i 0 : Nat) ∧ (i 0 : Nat) < win0_6.index t 0 * 512 + 512
    rw [(index6 t).1]; omega
  | ⟨1, _⟩ =>
    show win0_6.index t 1 * 256 ≤ (i 1 : Nat) ∧ (i 1 : Nat) < win0_6.index t 1 * 256 + 256
    rw [(index6 t).2]; omega

theorem mem7 (t : Fin cfg0.N) (i : S4096x1024.Idx) (h0 : (i 0 : Nat) / 512 = t.val % 8) (h1 : (i 1 : Nat) / 256 = t.val / 8) :
    i ∈ (win0_7.blk t).view.set := by
  show i ∈ ((View.whole main_v39_1).slice (win0_7.rect t)).set
  rw [View.set_slice_whole, Rect.mem_set_unit]
  intro a
  match a with
  | ⟨0, _⟩ =>
    show win0_7.index t 0 * 512 ≤ (i 0 : Nat) ∧ (i 0 : Nat) < win0_7.index t 0 * 512 + 512
    rw [(index7 t).1]; omega
  | ⟨1, _⟩ =>
    show win0_7.index t 1 * 256 ≤ (i 1 : Nat) ∧ (i 1 : Nat) < win0_7.index t 1 * 256 + 256
    rw [(index7 t).2]; omega

theorem mem8 (t : Fin cfg0.N) (i : S4096x1024.Idx) (h1 : (i 1 : Nat) / 256 = t.val / 8) :
    i ∈ (win0_8.blk t).view.set := by
  have hi := (i 0).isLt
  have hi : (i 0 : Nat) < 4096 := hi
  show i ∈ ((View.whole main_v39_2).slice (win0_8.rect t)).set
  rw [View.set_slice_whole, Rect.mem_set_unit]
  intro a
  match a with
  | ⟨0, _⟩ =>
    show win0_8.index t 0 * 4096 ≤ (i 0 : Nat) ∧ (i 0 : Nat) < win0_8.index t 0 * 4096 + 4096
    rw [(index8 t).1]; omega
  | ⟨1, _⟩ =>
    show win0_8.index t 1 * 256 ≤ (i 1 : Nat) ∧ (i 1 : Nat) < win0_8.index t 1 * 256 + 256
    rw [(index8 t).2]; omega

/-- The point that writes rows `512 j …` and columns `256 h …`. -/
def pointOf (h j : ℕ) (hh : h < 4) (hj : j < 8) : Fin cfg0.N := ⟨8 * h + j, by
  have e : cfg0.N = 32 := N_0
  omega⟩

theorem final6 : (dats m 0 c).arrAt 6 cfg0.N = dkA (kV m c) (vV m c) (qV m c) (dV m c) (lV m c) (eV m c) :=
  (dats m 0 c).arrAt_eq_of_cover 6 _ (fun t _ => flushed6 m c t) fun i => by
    have h0 : (i 0 : Nat) < 4096 := (i 0).isLt
    have h1 : (i 1 : Nat) < 1024 := (i 1).isLt
    refine ⟨pointOf ((i 1 : Nat) / 256) ((i 0 : Nat) / 512) (by omega) (by omega), flush0_6 _, mem6 _ i ?_ ?_⟩
    · show _ = (8 * ((i 1 : Nat) / 256) + (i 0 : Nat) / 512) % 8; omega
    · show _ = (8 * ((i 1 : Nat) / 256) + (i 0 : Nat) / 512) / 8; omega

theorem final7 : (dats m 0 c).arrAt 7 cfg0.N = dvA (kV m c) (qV m c) (dV m c) (lV m c) :=
  (dats m 0 c).arrAt_eq_of_cover 7 _ (fun t _ => flushed7 m c t) fun i => by
    have h0 : (i 0 : Nat) < 4096 := (i 0).isLt
    have h1 : (i 1 : Nat) < 1024 := (i 1).isLt
    refine ⟨pointOf ((i 1 : Nat) / 256) ((i 0 : Nat) / 512) (by omega) (by omega), flush0_7 _, mem7 _ i ?_ ?_⟩
    · show _ = (8 * ((i 1 : Nat) / 256) + (i 0 : Nat) / 512) % 8; omega
    · show _ = (8 * ((i 1 : Nat) / 256) + (i 0 : Nat) / 512) / 8; omega

theorem final8 : (dats m 0 c).arrAt 8 cfg0.N = dqA (kV m c) (vV m c) (qV m c) (dV m c) (lV m c) (eV m c) :=
  (dats m 0 c).arrAt_eq_of_cover 8 _ (fun t h => flushed8 m c t ((flush0_8 t).mp h)) fun i => by
    have h1 : (i 1 : Nat) < 1024 := (i 1).isLt
    refine ⟨pointOf ((i 1 : Nat) / 256) 7 (by omega) (by omega), (flush0_8 _).mpr ?_, mem8 _ i ?_⟩
    · show (8 * ((i 1 : Nat) / 256) + 7) % 8 = 7; omega
    · show _ = (8 * ((i 1 : Nat) / 256) + 7) / 8; omega

end Cert.KernelIdeal.Flash
-- ==== Proof.Prefix.lean ====
module

public import proofs.«01_k».proof.Proof.Gen.KernelIdeal.Frame
public import proofs.«01_k».proof.Proof.Gen.ReferenceIdeal.Read

@[expose] public section

set_option maxRecDepth 16384

noncomputable section

namespace Cert.KernelIdeal.Flash

open Idealize.ShloMosaic Idealize.ShloMosaic.TcCoe Idealize.SL.Sem
open Cert.KernelIdeal Cert.KernelIdeal.Gen
open Cert.ReferenceIdeal.Read

/-! ## The call's six arrays, from the arguments -/

variable (x0 x1 x2 x3 : (⟨S4096x1024, .f32⟩ : BufTy).Contents (Elt Ideal))

/-- The row's largest score. -/
def hMax : FVec Ideal S8x4096x1 .f32 := broadcastInDim S8x4096x1 ![0, 1] bcast_S8x4096_S8x4096x1_0_1 (val_main_v12 (F := Ideal) x0 x1)
/-- The exponentials. -/
def hExp : FVec Ideal S8x4096x4096 .f32 :=
  Host.exp (subf (val_main_v11_0 (F := Ideal) x0 x1) (broadcastInDim S8x4096x4096 ![0, 1, 2] bcast_S8x4096x1_S8x4096x4096_0_1_2 (hMax x0 x1)))
/-- The row's sum. -/
def hSum : FVec Ideal S8x4096x1 .f32 :=
  broadcastInDim S8x4096x1 ![0, 1] bcast_S8x4096_S8x4096x1_0_1 (Host.reduceAdd (hExp x0 x1) (constant (F := Ideal) S_ .f32 0x00000000#32) reducesTo_S8x4096x4096_S8x4096_d2 h_S_)
/-- The row's log-sum. -/
def hLse : FVec Ideal S8x4096x1 .f32 := addf (hMax x0 x1) (Host.log (hSum x0 x1))
/-- The same over the lanes of each head. -/
def hLseLanes : FVec Ideal S4096x1024 .f32 :=
  shapeCast S4096x1024 (broadcastInDim S4096x8x128 ![0, 1, 2] bcast_S4096x8x1_S4096x8x128_0_1_2 (transpose S4096x8x1 [1, 0, 2] (hLse x0 x1) transposes_S8x4096x1_S4096x8x1_1_0_2)) shapeCasts_S4096x8x128_S4096x1024
/-- The attention's output. -/
def hOut : FVec Ideal S4096x8x128 .f32 :=
  transpose S4096x8x128 [2, 0, 1] (Host.dotGeneral (φ₁ := .f32) dot_S4096x8x128_S8x4096x4096_S8x128x4096_0_2_2_1_1_0 none (val_main_v40 (F := Ideal) x2)
    (Host.divf (hExp x0 x1) (broadcastInDim S8x4096x4096 ![0, 1, 2] bcast_S8x4096x1_S8x4096x4096_0_1_2 (hSum x0 x1)))) transposes_S8x128x4096_S4096x8x128_2_0_1
/-- The row's output times its gradient. -/
def hDelta : FVec Ideal S4096x8x1 .f32 :=
  broadcastInDim S4096x8x1 ![0, 1] bcast_S4096x8_S4096x8x1_0_1 (Host.reduceAdd (mulf (val_main_v44 (F := Ideal) x3) (hOut x0 x1 x2)) (constant (F := Ideal) S_ .f32 0x00000000#32) reducesTo_S4096x8x128_S4096x8_d2 h_S_)
/-- The same over the lanes of each head. -/
def hDeltaLanes : FVec Ideal S4096x1024 .f32 :=
  shapeCast S4096x1024 (broadcastInDim S4096x8x128 ![0, 1, 2] bcast_S4096x8x1_S4096x8x128_0_1_2 (hDelta x0 x1 x2 x3)) shapeCasts_S4096x8x128_S4096x1024

variable (m : (ℓ : Loc nD τ sig) → Buf (Elt Ideal) ℓ) (c : Dev nD)

set_option maxHeartbeats 4000000 in
theorem V_v36 : V m c main_v36 = hLseLanes (m ((c : Thread nD τ).loc main_arg0)) (m ((c : Thread nD τ).loc main_arg1)) := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

set_option maxHeartbeats 4000000 in
theorem V_v38 : V m c main_v38 = hDeltaLanes (m ((c : Thread nD τ).loc main_arg0)) (m ((c : Thread nD τ).loc main_arg1)) (m ((c : Thread nD τ).loc main_arg2)) (m ((c : Thread nD τ).loc main_arg3)) := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

set_option maxHeartbeats 4000000 in
theorem V_v30 : V m c main_v30 = m ((c : Thread nD τ).loc main_arg0) := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

set_option maxHeartbeats 4000000 in
theorem V_v31 : V m c main_v31 = m ((c : Thread nD τ).loc main_arg1) := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

set_option maxHeartbeats 4000000 in
theorem V_v32 : V m c main_v32 = m ((c : Thread nD τ).loc main_arg2) := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

set_option maxHeartbeats 4000000 in
theorem V_v33 : V m c main_v33 = m ((c : Thread nD τ).loc main_arg3) := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

end Cert.KernelIdeal.Flash
-- ==== Proof.RealMath.lean ====
module

public import Mathlib.Data.EReal.Operations
public import Mathlib.Data.EReal.Inv
public import Mathlib.Analysis.SpecialFunctions.Log.Basic
public import Mathlib.Algebra.BigOperators.Field
public import Idealize.ShloMosaic.PureOps.Ideal

@[expose] public section

noncomputable section

namespace Cert.Flash

open Idealize.ShloMosaic
open scoped BigOperators

/-! ## Causal attention of one head over the real numbers, and its gradient -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

section
variable (q k v d : ℕ → ℕ → ℝ) (M : ℕ → ℕ → ℝ) (w : ℝ)

/-- The scaled score of query row `r` and key row `c` in head `h`. -/
def score (h r c : ℕ) : ℝ := (∑ x ∈ Finset.range 128, q r (128 * h + x) * k c (128 * h + x)) * w

/-- Its exponential against the row's shift `M`, zero where the key row comes later. -/
def expo (h r c : ℕ) : ℝ := if c ≤ r then Real.exp (score q k w h r c - M h r) else 0

/-- The row's sum. -/
def total (h r : ℕ) : ℝ := ∑ c ∈ Finset.range 4096, expo q k M w h r c

/-- The gradient that reaches a probability. -/
def dprob (h r c : ℕ) : ℝ := ∑ x ∈ Finset.range 128, d r (128 * h + x) * v c (128 * h + x)

/-- The gradient of a score, as the derivative of the quotient gives it. -/
def dscore (h r c : ℕ) : ℝ :=
  if c ≤ r then (dprob v d h r c / total q k M w h r
      + -(∑ c' ∈ Finset.range 4096, dprob v d h r c' * (1 / (total q k M w h r * total q k M w h r)) * expo q k M w h r c'))
    * expo q k M w h r c * w else 0

/-- The row's attention output. -/
def outp (h r x : ℕ) : ℝ := ∑ c ∈ Finset.range 4096, v c (128 * h + x) * (expo q k M w h r c / total q k M w h r)

/-- The row's output times its gradient. -/
def delta (h r : ℕ) : ℝ := ∑ x ∈ Finset.range 128, d r (128 * h + x) * outp q k v M w h r x

theorem total_pos {h r : ℕ} (hr : r < 4096) : 0 < total q k M w h r := by
  refine Finset.sum_pos' (fun c _ => ?_) ⟨0, Finset.mem_range.mpr (by omega), ?_⟩
  · unfold expo; split
    · exact (Real.exp_pos _).le
    · exact le_refl _
  · unfold expo; rw [if_pos (Nat.zero_le r)]; exact Real.exp_pos _

/-- The row's output times its gradient is the average of the gradients that reach its probabilities. -/
theorem delta_eq (h r : ℕ) : delta q k v d M w h r
    = ∑ c ∈ Finset.range 4096, dprob v d h r c * (expo q k M w h r c / total q k M w h r) := by
  unfold delta outp dprob
  simp only [Finset.mul_sum, Finset.sum_mul]
  rw [Finset.sum_comm]
  refine Finset.sum_congr rfl fun c _ => Finset.sum_congr rfl fun x _ => by ring

/-- A probability from the row's log-sum. -/
theorem prob_eq {h r c : ℕ} (hr : r < 4096) (hc : c ≤ r) :
    Real.exp (score q k w h r c - (M h r + Real.log (total q k M w h r))) = expo q k M w h r c / total q k M w h r := by
  have hp := total_pos q k M w (h := h) hr
  unfold expo
  rw [if_pos hc, ← sub_sub, Real.exp_sub _ (Real.log _), Real.exp_log hp]

/-- The gradient of a score from the probability, its own gradient and the row's average. -/
theorem dscore_eq {h r c : ℕ} (hr : r < 4096) (hc : c ≤ r) :
    expo q k M w h r c / total q k M w h r * (dprob v d h r c - delta q k v d M w h r) * w = dscore q k v d M w h r c := by
  have hp := (total_pos q k M w (h := h) hr).ne'
  unfold dscore
  rw [if_pos hc, delta_eq]
  have e : ∑ c' ∈ Finset.range 4096, dprob v d h r c' * (1 / (total q k M w h r * total q k M w h r)) * expo q k M w h r c'
      = (∑ c' ∈ Finset.range 4096, dprob v d h r c' * (expo q k M w h r c' / total q k M w h r)) / total q k M w h r := by
    rw [Finset.sum_div]
    refine Finset.sum_congr rfl fun c' _ => ?_
    field_simp
  rw [e]
  field_simp
  ring

end

/-! ## The same over the extended reals -/

theorem exp_sub_coe (s m : ℝ) : Ideal.exp ((s : EReal) - (m : EReal)) = ((Real.exp (s - m) : ℝ) : EReal) := by
  rw [← EReal.coe_sub]; rfl

theorem exp_bot_sub (m : ℝ) : Ideal.exp ((⊥ : EReal) - (m : EReal)) = 0 := by
  rw [EReal.bot_sub]; rfl

theorem div_coe_coe (x : ℝ) {y : ℝ} (h : y ≠ 0) : Ideal.div (x : EReal) (y : EReal) = ((x / y : ℝ) : EReal) := by
  rw [Ideal.div_coe h, ← EReal.coe_mul, mul_one_div]

theorem log_coe_pos {y : ℝ} (h : 0 < y) : Ideal.log (y : EReal) = ((Real.log y : ℝ) : EReal) := by
  show (if y ≤ 0 then ⊥ else (Real.log y : EReal)) = _
  rw [if_neg (not_le.mpr h)]

/-- The largest of finitely many values none of which is `⊤` and one of which is a number is a number. -/
theorem fold_max_real {n : ℕ} (f : Fin n → EReal) (ht : ∀ i, f i ≠ ⊤) (i : Fin n) (hi : f i ≠ ⊥) :
    ∃ M : ℝ, (Finset.univ : Finset (Fin n)).fold max (⊥ : EReal) f = (M : EReal) := by
  have h1 : (Finset.univ : Finset (Fin n)).fold max (⊥ : EReal) f ≠ ⊤ := by
    refine ne_of_lt ((Finset.fold_max_lt (s := Finset.univ) (f := f) (b := (⊥ : EReal)) ⊤).mpr ⟨bot_lt_top, fun x _ => lt_top_iff_ne_top.mpr (ht x)⟩)
  have h2 : (Finset.univ : Finset (Fin n)).fold max (⊥ : EReal) f ≠ ⊥ :=
    ne_of_gt ((Finset.lt_fold_max (s := Finset.univ) (f := f) (b := (⊥ : EReal)) ⊥).mpr (Or.inr ⟨i, Finset.mem_univ _, bot_lt_iff_ne_bot.mpr hi⟩))
  exact ⟨_, (EReal.coe_toReal h1 h2).symm⟩

end Cert.Flash
-- ==== Proof.RefValue.lean ====
module

public import proofs.«01_k».proof.Proof.Base
public import proofs.«01_k».proof.Proof.RealMath
public import proofs.«01_k».proof.Proof.Gen.ReferenceIdeal.Read
public import Idealize.ShloMosaic.Lib.KernelVsHost
public import Idealize.ShloMosaic.Lib.IdealHost

@[expose] public section

set_option maxRecDepth 16384

noncomputable section

namespace Cert.Flash

open Idealize.ShloMosaic
open Cert.ReferenceIdeal Cert.ReferenceIdeal.Gen Cert.ReferenceIdeal.Read
open scoped BigOperators

/-! ## What the reference computes at one index, for arguments that are numbers -/

theorem at2_idx (x : S4096x1024.Idx → EReal) (i : S4096x1024.Idx) {r c : ℕ} (hr : (i 0).val = r) (hc : (i 1).val = c) : x i = at2 (m := 4096) (n := 1024) x r c := by
  subst hr hc
  exact (congrArg x (eq_ix2 (n0 := 4096) (n1 := 1024) i)).trans (at2_of (m := 4096) (n := 1024) x (i 0) (i 1)).symm

variable (x0 x1 x2 x3 : (⟨S4096x1024, .f32⟩ : BufTy).Contents (Elt Ideal))

theorem v0_at (i : S4096x8x128.Idx) : val_main_v0 (F := Ideal) x0 i = at2 (m := 4096) (n := 1024) x0 (i 0).val (128 * (i 1).val + (i 2).val) := by
  have h0 : (i 0).val < 4096 := (i 0).isLt
  have h1 : (i 1).val < 8 := (i 1).isLt
  have h2 : (i 2).val < 128 := (i 2).isLt
  rw [val_main_v0_apply]
  refine at2_idx x0 _ ?_ ?_
  · show (((i 0).val * 8 + (i 1).val) * 128 + (i 2).val) / 1024 = _; omega
  · show (((i 0).val * 8 + (i 1).val) * 128 + (i 2).val) % 1024 = _; omega

theorem v1_at (i : S4096x8x128.Idx) : val_main_v1 (F := Ideal) x1 i = at2 (m := 4096) (n := 1024) x1 (i 0).val (128 * (i 1).val + (i 2).val) := v0_at x1 i
theorem v40_at (i : S4096x8x128.Idx) : val_main_v40 (F := Ideal) x2 i = at2 (m := 4096) (n := 1024) x2 (i 0).val (128 * (i 1).val + (i 2).val) := v0_at x2 i
theorem v44_at (i : S4096x8x128.Idx) : val_main_v44 (F := Ideal) x3 i = at2 (m := 4096) (n := 1024) x3 (i 0).val (128 * (i 1).val + (i 2).val) := v0_at x3 i
theorem v45_at (i : S8x128x4096.Idx) : val_main_v45 (F := Ideal) x3 i = at2 (m := 4096) (n := 1024) x3 (i 2).val (128 * (i 0).val + (i 1).val) := by
  rw [val_main_v45_apply, v44_at]

/-- The scale, as a number. -/
def scR : ℝ := (Ideal.ofBits .f32 0x3DD105EC#32).toReal

theorem sc_coe : (FloatOps.ofBits (F := Ideal) .f32 0x3DD105EC#32 : EReal) = (scR : EReal) := by
  refine (EReal.coe_toReal ?_ ?_).symm <;> simp [Ideal.ofBits, Ideal.ieee, -EReal.coe_mul]

theorem inf_eq : (FloatOps.ofBits (F := Ideal) .f32 0xFF800000#32 : EReal) = ⊥ := by
  show Ideal.ofBits .f32 0xFF800000#32 = ⊥
  simp [Ideal.ofBits, Ideal.ieee]

theorem zero_eq : (FloatOps.ofBits (F := Ideal) .f32 0x00000000#32 : EReal) = 0 := Ideal.ofBits_zero_f32
theorem one_eq : (FloatOps.ofBits (F := Ideal) .f32 0x3F800000#32 : EReal) = 1 := Ideal.ofBits_one_f32

/-- The mask: the key row is not later than the query row. -/
theorem v11_1_at (i : S8x4096x4096.Idx) : val_main_v11_1 (F := Ideal) i = if (i 2).val ≤ (i 1).val then 1#1 else 0#1 := by
  rw [val_main_v11_1_apply, val_main_v10_apply, val_main_v8_apply, val_main_v9_apply, val_main_v6_apply, val_main_v7_apply]
  exact sle_ofNat (i 2).val (i 1).val (i 2).isLt (i 1).isLt

variable (q k v d : ℕ → ℕ → ℝ)
  (hq : ∀ r c, at2 (m := 4096) (n := 1024) x0 r c = (q r c : EReal)) (hk : ∀ r c, at2 (m := 4096) (n := 1024) x1 r c = (k r c : EReal))
  (hv : ∀ r c, at2 (m := 4096) (n := 1024) x2 r c = (v r c : EReal)) (hd : ∀ r c, at2 (m := 4096) (n := 1024) x3 r c = (d r c : EReal))

include hq hk in
theorem v4_at (i : S8x4096x4096.Idx) : val_main_v4 (F := Ideal) x0 x1 i = (score q k scR (i 0).val (i 1).val (i 2).val : EReal) := by
  rw [val_main_v4_apply, val_main_v3_apply, val_main_cst_apply, sc_coe, val_main_v2_apply]
  simp only [v0_at, v1_at, hq, hk, Ideal.mulf_def]
  show (∑ x : Fin 128, (q (i 1).val (128 * (i 0).val + x.val) : EReal) * (k (i 2).val (128 * (i 0).val + x.val) : EReal)) * _ = _
  simp only [← EReal.coe_mul]
  rw [coe_sum, ← EReal.coe_mul, Fin.sum_univ_eq_sum_range (fun x => q (i 1).val (128 * (i 0).val + x) * k (i 2).val (128 * (i 0).val + x)) 128]
  rfl

include hq hk in
theorem v11_at (i : S8x4096x4096.Idx) : val_main_v11_0 (F := Ideal) x0 x1 i
    = if (i 2).val ≤ (i 1).val then (score q k scR (i 0).val (i 1).val (i 2).val : EReal) else ⊥ := by
  rw [val_main_v11_0_apply, v11_1_at, v4_at x0 x1 q k hq hk, val_main_call0_v2_apply, val_main_call0_v0_apply, val_main_cst_0_apply, inf_eq]
  split <;> rfl

/-- The row's largest score, as a number. -/
def rowMax (h r : ℕ) : ℝ := (at2 (m := 8) (n := 4096) (val_main_v12 (F := Ideal) x0 x1) h r).toReal

include hq hk in
theorem v12_at (j : S8x4096.Idx) : val_main_v12 (F := Ideal) x0 x1 j = (rowMax x0 x1 (j 0).val (j 1).val : EReal) := by
  have key : ∃ M : ℝ, val_main_v12 (F := Ideal) x0 x1 j = (M : EReal) := by
    have hR : S8x4096x4096.Reduces [2] S8x4096 := by decide
    have e : val_main_v12 (F := Ideal) x0 x1 j = (Finset.univ : Finset (Fin 4096)).fold max (⊥ : EReal) (fun c => val_main_v11_0 (F := Ideal) x0 x1 (idx_main_v33 j c)) := by
      refine (congrFun (hostReduce_maximumf_eq_multiReduction (F := Ideal) (s := S8x4096x4096) (t := S8x4096) (u := S_) (φ := .f32) (axes := [2]) (val_main_v11_0 (F := Ideal) x0 x1) 0xFF800000#32 reducesTo_S8x4096x4096_S8x4096_d2 h_S_ hR (.inl rfl) rfl) j).trans ?_
      refine (Ideal.multiReduction_maximumf_single _ _ hR (.inl rfl) rfl j).trans ?_
      refine (congrArg₂ (fun (b : EReal) (f : Fin 4096 → EReal) => (Finset.univ : Finset (Fin 4096)).fold max b f) inf_eq (funext fun c => ?_))
      exact congrArg (val_main_v11_0 (F := Ideal) x0 x1) (funext fun a => Fin.ext (by match a with | ⟨0, _⟩ => rfl | ⟨1, _⟩ => rfl | ⟨2, _⟩ => rfl))
    rw [e]
    refine fold_max_real _ (fun c => ?_) (0 : Fin 4096) ?_
    · rw [v11_at x0 x1 q k hq hk]
      split
      · exact EReal.coe_ne_top _
      · exact bot_ne_top
    · rw [v11_at x0 x1 q k hq hk]
      rw [if_pos (show (idx_main_v33 j 0 2).val ≤ (idx_main_v33 j 0 1).val from Nat.zero_le _)]
      exact EReal.coe_ne_bot _
  obtain ⟨M, hM⟩ := key
  have e2 : at2 (m := 8) (n := 4096) (val_main_v12 (F := Ideal) x0 x1) (j 0).val (j 1).val = val_main_v12 (F := Ideal) x0 x1 j :=
    (at2_of (m := 8) (n := 4096) _ (j 0) (j 1)).trans (congrArg _ (eq_ix2 (n0 := 8) (n1 := 4096) j).symm)
  unfold rowMax
  rw [e2, hM]; rfl

theorem v19_eq : val_main_v19 (F := Ideal) x0 x1 = val_main_v12 (F := Ideal) x0 x1 := by
  funext j
  rw [val_main_v19_apply, val_main_v18_apply, val_main_cst_3_apply, inf_eq]
  exact max_eq_right bot_le

include hq hk in
theorem v32_at (i : S8x4096x4096.Idx) : val_main_v32 (F := Ideal) x0 x1 i = (expo q k (rowMax x0 x1) scR (i 0).val (i 1).val (i 2).val : EReal) := by
  rw [val_main_v32_apply, val_main_v31_apply, val_main_v30_apply, val_main_v29_apply, v19_eq, v12_at x0 x1 q k hq hk, v11_at x0 x1 q k hq hk]
  unfold expo
  split
  · exact exp_sub_coe _ _
  · exact exp_bot_sub (rowMax x0 x1 (i 0).val (i 1).val)

include hq hk in
theorem v33_at (j : S8x4096.Idx) : val_main_v33 (F := Ideal) x0 x1 j = (total q k (rowMax x0 x1) scR (j 0).val (j 1).val : EReal) := by
  rw [val_main_v33_apply, val_main_cst_9_apply, zero_eq, zero_add]
  simp only [v32_at x0 x1 q k hq hk]
  rw [coe_sum]
  exact congrArg _ (Fin.sum_univ_eq_sum_range (fun c => expo q k (rowMax x0 x1) scR (j 0).val (j 1).val c) 4096)

include hq hk in
theorem v34_at (j : S8x4096x1.Idx) : val_main_v34 (F := Ideal) x0 x1 j = (total q k (rowMax x0 x1) scR (j 0).val (j 1).val : EReal) := by
  rw [val_main_v34_apply, v33_at x0 x1 q k hq hk]

include hq hk in
theorem v36_at (i : S8x4096x4096.Idx) : val_main_v36 (F := Ideal) x0 x1 i
    = ((expo q k (rowMax x0 x1) scR (i 0).val (i 1).val (i 2).val / total q k (rowMax x0 x1) scR (i 0).val (i 1).val : ℝ) : EReal) := by
  rw [val_main_v36_apply, v32_at x0 x1 q k hq hk, val_main_v35_apply, v34_at x0 x1 q k hq hk]
  exact div_coe_coe _ (total_pos q k (rowMax x0 x1) scR (i 1).isLt).ne'

include hv hd in
theorem v46_at (i : S8x4096x4096.Idx) : val_main_v46 (F := Ideal) x2 x3 i = (dprob v d (i 0).val (i 1).val (i 2).val : EReal) := by
  rw [val_main_v46_apply]
  simp only [v45_at, v40_at, hv, hd]
  show (∑ x : Fin 128, (d (i 1).val (128 * (i 0).val + x.val) : EReal) * (v (i 2).val (128 * (i 0).val + x.val) : EReal)) = _
  simp only [← EReal.coe_mul]
  rw [coe_sum]
  exact congrArg _ (Fin.sum_univ_eq_sum_range (fun x => d (i 1).val (128 * (i 0).val + x) * v (i 2).val (128 * (i 0).val + x)) 128)

include hq hk in
theorem v39_at (j : S8x4096x1.Idx) : val_main_v39 (F := Ideal) x0 x1 j
    = ((1 / (total q k (rowMax x0 x1) scR (j 0).val (j 1).val * total q k (rowMax x0 x1) scR (j 0).val (j 1).val) : ℝ) : EReal) := by
  rw [val_main_v39_apply, val_main_v38_apply, val_main_cst_10_apply, one_eq, val_main_v37_apply, v34_at x0 x1 q k hq hk]
  have hp := (total_pos q k (rowMax x0 x1) scR (h := (j 0).val) (j 1).isLt).ne'
  rw [Ideal.mulf_def, ← EReal.coe_mul, ← EReal.coe_one]
  exact div_coe_coe _ (mul_ne_zero hp hp)

include hq hk hv hd in
theorem v53_at (j : S8x4096.Idx) : val_main_v53 (F := Ideal) x0 x1 x2 x3 j
    = ((∑ c ∈ Finset.range 4096, dprob v d (j 0).val (j 1).val c
        * (1 / (total q k (rowMax x0 x1) scR (j 0).val (j 1).val * total q k (rowMax x0 x1) scR (j 0).val (j 1).val))
        * expo q k (rowMax x0 x1) scR (j 0).val (j 1).val c : ℝ) : EReal) := by
  rw [val_main_v53_apply, val_main_cst_11_apply, zero_eq, zero_add]
  simp only [val_main_v52_apply, val_main_v51_apply, val_main_v50_apply, v46_at x2 x3 v d hv hd, v39_at x0 x1 q k hq hk, v32_at x0 x1 q k hq hk,
    Ideal.mulf_def, ← EReal.coe_mul]
  rw [coe_sum]
  exact congrArg _ (Fin.sum_univ_eq_sum_range (fun c => dprob v d (j 0).val (j 1).val c
        * (1 / (total q k (rowMax x0 x1) scR (j 0).val (j 1).val * total q k (rowMax x0 x1) scR (j 0).val (j 1).val))
        * expo q k (rowMax x0 x1) scR (j 0).val (j 1).val c) 4096)

include hq hk hv hd in
theorem v54_at (j : S8x4096x1.Idx) : val_main_v54 (F := Ideal) x0 x1 x2 x3 j
    = ((∑ c ∈ Finset.range 4096, dprob v d (j 0).val (j 1).val c
        * (1 / (total q k (rowMax x0 x1) scR (j 0).val (j 1).val * total q k (rowMax x0 x1) scR (j 0).val (j 1).val))
        * expo q k (rowMax x0 x1) scR (j 0).val (j 1).val c : ℝ) : EReal) := by
  have h0 : (j 0).val < 8 := (j 0).isLt
  have h1 : (j 1).val < 4096 := (j 1).isLt
  have h2 : (j 2).val < 1 := (j 2).isLt
  rw [val_main_v54_apply, v53_at x0 x1 x2 x3 q k v d hq hk hv hd]
  have e0 : (idx_main_v54 j 0).val = (j 0).val := by
    show (((j 0).val * 4096 + (j 1).val) * 1 + (j 2).val) / 4096 = _; omega
  have e1 : (idx_main_v54 j 1).val = (j 1).val := by
    show (((j 0).val * 4096 + (j 1).val) * 1 + (j 2).val) % 4096 = _; omega
  rw [e0, e1]

include hq hk hv hd in
theorem v64_at (i : S8x4096x4096.Idx) : val_main_v64 (F := Ideal) x0 x1 x2 x3 i
    = (dscore q k v d (rowMax x0 x1) scR (i 0).val (i 1).val (i 2).val : EReal) := by
  have e61 : val_main_v61 (F := Ideal) x0 x1 x2 x3 i = (((dprob v d (i 0).val (i 1).val (i 2).val / total q k (rowMax x0 x1) scR (i 0).val (i 1).val
      + -(∑ c ∈ Finset.range 4096, dprob v d (i 0).val (i 1).val c
        * (1 / (total q k (rowMax x0 x1) scR (i 0).val (i 1).val * total q k (rowMax x0 x1) scR (i 0).val (i 1).val))
        * expo q k (rowMax x0 x1) scR (i 0).val (i 1).val c)) * expo q k (rowMax x0 x1) scR (i 0).val (i 1).val (i 2).val : ℝ) : EReal) := by
    rw [val_main_v61_apply, v32_at x0 x1 q k hq hk, val_main_v60_apply, val_main_v59_apply, val_main_v58_apply, val_main_cst_12_apply, zero_eq, zero_add,
      Fin.sum_univ_one, val_main_v55_apply, v54_at x0 x1 x2 x3 q k v d hq hk hv hd, val_main_v57_apply, v46_at x2 x3 v d hv hd,
      val_main_v56_apply, v34_at x0 x1 q k hq hk]
    have ed := div_coe_coe (dprob v d (i 0).val (i 1).val (i 2).val) (total_pos q k (rowMax x0 x1) scR (h := (i 0).val) (i 1).isLt).ne'
    rw [EReal.coe_mul, EReal.coe_add, EReal.coe_neg, ← ed]
    rfl
  rw [val_main_v64_apply, val_main_v62_apply, v11_1_at, e61, val_main_v63_apply, val_main_cst_13_apply, sc_coe, val_main_call1_v0_apply, val_main_call1_cst_apply, zero_eq]
  unfold dscore
  split
  · exact (EReal.coe_mul _ _).symm
  · exact zero_mul _

/-! ## The reference's three results -/

theorem head_div (R X : ℕ) (hX : X < 1024) : (R * 1024 + X) / 128 % 8 = X / 128 ∧ 128 * (X / 128) + (R * 1024 + X) % 128 = X ∧ (R * 1024 + X) / 1024 = R := by
  omega

include hq hk hv hd in
/-- The gradient of the keys. -/
theorem dk_ref (i : S4096x1024.Idx) : val_main_v71 (F := Ideal) x0 x1 x2 x3 i
    = ∑ r ∈ Finset.range 4096, (dscore q k v d (rowMax x0 x1) scR ((i 1).val / 128) r (i 0).val : EReal) * (q r (i 1).val : EReal) := by
  obtain ⟨e1, e2, e3⟩ := head_div (i 0).val (i 1).val (i 1).isLt
  rw [val_main_v71_apply, Ideal.truncf_def, val_main_v69_apply, val_main_v66_apply, val_main_v65_apply]
  simp only [v64_at x0 x1 x2 x3 q k v d hq hk hv hd, v0_at, hq]
  show (∑ r : Fin 4096, (dscore q k v d (rowMax x0 x1) scR (((i 0).val * 1024 + (i 1).val) / 128 % 8) r.val (((i 0).val * 1024 + (i 1).val) / 1024) : EReal)
    * (q r.val (128 * (((i 0).val * 1024 + (i 1).val) / 128 % 8) + ((i 0).val * 1024 + (i 1).val) % 128) : EReal)) = _
  rw [e1, e2, e3]
  exact sum_fin 4096 (fun r => (dscore q k v d (rowMax x0 x1) scR ((i 1).val / 128) r (i 0).val : EReal) * (q r (i 1).val : EReal))

include hq hk hv hd in
/-- The gradient of the queries. -/
theorem dq_ref (i : S4096x1024.Idx) : val_main_v70 (F := Ideal) x0 x1 x2 x3 i
    = ∑ c ∈ Finset.range 4096, (dscore q k v d (rowMax x0 x1) scR ((i 1).val / 128) (i 0).val c : EReal) * (k c (i 1).val : EReal) := by
  obtain ⟨e1, e2, e3⟩ := head_div (i 0).val (i 1).val (i 1).isLt
  rw [val_main_v70_apply, val_main_v68_apply, val_main_v67_apply]
  simp only [v64_at x0 x1 x2 x3 q k v d hq hk hv hd, v1_at, hk]
  show (∑ r : Fin 4096, (dscore q k v d (rowMax x0 x1) scR (((i 0).val * 1024 + (i 1).val) / 128 % 8) (((i 0).val * 1024 + (i 1).val) / 1024) r.val : EReal)
    * (k r.val (128 * (((i 0).val * 1024 + (i 1).val) / 128 % 8) + ((i 0).val * 1024 + (i 1).val) % 128) : EReal)) = _
  rw [e1, e2, e3]
  exact sum_fin 4096 (fun c => (dscore q k v d (rowMax x0 x1) scR ((i 1).val / 128) (i 0).val c : EReal) * (k c (i 1).val : EReal))

include hq hk hd in
/-- The gradient of the values. -/
theorem dv_ref (i : S4096x1024.Idx) : val_main_v72 (F := Ideal) x0 x1 x3 i
    = ∑ r ∈ Finset.range 4096, (d r (i 1).val : EReal) * ((expo q k (rowMax x0 x1) scR ((i 1).val / 128) r (i 0).val / total q k (rowMax x0 x1) scR ((i 1).val / 128) r : ℝ) : EReal) := by
  obtain ⟨e1, e2, e3⟩ := head_div (i 0).val (i 1).val (i 1).isLt
  rw [val_main_v72_apply, Ideal.truncf_def, val_main_v49_apply, val_main_v48_apply, val_main_v47_apply]
  simp only [v36_at x0 x1 q k hq hk, v45_at, hd]
  show (∑ r : Fin 4096, (d r.val (128 * (((i 0).val * 1024 + (i 1).val) / 128 % 8) + ((i 0).val * 1024 + (i 1).val) % 128) : EReal)
    * ((expo q k (rowMax x0 x1) scR (((i 0).val * 1024 + (i 1).val) / 128 % 8) r.val (((i 0).val * 1024 + (i 1).val) / 1024)
        / total q k (rowMax x0 x1) scR (((i 0).val * 1024 + (i 1).val) / 128 % 8) r.val : ℝ) : EReal)) = _
  rw [e1, e2, e3]
  exact sum_fin 4096 (fun r => (d r (i 1).val : EReal) * ((expo q k (rowMax x0 x1) scR ((i 1).val / 128) r (i 0).val / total q k (rowMax x0 x1) scR ((i 1).val / 128) r : ℝ) : EReal))

end Cert.Flash
-- ==== Proof.HostValue.lean ====
module

public import proofs.«01_k».proof.Proof.Prefix
public import proofs.«01_k».proof.Proof.RefValue

@[expose] public section

set_option maxRecDepth 16384

noncomputable section

namespace Cert.KernelIdeal.Flash

open Idealize.ShloMosaic Idealize.ShloMosaic.TcCoe Idealize.SL.Sem Cert.Flash
open Cert.KernelIdeal Cert.KernelIdeal.Gen
open Cert.ReferenceIdeal.Read
open scoped BigOperators

/-! ## The row's log-sum and the row's output times its gradient, for arguments that are numbers -/

variable (x0 x1 x2 x3 : (⟨S4096x1024, .f32⟩ : BufTy).Contents (Elt Ideal))

theorem hMax_eq : hMax x0 x1 = val_main_v29 (F := Ideal) x0 x1 := by
  unfold hMax; rw [← v19_eq]; rfl
theorem hExp_eq : hExp x0 x1 = val_main_v32 (F := Ideal) x0 x1 := by
  unfold hExp; rw [hMax_eq]; rfl
theorem hSum_eq : hSum x0 x1 = val_main_v34 (F := Ideal) x0 x1 := by
  unfold hSum; rw [hExp_eq]; rfl
theorem hOut_eq : hOut x0 x1 x2 = val_main_v42 (F := Ideal) x0 x1 x2 := by
  unfold hOut; rw [hExp_eq, hSum_eq]; rfl

theorem addf_log_apply {s : Shape} (a b : FVec Ideal s .f32) (j : s.Idx) : addf a (Host.log b) j = a j + Ideal.log (b j) := rfl
theorem mulf_apply' {s : Shape} (a b : FVec Ideal s .f32) (j : s.Idx) : mulf a b j = a j * b j := rfl

/-- The lanes of a head, read at a row and a column. -/
theorem lanes_apply (y : FVec Ideal S4096x8x1 .f32) (R : Fin 4096) (X : Fin 1024) :
    shapeCast S4096x1024 (broadcastInDim S4096x8x128 ![0, 1, 2] bcast_S4096x8x1_S4096x8x128_0_1_2 y) shapeCasts_S4096x8x128_S4096x1024 (ix2 R X)
      = y (ix3 R ⟨X.val / 128, by have := X.isLt; omega⟩ 0) := by
  have hX := X.isLt
  refine (shapeCast_apply _ shapeCasts_S4096x8x128_S4096x1024 (ix2 R X) (ix3 R (⟨X.val / 128, by omega⟩ : Fin 8) (⟨X.val % 128, by omega⟩ : Fin 128))
    (by rewrite [Shape.rowMajor_val_three, Shape.rowMajor_val_two]; show (R.val * 8 + X.val / 128) * 128 + X.val % 128 = R.val * 1024 + X.val; omega)).trans ?_
  exact broadcastInDim_apply _ bcast_S4096x8x1_S4096x8x128_0_1_2 y _ _ (fun a => match a with
    | ⟨0, _⟩ => by show R.val = if (4096 : Nat) = 1 then 0 else R.val; rw [if_neg (by decide)]
    | ⟨1, _⟩ => by show X.val / 128 = if (8 : Nat) = 1 then 0 else X.val / 128; rw [if_neg (by decide)]
    | ⟨2, _⟩ => by show 0 = if (1 : Nat) = 1 then 0 else X.val % 128; rw [if_pos rfl])

variable (q k v d : ℕ → ℕ → ℝ)
  (hq : ∀ r c, at2 (m := 4096) (n := 1024) x0 r c = (q r c : EReal)) (hk : ∀ r c, at2 (m := 4096) (n := 1024) x1 r c = (k r c : EReal))
  (hv : ∀ r c, at2 (m := 4096) (n := 1024) x2 r c = (v r c : EReal)) (hd : ∀ r c, at2 (m := 4096) (n := 1024) x3 r c = (d r c : EReal))

include hq hk in
theorem hLse_at (j : S8x4096x1.Idx) : hLse x0 x1 j
    = ((rowMax x0 x1 (j 0).val (j 1).val + Real.log (total q k (rowMax x0 x1) scR (j 0).val (j 1).val) : ℝ) : EReal) := by
  unfold hLse
  rw [hMax_eq, hSum_eq]
  refine (addf_log_apply _ _ j).trans ?_
  rw [v34_at x0 x1 q k hq hk, val_main_v29_apply, v19_eq, v12_at x0 x1 q k hq hk, log_coe_pos (total_pos q k (rowMax x0 x1) scR (j 1).isLt), EReal.coe_add]

include hq hk in
theorem lseLanes_at (R : Fin 4096) (X : Fin 1024) : hLseLanes x0 x1 (ix2 R X)
    = ((rowMax x0 x1 (X.val / 128) R.val + Real.log (total q k (rowMax x0 x1) scR (X.val / 128) R.val) : ℝ) : EReal) := by
  unfold hLseLanes
  rw [lanes_apply]
  refine (transpose_apply [1, 0, 2] (hLse x0 x1) transposes_S8x4096x1_S4096x8x1_1_0_2 _ (ix3 (⟨X.val / 128, by have := X.isLt; omega⟩ : Fin 8) R (0 : Fin 1)) (fun b => match b with
    | ⟨0, _⟩ => rfl
    | ⟨1, _⟩ => rfl
    | ⟨2, _⟩ => rfl)).trans ?_
  exact hLse_at x0 x1 q k hq hk _

include hq hk hv in
theorem v42_at (i : S4096x8x128.Idx) : val_main_v42 (F := Ideal) x0 x1 x2 i = (outp q k v (rowMax x0 x1) scR (i 1).val (i 0).val (i 2).val : EReal) := by
  rw [val_main_v42_apply, val_main_v41_apply]
  simp only [v36_at x0 x1 q k hq hk, v40_at, hv, ← EReal.coe_mul]
  rw [coe_sum]
  exact congrArg _ (Fin.sum_univ_eq_sum_range (fun c => v c (128 * (i 1).val + (i 2).val) * (expo q k (rowMax x0 x1) scR (i 1).val (i 0).val c / total q k (rowMax x0 x1) scR (i 1).val (i 0).val)) 4096)

include hq hk hv hd in
theorem deltaLanes_at (R : Fin 4096) (X : Fin 1024) : hDeltaLanes x0 x1 x2 x3 (ix2 R X) = (delta q k v d (rowMax x0 x1) scR (X.val / 128) R.val : EReal) := by
  unfold hDeltaLanes
  rw [lanes_apply]
  unfold hDelta
  refine (broadcastInDim_apply _ bcast_S4096x8_S4096x8x1_0_1 _ _ (ix2 R (⟨X.val / 128, by have := X.isLt; omega⟩ : Fin 8)) (fun a => match a with
    | ⟨0, _⟩ => by show R.val = if (4096 : Nat) = 1 then 0 else R.val; rw [if_neg (by decide)]
    | ⟨1, _⟩ => by show X.val / 128 = if (8 : Nat) = 1 then 0 else X.val / 128; rw [if_neg (by decide)])).trans ?_
  simp only [Host.reduceAdd, Ideal.hostReduceAdd_def]
  rw [Ideal.hostReduceAdd_single reducesTo_S4096x8x128_S4096x8_d2 (by decide)]
  refine (congrArg (· + _) (show constant (F := Ideal) S_ .f32 0x00000000#32 (Shape.Idx.first h_S_) = (0 : EReal) from zero_eq)).trans ?_
  rw [zero_add, hOut_eq]
  refine (Finset.sum_congr rfl fun x _ => ?_).trans ((coe_sum Finset.univ fun x : Fin 128 => d R.val (128 * (X.val / 128) + x.val) * outp q k v (rowMax x0 x1) scR (X.val / 128) R.val x.val).trans ?_)
  · refine (mulf_apply' _ _ _).trans ?_
    rw [v42_at x0 x1 x2 q k v hq hk hv, v44_at, hd, EReal.coe_mul]
    rfl
  · exact congrArg _ (Fin.sum_univ_eq_sum_range (fun x => d R.val (128 * (X.val / 128) + x) * outp q k v (rowMax x0 x1) scR (X.val / 128) R.val x) 128)

end Cert.KernelIdeal.Flash
-- ==== Proof.Equation.lean ====
module

public import proofs.«01_k».proof.Proof.Global
public import proofs.«01_k».proof.Proof.HostValue

@[expose] public section

set_option maxRecDepth 16384

noncomputable section

namespace Cert.KernelIdeal.Flash

open Idealize.ShloMosaic Idealize.ShloMosaic.TcCoe Idealize.SL.Sem Cert.Flash
open Cert.KernelIdeal Cert.KernelIdeal.Gen
open Cert.ReferenceIdeal.Read
open scoped BigOperators

/-! ## The three results are the reference's, for arguments that are numbers -/

section pieces
variable (x0 x1 x2 x3 : (⟨2, ![4096, 1024]⟩ : Shape).Idx → EReal) (lA eA : (⟨2, ![4096, 1024]⟩ : Shape).Idx → EReal)
variable (q k v d M : ℕ → ℕ → ℝ)
  (hq : ∀ r c, at2 x0 r c = (q r c : EReal)) (hk : ∀ r c, at2 x1 r c = (k r c : EReal))
  (hv : ∀ r c, at2 x2 r c = (v r c : EReal)) (hd : ∀ r c, at2 x3 r c = (d r c : EReal))
  (hl : ∀ (R : Fin 4096) (X : Fin 1024), lA (ix2 R X) = ((M (X.val / 128) R.val + Real.log (total q k M scR (X.val / 128) R.val) : ℝ) : EReal))
  (he : ∀ (R : Fin 4096) (X : Fin 1024), eA (ix2 R X) = (delta q k v d M scR (X.val / 128) R.val : EReal))

theorem sc_real : sc = (scR : EReal) := sc_coe

include hq hk hl in
theorem PA_real {h r c : ℕ} (hh : h < 8) (hr : r < 4096) :
    PA x1 x0 lA (128 * h) r c = ((expo q k M scR h r c / total q k M scR h r : ℝ) : EReal) := by
  unfold PA
  by_cases hc : c ≤ r
  · rw [if_pos hc, ← prob_eq q k M scR hr hc, at2_lt lA hr (show 128 * h < 1024 by omega), hl]
    simp only [hq, hk, ← EReal.coe_mul, Nat.mul_div_cancel_left h (show 0 < 128 by decide)]
    rw [coe_sum, sc_real, ← EReal.coe_mul]
    exact exp_sub_coe _ _
  · rw [if_neg hc]
    unfold expo
    rw [if_neg hc, zero_div]
    rfl

include hq hk hv hd hl he in
theorem GA_real {h r c : ℕ} (hh : h < 8) (hr : r < 4096) :
    GA x1 x2 x0 x3 lA eA (128 * h) r c = (dscore q k v d M scR h r c : EReal) := by
  have hp := PA_real x0 x1 lA q k M hq hk hl (c := c) hh hr
  unfold PA at hp
  unfold GA
  by_cases hc : c ≤ r
  · rw [if_pos hc] at hp ⊢
    rw [hp, ← dscore_eq q k v d M scR hr hc, at2_lt eA hr (show 128 * h < 1024 by omega), he]
    simp only [hd, hv, ← EReal.coe_mul, Nat.mul_div_cancel_left h (show 0 < 128 by decide)]
    rw [coe_sum, sc_real, ← EReal.coe_sub, ← EReal.coe_mul, ← EReal.coe_mul]
    rfl
  · rw [if_neg hc]
    unfold dscore
    rw [if_neg hc]
    rfl

end pieces

section results
variable (x0 x1 x2 x3 : (⟨S4096x1024, .f32⟩ : BufTy).Contents (Elt Ideal))
variable (q k v d : ℕ → ℕ → ℝ)
  (hq : ∀ r c, at2 (m := 4096) (n := 1024) x0 r c = (q r c : EReal)) (hk : ∀ r c, at2 (m := 4096) (n := 1024) x1 r c = (k r c : EReal))
  (hv : ∀ r c, at2 (m := 4096) (n := 1024) x2 r c = (v r c : EReal)) (hd : ∀ r c, at2 (m := 4096) (n := 1024) x3 r c = (d r c : EReal))

include hq hk hv hd

/-- The gradient of the keys. -/
theorem dk_eq : dkA x1 x2 x0 x3 (hLseLanes x0 x1) (hDeltaLanes x0 x1 x2 x3) = val_main_v71 (F := Ideal) x0 x1 x2 x3 := by
  refine funext fun i => ?_
  have hi : (i 1).val < 1024 := (i 1).isLt
  refine Eq.trans ?_ (dk_ref x0 x1 x2 x3 q k v d hq hk hv hd i).symm
  refine Finset.sum_congr rfl fun r hr => congrArg₂ (· * ·) ?_ (hq _ _)
  exact GA_real x0 x1 x2 x3 _ _ q k v d (rowMax x0 x1) hq hk hv hd (lseLanes_at x0 x1 q k hq hk)
    (deltaLanes_at x0 x1 x2 x3 q k v d hq hk hv hd) (by omega) (Finset.mem_range.mp hr)

/-- The gradient of the queries. -/
theorem dq_eq : dqA x1 x2 x0 x3 (hLseLanes x0 x1) (hDeltaLanes x0 x1 x2 x3) = val_main_v70 (F := Ideal) x0 x1 x2 x3 := by
  refine funext fun i => ?_
  have hi : (i 1).val < 1024 := (i 1).isLt
  refine Eq.trans ?_ (dq_ref x0 x1 x2 x3 q k v d hq hk hv hd i).symm
  refine Finset.sum_congr rfl fun c _ => congrArg₂ (· * ·) ?_ (hk _ _)
  exact GA_real x0 x1 x2 x3 _ _ q k v d (rowMax x0 x1) hq hk hv hd (lseLanes_at x0 x1 q k hq hk)
    (deltaLanes_at x0 x1 x2 x3 q k v d hq hk hv hd) (by omega) (i 0).isLt

omit hv in
/-- The gradient of the values. -/
theorem dv_eq : dvA x1 x0 x3 (hLseLanes x0 x1) = val_main_v72 (F := Ideal) x0 x1 x3 := by
  refine funext fun i => ?_
  have hi : (i 1).val < 1024 := (i 1).isLt
  refine Eq.trans ?_ (dv_ref x0 x1 x3 q k d hq hk hd i).symm
  refine Finset.sum_congr rfl fun r hr => (mul_comm _ _).trans (congrArg₂ (· * ·) (hd _ _) ?_)
  exact PA_real x0 x1 _ q k (rowMax x0 x1) hq hk (lseLanes_at x0 x1 q k hq hk) (by omega) (Finset.mem_range.mp hr)

end results

end Cert.KernelIdeal.Flash
-- ==== Proof.Value.lean ====
module

public import proofs.«01_k».proof.Proof.Equation

@[expose] public section

noncomputable section

namespace Cert.KernelIdeal.Flash

open Idealize.ShloMosaic Idealize.ShloMosaic.TcCoe Cert.Flash
open Idealize.SL Idealize.SL.Sem
open Cert.KernelIdeal Cert.KernelIdeal.Gen

variable (m : (ℓ : Loc nD τ sig) → Buf (Elt Ideal) ℓ) (ρ : Dev nD → PrngReg) (c : Dev nD)

/-! ## What a run of the kernel leaves -/

theorem run : θ_run defs (onTc (τ := τ) (main (F := Ideal))) ⟨m, fun _ => 0, ρ⟩ fun r => ∀ c : Dev nD,
      (r.2.mem ((c.tc : Thread nD τ).loc main_v39_0) = (dats m 0 c).arrAt 6 cfg0.N
      ∧ r.2.mem ((c.tc : Thread nD τ).loc main_v39_1) = (dats m 0 c).arrAt 7 cfg0.N
      ∧ r.2.mem ((c.tc : Thread nD τ).loc main_v39_2) = (dats m 0 c).arrAt 8 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨⟨(h.1.1 c).1 6, (h.1.1 c).1 7, (h.1.1 c).1 8⟩, h.2.1 c⟩)
    (θ_run_and (run_quiescent m ρ) (frame m ρ))

section
variable (q k v d : ℕ → ℕ → ℝ)
  (hq : ∀ r x, at2 (m := 4096) (n := 1024) (m ((c.tc : Thread nD τ).loc main_arg0)) r x = (q r x : EReal))
  (hk : ∀ r x, at2 (m := 4096) (n := 1024) (m ((c.tc : Thread nD τ).loc main_arg1)) r x = (k r x : EReal))
  (hv : ∀ r x, at2 (m := 4096) (n := 1024) (m ((c.tc : Thread nD τ).loc main_arg2)) r x = (v r x : EReal))
  (hd : ∀ r x, at2 (m := 4096) (n := 1024) (m ((c.tc : Thread nD τ).loc main_arg3)) r x = (d r x : EReal))
include hq hk hv hd

theorem dk_result : (dats m 0 c).arrAt 6 cfg0.N = Cert.ReferenceIdeal.Read.val_main_v71 (F := Ideal) (m ((c.tc : Thread nD τ).loc main_arg0)) (m ((c.tc : Thread nD τ).loc main_arg1)) (m ((c.tc : Thread nD τ).loc main_arg2)) (m ((c.tc : Thread nD τ).loc main_arg3)) := by
  refine (final6 m c).trans ?_
  unfold kV vV qV dV lV eV
  rw [V_v36, V_v38, V_v30, V_v31, V_v32, V_v33]
  exact dk_eq _ _ _ _ q k v d hq hk hv hd

theorem dq_result : (dats m 0 c).arrAt 8 cfg0.N = Cert.ReferenceIdeal.Read.val_main_v70 (F := Ideal) (m ((c.tc : Thread nD τ).loc main_arg0)) (m ((c.tc : Thread nD τ).loc main_arg1)) (m ((c.tc : Thread nD τ).loc main_arg2)) (m ((c.tc : Thread nD τ).loc main_arg3)) := by
  refine (final8 m c).trans ?_
  unfold kV vV qV dV lV eV
  rw [V_v36, V_v38, V_v30, V_v31, V_v32, V_v33]
  exact dq_eq _ _ _ _ q k v d hq hk hv hd

omit hv in
theorem dv_result : (dats m 0 c).arrAt 7 cfg0.N = Cert.ReferenceIdeal.Read.val_main_v72 (F := Ideal) (m ((c.tc : Thread nD τ).loc main_arg0)) (m ((c.tc : Thread nD τ).loc main_arg1)) (m ((c.tc : Thread nD τ).loc main_arg3)) := by
  refine (final7 m c).trans ?_
  unfold kV qV dV lV
  rw [V_v36, V_v30, V_v31, V_v33]
  exact dv_eq _ _ _ q k d hq hk hd

end

end Cert.KernelIdeal.Flash
-- ==== Proof.WeightStep.lean ====
module

public import proofs.«01_k».proof.Proof.Gen.Kernel2Ideal.Value
public import proofs.«01_k».proof.Proof.Base
public import Idealize.ShloMosaic.Lib.Pipeline.Value

@[expose] public section

set_option maxRecDepth 16384

noncomputable section

namespace Cert.Kernel2Ideal.Weight

open Idealize.ShloMosaic Idealize.ShloMosaic.TcCoe Cert.Flash
open Idealize.SL Idealize.SL.Sem
open Cert.Kernel2Ideal Cert.Kernel2Ideal.Gen
open scoped BigOperators

variable (m : (ℓ : Loc nD τ sig) → Buf (Elt Ideal) ℓ) (c : Dev nD)

/-- A load of a whole memref's own sizes reads its contents. -/
theorem load_whole {S : Shape} {e : EltTy} {cs : Space} (r : Memref sig .tc cs S e) (h : r.IsWhole) (x : S.Idx → Elt Ideal e) {off : Fin S.rank → ℕ}
    (inb : ∀ a, off a + S.size a ≤ S.size a) :
    r.view.readAt (Elt Ideal) (Rect.unit off S.size inb).toLoadRect (h.unread x) = x := by
  rw [View.readAt_full, h.read_unread]

/-! ## What a grid point leaves in the two accumulators and the two results' blocks -/

theorem gu_first (t : Fin cfg0.N) (h : t.val % 4 = 0) :
    (outsAt0 m c t.val t.isLt).2.2.1 = k0_pay3 (F := Ideal) (iblk m c 2 t) (iblk m c 0 t) := by
  rw [outsAt0_A m c t h (by omega) (by omega)]
  dsimp only
  unfold sout0_A_0 kernelRun0_A
  dsimp only
  rw [View.read_writes_full]
  exact congrArg₂ k0_pay3 (load_whole _ _ _ _) (load_whole _ _ _ _)

theorem gu_later (t : Fin cfg0.N) (h : ¬t.val % 4 = 0) :
    (outsAt0 m c t.val t.isLt).2.2.1 = k0_pay5 (F := Ideal) (iblk m c 2 t) (iblk m c 0 t) (outsAt0 m c (t.val - 1) (by have := t.isLt; omega)).2.2.1 := by
  by_cases h3 : t.val % 4 = 3
  · rw [outsAt0_C m c t h (by omega) h3]
    dsimp only
    unfold sout0_C_0 kernelRun0_C
    dsimp only
    unfold kernelRun0_C.sl.HS0_1
    rw [View.read_writes_full]
    exact congr (congrArg₂ k0_pay5 (load_whole _ _ _ _) (load_whole _ _ _ _)) (load_whole _ _ _ _)
  · rw [outsAt0_B m c t h (by omega) h3]
    dsimp only
    unfold sout0_B_0 kernelRun0_B
    dsimp only
    rw [View.read_writes_full]
    exact congr (congrArg₂ k0_pay5 (load_whole _ _ _ _) (load_whole _ _ _ _)) (load_whole _ _ _ _)

theorem gu_out (t : Fin cfg0.N) (h : t.val % 4 = 3) :
    (outsAt0 m c t.val t.isLt).1 = k0_pay7 (F := Ideal) (outsAt0 m c t.val t.isLt).2.2.1 := by
  rw [outsAt0_C m c t (by omega) (by omega) h]
  dsimp only
  unfold out0_C_4 sout0_C_0 kernelRun0_C
  dsimp only
  rw [View.read_writes_full]
  unfold kernelRun0_C.sl.v19 kernelRun0_C.sl.HS0_1
  rw [View.read_writes_full, View.readCov_full]

/-! The products of a point's blocks. -/

/-- An entry of the product of two blocks over their rows. -/
def blockSum {R : ℕ} (a : (⟨2, ![1024, R]⟩ : Shape).Idx → EReal) (b : (⟨2, ![1024, 1024]⟩ : Shape).Idx → EReal) (r : Fin R) (x : Fin 1024) : EReal :=
  ∑ k : Fin 1024, a (ix2 k r) * b (ix2 k x)

theorem gu_first_apply (a : FVec Ideal S1024x1536 .bf16) (b : FVec Ideal S1024x1024 .bf16) (r : Fin 1536) (x : Fin 1024) :
    k0_pay3 (F := Ideal) a b (ix2 r x) = blockSum a b r x := by
  unfold blockSum
  simp only [k0_pay3, k0_pay1, shapeCast_self]
  pointwise

theorem gu_later_apply (a : FVec Ideal S1024x1536 .bf16) (b : FVec Ideal S1024x1024 .bf16) (y : FVec Ideal S1536x1024 .f32) (r : Fin 1536) (x : Fin 1024) :
    k0_pay5 (F := Ideal) a b y (ix2 r x) = y (ix2 r x) + blockSum a b r x := by
  unfold blockSum
  simp only [k0_pay5, k0_pay1, shapeCast_self]
  pointwise

theorem gu_out_apply (y : FVec Ideal S1536x1024 .f32) (r : Fin 1536) (x : Fin 1024) : k0_pay7 (F := Ideal) y (ix2 r x) = y (ix2 r x) := by
  simp only [k0_pay7]
  pointwise

theorem d_first (t : Fin cfg0.N) (h : t.val % 4 = 0) :
    (outsAt0 m c t.val t.isLt).2.2.2 = k0_pay4 (F := Ideal) (iblk m c 1 t) (iblk m c 3 t) := by
  rw [outsAt0_A m c t h (by omega) (by omega)]
  dsimp only
  unfold sout0_A_1 kernelRun0_A
  dsimp only
  rw [View.read_writes_full]
  exact congrArg₂ k0_pay4 (load_whole _ _ _ _) (load_whole _ _ _ _)

theorem d_later (t : Fin cfg0.N) (h : ¬t.val % 4 = 0) :
    (outsAt0 m c t.val t.isLt).2.2.2 = k0_pay6 (F := Ideal) (iblk m c 1 t) (iblk m c 3 t) (outsAt0 m c (t.val - 1) (by have := t.isLt; omega)).2.2.2 := by
  by_cases h3 : t.val % 4 = 3
  · rw [outsAt0_C m c t h (by omega) h3]
    dsimp only
    unfold sout0_C_1 kernelRun0_C
    dsimp only
    unfold kernelRun0_C.sl.HS1_1
    rw [View.read_writes_full]
    exact congr (congrArg₂ k0_pay6 (load_whole _ _ _ _) (load_whole _ _ _ _)) (load_whole _ _ _ _)
  · rw [outsAt0_B m c t h (by omega) h3]
    dsimp only
    unfold sout0_B_1 kernelRun0_B
    dsimp only
    rw [View.read_writes_full]
    exact congr (congrArg₂ k0_pay6 (load_whole _ _ _ _) (load_whole _ _ _ _)) (load_whole _ _ _ _)

theorem d_out (t : Fin cfg0.N) (h : t.val % 4 = 3) :
    (outsAt0 m c t.val t.isLt).2.1 = k0_pay8 (F := Ideal) (outsAt0 m c t.val t.isLt).2.2.2 := by
  rw [outsAt0_C m c t (by omega) (by omega) h]
  dsimp only
  unfold out0_C_5 sout0_C_1 kernelRun0_C
  dsimp only
  rw [View.read_writes_full]
  unfold kernelRun0_C.sl.v22 kernelRun0_C.sl.HS1_1
  rw [View.read_writes_full, View.readCov_full]

theorem d_first_apply (a : FVec Ideal S1024x768 .bf16) (b : FVec Ideal S1024x1024 .bf16) (r : Fin 768) (x : Fin 1024) :
    k0_pay4 (F := Ideal) a b (ix2 r x) = blockSum a b r x := by
  unfold blockSum
  simp only [k0_pay4, k0_pay2, shapeCast_self]
  pointwise

theorem d_later_apply (a : FVec Ideal S1024x768 .bf16) (b : FVec Ideal S1024x1024 .bf16) (y : FVec Ideal S768x1024 .f32) (r : Fin 768) (x : Fin 1024) :
    k0_pay6 (F := Ideal) a b y (ix2 r x) = y (ix2 r x) + blockSum a b r x := by
  unfold blockSum
  simp only [k0_pay6, k0_pay2, shapeCast_self]
  pointwise

theorem d_out_apply (y : FVec Ideal S768x1024 .f32) (r : Fin 768) (x : Fin 1024) : k0_pay8 (F := Ideal) y (ix2 r x) = y (ix2 r x) := by
  simp only [k0_pay8]
  pointwise

end Cert.Kernel2Ideal.Weight
-- ==== Proof.WeightSum.lean ====
module

public import proofs.«01_k».proof.Proof.WeightStep
public import proofs.«01_k».proof.Proof.Gen.Reference2Ideal.Read

@[expose] public section

set_option maxRecDepth 16384

noncomputable section

namespace Cert.Kernel2Ideal.Weight

open Idealize.ShloMosaic Idealize.ShloMosaic.TcCoe Cert.Flash
open Idealize.SL Idealize.SL.Sem
open Cert.Kernel2Ideal Cert.Kernel2Ideal.Gen
open scoped BigOperators

variable (m : (ℓ : Loc nD τ sig) → Buf (Elt Ideal) ℓ) (c : Dev nD)

/-! ## The blocks of the arrays: a point `t` is at row block `t / 4` of the results and row block `t % 4` of the operands -/

theorem lt16 (t : Fin cfg0.N) : t.val < 16 := Nat.lt_of_lt_of_eq t.isLt N_0

theorem index0 : ∀ t : Fin grid0.N, win0_0.index t 0 = t.val % 4 ∧ win0_0.index t 1 = 0 := by decide +kernel
theorem index1 : ∀ t : Fin grid0.N, win0_1.index t 0 = t.val % 4 ∧ win0_1.index t 1 = t.val / 4 := by decide +kernel
theorem index2 : ∀ t : Fin grid0.N, win0_2.index t 0 = t.val % 4 ∧ win0_2.index t 1 = t.val / 4 := by decide +kernel
theorem index3 : ∀ t : Fin grid0.N, win0_3.index t 0 = t.val % 4 ∧ win0_3.index t 1 = 0 := by decide +kernel
theorem index4 : ∀ t : Fin grid0.N, win0_4.index t 0 = t.val / 4 ∧ win0_4.index t 1 = 0 := by decide +kernel
theorem index5 : ∀ t : Fin grid0.N, win0_5.index t 0 = t.val / 4 ∧ win0_5.index t 1 = 0 := by decide +kernel

theorem read0_apply (A : (⟨2, ![4096, 1024]⟩ : Shape).Idx → EReal) (t : Fin grid0.N) (r : Fin 1024) (x : Fin 1024) :
    (win0_0.blk t).view.read (Elt Ideal) A (ix2 r x) = at2 A (1024 * (t.val % 4) + r.val) (x.val) := by
  have ht : t.val < 16 := lt16 t
  have hr := r.isLt
  have hx := x.isLt
  have hi := index0 t
  rw [at2_lt A (show 1024 * (t.val % 4) + r.val < 4096 by omega) (show x.val < 1024 by omega), View.read_apply]
  refine congrArg A (funext fun a => Fin.ext ?_)
  match a with
  | ⟨0, _⟩ =>
    have e : win0_0.index t 0 * 1024 + 1 * r.val = 1024 * (t.val % 4) + r.val := by rw [hi.1]; omega
    exact e
  | ⟨1, _⟩ =>
    have e : win0_0.index t 1 * 1024 + 1 * x.val = x.val := by rw [hi.2]; omega
    exact e

theorem read1_apply (A : (⟨2, ![4096, 3072]⟩ : Shape).Idx → EReal) (t : Fin grid0.N) (r : Fin 1024) (x : Fin 768) :
    (win0_1.blk t).view.read (Elt Ideal) A (ix2 r x) = at2 A (1024 * (t.val % 4) + r.val) (768 * (t.val / 4) + x.val) := by
  have ht : t.val < 16 := lt16 t
  have hr := r.isLt
  have hx := x.isLt
  have hi := index1 t
  rw [at2_lt A (show 1024 * (t.val % 4) + r.val < 4096 by omega) (show 768 * (t.val / 4) + x.val < 3072 by omega), View.read_apply]
  refine congrArg A (funext fun a => Fin.ext ?_)
  match a with
  | ⟨0, _⟩ =>
    have e : win0_1.index t 0 * 1024 + 1 * r.val = 1024 * (t.val % 4) + r.val := by rw [hi.1]; omega
    exact e
  | ⟨1, _⟩ =>
    have e : win0_1.index t 1 * 768 + 1 * x.val = 768 * (t.val / 4) + x.val := by rw [hi.2]; omega
    exact e

theorem read2_apply (A : (⟨2, ![4096, 6144]⟩ : Shape).Idx → EReal) (t : Fin grid0.N) (r : Fin 1024) (x : Fin 1536) :
    (win0_2.blk t).view.read (Elt Ideal) A (ix2 r x) = at2 A (1024 * (t.val % 4) + r.val) (1536 * (t.val / 4) + x.val) := by
  have ht : t.val < 16 := lt16 t
  have hr := r.isLt
  have hx := x.isLt
  have hi := index2 t
  rw [at2_lt A (show 1024 * (t.val % 4) + r.val < 4096 by omega) (show 1536 * (t.val / 4) + x.val < 6144 by omega), View.read_apply]
  refine congrArg A (funext fun a => Fin.ext ?_)
  match a with
  | ⟨0, _⟩ =>
    have e : win0_2.index t 0 * 1024 + 1 * r.val = 1024 * (t.val % 4) + r.val := by rw [hi.1]; omega
    exact e
  | ⟨1, _⟩ =>
    have e : win0_2.index t 1 * 1536 + 1 * x.val = 1536 * (t.val / 4) + x.val := by rw [hi.2]; omega
    exact e

theorem read3_apply (A : (⟨2, ![4096, 1024]⟩ : Shape).Idx → EReal) (t : Fin grid0.N) (r : Fin 1024) (x : Fin 1024) :
    (win0_3.blk t).view.read (Elt Ideal) A (ix2 r x) = at2 A (1024 * (t.val % 4) + r.val) (x.val) := by
  have ht : t.val < 16 := lt16 t
  have hr := r.isLt
  have hx := x.isLt
  have hi := index3 t
  rw [at2_lt A (show 1024 * (t.val % 4) + r.val < 4096 by omega) (show x.val < 1024 by omega), View.read_apply]
  refine congrArg A (funext fun a => Fin.ext ?_)
  match a with
  | ⟨0, _⟩ =>
    have e : win0_3.index t 0 * 1024 + 1 * r.val = 1024 * (t.val % 4) + r.val := by rw [hi.1]; omega
    exact e
  | ⟨1, _⟩ =>
    have e : win0_3.index t 1 * 1024 + 1 * x.val = x.val := by rw [hi.2]; omega
    exact e

theorem read4_apply (A : (⟨2, ![6144, 1024]⟩ : Shape).Idx → EReal) (t : Fin grid0.N) (r : Fin 1536) (x : Fin 1024) :
    (win0_4.blk t).view.read (Elt Ideal) A (ix2 r x) = at2 A (1536 * (t.val / 4) + r.val) (x.val) := by
  have ht : t.val < 16 := lt16 t
  have hr := r.isLt
  have hx := x.isLt
  have hi := index4 t
  rw [at2_lt A (show 1536 * (t.val / 4) + r.val < 6144 by omega) (show x.val < 1024 by omega), View.read_apply]
  refine congrArg A (funext fun a => Fin.ext ?_)
  match a with
  | ⟨0, _⟩ =>
    have e : win0_4.index t 0 * 1536 + 1 * r.val = 1536 * (t.val / 4) + r.val := by rw [hi.1]; omega
    exact e
  | ⟨1, _⟩ =>
    have e : win0_4.index t 1 * 1024 + 1 * x.val = x.val := by rw [hi.2]; omega
    exact e

theorem read5_apply (A : (⟨2, ![3072, 1024]⟩ : Shape).Idx → EReal) (t : Fin grid0.N) (r : Fin 768) (x : Fin 1024) :
    (win0_5.blk t).view.read (Elt Ideal) A (ix2 r x) = at2 A (768 * (t.val / 4) + r.val) (x.val) := by
  have ht : t.val < 16 := lt16 t
  have hr := r.isLt
  have hx := x.isLt
  have hi := index5 t
  rw [at2_lt A (show 768 * (t.val / 4) + r.val < 3072 by omega) (show x.val < 1024 by omega), View.read_apply]
  refine congrArg A (funext fun a => Fin.ext ?_)
  match a with
  | ⟨0, _⟩ =>
    have e : win0_5.index t 0 * 768 + 1 * r.val = 768 * (t.val / 4) + r.val := by rw [hi.1]; omega
    exact e
  | ⟨1, _⟩ =>
    have e : win0_5.index t 1 * 1024 + 1 * x.val = x.val := by rw [hi.2]; omega
    exact e

/-! ## The host lines before the call change formats only -/

theorem V_v0 : (V m c main_v0 : (⟨2, ![4096, 1024]⟩ : Shape).Idx → EReal) = m ((c : Thread nD τ).loc main_arg0) := by
  simp only [V, hostOps0]
  after_results_simp
  rfl

theorem V_v1 : (V m c main_v1 : (⟨2, ![4096, 3072]⟩ : Shape).Idx → EReal) = m ((c : Thread nD τ).loc main_arg1) := by
  simp only [V, hostOps0]
  after_results_simp
  rfl

theorem V_v2 : (V m c main_v2 : (⟨2, ![4096, 6144]⟩ : Shape).Idx → EReal) = m ((c : Thread nD τ).loc main_arg2) := by
  simp only [V, hostOps0]
  after_results_simp
  rfl

theorem V_v3 : (V m c main_v3 : (⟨2, ![4096, 1024]⟩ : Shape).Idx → EReal) = m ((c : Thread nD τ).loc main_arg3) := by
  simp only [V, hostOps0]
  after_results_simp
  rfl

/-! ## The result dw_gu -/

/-- One row's part of an entry. -/
def guTerm (r x k : ℕ) : EReal := at2 (m := 4096) (n := 6144) (m ((c : Thread nD τ).loc main_arg2)) k r * at2 (m := 4096) (n := 1024) (m ((c : Thread nD τ).loc main_arg0)) k x

theorem gu_block (t : Fin cfg0.N) (r : Fin 1536) (x : Fin 1024) :
    blockSum (R := 1536) (iblk m c 2 t) (iblk m c 0 t) r x
      = ∑ k ∈ Finset.range 1024, guTerm m c (1536 * (t.val / 4) + r.val) x.val (1024 * (t.val % 4) + k) := by
  unfold blockSum
  rw [← Cert.Flash.sum_fin]
  refine Finset.sum_congr rfl fun k _ => ?_
  unfold guTerm
  rw [← V_v2 m c, ← V_v0 m c]
  exact congrArg₂ (fun p q : EReal => p * q) (read2_apply _ t k r) (read0_apply _ t k x)

/-- The accumulator after a point: the row blocks so far. -/
theorem gu_after (r : Fin 1536) (x : Fin 1024) : ∀ (n : ℕ) (hn : n < cfg0.N), (outsAt0 m c n hn).2.2.1 (ix2 r x)
    = ∑ k ∈ Finset.range (1024 * (n % 4 + 1)), guTerm m c (1536 * (n / 4) + r.val) x.val k := by
  intro n
  induction n with
  | zero =>
    intro hn
    refine (congrFun (gu_first m c ⟨0, hn⟩ rfl) (ix2 r x)).trans ((gu_first_apply _ _ r x).trans ((gu_block m c ⟨0, hn⟩ r x).trans ?_))
    refine Finset.sum_congr rfl fun k _ => ?_
    show guTerm m c (1536 * (0 / 4) + r.val) x.val (1024 * (0 % 4) + k) = _
    rw [show 1024 * (0 % 4) + k = k by omega]
  | succ n ih =>
    intro hn
    by_cases h : (n + 1) % 4 = 0
    · refine (congrFun (gu_first m c ⟨n + 1, hn⟩ h) (ix2 r x)).trans ((gu_first_apply _ _ r x).trans ((gu_block m c ⟨n + 1, hn⟩ r x).trans ?_))
      rw [h]
      refine Finset.sum_congr rfl fun k _ => ?_
      show guTerm m c (1536 * ((n + 1) / 4) + r.val) x.val (1024 * 0 + k) = _
      rw [show 1024 * 0 + k = k by omega]
    · refine (congrFun (gu_later m c ⟨n + 1, hn⟩ h) (ix2 r x)).trans ((gu_later_apply _ _ _ r x).trans ?_)
      rw [gu_block m c ⟨n + 1, hn⟩ r x, Nat.mul_succ, Finset.sum_range_add]
      refine congrArg₂ (· + ·) ((ih _).trans ?_) rfl
      rw [show n % 4 + 1 = (n + 1) % 4 by omega, show n / 4 = (n + 1) / 4 by omega]

/-- The result as an array. -/
def guA : (⟨2, ![6144, 1024]⟩ : Shape).Idx → EReal := fun i => ∑ k ∈ Finset.range 4096, guTerm m c (i 0 : Nat) (i 1 : Nat) k

theorem gu_flushed (t : Fin cfg0.N) (h : t.val % 4 = 3) : (dats m 0 c).flushed 4 t = (win0_4.blk t).view.read (Elt Ideal) (guA m c) := by
  funext y
  obtain ⟨r, x, rfl⟩ : ∃ (r : Fin 1536) (x : Fin 1024), y = ix2 r x := ⟨y 0, y 1, eq_ix2 (n0 := 1536) (n1 := 1024) y⟩
  have ht := lt16 t
  have hr := r.isLt
  have hx := x.isLt
  rw [read4_apply, at2_lt (m := 6144) (n := 1024) _ (show 1536 * (t.val / 4) + r.val < 6144 by omega) (show x.val < 1024 by omega)]
  refine (congrFun ((after0_4 m c t).trans (gu_out m c t h)) (ix2 r x)).trans ((gu_out_apply _ r x).trans ((gu_after m c r x t.val t.isLt).trans ?_))
  rw [h]
  rfl

theorem gu_mem (t : Fin cfg0.N) (i : S6144x1024.Idx) (h0 : (i 0 : Nat) / 1536 = t.val / 4) : i ∈ (win0_4.blk t).view.set := by
  have h1 : (i 1 : Nat) < 1024 := (i 1).isLt
  show i ∈ ((View.whole main_v4_0).slice (win0_4.rect t)).set
  rw [View.set_slice_whole, Rect.mem_set_unit]
  intro a
  match a with
  | ⟨0, _⟩ =>
    show win0_4.index t 0 * 1536 ≤ (i 0 : Nat) ∧ (i 0 : Nat) < win0_4.index t 0 * 1536 + 1536
    rw [(index4 t).1]; omega
  | ⟨1, _⟩ =>
    show win0_4.index t 1 * 1024 ≤ (i 1 : Nat) ∧ (i 1 : Nat) < win0_4.index t 1 * 1024 + 1024
    rw [(index4 t).2]; omega

theorem gu_final : (dats m 0 c).arrAt 4 cfg0.N = guA m c :=
  (dats m 0 c).arrAt_eq_of_cover 4 _ (fun t h => gu_flushed m c t ((flush0_4 t).mp h)) fun i => by
    have h0 : (i 0 : Nat) < 6144 := (i 0).isLt
    have e : cfg0.N = 16 := N_0
    refine ⟨⟨4 * ((i 0 : Nat) / 1536) + 3, by omega⟩, (flush0_4 _).mpr ?_, gu_mem _ i ?_⟩
    · show (4 * ((i 0 : Nat) / 1536) + 3) % 4 = 3; omega
    · show _ = (4 * ((i 0 : Nat) / 1536) + 3) / 4; omega

/-! ## The result dw_d -/

/-- One row's part of an entry. -/
def dTerm (r x k : ℕ) : EReal := at2 (m := 4096) (n := 3072) (m ((c : Thread nD τ).loc main_arg1)) k r * at2 (m := 4096) (n := 1024) (m ((c : Thread nD τ).loc main_arg3)) k x

theorem d_block (t : Fin cfg0.N) (r : Fin 768) (x : Fin 1024) :
    blockSum (R := 768) (iblk m c 1 t) (iblk m c 3 t) r x
      = ∑ k ∈ Finset.range 1024, dTerm m c (768 * (t.val / 4) + r.val) x.val (1024 * (t.val % 4) + k) := by
  unfold blockSum
  rw [← Cert.Flash.sum_fin]
  refine Finset.sum_congr rfl fun k _ => ?_
  unfold dTerm
  rw [← V_v1 m c, ← V_v3 m c]
  exact congrArg₂ (fun p q : EReal => p * q) (read1_apply _ t k r) (read3_apply _ t k x)

/-- The accumulator after a point: the row blocks so far. -/
theorem d_after (r : Fin 768) (x : Fin 1024) : ∀ (n : ℕ) (hn : n < cfg0.N), (outsAt0 m c n hn).2.2.2 (ix2 r x)
    = ∑ k ∈ Finset.range (1024 * (n % 4 + 1)), dTerm m c (768 * (n / 4) + r.val) x.val k := by
  intro n
  induction n with
  | zero =>
    intro hn
    refine (congrFun (d_first m c ⟨0, hn⟩ rfl) (ix2 r x)).trans ((d_first_apply _ _ r x).trans ((d_block m c ⟨0, hn⟩ r x).trans ?_))
    refine Finset.sum_congr rfl fun k _ => ?_
    show dTerm m c (768 * (0 / 4) + r.val) x.val (1024 * (0 % 4) + k) = _
    rw [show 1024 * (0 % 4) + k = k by omega]
  | succ n ih =>
    intro hn
    by_cases h : (n + 1) % 4 = 0
    · refine (congrFun (d_first m c ⟨n + 1, hn⟩ h) (ix2 r x)).trans ((d_first_apply _ _ r x).trans ((d_block m c ⟨n + 1, hn⟩ r x).trans ?_))
      rw [h]
      refine Finset.sum_congr rfl fun k _ => ?_
      show dTerm m c (768 * ((n + 1) / 4) + r.val) x.val (1024 * 0 + k) = _
      rw [show 1024 * 0 + k = k by omega]
    · refine (congrFun (d_later m c ⟨n + 1, hn⟩ h) (ix2 r x)).trans ((d_later_apply _ _ _ r x).trans ?_)
      rw [d_block m c ⟨n + 1, hn⟩ r x, Nat.mul_succ, Finset.sum_range_add]
      refine congrArg₂ (· + ·) ((ih _).trans ?_) rfl
      rw [show n % 4 + 1 = (n + 1) % 4 by omega, show n / 4 = (n + 1) / 4 by omega]

/-- The result as an array. -/
def dA : (⟨2, ![3072, 1024]⟩ : Shape).Idx → EReal := fun i => ∑ k ∈ Finset.range 4096, dTerm m c (i 0 : Nat) (i 1 : Nat) k

theorem d_flushed (t : Fin cfg0.N) (h : t.val % 4 = 3) : (dats m 0 c).flushed 5 t = (win0_5.blk t).view.read (Elt Ideal) (dA m c) := by
  funext y
  obtain ⟨r, x, rfl⟩ : ∃ (r : Fin 768) (x : Fin 1024), y = ix2 r x := ⟨y 0, y 1, eq_ix2 (n0 := 768) (n1 := 1024) y⟩
  have ht := lt16 t
  have hr := r.isLt
  have hx := x.isLt
  rw [read5_apply, at2_lt (m := 3072) (n := 1024) _ (show 768 * (t.val / 4) + r.val < 3072 by omega) (show x.val < 1024 by omega)]
  refine (congrFun ((after0_5 m c t).trans (d_out m c t h)) (ix2 r x)).trans ((d_out_apply _ r x).trans ((d_after m c r x t.val t.isLt).trans ?_))
  rw [h]
  rfl

theorem d_mem (t : Fin cfg0.N) (i : S3072x1024.Idx) (h0 : (i 0 : Nat) / 768 = t.val / 4) : i ∈ (win0_5.blk t).view.set := by
  have h1 : (i 1 : Nat) < 1024 := (i 1).isLt
  show i ∈ ((View.whole main_v4_1).slice (win0_5.rect t)).set
  rw [View.set_slice_whole, Rect.mem_set_unit]
  intro a
  match a with
  | ⟨0, _⟩ =>
    show win0_5.index t 0 * 768 ≤ (i 0 : Nat) ∧ (i 0 : Nat) < win0_5.index t 0 * 768 + 768
    rw [(index5 t).1]; omega
  | ⟨1, _⟩ =>
    show win0_5.index t 1 * 1024 ≤ (i 1 : Nat) ∧ (i 1 : Nat) < win0_5.index t 1 * 1024 + 1024
    rw [(index5 t).2]; omega

theorem d_final : (dats m 0 c).arrAt 5 cfg0.N = dA m c :=
  (dats m 0 c).arrAt_eq_of_cover 5 _ (fun t h => d_flushed m c t ((flush0_5 t).mp h)) fun i => by
    have h0 : (i 0 : Nat) < 3072 := (i 0).isLt
    have e : cfg0.N = 16 := N_0
    refine ⟨⟨4 * ((i 0 : Nat) / 768) + 3, by omega⟩, (flush0_5 _).mpr ?_, d_mem _ i ?_⟩
    · show (4 * ((i 0 : Nat) / 768) + 3) % 4 = 3; omega
    · show _ = (4 * ((i 0 : Nat) / 768) + 3) / 4; omega

/-! ## The reference -/

open Cert.Reference2Ideal.Read

theorem ref_gu (x0 : (⟨2, ![4096, 1024]⟩ : Shape).Idx → EReal) (x2 : (⟨2, ![4096, 6144]⟩ : Shape).Idx → EReal) (r : Fin 6144) (x : Fin 1024) :
    val_main_v5 (F := Ideal) x0 x2 (ix2 r x) = ∑ k : Fin 4096, x2 (ix2 k r) * x0 (ix2 k x) := by
  rw [val_main_v5_apply]
  unfold val_main_v4
  pointwise

theorem ref_d (x1 : (⟨2, ![4096, 3072]⟩ : Shape).Idx → EReal) (x3 : (⟨2, ![4096, 1024]⟩ : Shape).Idx → EReal) (r : Fin 3072) (x : Fin 1024) :
    val_main_v6 (F := Ideal) x1 x3 (ix2 r x) = ∑ k : Fin 4096, x1 (ix2 k r) * x3 (ix2 k x) := by
  rw [val_main_v6_apply]
  unfold val_main_v3 val_main_v2
  pointwise
  exact Finset.sum_congr rfl fun k _ => mul_comm _ _

theorem gu_result : (dats m 0 c).arrAt 4 cfg0.N = val_main_v5 (F := Ideal) (m ((c : Thread nD τ).loc main_arg0)) (m ((c : Thread nD τ).loc main_arg2)) := by
  rw [gu_final]
  funext i
  obtain ⟨r, x, rfl⟩ : ∃ (r : Fin 6144) (x : Fin 1024), i = ix2 r x := ⟨i 0, i 1, eq_ix2 (n0 := 6144) (n1 := 1024) i⟩
  refine Eq.trans ?_ (ref_gu _ _ r x).symm
  refine (Cert.Flash.sum_fin 4096 (guTerm m c r.val x.val)).symm.trans (Finset.sum_congr rfl fun k _ => ?_)
  exact congrArg₂ (· * ·) (at2_of _ k r) (at2_of _ k x)

theorem d_result : (dats m 0 c).arrAt 5 cfg0.N = val_main_v6 (F := Ideal) (m ((c : Thread nD τ).loc main_arg1)) (m ((c : Thread nD τ).loc main_arg3)) := by
  rw [d_final]
  funext i
  obtain ⟨r, x, rfl⟩ : ∃ (r : Fin 3072) (x : Fin 1024), i = ix2 r x := ⟨i 0, i 1, eq_ix2 (n0 := 3072) (n1 := 1024) i⟩
  refine Eq.trans ?_ (ref_d _ _ r x).symm
  refine (Cert.Flash.sum_fin 4096 (dTerm m c r.val x.val)).symm.trans (Finset.sum_congr rfl fun k _ => ?_)
  exact congrArg₂ (· * ·) (at2_of _ k r) (at2_of _ k x)

end Cert.Kernel2Ideal.Weight
-- ==== Proof.FfnMath.lean ====
module

public import proofs.«01_k».proof.Proof.RealMath

@[expose] public section

noncomputable section

namespace Cert.Ffn

open Idealize.ShloMosaic
open Cert.Flash (coe_sum div_coe_coe)
open scoped BigOperators

/-! ## The gradient of a row's root mean square norm -/

/-- The reciprocal root of a row's mean square, the mean taken by a product. -/
def rowR (h : Fin 1024 → EReal) : EReal :=
  Ideal.rsqrt ((∑ k, h k * h k) * Ideal.ofBits .f32 0x3A800000#32 + Ideal.ofBits .f32 0x358637BD#32)

/-- The gradient that a normed row `h` with weight `g` passes on of `d`. -/
def rowB (h d g : Fin 1024 → EReal) (x : Fin 1024) : EReal :=
  rowR h * (d x * g x - h x * rowR h * ((∑ k, d k * g k * (h k * rowR h)) * Ideal.ofBits .f32 0x3A800000#32))

/-- A row's mean square with the small number added, the mean taken by a quotient. -/
def meanSq (h : Fin 1024 → EReal) : EReal :=
  Ideal.div (∑ k, h k * h k) (Ideal.ofBits .f32 0x44800000#32) + Ideal.ofBits .f32 0x358637BD#32

/-- What reaches a row through its mean square, over twice the row. -/
def through (h d g : Fin 1024 → EReal) : EReal :=
  Ideal.div ((∑ k, h k * (d k * g k)) * (Ideal.ofBits .f32 0xBF000000#32 * Ideal.div (Ideal.rsqrt (meanSq h)) (meanSq h))) (Ideal.ofBits .f32 0x44800000#32)

/-! The literals. -/

theorem inv1024 : Ideal.ofBits .f32 0x3A800000#32 = ((1 / 1024 : ℝ) : EReal) := by
  simp [Ideal.ofBits, Ideal.ieee, -EReal.coe_mul]
  norm_num

theorem lit1024 : Ideal.ofBits .f32 0x44800000#32 = ((1024 : ℝ) : EReal) := by
  simp [Ideal.ofBits, Ideal.ieee, -EReal.coe_mul]
  norm_num

theorem negHalf : Ideal.ofBits .f32 0xBF000000#32 = ((-(1 / 2) : ℝ) : EReal) := by
  simp [Ideal.ofBits, Ideal.ieee, -EReal.coe_mul]
  norm_num

theorem small : ∃ e : ℝ, 0 < e ∧ Ideal.ofBits .f32 0x358637BD#32 = (e : EReal) := by
  refine ⟨(Ideal.ofBits .f32 0x358637BD#32).toReal, ?_, (EReal.coe_toReal ?_ ?_).symm⟩ <;> simp [Ideal.ofBits, Ideal.ieee, -EReal.coe_mul]

/-- The two means agree on a row of numbers, and give a number. -/
theorem meanSq_real (h : Fin 1024 → ℝ) : ∃ v ρ : ℝ, 0 < v ∧ ρ * ρ * v = 1 ∧ meanSq (fun k => (h k : EReal)) = (v : EReal)
    ∧ Ideal.rsqrt (meanSq fun k => (h k : EReal)) = (ρ : EReal) ∧ rowR (fun k => (h k : EReal)) = (ρ : EReal) := by
  obtain ⟨e, he, hw⟩ := small
  have hs : 0 ≤ ∑ k, h k * h k := Finset.sum_nonneg fun k _ => mul_self_nonneg _
  have hv : 0 < (∑ k, h k * h k) / 1024 + e := by positivity
  have h1 : meanSq (fun k => (h k : EReal)) = (((∑ k, h k * h k) / 1024 + e : ℝ) : EReal) := by
    unfold meanSq
    simp only [← EReal.coe_mul]
    rw [coe_sum, lit1024, hw, div_coe_coe _ (by norm_num), ← EReal.coe_add]
  have h2 : (∑ k, (h k : EReal) * (h k : EReal)) * Ideal.ofBits .f32 0x3A800000#32 + Ideal.ofBits .f32 0x358637BD#32
      = (((∑ k, h k * h k) / 1024 + e : ℝ) : EReal) := by
    simp only [← EReal.coe_mul]
    rw [coe_sum, inv1024, hw, ← EReal.coe_mul, ← EReal.coe_add, mul_one_div]
  have h3 : Ideal.rsqrt (((∑ k, h k * h k) / 1024 + e : ℝ) : EReal) = (((Real.sqrt ((∑ k, h k * h k) / 1024 + e))⁻¹ : ℝ) : EReal) := by
    rw [Ideal.rsqrt_coe, if_neg hv.not_gt, if_neg hv.ne']
  refine ⟨_, (Real.sqrt ((∑ k, h k * h k) / 1024 + e))⁻¹, hv, ?_, h1, by rw [h1, h3], by unfold rowR; rw [h2, h3]⟩
  rw [← mul_inv, Real.mul_self_sqrt hv.le, inv_mul_cancel₀ hv.ne']

/-- The kernel's gradient of a row of numbers is the reference's, and a number. -/
theorem rowB_eq (h d g : Fin 1024 → ℝ) (a : ℝ) (x : Fin 1024) :
    ((a : EReal) + (d x : EReal) * (g x : EReal) * Ideal.rsqrt (meanSq fun k => (h k : EReal))
        + (h x : EReal) * through (fun k => (h k : EReal)) (fun k => (d k : EReal)) fun k => (g k : EReal))
        + through (fun k => (h k : EReal)) (fun k => (d k : EReal)) (fun k => (g k : EReal)) * (h x : EReal)
      = (a : EReal) + rowB (fun k => (h k : EReal)) (fun k => (d k : EReal)) (fun k => (g k : EReal)) x
    ∧ ∃ y : ℝ, rowB (fun k => (h k : EReal)) (fun k => (d k : EReal)) (fun k => (g k : EReal)) x = (y : EReal) := by
  obtain ⟨v, ρ, hv, hρ, h1, h2, h3⟩ := meanSq_real h
  have e : rowB (fun k => (h k : EReal)) (fun k => (d k : EReal)) (fun k => (g k : EReal)) x
      = ((ρ * (d x * g x - h x * ρ * ((∑ k, d k * g k * (h k * ρ)) * (1 / 1024))) : ℝ) : EReal) := by
    unfold rowB
    rw [h3, inv1024]
    simp only [← EReal.coe_mul]
    rw [coe_sum]
    simp only [← EReal.coe_mul, ← EReal.coe_sub]
  have q : through (fun k => (h k : EReal)) (fun k => (d k : EReal)) (fun k => (g k : EReal))
      = (((∑ k, h k * (d k * g k)) * (-(1 / 2) * (ρ / v)) / 1024 : ℝ) : EReal) := by
    unfold through
    rw [h2, h1, negHalf, lit1024, div_coe_coe _ hv.ne']
    simp only [← EReal.coe_mul]
    rw [coe_sum, ← EReal.coe_mul, div_coe_coe _ (by norm_num)]
  refine ⟨?_, _, e⟩
  rw [e, q, h2]
  simp only [← EReal.coe_mul, ← EReal.coe_add]
  refine congrArg Real.toEReal ?_
  have s : ∑ k, d k * g k * (h k * ρ) = (∑ k, h k * (d k * g k)) * ρ := by
    rw [Finset.sum_mul]
    exact Finset.sum_congr rfl fun k _ => by ring
  have w : ρ / v = ρ * ρ * ρ := by
    rw [div_eq_iff hv.ne']
    linear_combination (-ρ) * hρ
  rw [s, w]
  ring

/-! ## Numbers among the extended reals -/

/-- A number. -/
def IsNum (a : EReal) : Prop := ∃ y : ℝ, a = (y : EReal)

theorem IsNum.mul {a b : EReal} (ha : IsNum a) (hb : IsNum b) : IsNum (a * b) := by
  obtain ⟨x, rfl⟩ := ha
  obtain ⟨y, rfl⟩ := hb
  exact ⟨x * y, (EReal.coe_mul x y).symm⟩

theorem IsNum.add {a b : EReal} (ha : IsNum a) (hb : IsNum b) : IsNum (a + b) := by
  obtain ⟨x, rfl⟩ := ha
  obtain ⟨y, rfl⟩ := hb
  exact ⟨x + y, (EReal.coe_add x y).symm⟩

theorem IsNum.sum {ι : Type*} [Fintype ι] {f : ι → EReal} (hf : ∀ i, IsNum (f i)) : IsNum (∑ i, f i) := by
  choose y hy using hf
  exact ⟨∑ i, y i, by rw [← coe_sum]; exact Finset.sum_congr rfl fun i _ => hy i⟩

/-- The reciprocal root of a row of numbers, two ways. -/
theorem rowR_of_num {h : Fin 1024 → EReal} (hh : ∀ k, IsNum (h k)) : Ideal.rsqrt (meanSq h) = rowR h := by
  choose y hy using hh
  obtain rfl : h = fun k => (y k : EReal) := funext hy
  obtain ⟨v, ρ, -, -, -, h2, h3⟩ := meanSq_real y
  rw [h2, h3]

/-- The gradient of a row of numbers, with what is added to it, two ways. -/
theorem rowB_of_num {h d g : Fin 1024 → EReal} {a : EReal} (hh : ∀ k, IsNum (h k)) (hd : ∀ k, IsNum (d k)) (hg : ∀ k, IsNum (g k)) (ha : IsNum a)
    (x : Fin 1024) : (a + d x * g x * Ideal.rsqrt (meanSq h) + h x * through h d g) + through h d g * h x = a + rowB h d g x := by
  choose y hy using hh
  obtain rfl : h = fun k => (y k : EReal) := funext hy
  choose z hz using hd
  obtain rfl : d = fun k => (z k : EReal) := funext hz
  choose w hw using hg
  obtain rfl : g = fun k => (w k : EReal) := funext hw
  obtain ⟨b, rfl⟩ := ha
  exact (rowB_eq y z w b x).1

/-- It is a number. -/
theorem rowB_num {h d g : Fin 1024 → EReal} (hh : ∀ k, IsNum (h k)) (hd : ∀ k, IsNum (d k)) (hg : ∀ k, IsNum (g k)) (x : Fin 1024) : IsNum (rowB h d g x) := by
  choose y hy using hh
  obtain rfl : h = fun k => (y k : EReal) := funext hy
  choose z hz using hd
  obtain rfl : d = fun k => (z k : EReal) := funext hz
  choose w hw using hg
  obtain rfl : g = fun k => (w k : EReal) := funext hw
  exact (rowB_eq y z w 0 x).2

/-- The gate's gradient on numbers, two ways. -/
theorem gate_of_num {f g u s : EReal} (hf : IsNum f) (hg : IsNum g) (hu : IsNum u) (hs : IsNum s) :
    f * u * s + g * (f * u) * (s * (1 - s)) = f * (u * (s * (1 + g * (1 - s)))) := by
  obtain ⟨f, rfl⟩ := hf
  obtain ⟨g, rfl⟩ := hg
  obtain ⟨u, rfl⟩ := hu
  obtain ⟨s, rfl⟩ := hs
  rw [← EReal.coe_one]
  simp only [← EReal.coe_mul, ← EReal.coe_add, ← EReal.coe_sub]
  congr 1
  ring

/-- The logistic function of a number is one. -/
theorem logistic_num {g : EReal} (hg : IsNum g) : IsNum (Ideal.div 1 (1 + Ideal.exp (-g))) := by
  obtain ⟨g, rfl⟩ := hg
  refine ⟨1 / (1 + Real.exp (-g)), ?_⟩
  rw [← EReal.coe_neg, Ideal.exp_coe, ← EReal.coe_one, ← EReal.coe_add, div_coe_coe _ (by positivity)]

end Cert.Ffn
-- ==== Proof.FfnRow.lean ====
module

public import proofs.«01_k».proof.Proof.Gen.Kernel3Ideal
public import proofs.«01_k».proof.Proof.Gen.Kernel3Ideal.Skeleton
public import proofs.«01_k».proof.Proof.Base
public import proofs.«01_k».proof.Proof.FfnMath

@[expose] public section

set_option maxRecDepth 16384

noncomputable section

namespace Cert.Kernel3Ideal.Ffn

open Idealize.ShloMosaic Idealize.ShloMosaic.TcCoe Cert.Flash Cert.Ffn
open Cert.Kernel3Ideal Cert.Kernel3Ideal.Gen
open scoped BigOperators

/-! ## What the kernel computes from its blocks, element by element -/

/-- A column of the gradient before the gate: which column of the gate's (or the up's) inputs it belongs to, and which of the two. -/
def gateCol (e : ℕ) : ℕ := 384 * (e / 768) + e % 384

theorem dgu_apply (dy : FVec Ideal S512x1024 .bf16) (wd : FVec Ideal S768x1024 .bf16) (gs us : FVec Ideal S512x768 .bf16) (r : Fin 512) (e : Fin 1536)
    (q : Fin 768) (hq : q.val = gateCol e.val) :
    k0_pay11 (F := Ideal) dy wd gs us (ix2 r e)
      = (∑ k, (dy (ix2 r k) : EReal) * wd (ix2 q k)) * (if e.val / 384 % 2 = 0 then gs (ix2 r q) else us (ix2 r q) : EReal) := by
  have he := e.isLt
  unfold gateCol at hq
  simp only [k0_pay11, shapeCast_self]
  pointwise
  have key : ∀ (q' : Fin 768) (v : (⟨2, ![512, 768]⟩ : Shape).Idx → EReal), q'.val = q.val →
      (∑ k, (dy (ix2 r k) : EReal) * wd (ix2 q' k)) * v (ix2 r q') = (∑ k, (dy (ix2 r k) : EReal) * wd (ix2 q k)) * v (ix2 r q) := by
    intro q' v h
    rw [Fin.ext h]
  by_cases h1 : e.val < 384
  · rw [if_pos (show e.val / 384 % 2 = 0 by clear * - h1; omega)]
    exact (dif_pos h1).trans (key _ gs (by show e.val = q.val; clear * - hq h1; omega))
  refine (dif_neg h1).trans ?_
  by_cases h2 : e.val - 384 < 384
  · rw [if_neg (show ¬e.val / 384 % 2 = 0 by clear * - h1 h2; omega)]
    exact (dif_pos h2).trans (key _ us (by show e.val - 384 = q.val; clear * - hq h1 h2; omega))
  refine (dif_neg h2).trans ?_
  by_cases h3 : e.val - 384 - 384 < 384
  · rw [if_pos (show e.val / 384 % 2 = 0 by clear * - h1 h2 h3; omega)]
    exact (dif_pos h3).trans (key _ gs (by show 384 + (e.val - 384 - 384) = q.val; clear * - hq h1 h2 h3; omega))
  refine (dif_neg h3).trans ?_
  rw [if_neg (show ¬e.val / 384 % 2 = 0 by clear * - h1 h2 h3 he; omega)]
  exact key _ us (by show 384 + (e.val - 384 - 384 - 384) = q.val; clear * - hq h1 h2 h3 he; omega)

/-- An entry of the product of a block of rows and a block of columns' weights. -/
def partSum (a : (⟨2, ![512, 1536]⟩ : Shape).Idx → EReal) (w : (⟨2, ![1536, 1024]⟩ : Shape).Idx → EReal) (r : Fin 512) (x : Fin 1024) : EReal :=
  ∑ e : Fin 1536, a (ix2 r e) * w (ix2 e x)

theorem part_first (dy : FVec Ideal S512x1024 .bf16) (wd : FVec Ideal S768x1024 .bf16) (gs us : FVec Ideal S512x768 .bf16) (w : FVec Ideal S1536x1024 .bf16)
    (r : Fin 512) (x : Fin 1024) : k0_pay13 (F := Ideal) dy wd gs us w (ix2 r x) = partSum (k0_pay11 (F := Ideal) dy wd gs us) w r x := by
  unfold partSum
  simp only [k0_pay13, k0_pay12, shapeCast_self]
  pointwise

theorem part_later (dy : FVec Ideal S512x1024 .bf16) (wd : FVec Ideal S768x1024 .bf16) (gs us : FVec Ideal S512x768 .bf16) (w : FVec Ideal S1536x1024 .bf16)
    (y : FVec Ideal S512x1024 .f32) (r : Fin 512) (x : Fin 1024) :
    k0_pay14 (F := Ideal) dy wd gs us w y (ix2 r x) = y (ix2 r x) + partSum (k0_pay11 (F := Ideal) dy wd gs us) w r x := by
  unfold partSum
  simp only [k0_pay14, k0_pay12, shapeCast_self]
  pointwise

theorem rms_apply (h : FVec Ideal S512x1024 .f32) (r : Fin 512) : k0_pay7 (F := Ideal) h (ix2 r 0) = rowR fun k => h (ix2 r k) := by
  unfold rowR
  simp only [k0_pay7, shapeCast_self]
  pointwise

theorem rms_apply' (h : FVec Ideal S512x1024 .f32) (r : Fin 512) : k0_pay3 (F := Ideal) h (ix2 r 0) = rowR fun k => h (ix2 r k) := by
  unfold rowR
  simp only [k0_pay3, shapeCast_self]
  pointwise

theorem dx_apply (h : FVec Ideal S512x1024 .f32) (g : FVec Ideal S1x1024 .f32) (d dh : FVec Ideal S512x1024 .f32) (r : Fin 512) (x : Fin 1024) :
    k0_pay9 (F := Ideal) h g d dh (ix2 r x) = (dh (ix2 r x) : EReal) + rowB (fun k => h (ix2 r k)) (fun k => d (ix2 r k)) (fun k => g (ix2 0 k)) x := by
  unfold rowB
  simp only [k0_pay9, k0_pay8, shapeCast_self]
  pointwise
  rw [rms_apply]

theorem dy_apply (h : FVec Ideal S512x1024 .f32) (g : FVec Ideal S1x1024 .f32) (d : FVec Ideal S512x1024 .f32) (r : Fin 512) (x : Fin 1024) :
    k0_pay5 (F := Ideal) d h g (ix2 r x) = rowB (fun k => h (ix2 r k)) (fun k => d (ix2 r k)) (fun k => g (ix2 0 k)) x := by
  unfold rowB
  simp only [k0_pay5, k0_pay4, shapeCast_self]
  pointwise
  rw [rms_apply']

/-- A block's part of the gradient of a norm's weight. -/
def normSum (h d : (⟨2, ![512, 1024]⟩ : Shape).Idx → EReal) (x : Fin 1024) : EReal :=
  ∑ r : Fin 512, d (ix2 r x) * (h (ix2 r x) * rowR fun k => h (ix2 r k))

theorem dpre_apply (h d : FVec Ideal S512x1024 .f32) (y : FVec Ideal S1x1024 .f32) (x : Fin 1024) :
    k0_pay10 (F := Ideal) h d y (ix2 0 x) = y (ix2 0 x) + normSum h d x := by
  unfold normSum
  simp only [k0_pay10, k0_pay8, shapeCast_self]
  pointwise
  simp only [rms_apply]

theorem dpost_apply (h d : FVec Ideal S512x1024 .f32) (y : FVec Ideal S1x1024 .f32) (x : Fin 1024) :
    k0_pay6 (F := Ideal) d h y (ix2 0 x) = y (ix2 0 x) + normSum h d x := by
  unfold normSum
  simp only [k0_pay6, k0_pay4, shapeCast_self]
  pointwise
  simp only [rms_apply']

theorem zero_apply (x : Fin 1024) : k0_pay1 (F := Ideal) (ix2 0 x) = 0 ∧ k0_pay2 (F := Ideal) (ix2 0 x) = 0 := by
  constructor
  · simp only [k0_pay1]
    pointwise
  · simp only [k0_pay2]
    pointwise

end Cert.Kernel3Ideal.Ffn
-- ==== Proof.FfnStep.lean ====
module

public import proofs.«01_k».proof.Proof.Gen.Kernel3Ideal.Frame
public import proofs.«01_k».proof.Proof.FfnRow
public import Idealize.ShloMosaic.Lib.Pipeline.Value

@[expose] public section

set_option maxRecDepth 16384

noncomputable section

namespace Cert.Kernel3Ideal.Ffn

open Idealize.ShloMosaic Idealize.ShloMosaic.TcCoe Cert.Flash Cert.Ffn
open Idealize.SL Idealize.SL.Sem
open Cert.Kernel3Ideal Cert.Kernel3Ideal.Gen
open scoped BigOperators

variable (m : (ℓ : Loc nD τ sig) → Buf (Elt Ideal) ℓ) (c : Dev nD)

/-- A load of a whole memref's own sizes reads its contents. -/
theorem load_whole {S : Shape} {e : EltTy} {cs : Space} (r : Memref sig .tc cs S e) (h : r.IsWhole) (x : S.Idx → Elt Ideal e) {off : Fin S.rank → ℕ}
    (inb : ∀ a, off a + S.size a ≤ S.size a) :
    r.view.readAt (Elt Ideal) (Rect.unit off S.size inb).toLoadRect (h.unread x) = x := by
  rw [View.readAt_full, h.read_unread]

/-! ## What a grid point leaves in the results' blocks and in the accumulator -/

theorem dgu_out (t : Fin cfg0.N) :
    (outsAt0 m c t.val t.isLt).1 = k0_pay11 (F := Ideal) (iblk m c 0 t) (iblk m c 4 t) (iblk m c 1 t) (iblk m c 2 t) := by
  by_cases h : t.val % 4 = 0
  · by_cases hr : t.val % 32 = 0
    · rw [outsAt0_A m c t h (by omega) hr (by omega)]
      dsimp only
      unfold out0_A_10 kernelRun0_A
      dsimp only
      rw [View.read_writes_full]
      exact congr (congr (congrArg₂ k0_pay11 (load_whole _ _ _ _) (load_whole _ _ _ _)) (load_whole _ _ _ _)) (load_whole _ _ _ _)
    · rw [outsAt0_D m c t h (by omega) hr (by omega)]
      dsimp only
      unfold out0_D_10 kernelRun0_D
      dsimp only
      rw [View.read_writes_full]
      exact congr (congr (congrArg₂ k0_pay11 (load_whole _ _ _ _) (load_whole _ _ _ _)) (load_whole _ _ _ _)) (load_whole _ _ _ _)
  · by_cases h3 : t.val % 4 = 3
    · rw [outsAt0_C m c t h (by omega) (by omega) h3]
      dsimp only
      unfold out0_C_10 kernelRun0_C
      dsimp only
      rw [View.read_writes_full]
      exact congr (congr (congrArg₂ k0_pay11 (load_whole _ _ _ _) (load_whole _ _ _ _)) (load_whole _ _ _ _)) (load_whole _ _ _ _)
    · rw [outsAt0_B m c t h (by omega) (by omega) h3]
      dsimp only
      unfold out0_B_10 kernelRun0_B
      dsimp only
      rw [View.read_writes_full]
      exact congr (congr (congrArg₂ k0_pay11 (load_whole _ _ _ _) (load_whole _ _ _ _)) (load_whole _ _ _ _)) (load_whole _ _ _ _)

theorem acc_first (t : Fin cfg0.N) (h : t.val % 4 = 0) :
    (outsAt0 m c t.val t.isLt).2.2.2.2.2 = k0_pay13 (F := Ideal) (iblk m c 0 t) (iblk m c 4 t) (iblk m c 1 t) (iblk m c 2 t) (iblk m c 3 t) := by
  by_cases hr : t.val % 32 = 0
  · rw [outsAt0_A m c t h (by omega) hr (by omega)]
    dsimp only
    unfold sout0_A_0 kernelRun0_A
    dsimp only
    rw [View.read_writes_full]
    exact congr (congr (congr (congrArg₂ k0_pay13 (load_whole _ _ _ _) (load_whole _ _ _ _)) (load_whole _ _ _ _)) (load_whole _ _ _ _)) (load_whole _ _ _ _)
  · rw [outsAt0_D m c t h (by omega) hr (by omega)]
    dsimp only
    unfold sout0_D_0 kernelRun0_D
    dsimp only
    rw [View.read_writes_full]
    exact congr (congr (congr (congrArg₂ k0_pay13 (load_whole _ _ _ _) (load_whole _ _ _ _)) (load_whole _ _ _ _)) (load_whole _ _ _ _)) (load_whole _ _ _ _)

theorem acc_later (t : Fin cfg0.N) (h : ¬t.val % 4 = 0) :
    (outsAt0 m c t.val t.isLt).2.2.2.2.2 = k0_pay14 (F := Ideal) (iblk m c 0 t) (iblk m c 4 t) (iblk m c 1 t) (iblk m c 2 t) (iblk m c 3 t) (outsAt0 m c (t.val - 1) (by have := t.isLt; omega)).2.2.2.2.2 := by
  by_cases h3 : t.val % 4 = 3
  · rw [outsAt0_C m c t h (by omega) (by omega) h3]
    dsimp only
    unfold sout0_C_0 kernelRun0_C
    dsimp only
    unfold kernelRun0_C.sl.HS0_1
    rw [View.read_writes_full]
    exact congr (congr (congr (congr (congrArg₂ k0_pay14 (load_whole _ _ _ _) (load_whole _ _ _ _)) (load_whole _ _ _ _)) (load_whole _ _ _ _)) (load_whole _ _ _ _)) (load_whole _ _ _ _)
  · rw [outsAt0_B m c t h (by omega) (by omega) h3]
    dsimp only
    unfold sout0_B_0 kernelRun0_B
    dsimp only
    rw [View.read_writes_full]
    exact congr (congr (congr (congr (congrArg₂ k0_pay14 (load_whole _ _ _ _) (load_whole _ _ _ _)) (load_whole _ _ _ _)) (load_whole _ _ _ _)) (load_whole _ _ _ _)) (load_whole _ _ _ _)

theorem dx_out (t : Fin cfg0.N) (h3 : t.val % 4 = 3) :
    (outsAt0 m c t.val t.isLt).2.1 = k0_pay9 (F := Ideal) (iblk m c 5 t) (iblk m c 8 t) (outsAt0 m c t.val t.isLt).2.2.2.2.2 (iblk m c 7 t) := by
  have h : ¬t.val % 4 = 0 := by omega
  rw [outsAt0_C m c t h (by omega) (by omega) h3]
  dsimp only
  unfold out0_C_11 sout0_C_0 kernelRun0_C
  dsimp only
  rw [View.read_writes_full]
  unfold kernelRun0_C.sl.v50 kernelRun0_C.sl.HS0_1
  rw [View.read_writes_full, View.readCov_full]
  exact congr (congr (congrArg₂ k0_pay9 (load_whole _ _ _ _) (load_whole _ _ _ _)) rfl) (load_whole _ _ _ _)

theorem dy_out (t : Fin cfg0.N) (h3 : t.val % 4 = 3) :
    (outsAt0 m c t.val t.isLt).2.2.1 = k0_pay5 (F := Ideal) (outsAt0 m c t.val t.isLt).2.1 (iblk m c 6 t) (iblk m c 9 t) := by
  have h : ¬t.val % 4 = 0 := by omega
  rw [outsAt0_C m c t h (by omega) (by omega) h3]
  dsimp only
  unfold out0_C_12 out0_C_11 kernelRun0_C
  dsimp only
  rw [View.read_writes_full]
  unfold kernelRun0_C.sl.r kernelRun0_C.sl.r_1
  rw [View.read_writes_full]
  exact congr (congrArg₂ k0_pay5 rfl (load_whole _ _ _ _)) (load_whole _ _ _ _)

theorem pre_zero (t : Fin cfg0.N) (hr : t.val % 32 = 0) :
    (outsAt0 m c t.val t.isLt).2.2.2.1 = k0_pay1 (F := Ideal) := by
  have h : t.val % 4 = 0 := by omega
  rw [outsAt0_A m c t h (by omega) hr (by omega)]
  dsimp only
  unfold out0_A_13 kernelRun0_A
  dsimp only
  rw [View.read_writes_full]

theorem pre_kept (t : Fin cfg0.N) (hr : ¬t.val % 32 = 0) (h3 : ¬t.val % 4 = 3) :
    (outsAt0 m c t.val t.isLt).2.2.2.1 = (outsAt0 m c (t.val - 1) (by have := t.isLt; omega)).2.2.2.1 := by
  by_cases h : t.val % 4 = 0
  · rw [outsAt0_D m c t h (by omega) hr (by omega)]
    rfl
  · rw [outsAt0_B m c t h (by omega) hr h3]
    rfl

theorem pre_add (t : Fin cfg0.N) (h3 : t.val % 4 = 3) :
    (outsAt0 m c t.val t.isLt).2.2.2.1 = k0_pay10 (F := Ideal) (iblk m c 5 t) (outsAt0 m c t.val t.isLt).2.2.2.2.2 (outsAt0 m c (t.val - 1) (by have := t.isLt; omega)).2.2.2.1 := by
  have h : ¬t.val % 4 = 0 := by omega
  rw [outsAt0_C m c t h (by omega) (by omega) h3]
  dsimp only
  unfold out0_C_13 sout0_C_0 kernelRun0_C
  dsimp only
  rw [View.read_writes_full]
  unfold kernelRun0_C.sl.v50 kernelRun0_C.sl.HS0_1
  rw [View.read_writes_full, View.readCov_full]
  exact congr (congrArg₂ k0_pay10 (load_whole _ _ _ _) rfl) (load_whole _ _ _ _)

theorem post_zero (t : Fin cfg0.N) (hr : t.val % 32 = 0) :
    (outsAt0 m c t.val t.isLt).2.2.2.2.1 = k0_pay2 (F := Ideal) := by
  have h : t.val % 4 = 0 := by omega
  rw [outsAt0_A m c t h (by omega) hr (by omega)]
  dsimp only
  unfold out0_A_14 kernelRun0_A
  dsimp only
  rw [View.read_writes_full]

theorem post_kept (t : Fin cfg0.N) (hr : ¬t.val % 32 = 0) (h3 : ¬t.val % 4 = 3) :
    (outsAt0 m c t.val t.isLt).2.2.2.2.1 = (outsAt0 m c (t.val - 1) (by have := t.isLt; omega)).2.2.2.2.1 := by
  by_cases h : t.val % 4 = 0
  · rw [outsAt0_D m c t h (by omega) hr (by omega)]
    rfl
  · rw [outsAt0_B m c t h (by omega) hr h3]
    rfl

theorem post_add (t : Fin cfg0.N) (h3 : t.val % 4 = 3) :
    (outsAt0 m c t.val t.isLt).2.2.2.2.1 = k0_pay6 (F := Ideal) (outsAt0 m c t.val t.isLt).2.1 (iblk m c 6 t) (outsAt0 m c (t.val - 1) (by have := t.isLt; omega)).2.2.2.2.1 := by
  have h : ¬t.val % 4 = 0 := by omega
  rw [outsAt0_C m c t h (by omega) (by omega) h3]
  dsimp only
  unfold out0_C_14 out0_C_11 kernelRun0_C
  dsimp only
  rw [View.read_writes_full]
  unfold kernelRun0_C.sl.r kernelRun0_C.sl.r_1
  rw [View.read_writes_full]
  exact congr (congrArg₂ k0_pay6 rfl (load_whole _ _ _ _)) (load_whole _ _ _ _)

end Cert.Kernel3Ideal.Ffn
-- ==== Proof.FfnRef.lean ====
module

public import proofs.«01_k».proof.Proof.Gen.Reference3Ideal.Read
public import proofs.«01_k».proof.Proof.Base
public import proofs.«01_k».proof.Proof.FfnMath

@[expose] public section

set_option maxRecDepth 16384

noncomputable section

namespace Cert.Reference3Ideal.Ffn

open Idealize.ShloMosaic Idealize.ShloMosaic.TcCoe Cert.Flash Cert.Ffn
open Cert.Reference3Ideal Cert.Reference3Ideal.Read
open scoped BigOperators

variable (x0 x1 x7 x8 : (⟨2, ![4096, 1024]⟩ : Shape).Idx → EReal) (x2 : (⟨2, ![4096, 6144]⟩ : Shape).Idx → EReal) (x3 x4 : (⟨2, ![1, 1024]⟩ : Shape).Idx → EReal)
  (x5 : (⟨2, ![6144, 1024]⟩ : Shape).Idx → EReal) (x6 : (⟨2, ![3072, 1024]⟩ : Shape).Idx → EReal)

/-! ## The reference's stages, element by element -/

theorem sig_at (r : Fin 4096) (q : Fin 3072) :
    val_main_v7_2 (F := Ideal) x2 (ix2 r q) = Ideal.div 1 (1 + Ideal.exp (-(val_main_v3 (F := Ideal) x2 (ix2 r q) : EReal))) := by
  unfold val_main_v7_2 val_main_call0_v4 val_main_call0_v3 val_main_call0_v2 val_main_call0_v1 val_main_call0_v0 val_main_call0_cst val_main_call0_cst_0
  pointwise

theorem dff_at (r : Fin 4096) (q : Fin 3072) : val_main_v10 (F := Ideal) x6 x8 (ix2 r q) = ∑ k : Fin 1024, x8 (ix2 r k) * x6 (ix2 q k) := by
  unfold val_main_v10
  pointwise

theorem up_at (r : Fin 4096) (q : Fin 3072) : val_main_v11 (F := Ideal) x2 x6 x8 (ix2 r q)
    = (val_main_v3 (F := Ideal) x2 (ix2 r q) : EReal) * val_main_v7_2 (F := Ideal) x2 (ix2 r q) * val_main_v10 (F := Ideal) x6 x8 (ix2 r q) := by
  unfold val_main_v11 val_main_v7_0
  pointwise

theorem gate_at (r : Fin 4096) (q : Fin 3072) (f g u s : EReal) (hf : val_main_v10 (F := Ideal) x6 x8 (ix2 r q) = f) (hg : val_main_v3 (F := Ideal) x2 (ix2 r q) = g)
    (hu : val_main_v6 (F := Ideal) x2 (ix2 r q) = u) (hs : val_main_v7_2 (F := Ideal) x2 (ix2 r q) = s) :
    val_main_v13 (F := Ideal) x2 x6 x8 (ix2 r q) = f * u * s + g * (f * u) * (s * (1 - s)) := by
  unfold val_main_v13 val_main_call1_v2 val_main_call1_v1 val_main_call1_v0 val_main_v12 val_main_v7_1 val_main_call0_v7 val_main_call0_v6 val_main_call0_cst_1
  pointwise
  rw [hf, hg, hu, hs]

theorem dgu_at (r : Fin 4096) (e : Fin 6144) (q : Fin 3072) (hq : q.val = 384 * (e.val / 768) + e.val % 384) : val_main_v21 (F := Ideal) x2 x6 x8 (ix2 r e)
    = (if e.val / 384 % 2 = 0 then val_main_v13 (F := Ideal) x2 x6 x8 (ix2 r q) else val_main_v11 (F := Ideal) x2 x6 x8 (ix2 r q) : EReal) := by
  have he := e.isLt
  unfold val_main_v21 val_main_v20 val_main_v19 val_main_v16 val_main_v15 val_main_v18 val_main_v14 val_main_v17 val_main_cst val_main_cst_0
  pointwise
  by_cases h : e.val / 384 % 2 = 0
  · rw [if_pos h]
    refine (congrArg₂ (fun a b : EReal => a + b) (dif_neg (by clear * - h; omega)) (dif_pos ⟨by clear * - he; omega, by clear * - h; omega, by clear * - he; omega⟩)).trans ?_
    rw [zero_add]
    exact congrArg (fun k => val_main_v13 (F := Ideal) x2 x6 x8 (ix2 r k)) (Fin.ext (by show e.val / 768 * 384 + e.val % 384 = q.val; rw [hq, mul_comm]))
  · rw [if_neg h]
    refine (congrArg₂ (fun a b : EReal => a + b) (dif_pos ⟨by clear * - he; omega, ⟨by clear * - h; omega, by clear * - h; omega⟩, by clear * - he; omega⟩) (dif_neg (by clear * - h; omega))).trans ?_
    rw [add_zero]
    exact congrArg (fun k => val_main_v11 (F := Ideal) x2 x6 x8 (ix2 r k)) (Fin.ext (by show e.val / 768 * 384 + e.val % 384 = q.val; rw [hq, mul_comm]))

theorem dz_at (r : Fin 4096) (x : Fin 1024) : val_main_v38 (F := Ideal) x2 x5 x6 x8 (ix2 r x)
    = ∑ e : Fin 6144, (val_main_v21 (F := Ideal) x2 x6 x8 (ix2 r e) : EReal) * x5 (ix2 e x) := by
  unfold val_main_v38
  pointwise

theorem ms_at (r : Fin 4096) : val_main_v28 (F := Ideal) x0 (ix2 r 0) = meanSq fun k => x0 (ix2 r k) := by
  unfold meanSq val_main_v28 val_main_v26 val_main_v24 val_main_v23 val_main_v22 val_main_v25 val_main_v27 val_main_cst_1 val_main_cst_2 val_main_cst_3
  pointwise

theorem ms_at' (r : Fin 4096) : val_main_v65 (F := Ideal) x1 (ix2 r 0) = meanSq fun k => x1 (ix2 r k) := by
  unfold meanSq val_main_v65 val_main_v63 val_main_v61 val_main_v60 val_main_v59 val_main_v62 val_main_v64 val_main_cst_9 val_main_cst_10 val_main_cst_11
  pointwise

theorem dx_at (r : Fin 4096) (x : Fin 1024) : val_main_v58 (F := Ideal) x0 x2 x4 x5 x6 x7 x8 (ix2 r x)
    = (x7 (ix2 r x) + (val_main_v38 (F := Ideal) x2 x5 x6 x8 (ix2 r x) : EReal) * x4 (ix2 0 x) * Ideal.rsqrt (meanSq fun k => x0 (ix2 r k))
        + x0 (ix2 r x) * through (fun k => x0 (ix2 r k)) (fun k => val_main_v38 (F := Ideal) x2 x5 x6 x8 (ix2 r k)) fun k => x4 (ix2 0 k))
      + through (fun k => x0 (ix2 r k)) (fun k => val_main_v38 (F := Ideal) x2 x5 x6 x8 (ix2 r k)) (fun k => x4 (ix2 0 k)) * x0 (ix2 r x) := by
  unfold through val_main_v58 val_main_v57 val_main_v56 val_main_v55 val_main_v54 val_main_v53 val_main_v52 val_main_v50 val_main_v51 val_main_v49 val_main_v48 val_main_v47 val_main_v46
    val_main_v45 val_main_v44 val_main_v43 val_main_v42 val_main_cst_6 val_main_cst_7 val_main_cst_8 val_main_v32 val_main_v31 val_main_v30 val_main_v29 val_main_cst_4
  pointwise
  rw [Fin.sum_univ_one, ms_at]

theorem dy_at (r : Fin 4096) (x : Fin 1024) (d : Fin 1024 → EReal) (hd : ∀ k, val_main_v58 (F := Ideal) x0 x2 x4 x5 x6 x7 x8 (ix2 r k) = d k) :
    val_main_v92 (F := Ideal) x0 x1 x2 x3 x4 x5 x6 x7 x8 (ix2 r x)
    = (d x * x3 (ix2 0 x) * Ideal.rsqrt (meanSq fun k => x1 (ix2 r k)) + x1 (ix2 r x) * through (fun k => x1 (ix2 r k)) d fun k => x3 (ix2 0 k))
      + through (fun k => x1 (ix2 r k)) d (fun k => x3 (ix2 0 k)) * x1 (ix2 r x) := by
  obtain rfl : (fun k => val_main_v58 (F := Ideal) x0 x2 x4 x5 x6 x7 x8 (ix2 r k)) = d := funext hd
  unfold through val_main_v92 val_main_v91 val_main_v90 val_main_v89 val_main_v88 val_main_v87 val_main_v86 val_main_v84 val_main_v85 val_main_v83 val_main_v82 val_main_v81
    val_main_v80 val_main_v79 val_main_v78 val_main_v77 val_main_cst_14 val_main_cst_15 val_main_cst_16 val_main_v69 val_main_v68 val_main_v67 val_main_v66 val_main_cst_12
  pointwise
  rw [Fin.sum_univ_one, ms_at']

theorem dpre_at (x : Fin 1024) : val_main_v41 (F := Ideal) x0 x2 x5 x6 x8 (ix2 0 x)
    = ∑ r : Fin 4096, x0 (ix2 r x) * Ideal.rsqrt (meanSq fun k => x0 (ix2 r k)) * val_main_v38 (F := Ideal) x2 x5 x6 x8 (ix2 r x) := by
  unfold val_main_v41 val_main_v40 val_main_v39 val_main_v34 val_main_v33 val_main_v29 val_main_cst_5
  pointwise
  simp only [ms_at]

theorem dpost_at (x : Fin 1024) : val_main_v76 (F := Ideal) x0 x1 x2 x4 x5 x6 x7 x8 (ix2 0 x)
    = ∑ r : Fin 4096, x1 (ix2 r x) * Ideal.rsqrt (meanSq fun k => x1 (ix2 r k)) * val_main_v58 (F := Ideal) x0 x2 x4 x5 x6 x7 x8 (ix2 r x) := by
  unfold val_main_v76 val_main_v75 val_main_v74 val_main_v71 val_main_v70 val_main_v66 val_main_cst_13
  pointwise
  simp only [ms_at']

/-! ## Numbers stay numbers -/

variable {x0 x1 x2 x3 x4 x5 x6 x7 x8}

theorem gate_num (h2 : ∀ i, IsNum (x2 i)) (i : S4096x3072.Idx) : IsNum (val_main_v3 (F := Ideal) x2 i) := by
  rw [val_main_v3_apply, val_main_v2_apply, val_main_v1_apply, val_main_v0_apply]
  exact h2 _

theorem upin_num (h2 : ∀ i, IsNum (x2 i)) (i : S4096x3072.Idx) : IsNum (val_main_v6 (F := Ideal) x2 i) := by
  rw [val_main_v6_apply, val_main_v5_apply, val_main_v4_apply, val_main_v0_apply]
  exact h2 _

theorem sig_num (h2 : ∀ i, IsNum (x2 i)) (r : Fin 4096) (q : Fin 3072) : IsNum (val_main_v7_2 (F := Ideal) x2 (ix2 r q)) := by
  rw [sig_at]
  exact logistic_num (gate_num h2 _)

theorem dff_num (h6 : ∀ i, IsNum (x6 i)) (h8 : ∀ i, IsNum (x8 i)) (r : Fin 4096) (q : Fin 3072) : IsNum (val_main_v10 (F := Ideal) x6 x8 (ix2 r q)) := by
  rw [dff_at]
  exact IsNum.sum fun k => (h8 _).mul (h6 _)

/-- The gradient before the gate, as the product the kernel takes. -/
theorem dgu_eq (h2 : ∀ i, IsNum (x2 i)) (h6 : ∀ i, IsNum (x6 i)) (h8 : ∀ i, IsNum (x8 i)) (r : Fin 4096) (e : Fin 6144) (q : Fin 3072)
    (hq : q.val = 384 * (e.val / 768) + e.val % 384) (g u s : EReal) (hg : val_main_v3 (F := Ideal) x2 (ix2 r q) = g)
    (hu : val_main_v6 (F := Ideal) x2 (ix2 r q) = u) (hs : val_main_v7_2 (F := Ideal) x2 (ix2 r q) = s) :
    val_main_v21 (F := Ideal) x2 x6 x8 (ix2 r e)
      = (∑ k : Fin 1024, x8 (ix2 r k) * x6 (ix2 q k)) * (if e.val / 384 % 2 = 0 then u * (s * (1 + g * (1 - s))) else g * s : EReal) := by
  rw [dgu_at x8 x2 x6 r e q hq, ← dff_at]
  by_cases h : e.val / 384 % 2 = 0
  · rw [if_pos h, if_pos h, gate_at x8 x2 x6 r q _ g u s rfl hg hu hs]
    refine gate_of_num (dff_num h6 h8 r q) ?_ ?_ ?_
    · rw [← hg]; exact gate_num h2 _
    · rw [← hu]; exact upin_num h2 _
    · rw [← hs]; exact sig_num h2 r q
  · rw [if_neg h, if_neg h, up_at, hg, hs, mul_comm]

theorem dgu_num (h2 : ∀ i, IsNum (x2 i)) (h6 : ∀ i, IsNum (x6 i)) (h8 : ∀ i, IsNum (x8 i)) (r : Fin 4096) (e : Fin 6144) :
    IsNum (val_main_v21 (F := Ideal) x2 x6 x8 (ix2 r e)) := by
  have he := e.isLt
  have one : IsNum (1 : EReal) := ⟨1, EReal.coe_one.symm⟩
  have hq : 384 * (e.val / 768) + e.val % 384 < 3072 := by clear * - he; omega
  have hg := gate_num h2 (ix2 r ⟨_, hq⟩)
  have hu := upin_num h2 (ix2 r ⟨_, hq⟩)
  have hs := sig_num h2 r ⟨_, hq⟩
  rw [dgu_at x8 x2 x6 r e ⟨_, hq⟩ rfl]
  split
  · rw [gate_at x8 x2 x6 r ⟨_, hq⟩ _ _ _ _ rfl rfl rfl rfl, gate_of_num (dff_num h6 h8 r _) hg hu hs]
    refine (dff_num h6 h8 r _).mul (hu.mul (hs.mul (one.add (hg.mul ?_))))
    obtain ⟨y, hy⟩ := hs
    exact ⟨1 - y, by rw [hy, EReal.coe_sub, EReal.coe_one]⟩
  · rw [up_at]
    exact (hg.mul hs).mul (dff_num h6 h8 r _)

theorem dz_num (h2 : ∀ i, IsNum (x2 i)) (h5 : ∀ i, IsNum (x5 i)) (h6 : ∀ i, IsNum (x6 i)) (h8 : ∀ i, IsNum (x8 i)) (r : Fin 4096) (x : Fin 1024) :
    IsNum (val_main_v38 (F := Ideal) x2 x5 x6 x8 (ix2 r x)) := by
  rw [dz_at]
  exact IsNum.sum fun e => (dgu_num h2 h6 h8 r e).mul (h5 _)

/-! ## The reference's results as the kernel computes them -/

section
variable (h0 : ∀ i, IsNum (x0 i)) (h1 : ∀ i, IsNum (x1 i)) (h2 : ∀ i, IsNum (x2 i)) (h3 : ∀ i, IsNum (x3 i)) (h4 : ∀ i, IsNum (x4 i)) (h5 : ∀ i, IsNum (x5 i))
  (h6 : ∀ i, IsNum (x6 i)) (h7 : ∀ i, IsNum (x7 i)) (h8 : ∀ i, IsNum (x8 i))
include h0 h2 h4 h5 h6 h7 h8

theorem dx_eq (r : Fin 4096) (x : Fin 1024) : val_main_v58 (F := Ideal) x0 x2 x4 x5 x6 x7 x8 (ix2 r x)
    = x7 (ix2 r x) + rowB (fun k => x0 (ix2 r k)) (fun k => val_main_v38 (F := Ideal) x2 x5 x6 x8 (ix2 r k)) (fun k => x4 (ix2 0 k)) x := by
  rw [dx_at]
  exact rowB_of_num (fun k => h0 _) (fun k => dz_num h2 h5 h6 h8 r k) (fun k => h4 _) (h7 _) x

theorem dx_num (r : Fin 4096) (x : Fin 1024) : IsNum (val_main_v58 (F := Ideal) x0 x2 x4 x5 x6 x7 x8 (ix2 r x)) := by
  rw [dx_eq h0 h2 h4 h5 h6 h7 h8]
  exact (h7 _).add (rowB_num (fun k => h0 _) (fun k => dz_num h2 h5 h6 h8 r k) (fun k => h4 _) x)

include h1 h3

theorem dy_eq (r : Fin 4096) (x : Fin 1024) : val_main_v92 (F := Ideal) x0 x1 x2 x3 x4 x5 x6 x7 x8 (ix2 r x)
    = rowB (fun k => x1 (ix2 r k)) (fun k => val_main_v58 (F := Ideal) x0 x2 x4 x5 x6 x7 x8 (ix2 r k)) (fun k => x3 (ix2 0 k)) x := by
  rw [dy_at x0 x1 x7 x8 x2 x3 x4 x5 x6 r x _ fun k => rfl]
  have e := rowB_of_num (a := 0) (fun k => h1 (ix2 r k)) (fun k => dx_num h0 h2 h4 h5 h6 h7 h8 r k) (fun k => h3 (ix2 0 k)) ⟨0, EReal.coe_zero.symm⟩ x
  rw [zero_add, zero_add] at e
  exact e

end

theorem dpre_eq (h0 : ∀ i, IsNum (x0 i)) (x : Fin 1024) : val_main_v41 (F := Ideal) x0 x2 x5 x6 x8 (ix2 0 x)
    = ∑ r : Fin 4096, (val_main_v38 (F := Ideal) x2 x5 x6 x8 (ix2 r x) : EReal) * (x0 (ix2 r x) * rowR fun k => x0 (ix2 r k)) := by
  rw [dpre_at]
  exact Finset.sum_congr rfl fun r _ => by rw [rowR_of_num fun k => h0 _, mul_comm]

theorem dpost_eq (h1 : ∀ i, IsNum (x1 i)) (x : Fin 1024) : val_main_v76 (F := Ideal) x0 x1 x2 x4 x5 x6 x7 x8 (ix2 0 x)
    = ∑ r : Fin 4096, (val_main_v58 (F := Ideal) x0 x2 x4 x5 x6 x7 x8 (ix2 r x) : EReal) * (x1 (ix2 r x) * rowR fun k => x1 (ix2 r k)) := by
  rw [dpost_at]
  exact Finset.sum_congr rfl fun r _ => by rw [rowR_of_num fun k => h1 _, mul_comm]

end Cert.Reference3Ideal.Ffn
-- ==== Proof.FfnHost.lean ====
module

public import proofs.«01_k».proof.Proof.FfnStep
public import proofs.«01_k».proof.Proof.FfnRef

@[expose] public section

set_option maxRecDepth 16384

noncomputable section

namespace Cert.Kernel3Ideal.Ffn

open Idealize.ShloMosaic Idealize.ShloMosaic.TcCoe Cert.Flash Cert.Ffn
open Idealize.SL Idealize.SL.Sem
open Cert.Kernel3Ideal Cert.Kernel3Ideal.Gen
open scoped BigOperators

variable (m : (ℓ : Loc nD τ sig) → Buf (Elt Ideal) ℓ) (c : Dev nD)

/-! ## The blocks of the arrays: a point `t` is at row block `t / 4` and column block `t % 4` -/

theorem lt32 (t : Fin cfg0.N) : t.val < 32 := Nat.lt_of_lt_of_eq t.isLt N_0

theorem index0 : ∀ t : Fin grid0.N, win0_0.index t 0 = t.val / 4 ∧ win0_0.index t 1 = 0 := by decide +kernel
theorem index1 : ∀ t : Fin grid0.N, win0_1.index t 0 = t.val / 4 ∧ win0_1.index t 1 = t.val % 4 := by decide +kernel
theorem index2 : ∀ t : Fin grid0.N, win0_2.index t 0 = t.val / 4 ∧ win0_2.index t 1 = t.val % 4 := by decide +kernel
theorem index3 : ∀ t : Fin grid0.N, win0_3.index t 0 = t.val % 4 ∧ win0_3.index t 1 = 0 := by decide +kernel
theorem index4 : ∀ t : Fin grid0.N, win0_4.index t 0 = t.val % 4 ∧ win0_4.index t 1 = 0 := by decide +kernel
theorem index5 : ∀ t : Fin grid0.N, win0_5.index t 0 = t.val / 4 ∧ win0_5.index t 1 = 0 := by decide +kernel
theorem index6 : ∀ t : Fin grid0.N, win0_6.index t 0 = t.val / 4 ∧ win0_6.index t 1 = 0 := by decide +kernel
theorem index7 : ∀ t : Fin grid0.N, win0_7.index t 0 = t.val / 4 ∧ win0_7.index t 1 = 0 := by decide +kernel
theorem index8 : ∀ t : Fin grid0.N, win0_8.index t 0 = 0 ∧ win0_8.index t 1 = 0 := by decide +kernel
theorem index9 : ∀ t : Fin grid0.N, win0_9.index t 0 = 0 ∧ win0_9.index t 1 = 0 := by decide +kernel
theorem index10 : ∀ t : Fin grid0.N, win0_10.index t 0 = t.val / 4 ∧ win0_10.index t 1 = t.val % 4 := by decide +kernel
theorem index11 : ∀ t : Fin grid0.N, win0_11.index t 0 = t.val / 4 ∧ win0_11.index t 1 = 0 := by decide +kernel
theorem index12 : ∀ t : Fin grid0.N, win0_12.index t 0 = t.val / 4 ∧ win0_12.index t 1 = 0 := by decide +kernel
theorem index13 : ∀ t : Fin grid0.N, win0_13.index t 0 = 0 ∧ win0_13.index t 1 = 0 := by decide +kernel
theorem index14 : ∀ t : Fin grid0.N, win0_14.index t 0 = 0 ∧ win0_14.index t 1 = 0 := by decide +kernel

theorem read0_apply (A : (⟨2, ![4096, 1024]⟩ : Shape).Idx → EReal) (t : Fin grid0.N) (r : Fin 512) (x : Fin 1024) :
    (win0_0.blk t).view.read (Elt Ideal) A (ix2 r x) = at2 A (512 * (t.val / 4) + r.val) (x.val) := by
  have ht : t.val < 32 := lt32 t
  have hr := r.isLt
  have hx := x.isLt
  have hi := index0 t
  rw [at2_lt A (show 512 * (t.val / 4) + r.val < 4096 by omega) (show x.val < 1024 by omega), View.read_apply]
  refine congrArg A (funext fun a => Fin.ext ?_)
  match a with
  | ⟨0, _⟩ =>
    have e : win0_0.index t 0 * 512 + 1 * r.val = 512 * (t.val / 4) + r.val := by rw [hi.1]; omega
    exact e
  | ⟨1, _⟩ =>
    have e : win0_0.index t 1 * 1024 + 1 * x.val = x.val := by rw [hi.2]; omega
    exact e

theorem read1_apply (A : (⟨2, ![4096, 3072]⟩ : Shape).Idx → EReal) (t : Fin grid0.N) (r : Fin 512) (x : Fin 768) :
    (win0_1.blk t).view.read (Elt Ideal) A (ix2 r x) = at2 A (512 * (t.val / 4) + r.val) (768 * (t.val % 4) + x.val) := by
  have ht : t.val < 32 := lt32 t
  have hr := r.isLt
  have hx := x.isLt
  have hi := index1 t
  rw [at2_lt A (show 512 * (t.val / 4) + r.val < 4096 by omega) (show 768 * (t.val % 4) + x.val < 3072 by omega), View.read_apply]
  refine congrArg A (funext fun a => Fin.ext ?_)
  match a with
  | ⟨0, _⟩ =>
    have e : win0_1.index t 0 * 512 + 1 * r.val = 512 * (t.val / 4) + r.val := by rw [hi.1]; omega
    exact e
  | ⟨1, _⟩ =>
    have e : win0_1.index t 1 * 768 + 1 * x.val = 768 * (t.val % 4) + x.val := by rw [hi.2]; omega
    exact e

theorem read2_apply (A : (⟨2, ![4096, 3072]⟩ : Shape).Idx → EReal) (t : Fin grid0.N) (r : Fin 512) (x : Fin 768) :
    (win0_2.blk t).view.read (Elt Ideal) A (ix2 r x) = at2 A (512 * (t.val / 4) + r.val) (768 * (t.val % 4) + x.val) := by
  have ht : t.val < 32 := lt32 t
  have hr := r.isLt
  have hx := x.isLt
  have hi := index2 t
  rw [at2_lt A (show 512 * (t.val / 4) + r.val < 4096 by omega) (show 768 * (t.val % 4) + x.val < 3072 by omega), View.read_apply]
  refine congrArg A (funext fun a => Fin.ext ?_)
  match a with
  | ⟨0, _⟩ =>
    have e : win0_2.index t 0 * 512 + 1 * r.val = 512 * (t.val / 4) + r.val := by rw [hi.1]; omega
    exact e
  | ⟨1, _⟩ =>
    have e : win0_2.index t 1 * 768 + 1 * x.val = 768 * (t.val % 4) + x.val := by rw [hi.2]; omega
    exact e

theorem read3_apply (A : (⟨2, ![6144, 1024]⟩ : Shape).Idx → EReal) (t : Fin grid0.N) (r : Fin 1536) (x : Fin 1024) :
    (win0_3.blk t).view.read (Elt Ideal) A (ix2 r x) = at2 A (1536 * (t.val % 4) + r.val) (x.val) := by
  have ht : t.val < 32 := lt32 t
  have hr := r.isLt
  have hx := x.isLt
  have hi := index3 t
  rw [at2_lt A (show 1536 * (t.val % 4) + r.val < 6144 by omega) (show x.val < 1024 by omega), View.read_apply]
  refine congrArg A (funext fun a => Fin.ext ?_)
  match a with
  | ⟨0, _⟩ =>
    have e : win0_3.index t 0 * 1536 + 1 * r.val = 1536 * (t.val % 4) + r.val := by rw [hi.1]; omega
    exact e
  | ⟨1, _⟩ =>
    have e : win0_3.index t 1 * 1024 + 1 * x.val = x.val := by rw [hi.2]; omega
    exact e

theorem read4_apply (A : (⟨2, ![3072, 1024]⟩ : Shape).Idx → EReal) (t : Fin grid0.N) (r : Fin 768) (x : Fin 1024) :
    (win0_4.blk t).view.read (Elt Ideal) A (ix2 r x) = at2 A (768 * (t.val % 4) + r.val) (x.val) := by
  have ht : t.val < 32 := lt32 t
  have hr := r.isLt
  have hx := x.isLt
  have hi := index4 t
  rw [at2_lt A (show 768 * (t.val % 4) + r.val < 3072 by omega) (show x.val < 1024 by omega), View.read_apply]
  refine congrArg A (funext fun a => Fin.ext ?_)
  match a with
  | ⟨0, _⟩ =>
    have e : win0_4.index t 0 * 768 + 1 * r.val = 768 * (t.val % 4) + r.val := by rw [hi.1]; omega
    exact e
  | ⟨1, _⟩ =>
    have e : win0_4.index t 1 * 1024 + 1 * x.val = x.val := by rw [hi.2]; omega
    exact e

theorem read5_apply (A : (⟨2, ![4096, 1024]⟩ : Shape).Idx → EReal) (t : Fin grid0.N) (r : Fin 512) (x : Fin 1024) :
    (win0_5.blk t).view.read (Elt Ideal) A (ix2 r x) = at2 A (512 * (t.val / 4) + r.val) (x.val) := by
  have ht : t.val < 32 := lt32 t
  have hr := r.isLt
  have hx := x.isLt
  have hi := index5 t
  rw [at2_lt A (show 512 * (t.val / 4) + r.val < 4096 by omega) (show x.val < 1024 by omega), View.read_apply]
  refine congrArg A (funext fun a => Fin.ext ?_)
  match a with
  | ⟨0, _⟩ =>
    have e : win0_5.index t 0 * 512 + 1 * r.val = 512 * (t.val / 4) + r.val := by rw [hi.1]; omega
    exact e
  | ⟨1, _⟩ =>
    have e : win0_5.index t 1 * 1024 + 1 * x.val = x.val := by rw [hi.2]; omega
    exact e

theorem read6_apply (A : (⟨2, ![4096, 1024]⟩ : Shape).Idx → EReal) (t : Fin grid0.N) (r : Fin 512) (x : Fin 1024) :
    (win0_6.blk t).view.read (Elt Ideal) A (ix2 r x) = at2 A (512 * (t.val / 4) + r.val) (x.val) := by
  have ht : t.val < 32 := lt32 t
  have hr := r.isLt
  have hx := x.isLt
  have hi := index6 t
  rw [at2_lt A (show 512 * (t.val / 4) + r.val < 4096 by omega) (show x.val < 1024 by omega), View.read_apply]
  refine congrArg A (funext fun a => Fin.ext ?_)
  match a with
  | ⟨0, _⟩ =>
    have e : win0_6.index t 0 * 512 + 1 * r.val = 512 * (t.val / 4) + r.val := by rw [hi.1]; omega
    exact e
  | ⟨1, _⟩ =>
    have e : win0_6.index t 1 * 1024 + 1 * x.val = x.val := by rw [hi.2]; omega
    exact e

theorem read7_apply (A : (⟨2, ![4096, 1024]⟩ : Shape).Idx → EReal) (t : Fin grid0.N) (r : Fin 512) (x : Fin 1024) :
    (win0_7.blk t).view.read (Elt Ideal) A (ix2 r x) = at2 A (512 * (t.val / 4) + r.val) (x.val) := by
  have ht : t.val < 32 := lt32 t
  have hr := r.isLt
  have hx := x.isLt
  have hi := index7 t
  rw [at2_lt A (show 512 * (t.val / 4) + r.val < 4096 by omega) (show x.val < 1024 by omega), View.read_apply]
  refine congrArg A (funext fun a => Fin.ext ?_)
  match a with
  | ⟨0, _⟩ =>
    have e : win0_7.index t 0 * 512 + 1 * r.val = 512 * (t.val / 4) + r.val := by rw [hi.1]; omega
    exact e
  | ⟨1, _⟩ =>
    have e : win0_7.index t 1 * 1024 + 1 * x.val = x.val := by rw [hi.2]; omega
    exact e

theorem read8_apply (A : (⟨2, ![1, 1024]⟩ : Shape).Idx → EReal) (t : Fin grid0.N) (r : Fin 1) (x : Fin 1024) :
    (win0_8.blk t).view.read (Elt Ideal) A (ix2 r x) = at2 A (r.val) (x.val) := by
  have ht : t.val < 32 := lt32 t
  have hr := r.isLt
  have hx := x.isLt
  have hi := index8 t
  rw [at2_lt A (show r.val < 1 by omega) (show x.val < 1024 by omega), View.read_apply]
  refine congrArg A (funext fun a => Fin.ext ?_)
  match a with
  | ⟨0, _⟩ =>
    have e : win0_8.index t 0 * 1 + 1 * r.val = r.val := by rw [hi.1]; omega
    exact e
  | ⟨1, _⟩ =>
    have e : win0_8.index t 1 * 1024 + 1 * x.val = x.val := by rw [hi.2]; omega
    exact e

theorem read9_apply (A : (⟨2, ![1, 1024]⟩ : Shape).Idx → EReal) (t : Fin grid0.N) (r : Fin 1) (x : Fin 1024) :
    (win0_9.blk t).view.read (Elt Ideal) A (ix2 r x) = at2 A (r.val) (x.val) := by
  have ht : t.val < 32 := lt32 t
  have hr := r.isLt
  have hx := x.isLt
  have hi := index9 t
  rw [at2_lt A (show r.val < 1 by omega) (show x.val < 1024 by omega), View.read_apply]
  refine congrArg A (funext fun a => Fin.ext ?_)
  match a with
  | ⟨0, _⟩ =>
    have e : win0_9.index t 0 * 1 + 1 * r.val = r.val := by rw [hi.1]; omega
    exact e
  | ⟨1, _⟩ =>
    have e : win0_9.index t 1 * 1024 + 1 * x.val = x.val := by rw [hi.2]; omega
    exact e

theorem read10_apply (A : (⟨2, ![4096, 6144]⟩ : Shape).Idx → EReal) (t : Fin grid0.N) (r : Fin 512) (x : Fin 1536) :
    (win0_10.blk t).view.read (Elt Ideal) A (ix2 r x) = at2 A (512 * (t.val / 4) + r.val) (1536 * (t.val % 4) + x.val) := by
  have ht : t.val < 32 := lt32 t
  have hr := r.isLt
  have hx := x.isLt
  have hi := index10 t
  rw [at2_lt A (show 512 * (t.val / 4) + r.val < 4096 by omega) (show 1536 * (t.val % 4) + x.val < 6144 by omega), View.read_apply]
  refine congrArg A (funext fun a => Fin.ext ?_)
  match a with
  | ⟨0, _⟩ =>
    have e : win0_10.index t 0 * 512 + 1 * r.val = 512 * (t.val / 4) + r.val := by rw [hi.1]; omega
    exact e
  | ⟨1, _⟩ =>
    have e : win0_10.index t 1 * 1536 + 1 * x.val = 1536 * (t.val % 4) + x.val := by rw [hi.2]; omega
    exact e

theorem read11_apply (A : (⟨2, ![4096, 1024]⟩ : Shape).Idx → EReal) (t : Fin grid0.N) (r : Fin 512) (x : Fin 1024) :
    (win0_11.blk t).view.read (Elt Ideal) A (ix2 r x) = at2 A (512 * (t.val / 4) + r.val) (x.val) := by
  have ht : t.val < 32 := lt32 t
  have hr := r.isLt
  have hx := x.isLt
  have hi := index11 t
  rw [at2_lt A (show 512 * (t.val / 4) + r.val < 4096 by omega) (show x.val < 1024 by omega), View.read_apply]
  refine congrArg A (funext fun a => Fin.ext ?_)
  match a with
  | ⟨0, _⟩ =>
    have e : win0_11.index t 0 * 512 + 1 * r.val = 512 * (t.val / 4) + r.val := by rw [hi.1]; omega
    exact e
  | ⟨1, _⟩ =>
    have e : win0_11.index t 1 * 1024 + 1 * x.val = x.val := by rw [hi.2]; omega
    exact e

theorem read12_apply (A : (⟨2, ![4096, 1024]⟩ : Shape).Idx → EReal) (t : Fin grid0.N) (r : Fin 512) (x : Fin 1024) :
    (win0_12.blk t).view.read (Elt Ideal) A (ix2 r x) = at2 A (512 * (t.val / 4) + r.val) (x.val) := by
  have ht : t.val < 32 := lt32 t
  have hr := r.isLt
  have hx := x.isLt
  have hi := index12 t
  rw [at2_lt A (show 512 * (t.val / 4) + r.val < 4096 by omega) (show x.val < 1024 by omega), View.read_apply]
  refine congrArg A (funext fun a => Fin.ext ?_)
  match a with
  | ⟨0, _⟩ =>
    have e : win0_12.index t 0 * 512 + 1 * r.val = 512 * (t.val / 4) + r.val := by rw [hi.1]; omega
    exact e
  | ⟨1, _⟩ =>
    have e : win0_12.index t 1 * 1024 + 1 * x.val = x.val := by rw [hi.2]; omega
    exact e

theorem read13_apply (A : (⟨2, ![1, 1024]⟩ : Shape).Idx → EReal) (t : Fin grid0.N) (r : Fin 1) (x : Fin 1024) :
    (win0_13.blk t).view.read (Elt Ideal) A (ix2 r x) = at2 A (r.val) (x.val) := by
  have ht : t.val < 32 := lt32 t
  have hr := r.isLt
  have hx := x.isLt
  have hi := index13 t
  rw [at2_lt A (show r.val < 1 by omega) (show x.val < 1024 by omega), View.read_apply]
  refine congrArg A (funext fun a => Fin.ext ?_)
  match a with
  | ⟨0, _⟩ =>
    have e : win0_13.index t 0 * 1 + 1 * r.val = r.val := by rw [hi.1]; omega
    exact e
  | ⟨1, _⟩ =>
    have e : win0_13.index t 1 * 1024 + 1 * x.val = x.val := by rw [hi.2]; omega
    exact e

theorem read14_apply (A : (⟨2, ![1, 1024]⟩ : Shape).Idx → EReal) (t : Fin grid0.N) (r : Fin 1) (x : Fin 1024) :
    (win0_14.blk t).view.read (Elt Ideal) A (ix2 r x) = at2 A (r.val) (x.val) := by
  have ht : t.val < 32 := lt32 t
  have hr := r.isLt
  have hx := x.isLt
  have hi := index14 t
  rw [at2_lt A (show r.val < 1 by omega) (show x.val < 1024 by omega), View.read_apply]
  refine congrArg A (funext fun a => Fin.ext ?_)
  match a with
  | ⟨0, _⟩ =>
    have e : win0_14.index t 0 * 1 + 1 * r.val = r.val := by rw [hi.1]; omega
    exact e
  | ⟨1, _⟩ =>
    have e : win0_14.index t 1 * 1024 + 1 * x.val = x.val := by rw [hi.2]; omega
    exact e

/-! ## The arrays the call reads -/

theorem V_arg0 : (V m c main_arg0 : (⟨2, ![4096, 1024]⟩ : Shape).Idx → EReal) = m ((c : Thread nD τ).loc main_arg0) := by
  simp only [V, hostOps0]
  after_results_simp

theorem V_arg1 : (V m c main_arg1 : (⟨2, ![4096, 1024]⟩ : Shape).Idx → EReal) = m ((c : Thread nD τ).loc main_arg1) := by
  simp only [V, hostOps0]
  after_results_simp

theorem V_arg3 : (V m c main_arg3 : (⟨2, ![1, 1024]⟩ : Shape).Idx → EReal) = m ((c : Thread nD τ).loc main_arg3) := by
  simp only [V, hostOps0]
  after_results_simp

theorem V_arg4 : (V m c main_arg4 : (⟨2, ![1, 1024]⟩ : Shape).Idx → EReal) = m ((c : Thread nD τ).loc main_arg4) := by
  simp only [V, hostOps0]
  after_results_simp

theorem V_arg7 : (V m c main_arg7 : (⟨2, ![4096, 1024]⟩ : Shape).Idx → EReal) = m ((c : Thread nD τ).loc main_arg7) := by
  simp only [V, hostOps0]
  after_results_simp

theorem V_v13 : (V m c main_v13 : (⟨2, ![4096, 1024]⟩ : Shape).Idx → EReal) = m ((c : Thread nD τ).loc main_arg8) := by
  simp only [V, hostOps0]
  after_results_simp
  rfl

theorem V_v24 : (V m c main_v24 : (⟨2, ![6144, 1024]⟩ : Shape).Idx → EReal) = m ((c : Thread nD τ).loc main_arg5) := by
  simp only [V, hostOps0]
  after_results_simp
  rfl

theorem V_v25 : (V m c main_v25 : (⟨2, ![3072, 1024]⟩ : Shape).Idx → EReal) = m ((c : Thread nD τ).loc main_arg6) := by
  simp only [V, hostOps0]
  after_results_simp
  rfl

open Cert.Reference3Ideal.Read in
/-- What the gate's half of the gradient is multiplied by. -/
def gateF (x2 : (⟨2, ![4096, 6144]⟩ : Shape).Idx → EReal) (i : (⟨2, ![4096, 3072]⟩ : Shape).Idx) : EReal :=
  val_main_v6 (F := Ideal) x2 i * (val_main_v7_2 (F := Ideal) x2 i * (Ideal.ofBits .f32 0x3F800000#32 + val_main_v3 (F := Ideal) x2 i * (Ideal.ofBits .f32 0x3F800000#32 - val_main_v7_2 (F := Ideal) x2 i)))

open Cert.Reference3Ideal.Read in
/-- What the up half of the gradient is multiplied by. -/
def upF (x2 : (⟨2, ![4096, 6144]⟩ : Shape).Idx → EReal) (i : (⟨2, ![4096, 3072]⟩ : Shape).Idx) : EReal :=
  val_main_v3 (F := Ideal) x2 i * val_main_v7_2 (F := Ideal) x2 i

theorem V_v23 : (V m c main_v23 : (⟨2, ![4096, 3072]⟩ : Shape).Idx → EReal) = upF (m ((c : Thread nD τ).loc main_arg2)) := by
  simp only [V, hostOps0]
  after_results_simp
  rfl

theorem V_v21 : (V m c main_v21 : (⟨2, ![4096, 3072]⟩ : Shape).Idx → EReal) = gateF (m ((c : Thread nD τ).loc main_arg2)) := by
  simp only [V, hostOps0]
  after_results_simp
  rfl

end Cert.Kernel3Ideal.Ffn
-- ==== Proof.FfnSum.lean ====
module

public import proofs.«01_k».proof.Proof.FfnHost

@[expose] public section

set_option maxRecDepth 16384

noncomputable section

namespace Cert.Kernel3Ideal.Ffn

open Idealize.ShloMosaic Idealize.ShloMosaic.TcCoe Cert.Flash Cert.Ffn
open Idealize.SL Idealize.SL.Sem
open Cert.Kernel3Ideal Cert.Kernel3Ideal.Gen
open scoped BigOperators

variable (m : (ℓ : Loc nD τ sig) → Buf (Elt Ideal) ℓ) (c : Dev nD)

/-! ## The call's results, entry by entry, from its arguments -/

/-- The rows before the first norm. -/
def hA : ℕ → ℕ → EReal := at2 (m := 4096) (n := 1024) (m ((c : Thread nD τ).loc main_arg0))

/-- The rows of the second norm. -/
def yA : ℕ → ℕ → EReal := at2 (m := 4096) (n := 1024) (m ((c : Thread nD τ).loc main_arg1))

/-- The second norm's weight. -/
def qA : ℕ → ℕ → EReal := at2 (m := 1) (n := 1024) (m ((c : Thread nD τ).loc main_arg3))

/-- The first norm's weight. -/
def pA : ℕ → ℕ → EReal := at2 (m := 1) (n := 1024) (m ((c : Thread nD τ).loc main_arg4))

/-- The weight into the gate. -/
def wA : ℕ → ℕ → EReal := at2 (m := 6144) (n := 1024) (m ((c : Thread nD τ).loc main_arg5))

/-- The weight out of the gate. -/
def vA : ℕ → ℕ → EReal := at2 (m := 3072) (n := 1024) (m ((c : Thread nD τ).loc main_arg6))

/-- The gradient that joins. -/
def eA : ℕ → ℕ → EReal := at2 (m := 4096) (n := 1024) (m ((c : Thread nD τ).loc main_arg7))

/-- The gradient that comes in. -/
def dA : ℕ → ℕ → EReal := at2 (m := 4096) (n := 1024) (m ((c : Thread nD τ).loc main_arg8))

/-- What a column of the gradient out of the gate is multiplied by. -/
def fA (R E : ℕ) : EReal :=
  if E / 384 % 2 = 0 then at2 (gateF (m ((c : Thread nD τ).loc main_arg2))) R (gateCol E) else at2 (upF (m ((c : Thread nD τ).loc main_arg2))) R (gateCol E)

/-- The gradient before the gate. -/
def guN (R E : ℕ) : EReal := (∑ k : Fin 1024, dA m c R k.val * vA m c (gateCol E) k.val) * fA m c R E

/-- One column's part of the gradient after the first norm. -/
def dzTerm (R : ℕ) (x : Fin 1024) (E : ℕ) : EReal := guN m c R E * wA m c E x.val

/-- The gradient after the first norm. -/
def dzN (R : ℕ) (x : Fin 1024) : EReal := ∑ E ∈ Finset.range 6144, dzTerm m c R x E

/-- The gradient before the first norm. -/
def dxN (R : ℕ) (x : Fin 1024) : EReal := eA m c R x.val + rowB (fun k => hA m c R k.val) (dzN m c R) (fun k => pA m c 0 k.val) x

/-- The gradient before the second norm. -/
def dyN (R : ℕ) (x : Fin 1024) : EReal := rowB (fun k => yA m c R k.val) (dxN m c R) (fun k => qA m c 0 k.val) x

/-- One row's part of the gradient of the first norm's weight. -/
def preTerm (x : Fin 1024) (R : ℕ) : EReal := dzN m c R x * (hA m c R x.val * rowR fun k => hA m c R k.val)

/-- One row's part of the gradient of the second norm's weight. -/
def postTerm (x : Fin 1024) (R : ℕ) : EReal := dxN m c R x * (yA m c R x.val * rowR fun k => yA m c R k.val)

/-! ## The blocks -/

theorem blk0 (t : Fin cfg0.N) (r : Fin 512) (x : Fin 1024) : (iblk m c 0 t (ix2 r x) : EReal) = dA m c (512 * (t.val / 4) + r.val) x.val := by
  unfold dA
  rw [← V_v13 m c]
  exact read0_apply _ t r x

theorem blk3 (t : Fin cfg0.N) (r : Fin 1536) (x : Fin 1024) : (iblk m c 3 t (ix2 r x) : EReal) = wA m c (1536 * (t.val % 4) + r.val) x.val := by
  unfold wA
  rw [← V_v24 m c]
  exact read3_apply _ t r x

theorem blk4 (t : Fin cfg0.N) (r : Fin 768) (x : Fin 1024) : (iblk m c 4 t (ix2 r x) : EReal) = vA m c (768 * (t.val % 4) + r.val) x.val := by
  unfold vA
  rw [← V_v25 m c]
  exact read4_apply _ t r x

theorem blk5 (t : Fin cfg0.N) (r : Fin 512) (x : Fin 1024) : (iblk m c 5 t (ix2 r x) : EReal) = hA m c (512 * (t.val / 4) + r.val) x.val := by
  unfold hA
  rw [← V_arg0 m c]
  exact read5_apply _ t r x

theorem blk6 (t : Fin cfg0.N) (r : Fin 512) (x : Fin 1024) : (iblk m c 6 t (ix2 r x) : EReal) = yA m c (512 * (t.val / 4) + r.val) x.val := by
  unfold yA
  rw [← V_arg1 m c]
  exact read6_apply _ t r x

theorem blk7 (t : Fin cfg0.N) (r : Fin 512) (x : Fin 1024) : (iblk m c 7 t (ix2 r x) : EReal) = eA m c (512 * (t.val / 4) + r.val) x.val := by
  unfold eA
  rw [← V_arg7 m c]
  exact read7_apply _ t r x

theorem blk8 (t : Fin cfg0.N) (x : Fin 1024) : (iblk m c 8 t (ix2 (0 : Fin 1) x) : EReal) = pA m c 0 x.val := by
  unfold pA
  rw [← V_arg4 m c]
  exact read8_apply _ t 0 x

theorem blk9 (t : Fin cfg0.N) (x : Fin 1024) : (iblk m c 9 t (ix2 (0 : Fin 1) x) : EReal) = qA m c 0 x.val := by
  unfold qA
  rw [← V_arg3 m c]
  exact read9_apply _ t 0 x

theorem gu_block (t : Fin cfg0.N) (r : Fin 512) (e : Fin 1536) :
    (k0_pay11 (F := Ideal) (iblk m c 0 t) (iblk m c 4 t) (iblk m c 1 t) (iblk m c 2 t) (ix2 r e) : EReal) = guN m c (512 * (t.val / 4) + r.val) (1536 * (t.val % 4) + e.val) := by
  have ht := lt32 t
  have he := e.isLt
  have hq : gateCol e.val < 768 := by unfold gateCol; omega
  have hc : gateCol (1536 * (t.val % 4) + e.val) = 768 * (t.val % 4) + gateCol e.val := by unfold gateCol; omega
  have hp : (1536 * (t.val % 4) + e.val) / 384 % 2 = e.val / 384 % 2 := by omega
  rw [dgu_apply _ _ _ _ r e ⟨gateCol e.val, hq⟩ rfl]
  unfold guN fA
  rw [hc, hp, ← V_v21 m c, ← V_v23 m c]
  refine congrArg₂ (fun a b : EReal => a * b) (Finset.sum_congr rfl fun k _ => congrArg₂ (fun a b : EReal => a * b) (blk0 m c t r k) (blk4 m c t ⟨gateCol e.val, hq⟩ k)) ?_
  by_cases h : e.val / 384 % 2 = 0
  · rw [if_pos h, if_pos h]
    exact read1_apply _ t r ⟨gateCol e.val, hq⟩
  · rw [if_neg h, if_neg h]
    exact read2_apply _ t r ⟨gateCol e.val, hq⟩

theorem dz_block (t : Fin cfg0.N) (r : Fin 512) (x : Fin 1024) :
    partSum (k0_pay11 (F := Ideal) (iblk m c 0 t) (iblk m c 4 t) (iblk m c 1 t) (iblk m c 2 t)) (iblk m c 3 t) r x
      = ∑ k ∈ Finset.range 1536, dzTerm m c (512 * (t.val / 4) + r.val) x (1536 * (t.val % 4) + k) := by
  unfold partSum
  rw [← Cert.Flash.sum_fin]
  refine Finset.sum_congr rfl fun k _ => ?_
  unfold dzTerm
  exact congrArg₂ (fun p q : EReal => p * q) (gu_block m c t r k) (blk3 m c t k x)

/-! ## What the points leave -/

/-- The accumulator after a point: the column blocks so far. -/
theorem acc_after (r : Fin 512) (x : Fin 1024) : ∀ (n : ℕ) (hn : n < cfg0.N), ((outsAt0 m c n hn).2.2.2.2.2 (ix2 r x) : EReal)
    = ∑ k ∈ Finset.range (1536 * (n % 4 + 1)), dzTerm m c (512 * (n / 4) + r.val) x k := by
  have first : ∀ (n : ℕ) (hn : n < cfg0.N), n % 4 = 0 → ((outsAt0 m c n hn).2.2.2.2.2 (ix2 r x) : EReal)
      = ∑ k ∈ Finset.range (1536 * (n % 4 + 1)), dzTerm m c (512 * (n / 4) + r.val) x k := by
    intro n hn h
    refine (congrFun (acc_first m c ⟨n, hn⟩ h) (ix2 r x)).trans ((part_first _ _ _ _ _ r x).trans ((dz_block m c ⟨n, hn⟩ r x).trans ?_))
    rw [h]
    refine Finset.sum_congr rfl fun k _ => ?_
    show dzTerm m c (512 * (n / 4) + r.val) x (1536 * 0 + k) = _
    rw [show 1536 * 0 + k = k by omega]
  intro n
  induction n with
  | zero => exact fun hn => first 0 hn rfl
  | succ n ih =>
    intro hn
    by_cases h : (n + 1) % 4 = 0
    · exact first (n + 1) hn h
    · refine (congrFun (acc_later m c ⟨n + 1, hn⟩ h) (ix2 r x)).trans ((part_later _ _ _ _ _ _ r x).trans ?_)
      rw [dz_block m c ⟨n + 1, hn⟩ r x, Nat.mul_succ, Finset.sum_range_add]
      refine congrArg₂ (fun p q : EReal => p + q) ((ih _).trans ?_) rfl
      rw [show n % 4 + 1 = (n + 1) % 4 by omega, show n / 4 = (n + 1) / 4 by omega]

theorem acc_last (t : Fin cfg0.N) (h : t.val % 4 = 3) (r : Fin 512) (x : Fin 1024) :
    ((outsAt0 m c t.val t.isLt).2.2.2.2.2 (ix2 r x) : EReal) = dzN m c (512 * (t.val / 4) + r.val) x := by
  refine (acc_after m c r x t.val t.isLt).trans ?_
  rw [h]
  rfl

theorem dx_last (t : Fin cfg0.N) (h : t.val % 4 = 3) (r : Fin 512) (x : Fin 1024) :
    ((outsAt0 m c t.val t.isLt).2.1 (ix2 r x) : EReal) = dxN m c (512 * (t.val / 4) + r.val) x := by
  refine (congrFun (dx_out m c t h) (ix2 r x)).trans ((dx_apply _ _ _ _ r x).trans ?_)
  unfold dxN
  rw [funext fun k => blk5 m c t r k, funext fun k => acc_last m c t h r k, funext fun k => blk8 m c t k]
  exact congrArg₂ (fun p q : EReal => p + q) (blk7 m c t r x) rfl

theorem dy_last (t : Fin cfg0.N) (h : t.val % 4 = 3) (r : Fin 512) (x : Fin 1024) :
    ((outsAt0 m c t.val t.isLt).2.2.1 (ix2 r x) : EReal) = dyN m c (512 * (t.val / 4) + r.val) x := by
  refine (congrFun (dy_out m c t h) (ix2 r x)).trans ((dy_apply _ _ _ r x).trans ?_)
  unfold dyN
  rw [funext fun k => blk6 m c t r k, funext fun k => dx_last m c t h r k, funext fun k => blk9 m c t k]

theorem pre_block (t : Fin cfg0.N) (h : t.val % 4 = 3) (d : (⟨2, ![512, 1024]⟩ : Shape).Idx → EReal) (hd : ∀ r x, d (ix2 r x) = dzN m c (512 * (t.val / 4) + r.val) x)
    (x : Fin 1024) : normSum (iblk m c 5 t) d x = ∑ k ∈ Finset.range 512, preTerm m c x (512 * (t.val / 4) + k) := by
  unfold normSum
  rw [← Cert.Flash.sum_fin]
  refine Finset.sum_congr rfl fun r _ => ?_
  unfold preTerm
  rw [hd r x, funext fun k => blk5 m c t r k]
  exact congrArg (fun p : EReal => _ * (p * _)) (blk5 m c t r x)

/-- The sum of the rows so far. -/
theorem pre_after (x : Fin 1024) : ∀ (n : ℕ) (hn : n < cfg0.N), ((outsAt0 m c n hn).2.2.2.1 (ix2 (0 : Fin 1) x) : EReal)
    = ∑ R ∈ Finset.range (512 * ((n + 1) / 4)), preTerm m c x R := by
  intro n
  induction n with
  | zero =>
    intro hn
    exact (congrFun (pre_zero m c ⟨0, hn⟩ rfl) (ix2 (0 : Fin 1) x)).trans (zero_apply x).1
  | succ n ih =>
    intro hn
    have hl := lt32 ⟨n + 1, hn⟩
    have hr : ¬(n + 1) % 32 = 0 := by
      have : n + 1 < 32 := hl
      omega
    by_cases h : (n + 1) % 4 = 3
    · refine (congrFun (pre_add m c ⟨n + 1, hn⟩ h) (ix2 (0 : Fin 1) x)).trans ((dpre_apply _ _ _ x).trans ?_)
      rw [pre_block m c ⟨n + 1, hn⟩ h _ (fun r x => acc_last m c ⟨n + 1, hn⟩ h r x) x, show (n + 1 + 1) / 4 = (n + 1) / 4 + 1 by omega, Nat.mul_succ, Finset.sum_range_add]
      exact congrArg₂ (fun p q : EReal => p + q) (ih _) rfl
    · refine (congrFun (pre_kept m c ⟨n + 1, hn⟩ hr h) (ix2 (0 : Fin 1) x)).trans ((ih _).trans ?_)
      rw [show (n + 1 + 1) / 4 = (n + 1) / 4 by omega]

theorem post_block (t : Fin cfg0.N) (h : t.val % 4 = 3) (d : (⟨2, ![512, 1024]⟩ : Shape).Idx → EReal) (hd : ∀ r x, d (ix2 r x) = dxN m c (512 * (t.val / 4) + r.val) x)
    (x : Fin 1024) : normSum (iblk m c 6 t) d x = ∑ k ∈ Finset.range 512, postTerm m c x (512 * (t.val / 4) + k) := by
  unfold normSum
  rw [← Cert.Flash.sum_fin]
  refine Finset.sum_congr rfl fun r _ => ?_
  unfold postTerm
  rw [hd r x, funext fun k => blk6 m c t r k]
  exact congrArg (fun p : EReal => _ * (p * _)) (blk6 m c t r x)

/-- The sum of the rows so far. -/
theorem post_after (x : Fin 1024) : ∀ (n : ℕ) (hn : n < cfg0.N), ((outsAt0 m c n hn).2.2.2.2.1 (ix2 (0 : Fin 1) x) : EReal)
    = ∑ R ∈ Finset.range (512 * ((n + 1) / 4)), postTerm m c x R := by
  intro n
  induction n with
  | zero =>
    intro hn
    exact (congrFun (post_zero m c ⟨0, hn⟩ rfl) (ix2 (0 : Fin 1) x)).trans (zero_apply x).2
  | succ n ih =>
    intro hn
    have hl := lt32 ⟨n + 1, hn⟩
    have hr : ¬(n + 1) % 32 = 0 := by
      have : n + 1 < 32 := hl
      omega
    by_cases h : (n + 1) % 4 = 3
    · refine (congrFun (post_add m c ⟨n + 1, hn⟩ h) (ix2 (0 : Fin 1) x)).trans ((dpost_apply _ _ _ x).trans ?_)
      rw [post_block m c ⟨n + 1, hn⟩ h _ (fun r x => dx_last m c ⟨n + 1, hn⟩ h r x) x, show (n + 1 + 1) / 4 = (n + 1) / 4 + 1 by omega, Nat.mul_succ, Finset.sum_range_add]
      exact congrArg₂ (fun p q : EReal => p + q) (ih _) rfl
    · refine (congrFun (post_kept m c ⟨n + 1, hn⟩ hr h) (ix2 (0 : Fin 1) x)).trans ((ih _).trans ?_)
      rw [show (n + 1 + 1) / 4 = (n + 1) / 4 by omega]

/-! ## The arrays after the run -/

/-- The result as an array. -/
def guAR : (⟨2, ![4096, 6144]⟩ : Shape).Idx → EReal := fun i => guN m c (i 0 : Nat) (i 1 : Nat)

theorem gu_flushed (t : Fin cfg0.N) : (dats m 0 c).flushed 10 t = (win0_10.blk t).view.read (Elt Ideal) (guAR m c) := by
  funext y
  obtain ⟨r, x, rfl⟩ : ∃ (r : Fin 512) (x : Fin 1536), y = ix2 r x := ⟨y 0, y 1, eq_ix2 (n0 := 512) (n1 := 1536) y⟩
  have ht := lt32 t
  have hr := r.isLt
  have hx := x.isLt
  rw [read10_apply, at2_lt (m := 4096) (n := 6144) _ (show 512 * (t.val / 4) + r.val < 4096 by omega) (show 1536 * (t.val % 4) + x.val < 6144 by omega)]
  exact (congrFun (after0_10 m c t) (ix2 r x)).trans ((congrFun (dgu_out m c t) (ix2 r x)).trans (gu_block m c t r x))

theorem gu_mem (t : Fin cfg0.N) (i : S4096x6144.Idx) (h0 : (i 0 : Nat) / 512 = t.val / 4) (h1 : (i 1 : Nat) / 1536 = t.val % 4) : i ∈ (win0_10.blk t).view.set := by
  have hb : (i 1 : Nat) < 6144 := (i 1).isLt
  show i ∈ ((View.whole main_v26_0).slice (win0_10.rect t)).set
  rw [View.set_slice_whole, Rect.mem_set_unit]
  intro a
  match a with
  | ⟨0, _⟩ =>
    show win0_10.index t 0 * 512 ≤ (i 0 : Nat) ∧ (i 0 : Nat) < win0_10.index t 0 * 512 + 512
    rw [(index10 t).1]; omega
  | ⟨1, _⟩ =>
    show win0_10.index t 1 * 1536 ≤ (i 1 : Nat) ∧ (i 1 : Nat) < win0_10.index t 1 * 1536 + 1536
    rw [(index10 t).2]; omega

theorem gu_final : (dats m 0 c).arrAt 10 cfg0.N = guAR m c :=
  (dats m 0 c).arrAt_eq_of_cover 10 _ (fun t _ => gu_flushed m c t) fun i => by
    have h0 : (i 0 : Nat) < 4096 := (i 0).isLt
    have h1 : (i 1 : Nat) < 6144 := (i 1).isLt
    have e : cfg0.N = 32 := N_0
    refine ⟨⟨4 * ((i 0 : Nat) / 512) + (i 1 : Nat) / 1536, by omega⟩, flush0_10 _, gu_mem _ i ?_ ?_⟩
    · show _ = (4 * ((i 0 : Nat) / 512) + (i 1 : Nat) / 1536) / 4; omega
    · show _ = (4 * ((i 0 : Nat) / 512) + (i 1 : Nat) / 1536) % 4; omega

/-- The result as an array. -/
def dxAR : (⟨2, ![4096, 1024]⟩ : Shape).Idx → EReal := fun i => dxN m c (i 0 : Nat) (i 1)

theorem dx_flushed (t : Fin cfg0.N) (h : t.val % 4 = 3) : (dats m 0 c).flushed 11 t = (win0_11.blk t).view.read (Elt Ideal) (dxAR m c) := by
  funext y
  obtain ⟨r, x, rfl⟩ : ∃ (r : Fin 512) (x : Fin 1024), y = ix2 r x := ⟨y 0, y 1, eq_ix2 (n0 := 512) (n1 := 1024) y⟩
  have ht := lt32 t
  have hr := r.isLt
  have hx := x.isLt
  rw [read11_apply, at2_lt (m := 4096) (n := 1024) _ (show 512 * (t.val / 4) + r.val < 4096 by omega) (show x.val < 1024 by omega)]
  exact (congrFun (after0_11 m c t) (ix2 r x)).trans (dx_last m c t h r x)

theorem dx_mem (t : Fin cfg0.N) (i : S4096x1024.Idx) (h0 : (i 0 : Nat) / 512 = t.val / 4) : i ∈ (win0_11.blk t).view.set := by
  have hb : (i 1 : Nat) < 1024 := (i 1).isLt
  show i ∈ ((View.whole main_v26_1).slice (win0_11.rect t)).set
  rw [View.set_slice_whole, Rect.mem_set_unit]
  intro a
  match a with
  | ⟨0, _⟩ =>
    show win0_11.index t 0 * 512 ≤ (i 0 : Nat) ∧ (i 0 : Nat) < win0_11.index t 0 * 512 + 512
    rw [(index11 t).1]; omega
  | ⟨1, _⟩ =>
    show win0_11.index t 1 * 1024 ≤ (i 1 : Nat) ∧ (i 1 : Nat) < win0_11.index t 1 * 1024 + 1024
    rw [(index11 t).2]; omega

theorem dx_final : (dats m 0 c).arrAt 11 cfg0.N = dxAR m c :=
  (dats m 0 c).arrAt_eq_of_cover 11 _ (fun t h => dx_flushed m c t ((flush0_11 t).mp h)) fun i => by
    have h0 : (i 0 : Nat) < 4096 := (i 0).isLt
    have e : cfg0.N = 32 := N_0
    refine ⟨⟨4 * ((i 0 : Nat) / 512) + 3, by omega⟩, (flush0_11 _).mpr ?_, dx_mem _ i ?_⟩
    · show (4 * ((i 0 : Nat) / 512) + 3) % 4 = 3; omega
    · show _ = (4 * ((i 0 : Nat) / 512) + 3) / 4; omega

/-- The result as an array. -/
def dyAR : (⟨2, ![4096, 1024]⟩ : Shape).Idx → EReal := fun i => dyN m c (i 0 : Nat) (i 1)

theorem dy_flushed (t : Fin cfg0.N) (h : t.val % 4 = 3) : (dats m 0 c).flushed 12 t = (win0_12.blk t).view.read (Elt Ideal) (dyAR m c) := by
  funext y
  obtain ⟨r, x, rfl⟩ : ∃ (r : Fin 512) (x : Fin 1024), y = ix2 r x := ⟨y 0, y 1, eq_ix2 (n0 := 512) (n1 := 1024) y⟩
  have ht := lt32 t
  have hr := r.isLt
  have hx := x.isLt
  rw [read12_apply, at2_lt (m := 4096) (n := 1024) _ (show 512 * (t.val / 4) + r.val < 4096 by omega) (show x.val < 1024 by omega)]
  exact (congrFun (after0_12 m c t) (ix2 r x)).trans (dy_last m c t h r x)

theorem dy_mem (t : Fin cfg0.N) (i : S4096x1024.Idx) (h0 : (i 0 : Nat) / 512 = t.val / 4) : i ∈ (win0_12.blk t).view.set := by
  have hb : (i 1 : Nat) < 1024 := (i 1).isLt
  show i ∈ ((View.whole main_v26_2).slice (win0_12.rect t)).set
  rw [View.set_slice_whole, Rect.mem_set_unit]
  intro a
  match a with
  | ⟨0, _⟩ =>
    show win0_12.index t 0 * 512 ≤ (i 0 : Nat) ∧ (i 0 : Nat) < win0_12.index t 0 * 512 + 512
    rw [(index12 t).1]; omega
  | ⟨1, _⟩ =>
    show win0_12.index t 1 * 1024 ≤ (i 1 : Nat) ∧ (i 1 : Nat) < win0_12.index t 1 * 1024 + 1024
    rw [(index12 t).2]; omega

theorem dy_final : (dats m 0 c).arrAt 12 cfg0.N = dyAR m c :=
  (dats m 0 c).arrAt_eq_of_cover 12 _ (fun t h => dy_flushed m c t ((flush0_12 t).mp h)) fun i => by
    have h0 : (i 0 : Nat) < 4096 := (i 0).isLt
    have e : cfg0.N = 32 := N_0
    refine ⟨⟨4 * ((i 0 : Nat) / 512) + 3, by omega⟩, (flush0_12 _).mpr ?_, dy_mem _ i ?_⟩
    · show (4 * ((i 0 : Nat) / 512) + 3) % 4 = 3; omega
    · show _ = (4 * ((i 0 : Nat) / 512) + 3) / 4; omega

/-- The result as an array. -/
def preR : (⟨2, ![1, 1024]⟩ : Shape).Idx → EReal := fun i => ∑ R ∈ Finset.range 4096, preTerm m c (i 1) R

theorem pre_flushed (t : Fin cfg0.N) (h : t.val % 32 = 31) : (dats m 0 c).flushed 13 t = (win0_13.blk t).view.read (Elt Ideal) (preR m c) := by
  funext y
  obtain ⟨r, x, rfl⟩ : ∃ (r : Fin 1) (x : Fin 1024), y = ix2 r x := ⟨y 0, y 1, eq_ix2 (n0 := 1) (n1 := 1024) y⟩
  obtain rfl : r = 0 := Subsingleton.elim _ _
  have ht := lt32 t
  rw [read13_apply, show ((0 : Fin 1).val) = 0 from rfl, at2_lt (m := 1) (n := 1024) _ (show 0 < 1 by omega) x.isLt]
  refine (congrFun (after0_13 m c t) (ix2 0 x)).trans ((pre_after m c x t.val t.isLt).trans ?_)
  rw [show (t.val + 1) / 4 = 8 by omega]
  rfl

theorem pre_mem (t : Fin cfg0.N) (i : S1x1024.Idx) : i ∈ (win0_13.blk t).view.set := by
  have ha : (i 0 : Nat) < 1 := (i 0).isLt
  have hb : (i 1 : Nat) < 1024 := (i 1).isLt
  show i ∈ ((View.whole main_v26_3).slice (win0_13.rect t)).set
  rw [View.set_slice_whole, Rect.mem_set_unit]
  intro a
  match a with
  | ⟨0, _⟩ =>
    show win0_13.index t 0 * 1 ≤ (i 0 : Nat) ∧ (i 0 : Nat) < win0_13.index t 0 * 1 + 1
    rw [(index13 t).1]; omega
  | ⟨1, _⟩ =>
    show win0_13.index t 1 * 1024 ≤ (i 1 : Nat) ∧ (i 1 : Nat) < win0_13.index t 1 * 1024 + 1024
    rw [(index13 t).2]; omega

theorem pre_final : (dats m 0 c).arrAt 13 cfg0.N = preR m c :=
  (dats m 0 c).arrAt_eq_of_cover 13 _ (fun t h => pre_flushed m c t ((flush0_13 t).mp h)) fun i =>
    ⟨⟨31, Nat.lt_of_lt_of_eq (by omega) N_0.symm⟩, (flush0_13 _).mpr rfl, pre_mem _ i⟩

/-- The result as an array. -/
def postR : (⟨2, ![1, 1024]⟩ : Shape).Idx → EReal := fun i => ∑ R ∈ Finset.range 4096, postTerm m c (i 1) R

theorem post_flushed (t : Fin cfg0.N) (h : t.val % 32 = 31) : (dats m 0 c).flushed 14 t = (win0_14.blk t).view.read (Elt Ideal) (postR m c) := by
  funext y
  obtain ⟨r, x, rfl⟩ : ∃ (r : Fin 1) (x : Fin 1024), y = ix2 r x := ⟨y 0, y 1, eq_ix2 (n0 := 1) (n1 := 1024) y⟩
  obtain rfl : r = 0 := Subsingleton.elim _ _
  have ht := lt32 t
  rw [read14_apply, show ((0 : Fin 1).val) = 0 from rfl, at2_lt (m := 1) (n := 1024) _ (show 0 < 1 by omega) x.isLt]
  refine (congrFun (after0_14 m c t) (ix2 0 x)).trans ((post_after m c x t.val t.isLt).trans ?_)
  rw [show (t.val + 1) / 4 = 8 by omega]
  rfl

theorem post_mem (t : Fin cfg0.N) (i : S1x1024.Idx) : i ∈ (win0_14.blk t).view.set := by
  have ha : (i 0 : Nat) < 1 := (i 0).isLt
  have hb : (i 1 : Nat) < 1024 := (i 1).isLt
  show i ∈ ((View.whole main_v26_4).slice (win0_14.rect t)).set
  rw [View.set_slice_whole, Rect.mem_set_unit]
  intro a
  match a with
  | ⟨0, _⟩ =>
    show win0_14.index t 0 * 1 ≤ (i 0 : Nat) ∧ (i 0 : Nat) < win0_14.index t 0 * 1 + 1
    rw [(index14 t).1]; omega
  | ⟨1, _⟩ =>
    show win0_14.index t 1 * 1024 ≤ (i 1 : Nat) ∧ (i 1 : Nat) < win0_14.index t 1 * 1024 + 1024
    rw [(index14 t).2]; omega

theorem post_final : (dats m 0 c).arrAt 14 cfg0.N = postR m c :=
  (dats m 0 c).arrAt_eq_of_cover 14 _ (fun t h => post_flushed m c t ((flush0_14 t).mp h)) fun i =>
    ⟨⟨31, Nat.lt_of_lt_of_eq (by omega) N_0.symm⟩, (flush0_14 _).mpr rfl, post_mem _ i⟩

end Cert.Kernel3Ideal.Ffn
-- ==== Proof.Finite.lean ====
module

public import proofs.«01_k».proof.Pre_finite
public import proofs.«01_k».proof.Proof.RefValue

@[expose] public section

noncomputable section

namespace Cert.Flash

open Idealize.ShloMosaic
open Cert.Pre_finite

/-! ## The precondition: every element of the four arguments is a number -/

/-- The one side condition the precondition's text takes. -/
theorem finiteFacts : Cert.Pre_finite.Facts := ⟨⟨fun a => a.elim0, fun a => a.elim0⟩⟩

theorem andi_one {s : Shape} (a b : IVec s 1) (i : s.Idx) (h : andi a b i = 1#1) : a i = 1#1 ∧ b i = 1#1 := by
  have h' : a i &&& b i = 1#1 := h
  revert h'
  generalize a i = x
  generalize b i = y
  revert x y
  decide

/-- An element whose magnitude is below the top is a number. -/
theorem number_of_lt {s : Shape} (hb : S_.BroadcastsInDim s (![] : Fin 0 → Fin s.rank)) (x : FVec Ideal s .f32) (i : s.Idx)
    (h : cmpf .olt (Host.absf x) (broadcastInDim s ![] hb (constant (F := Ideal) S_ .f32 0x7F800000#32)) i = 1#1) :
    ∃ y : ℝ, x i = (y : EReal) := by
  have e : broadcastInDim s ![] hb (constant (F := Ideal) S_ .f32 0x7F800000#32) i = (⊤ : EReal) := by
    show Ideal.ofBits .f32 0x7F800000#32 = ⊤
    simp [Ideal.ofBits, Ideal.ieee]
  have h' : BitVec.ofBool (decide (max (x i) (-(x i)) < (⊤ : EReal))) = 1#1 := by
    rw [← e]; exact h
  have hlt : max (x i) (-(x i)) < (⊤ : EReal) := by
    by_contra hn
    rw [decide_eq_false hn] at h'
    exact absurd h' (by decide)
  have h1 := (max_lt_iff.mp hlt).1
  have h2 := (max_lt_iff.mp hlt).2
  refine ⟨(x i).toReal, (EReal.coe_toReal h1.ne fun hb => ?_).symm⟩
  rw [hb] at h2
  exact absurd h2 (by simp)

/-- The whole precondition, read at an element. -/
theorem numbers [hP : Cert.Pre_finite.Facts] (x0 x1 x2 x3 : FVec Ideal S4096x1024 .f32)
    (h : Cert.Pre_finite.fn (F := Ideal) x0 x1 x2 x3 = fun _ => 1#1) (i : S4096x1024.Idx) :
    (∃ y : ℝ, x0 i = (y : EReal)) ∧ (∃ y : ℝ, x1 i = (y : EReal)) ∧ (∃ y : ℝ, x2 i = (y : EReal)) ∧ ∃ y : ℝ, x3 i = (y : EReal) := by
  have h0 := congrFun h i
  obtain ⟨h1, d⟩ := andi_one _ _ _ h0
  obtain ⟨h2, v⟩ := andi_one _ _ _ h1
  obtain ⟨q, k⟩ := andi_one _ _ _ h2
  exact ⟨number_of_lt _ x0 i q, number_of_lt _ x1 i k, number_of_lt _ x2 i v, number_of_lt _ x3 i d⟩

/-- An array of numbers, as a function of its row and column. -/
theorem exists_real (x : FVec Ideal S4096x1024 .f32) (h : ∀ i, ∃ y : ℝ, x i = (y : EReal)) :
    ∃ q : ℕ → ℕ → ℝ, ∀ r c, at2 (m := 4096) (n := 1024) x r c = (q r c : EReal) := by
  have h' : ∀ r c, ∃ y : ℝ, at2 (m := 4096) (n := 1024) x r c = (y : EReal) := fun r c => by
    unfold at2
    split
    · exact h _
    · exact ⟨0, rfl⟩
  choose q hq using h'
  exact ⟨q, hq⟩

end Cert.Flash
-- ==== Proof.FfnValue.lean ====
module

public import proofs.«01_k».proof.Pre_finite3
public import proofs.«01_k».proof.Proof.FfnSum
public import proofs.«01_k».proof.Proof.Finite

@[expose] public section

set_option maxRecDepth 16384

noncomputable section

namespace Cert.Kernel3Ideal.Ffn

open Idealize.ShloMosaic Idealize.ShloMosaic.TcCoe Cert.Flash Cert.Ffn
open Idealize.SL Idealize.SL.Sem
open Cert.Kernel3Ideal Cert.Kernel3Ideal.Gen
open Cert.Reference3Ideal.Read
open scoped BigOperators

/-! ## The precondition: every element of the nine arguments is a number -/

/-- The side conditions the precondition's text takes. -/
theorem finiteFacts : Cert.Pre_finite3.Facts :=
  ⟨⟨fun a => a.elim0, fun a => a.elim0⟩, ⟨fun a => a.elim0, fun a => a.elim0⟩, ⟨fun a => a.elim0, fun a => a.elim0⟩, ⟨fun a => a.elim0, fun a => a.elim0⟩, ⟨fun a => a.elim0, fun a => a.elim0⟩⟩

theorem numbers [hP : Cert.Pre_finite3.Facts] (x0 : FVec Ideal Cert.Pre_finite3.S4096x1024 .f32) (x1 : FVec Ideal Cert.Pre_finite3.S4096x1024 .f32) (x2 : FVec Ideal Cert.Pre_finite3.S4096x6144 .f32) (x3 : FVec Ideal Cert.Pre_finite3.S1x1024 .f32) (x4 : FVec Ideal Cert.Pre_finite3.S1x1024 .f32) (x5 : FVec Ideal Cert.Pre_finite3.S6144x1024 .f32) (x6 : FVec Ideal Cert.Pre_finite3.S3072x1024 .f32) (x7 : FVec Ideal Cert.Pre_finite3.S4096x1024 .f32) (x8 : FVec Ideal Cert.Pre_finite3.S4096x1024 .f32)
    (h : (Cert.Pre_finite3.fn (F := Ideal) x0 x1 x2 x3 x4 x5 x6 x7 x8).1 = (fun _ => 1#1) ∧ (Cert.Pre_finite3.fn (F := Ideal) x0 x1 x2 x3 x4 x5 x6 x7 x8).2.1 = (fun _ => 1#1) ∧ (Cert.Pre_finite3.fn (F := Ideal) x0 x1 x2 x3 x4 x5 x6 x7 x8).2.2.1 = (fun _ => 1#1) ∧ (Cert.Pre_finite3.fn (F := Ideal) x0 x1 x2 x3 x4 x5 x6 x7 x8).2.2.2.1 = (fun _ => 1#1) ∧ (Cert.Pre_finite3.fn (F := Ideal) x0 x1 x2 x3 x4 x5 x6 x7 x8).2.2.2.2.1 = (fun _ => 1#1) ∧ (Cert.Pre_finite3.fn (F := Ideal) x0 x1 x2 x3 x4 x5 x6 x7 x8).2.2.2.2.2.1 = (fun _ => 1#1) ∧ (Cert.Pre_finite3.fn (F := Ideal) x0 x1 x2 x3 x4 x5 x6 x7 x8).2.2.2.2.2.2.1 = (fun _ => 1#1) ∧ (Cert.Pre_finite3.fn (F := Ideal) x0 x1 x2 x3 x4 x5 x6 x7 x8).2.2.2.2.2.2.2.1 = (fun _ => 1#1) ∧ (Cert.Pre_finite3.fn (F := Ideal) x0 x1 x2 x3 x4 x5 x6 x7 x8).2.2.2.2.2.2.2.2 = (fun _ => 1#1)) :
    (∀ i, IsNum (x0 i)) ∧ (∀ i, IsNum (x1 i)) ∧ (∀ i, IsNum (x2 i)) ∧ (∀ i, IsNum (x3 i)) ∧ (∀ i, IsNum (x4 i)) ∧ (∀ i, IsNum (x5 i)) ∧ (∀ i, IsNum (x6 i)) ∧ (∀ i, IsNum (x7 i)) ∧ (∀ i, IsNum (x8 i)) :=
  ⟨fun i => number_of_lt _ x0 i (congrFun h.1 i), fun i => number_of_lt _ x1 i (congrFun h.2.1 i), fun i => number_of_lt _ x2 i (congrFun h.2.2.1 i), fun i => number_of_lt _ x3 i (congrFun h.2.2.2.1 i), fun i => number_of_lt _ x4 i (congrFun h.2.2.2.2.1 i), fun i => number_of_lt _ x5 i (congrFun h.2.2.2.2.2.1 i), fun i => number_of_lt _ x6 i (congrFun h.2.2.2.2.2.2.1 i), fun i => number_of_lt _ x7 i (congrFun h.2.2.2.2.2.2.2.1 i), fun i => number_of_lt _ x8 i (congrFun h.2.2.2.2.2.2.2.2 i)⟩

/-! ## The results are the reference's -/

theorem row0 (A : (⟨2, ![1, 1024]⟩ : Shape).Idx → EReal) : (fun k : Fin 1024 => at2 A 0 k.val) = fun k => A (ix2 0 k) := funext fun k => at2_of A 0 k

section

variable (m : (ℓ : Loc nD τ sig) → Buf (Elt Ideal) ℓ) (c : Dev nD)

variable (h0 : ∀ i, IsNum ((m ((c : Thread nD τ).loc main_arg0) : (⟨2, ![4096, 1024]⟩ : Shape).Idx → EReal) i)) (h1 : ∀ i, IsNum ((m ((c : Thread nD τ).loc main_arg1) : (⟨2, ![4096, 1024]⟩ : Shape).Idx → EReal) i)) (h2 : ∀ i, IsNum ((m ((c : Thread nD τ).loc main_arg2) : (⟨2, ![4096, 6144]⟩ : Shape).Idx → EReal) i)) (h3 : ∀ i, IsNum ((m ((c : Thread nD τ).loc main_arg3) : (⟨2, ![1, 1024]⟩ : Shape).Idx → EReal) i)) (h4 : ∀ i, IsNum ((m ((c : Thread nD τ).loc main_arg4) : (⟨2, ![1, 1024]⟩ : Shape).Idx → EReal) i)) (h5 : ∀ i, IsNum ((m ((c : Thread nD τ).loc main_arg5) : (⟨2, ![6144, 1024]⟩ : Shape).Idx → EReal) i)) (h6 : ∀ i, IsNum ((m ((c : Thread nD τ).loc main_arg6) : (⟨2, ![3072, 1024]⟩ : Shape).Idx → EReal) i)) (h7 : ∀ i, IsNum ((m ((c : Thread nD τ).loc main_arg7) : (⟨2, ![4096, 1024]⟩ : Shape).Idx → EReal) i)) (h8 : ∀ i, IsNum ((m ((c : Thread nD τ).loc main_arg8) : (⟨2, ![4096, 1024]⟩ : Shape).Idx → EReal) i))
include h2 h6 h8

/-- The gradient before the gate. -/
theorem guN_eq (r : Fin 4096) (e : Fin 6144) : guN m c r.val e.val = val_main_v21 (F := Ideal) (m ((c : Thread nD τ).loc main_arg2)) (m ((c : Thread nD τ).loc main_arg6)) (m ((c : Thread nD τ).loc main_arg8)) (ix2 r e) := by
  have he := e.isLt
  have hq : gateCol e.val < 3072 := by unfold gateCol; omega
  rw [Cert.Reference3Ideal.Ffn.dgu_eq h2 h6 h8 r e ⟨gateCol e.val, hq⟩ rfl _ _ _ rfl rfl rfl]
  unfold guN fA dA vA
  refine congrArg₂ (fun a b : EReal => a * b) (Finset.sum_congr rfl fun k _ => congrArg₂ (fun a b : EReal => a * b) (at2_of _ r k) (at2_of _ ⟨gateCol e.val, hq⟩ k)) ?_
  by_cases h : e.val / 384 % 2 = 0
  · rw [if_pos h, if_pos h]
    refine (at2_of _ r ⟨gateCol e.val, hq⟩).trans ?_
    unfold gateF
    rw [Ideal.ofBits_one_f32]
  · rw [if_neg h, if_neg h]
    exact at2_of _ r ⟨gateCol e.val, hq⟩

/-- The gradient after the first norm. -/
theorem dzN_eq (r : Fin 4096) (x : Fin 1024) : dzN m c r.val x = val_main_v38 (F := Ideal) (m ((c : Thread nD τ).loc main_arg2)) (m ((c : Thread nD τ).loc main_arg5)) (m ((c : Thread nD τ).loc main_arg6)) (m ((c : Thread nD τ).loc main_arg8)) (ix2 r x) := by
  rw [Cert.Reference3Ideal.Ffn.dz_at]
  unfold dzN
  rw [← Cert.Flash.sum_fin]
  refine Finset.sum_congr rfl fun e _ => ?_
  unfold dzTerm wA
  exact congrArg₂ (fun a b : EReal => a * b) (guN_eq m c h2 h6 h8 r e) (at2_of _ e x)

theorem gu_result : (dats m 0 c).arrAt 10 cfg0.N = val_main_v93 (F := Ideal) (m ((c : Thread nD τ).loc main_arg2)) (m ((c : Thread nD τ).loc main_arg6)) (m ((c : Thread nD τ).loc main_arg8)) := by
  rw [gu_final]
  funext i
  obtain ⟨r, e, rfl⟩ : ∃ (r : Fin 4096) (e : Fin 6144), i = ix2 r e := ⟨i 0, i 1, eq_ix2 (n0 := 4096) (n1 := 6144) i⟩
  exact guN_eq m c h2 h6 h8 r e

include h0

theorem pre_result : (dats m 0 c).arrAt 13 cfg0.N = val_main_v41 (F := Ideal) (m ((c : Thread nD τ).loc main_arg0)) (m ((c : Thread nD τ).loc main_arg2)) (m ((c : Thread nD τ).loc main_arg5)) (m ((c : Thread nD τ).loc main_arg6)) (m ((c : Thread nD τ).loc main_arg8)) := by
  rw [pre_final]
  funext i
  obtain ⟨r, x, rfl⟩ : ∃ (r : Fin 1) (x : Fin 1024), i = ix2 r x := ⟨i 0, i 1, eq_ix2 (n0 := 1) (n1 := 1024) i⟩
  obtain rfl : r = 0 := Subsingleton.elim _ _
  refine Eq.trans ?_ (Cert.Reference3Ideal.Ffn.dpre_eq h0 x).symm
  refine (Cert.Flash.sum_fin 4096 (preTerm m c x)).symm.trans (Finset.sum_congr rfl fun R _ => ?_)
  unfold preTerm hA
  rw [dzN_eq m c h2 h6 h8, at2_of, funext fun k => at2_of _ R k]

include h4 h5 h7

/-- The gradient before the first norm. -/
theorem dxN_eq (r : Fin 4096) (x : Fin 1024) : dxN m c r.val x = val_main_v58 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (ix2 r x) := by
  rw [Cert.Reference3Ideal.Ffn.dx_eq h0 h2 h4 h5 h6 h7 h8]
  unfold dxN eA hA pA
  rw [at2_of, funext fun k => at2_of _ r k, row0, show dzN m c r.val = _ from funext fun k => dzN_eq m c h2 h6 h8 r k]

theorem dx_result : (dats m 0 c).arrAt 11 cfg0.N = val_main_v58 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) := by
  rw [dx_final]
  funext i
  obtain ⟨r, x, rfl⟩ : ∃ (r : Fin 4096) (x : Fin 1024), i = ix2 r x := ⟨i 0, i 1, eq_ix2 (n0 := 4096) (n1 := 1024) i⟩
  exact dxN_eq m c h0 h2 h4 h5 h6 h7 h8 r x

include h1

theorem post_result : (dats m 0 c).arrAt 14 cfg0.N = val_main_v76 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) := by
  rw [post_final]
  funext i
  obtain ⟨r, x, rfl⟩ : ∃ (r : Fin 1) (x : Fin 1024), i = ix2 r x := ⟨i 0, i 1, eq_ix2 (n0 := 1) (n1 := 1024) i⟩
  obtain rfl : r = 0 := Subsingleton.elim _ _
  refine Eq.trans ?_ (Cert.Reference3Ideal.Ffn.dpost_eq h1 x).symm
  refine (Cert.Flash.sum_fin 4096 (postTerm m c x)).symm.trans (Finset.sum_congr rfl fun R _ => ?_)
  unfold postTerm yA
  rw [dxN_eq m c h0 h2 h4 h5 h6 h7 h8, at2_of, funext fun k => at2_of _ R k]

include h3

theorem dy_result : (dats m 0 c).arrAt 12 cfg0.N = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [dy_final]
  funext i
  obtain ⟨r, x, rfl⟩ : ∃ (r : Fin 4096) (x : Fin 1024), i = ix2 r x := ⟨i 0, i 1, eq_ix2 (n0 := 4096) (n1 := 1024) i⟩
  refine Eq.trans ?_ (Cert.Reference3Ideal.Ffn.dy_eq h0 h1 h2 h3 h4 h5 h6 h7 h8 r x).symm
  show dyN m c r.val x = _
  unfold dyN yA qA
  rw [funext fun k => at2_of _ r k, row0, show dxN m c r.val = _ from funext fun k => dxN_eq m c h0 h2 h4 h5 h6 h7 h8 r k]

end

end Cert.Kernel3Ideal.Ffn
-- ==== Proof.HeadMath.lean ====
module

public import proofs.«01_k».proof.Proof.FfnMath

@[expose] public section

noncomputable section

namespace Cert.Head

open Idealize.ShloMosaic Cert.Ffn
open Cert.Flash (coe_sum div_coe_coe)
open scoped BigOperators

/-! ## The gate -/

/-- The logistic function. -/
def sigm (g : EReal) : EReal := Ideal.div 1 (1 + Ideal.exp (-g))

/-- The gated product of a gate's input and an up's. -/
def gated (g u : EReal) : EReal := g * sigm g * u

/-- The gated product's derivative in the gate's input. -/
def gateSlope (g u : EReal) : EReal := u * (sigm g * (1 + g * (1 - sigm g)))

/-- The column of the first product that a column of the gate's input is; the up's is 384 further. -/
def gateAt (q : ℕ) : ℕ := 768 * (q / 384) + q % 384

theorem sigm_num {g : EReal} (hg : IsNum g) : IsNum (sigm g) := logistic_num hg

theorem gated_num {g u : EReal} (hg : IsNum g) (hu : IsNum u) : IsNum (gated g u) := (hg.mul (sigm_num hg)).mul hu

/-- The slope as the derivative is written, on numbers. -/
theorem slope_of_num {g u : EReal} (hg : IsNum g) (hu : IsNum u) :
    1 * u * sigm g + g * (1 * u) * (sigm g * (1 - sigm g)) = gateSlope g u := by
  rw [gate_of_num ⟨1, EReal.coe_one.symm⟩ hg hu (sigm_num hg), one_mul]
  rfl

/-! ## The error, its gradient and its square -/

/-- A row's error: the residual and the normed row with its weight, less the target. -/
def errOf (y h g t : Fin 1024 → EReal) (x : Fin 1024) : EReal := h x + y x * rowR y * g x - t x

theorem half : Ideal.ofBits .f32 0x3F000000#32 = ((1 / 2 : ℝ) : EReal) := by
  simp [Ideal.ofBits, Ideal.ieee, -EReal.coe_mul]
  norm_num

theorem two : Ideal.ofBits .f32 0x40000000#32 = ((2 : ℝ) : EReal) := by
  simp [Ideal.ofBits, Ideal.ieee, -EReal.coe_mul]
  norm_num

theorem rowR_num {h : Fin 1024 → EReal} (hh : ∀ k, IsNum (h k)) : IsNum (rowR h) := by
  choose y hy using hh
  obtain rfl : h = fun k => (y k : EReal) := funext hy
  obtain ⟨v, ρ, -, -, -, -, h3⟩ := meanSq_real y
  exact ⟨ρ, h3⟩

theorem sub_num {a b : EReal} (ha : IsNum a) (hb : IsNum b) : IsNum (a - b) := by
  obtain ⟨x, rfl⟩ := ha
  obtain ⟨y, rfl⟩ := hb
  exact ⟨x - y, (EReal.coe_sub x y).symm⟩

theorem errOf_num {y h g t : Fin 1024 → EReal} (hy : ∀ k, IsNum (y k)) (hh : ∀ k, IsNum (h k)) (hg : ∀ k, IsNum (g k)) (ht : ∀ k, IsNum (t k)) (x : Fin 1024) :
    IsNum (errOf y h g t x) :=
  sub_num ((hh x).add (((hy x).mul (rowR_num hy)).mul (hg x))) (ht x)

/-- The gradient of half the mean square of numbers, two ways. -/
theorem grad_of_num {e : EReal} (he : IsNum e) :
    Ideal.div (Ideal.ofBits .f32 0x3F000000#32 * 1) (Ideal.ofBits .f32 0x44800000#32) * (Ideal.ofBits .f32 0x40000000#32 * e) = e * Ideal.ofBits .f32 0x3A800000#32 := by
  obtain ⟨e, rfl⟩ := he
  rw [mul_one, half, two, inv1024, lit1024, div_coe_coe _ (by norm_num)]
  simp only [← EReal.coe_mul]
  congr 1
  ring

theorem inv1024_num : IsNum (Ideal.ofBits .f32 0x3A800000#32) := ⟨_, inv1024⟩

/-- A quotient by the row's length is a product. -/
theorem div_of_num {e : EReal} (he : IsNum e) : Ideal.div e (Ideal.ofBits .f32 0x44800000#32) = e * Ideal.ofBits .f32 0x3A800000#32 := by
  obtain ⟨e, rfl⟩ := he
  rw [inv1024, lit1024, div_coe_coe _ (by norm_num), ← EReal.coe_mul]
  congr 1
  ring

/-- Blocks of a sum. -/
theorem sum_blocks (f : ℕ → ℝ) : ∀ n : ℕ, ∑ R ∈ Finset.range (512 * n), f R = ∑ b ∈ Finset.range n, ∑ k ∈ Finset.range 512, f (512 * b + k)
  | 0 => rfl
  | n + 1 => by rw [Nat.mul_succ, Finset.sum_range_add, sum_blocks f n, Finset.sum_range_succ _ n]

theorem coe_sum_range (f : ℕ → ℝ) (n : ℕ) : ∑ k ∈ Finset.range n, (f k : EReal) = ((∑ k ∈ Finset.range n, f k : ℝ) : EReal) := coe_sum _ f

/-- Half a sum of numbers, block by block. -/
theorem half_blocks {f : ℕ → EReal} (hf : ∀ R, R < 4096 → IsNum (f R)) :
    ∑ b ∈ Finset.range 8, Ideal.ofBits .f32 0x3F000000#32 * ∑ k ∈ Finset.range 512, f (512 * b + k)
      = Ideal.ofBits .f32 0x3F000000#32 * ∑ R ∈ Finset.range 4096, f R := by
  choose! y hy using hf
  have e : ∑ b ∈ Finset.range 8, Ideal.ofBits .f32 0x3F000000#32 * ∑ k ∈ Finset.range 512, f (512 * b + k)
      = ∑ b ∈ Finset.range 8, Ideal.ofBits .f32 0x3F000000#32 * ∑ k ∈ Finset.range 512, (y (512 * b + k) : EReal) := by
    refine Finset.sum_congr rfl fun b hb => congrArg (fun s : EReal => _ * s) (Finset.sum_congr rfl fun k hk => hy _ ?_)
    have := Finset.mem_range.mp hb
    have := Finset.mem_range.mp hk
    omega
  rw [e, Finset.sum_congr rfl fun R hR => hy R (Finset.mem_range.mp hR), half]
  simp only [coe_sum_range, ← EReal.coe_mul]
  rw [← Finset.mul_sum, sum_blocks y 8]

end Cert.Head
-- ==== Proof.HeadRow.lean ====
module

public import proofs.«01_k».proof.Proof.Gen.Kernel4Ideal
public import proofs.«01_k».proof.Proof.Gen.Kernel4Ideal.Skeleton
public import proofs.«01_k».proof.Proof.Base
public import proofs.«01_k».proof.Proof.HeadMath

@[expose] public section

set_option maxRecDepth 16384

noncomputable section

namespace Cert.Kernel4Ideal.Head

open Idealize.ShloMosaic Idealize.ShloMosaic.TcCoe Cert.Flash Cert.Ffn Cert.Head
open Cert.Kernel4Ideal Cert.Kernel4Ideal.Gen
open scoped BigOperators

/-! ## What the kernel computes from its blocks, element by element -/

theorem gu_apply (z : FVec Ideal S512x1024 .bf16) (w : FVec Ideal S1536x1024 .bf16) (r : Fin 512) (e : Fin 1536) :
    k0_pay12 (F := Ideal) z w (ix2 r e) = ∑ k, (z (ix2 r k) : EReal) * w (ix2 e k) := by
  simp only [k0_pay12, shapeCast_self]
  pointwise

theorem gate_apply (z : FVec Ideal S512x1024 .bf16) (w : FVec Ideal S1536x1024 .bf16) (r : Fin 512) (q : Fin 768) (e : Fin 1536) (he : e.val = gateAt q.val) :
    k0_pay13 (F := Ideal) z w (ix2 r q) = k0_pay12 (F := Ideal) z w (ix2 r e) := by
  have hq := q.isLt
  unfold gateAt at he
  unfold k0_pay13
  generalize k0_pay12 (F := Ideal) z w = a
  pointwise
  by_cases h1 : q.val < 384
  · exact (dif_pos h1).trans (congrArg (fun k => a (ix2 r k)) (Fin.ext (by show q.val = e.val; clear * - h1 he; omega)))
  · exact (dif_neg h1).trans (congrArg (fun k => a (ix2 r k)) (Fin.ext (by show 768 + (q.val - 384) = e.val; clear * - h1 he hq; omega)))

theorem up_apply (z : FVec Ideal S512x1024 .bf16) (w : FVec Ideal S1536x1024 .bf16) (r : Fin 512) (q : Fin 768) (e : Fin 1536) (he : e.val = gateAt q.val + 384) :
    k0_pay14 (F := Ideal) z w (ix2 r q) = k0_pay12 (F := Ideal) z w (ix2 r e) := by
  have hq := q.isLt
  unfold gateAt at he
  unfold k0_pay14
  generalize k0_pay12 (F := Ideal) z w = a
  pointwise
  by_cases h1 : q.val < 384
  · exact (dif_pos h1).trans (congrArg (fun k => a (ix2 r k)) (Fin.ext (by show 384 + q.val = e.val; clear * - h1 he; omega)))
  · exact (dif_neg h1).trans (congrArg (fun k => a (ix2 r k)) (Fin.ext (by show 1152 + (q.val - 384) = e.val; clear * - h1 he hq; omega)))

section
variable (z : FVec Ideal S512x1024 .bf16) (w : FVec Ideal S1536x1024 .bf16) (r : Fin 512) (q : Fin 768)

theorem sigm_apply : k0_pay15 (F := Ideal) z w (ix2 r q) = sigm (k0_pay13 (F := Ideal) z w (ix2 r q)) := by
  unfold sigm k0_pay15
  generalize k0_pay13 (F := Ideal) z w = a
  pointwise
  rw [zero_sub]

theorem b_apply : k0_pay19 (F := Ideal) z w (ix2 r q) = (k0_pay13 (F := Ideal) z w (ix2 r q) : EReal) * sigm (k0_pay13 (F := Ideal) z w (ix2 r q)) := by
  rw [← sigm_apply]
  unfold k0_pay19 k0_pay16
  generalize k0_pay13 (F := Ideal) z w = a
  generalize k0_pay15 (F := Ideal) z w = b
  pointwise

theorem ff_apply : k0_pay17 (F := Ideal) z w (ix2 r q) = gated (k0_pay13 (F := Ideal) z w (ix2 r q)) (k0_pay14 (F := Ideal) z w (ix2 r q)) := by
  unfold gated
  rw [← sigm_apply]
  unfold k0_pay17 k0_pay16
  generalize k0_pay13 (F := Ideal) z w = a
  generalize k0_pay14 (F := Ideal) z w = u
  generalize k0_pay15 (F := Ideal) z w = b
  pointwise

theorem a_apply : k0_pay18 (F := Ideal) z w (ix2 r q) = gateSlope (k0_pay13 (F := Ideal) z w (ix2 r q)) (k0_pay14 (F := Ideal) z w (ix2 r q)) := by
  unfold gateSlope
  rw [← sigm_apply]
  unfold k0_pay18
  generalize k0_pay13 (F := Ideal) z w = a
  generalize k0_pay14 (F := Ideal) z w = u
  generalize k0_pay15 (F := Ideal) z w = b
  pointwise

end

/-- An entry of the product of a block of rows and a block of columns' weights. -/
def partSum (a : (⟨2, ![512, 768]⟩ : Shape).Idx → EReal) (w : (⟨2, ![768, 1024]⟩ : Shape).Idx → EReal) (r : Fin 512) (x : Fin 1024) : EReal :=
  ∑ q : Fin 768, a (ix2 r q) * w (ix2 q x)

theorem part_apply (z : FVec Ideal S512x1024 .bf16) (w : FVec Ideal S1536x1024 .bf16) (v : FVec Ideal S768x1024 .bf16) (r : Fin 512) (x : Fin 1024) :
    k0_pay20 (F := Ideal) z w v (ix2 r x) = partSum (k0_pay17 (F := Ideal) z w) v r x := by
  unfold partSum
  simp only [k0_pay20, shapeCast_self]
  generalize k0_pay17 (F := Ideal) z w = a
  pointwise

theorem part_first (y : FVec Ideal S512x1024 .f32) : k0_pay1 (F := Ideal) y = y := by
  simp only [k0_pay1, shapeCast_self]

theorem part_later (y p : FVec Ideal S512x1024 .f32) (r : Fin 512) (x : Fin 1024) :
    k0_pay2 (F := Ideal) y p (ix2 r x) = (p (ix2 r x) : EReal) + y (ix2 r x) := by
  simp only [k0_pay2, shapeCast_self]
  pointwise

section
variable (y h t : FVec Ideal S512x1024 .f32) (g : FVec Ideal S1x1024 .f32)

theorem rms_apply (r : Fin 512) : k0_pay7 (F := Ideal) y (ix2 r 0) = rowR fun k => y (ix2 r k) := by
  unfold rowR
  simp only [k0_pay7, shapeCast_self]
  pointwise

theorem err_apply (r : Fin 512) (x : Fin 1024) :
    k0_pay9 (F := Ideal) y h g t (ix2 r x) = errOf (fun k => y (ix2 r k)) (fun k => h (ix2 r k)) (fun k => g (ix2 0 k)) (fun k => t (ix2 r k)) x := by
  unfold errOf
  simp only [k0_pay9, k0_pay8, shapeCast_self]
  pointwise
  rw [rms_apply]

theorem dh_apply (r : Fin 512) (x : Fin 1024) :
    k0_pay11 (F := Ideal) y h g t (ix2 r x)
      = errOf (fun k => y (ix2 r k)) (fun k => h (ix2 r k)) (fun k => g (ix2 0 k)) (fun k => t (ix2 r k)) x * Ideal.ofBits .f32 0x3A800000#32 := by
  rw [← err_apply]
  unfold k0_pay11
  generalize k0_pay9 (F := Ideal) y h g t = e
  pointwise

theorem dy_apply (d : FVec Ideal S512x1024 .f32) (r : Fin 512) (x : Fin 1024) :
    k0_pay5 (F := Ideal) (k0_pay7 (F := Ideal) y) (k0_pay8 (F := Ideal) y) d g (ix2 r x)
      = rowB (fun k => y (ix2 r k)) (fun k => d (ix2 r k)) (fun k => g (ix2 0 k)) x := by
  unfold rowB
  simp only [k0_pay5, k0_pay8, shapeCast_self]
  pointwise
  rw [rms_apply]

/-- A block's part of the gradient of the norm's weight. -/
def normSum (y d : (⟨2, ![512, 1024]⟩ : Shape).Idx → EReal) (x : Fin 1024) : EReal :=
  ∑ r : Fin 512, d (ix2 r x) * (y (ix2 r x) * rowR fun k => y (ix2 r k))

theorem dg_apply (d : FVec Ideal S512x1024 .f32) (p : FVec Ideal S1x1024 .f32) (x : Fin 1024) :
    k0_pay6 (F := Ideal) (k0_pay8 (F := Ideal) y) d p (ix2 0 x) = p (ix2 0 x) + normSum y d x := by
  unfold normSum
  simp only [k0_pay6, k0_pay8, shapeCast_self]
  pointwise
  simp only [rms_apply]

/-- A block's mean squares, summed. -/
def squares (e : (⟨2, ![512, 1024]⟩ : Shape).Idx → EReal) : EReal :=
  ∑ r : Fin 512, (∑ k : Fin 1024, e (ix2 r k) * e (ix2 r k)) * Ideal.ofBits .f32 0x3A800000#32

theorem loss_apply (p : FVec Ideal S1x128 .f32) (x : Fin 128) :
    k0_pay10 (F := Ideal) y h g t p (ix2 0 x) = (p (ix2 0 x) : EReal) + Ideal.ofBits .f32 0x3F000000#32 * squares (k0_pay9 (F := Ideal) y h g t) := by
  unfold squares
  simp only [k0_pay10, shapeCast_self]
  generalize k0_pay9 (F := Ideal) y h g t = e
  pointwise

end

theorem zero_apply (x : Fin 1024) : k0_pay3 (F := Ideal) (ix2 0 x) = 0 := by
  simp only [k0_pay3]
  pointwise

theorem zero_apply' (x : Fin 128) : k0_pay4 (F := Ideal) (ix2 0 x) = 0 := by
  simp only [k0_pay4]
  pointwise

end Cert.Kernel4Ideal.Head
-- ==== Proof.HeadStep.lean ====
module

public import proofs.«01_k».proof.Proof.Gen.Kernel4Ideal.Frame
public import proofs.«01_k».proof.Proof.HeadRow
public import Idealize.ShloMosaic.Lib.Pipeline.Value

@[expose] public section

set_option maxRecDepth 16384

noncomputable section

namespace Cert.Kernel4Ideal.Head

open Idealize.ShloMosaic Idealize.ShloMosaic.TcCoe Cert.Flash Cert.Ffn Cert.Head
open Idealize.SL Idealize.SL.Sem
open Cert.Kernel4Ideal Cert.Kernel4Ideal.Gen
open scoped BigOperators

variable (m : (ℓ : Loc nD τ sig) → Buf (Elt Ideal) ℓ) (c : Dev nD)

/-- A load of a whole memref's own sizes reads its contents. -/
theorem load_whole {S : Shape} {e : EltTy} {cs : Space} (r : Memref sig .tc cs S e) (h : r.IsWhole) (x : S.Idx → Elt Ideal e) {off : Fin S.rank → ℕ}
    (inb : ∀ a, off a + S.size a ≤ S.size a) :
    r.view.readAt (Elt Ideal) (Rect.unit off S.size inb).toLoadRect (h.unread x) = x := by
  rw [View.readAt_full, h.read_unread]

/-! ## What a grid point leaves in the results' blocks and in the accumulator -/

theorem a_out (t : Fin cfg0.N) :
    (outsAt0 m c t.val t.isLt).1 = k0_pay18 (F := Ideal) (iblk m c 0 t) (iblk m c 1 t) := by
  by_cases h : t.val % 4 = 0
  · by_cases hr : t.val % 32 = 0
    · rw [outsAt0_A m c t h (by omega) hr (by omega)]
      dsimp only
      unfold out0_A_6 kernelRun0_A
      dsimp only
      rw [View.read_writes_full]
      exact congrArg₂ k0_pay18 (load_whole _ _ _ _) (load_whole _ _ _ _)
    · rw [outsAt0_D m c t h (by omega) hr (by omega)]
      dsimp only
      unfold out0_D_6 kernelRun0_D
      dsimp only
      rw [View.read_writes_full]
      exact congrArg₂ k0_pay18 (load_whole _ _ _ _) (load_whole _ _ _ _)
  · by_cases h3 : t.val % 4 = 3
    · rw [outsAt0_C m c t h (by omega) (by omega) h3]
      dsimp only
      unfold out0_C_6 kernelRun0_C
      dsimp only
      rw [View.read_writes_full]
      exact congrArg₂ k0_pay18 (load_whole _ _ _ _) (load_whole _ _ _ _)
    · rw [outsAt0_B m c t h (by omega) (by omega) h3]
      dsimp only
      unfold out0_B_6 kernelRun0_B
      dsimp only
      rw [View.read_writes_full]
      exact congrArg₂ k0_pay18 (load_whole _ _ _ _) (load_whole _ _ _ _)

theorem b_out (t : Fin cfg0.N) :
    (outsAt0 m c t.val t.isLt).2.1 = k0_pay19 (F := Ideal) (iblk m c 0 t) (iblk m c 1 t) := by
  by_cases h : t.val % 4 = 0
  · by_cases hr : t.val % 32 = 0
    · rw [outsAt0_A m c t h (by omega) hr (by omega)]
      dsimp only
      unfold out0_A_7 kernelRun0_A
      dsimp only
      rw [View.read_writes_full]
      exact congrArg₂ k0_pay19 (load_whole _ _ _ _) (load_whole _ _ _ _)
    · rw [outsAt0_D m c t h (by omega) hr (by omega)]
      dsimp only
      unfold out0_D_7 kernelRun0_D
      dsimp only
      rw [View.read_writes_full]
      exact congrArg₂ k0_pay19 (load_whole _ _ _ _) (load_whole _ _ _ _)
  · by_cases h3 : t.val % 4 = 3
    · rw [outsAt0_C m c t h (by omega) (by omega) h3]
      dsimp only
      unfold out0_C_7 kernelRun0_C
      dsimp only
      rw [View.read_writes_full]
      exact congrArg₂ k0_pay19 (load_whole _ _ _ _) (load_whole _ _ _ _)
    · rw [outsAt0_B m c t h (by omega) (by omega) h3]
      dsimp only
      unfold out0_B_7 kernelRun0_B
      dsimp only
      rw [View.read_writes_full]
      exact congrArg₂ k0_pay19 (load_whole _ _ _ _) (load_whole _ _ _ _)

theorem ff_out (t : Fin cfg0.N) :
    (outsAt0 m c t.val t.isLt).2.2.1 = k0_pay17 (F := Ideal) (iblk m c 0 t) (iblk m c 1 t) := by
  by_cases h : t.val % 4 = 0
  · by_cases hr : t.val % 32 = 0
    · rw [outsAt0_A m c t h (by omega) hr (by omega)]
      dsimp only
      unfold out0_A_8 kernelRun0_A
      dsimp only
      rw [View.read_writes_full]
      exact congrArg₂ k0_pay17 (load_whole _ _ _ _) (load_whole _ _ _ _)
    · rw [outsAt0_D m c t h (by omega) hr (by omega)]
      dsimp only
      unfold out0_D_8 kernelRun0_D
      dsimp only
      rw [View.read_writes_full]
      exact congrArg₂ k0_pay17 (load_whole _ _ _ _) (load_whole _ _ _ _)
  · by_cases h3 : t.val % 4 = 3
    · rw [outsAt0_C m c t h (by omega) (by omega) h3]
      dsimp only
      unfold out0_C_8 kernelRun0_C
      dsimp only
      rw [View.read_writes_full]
      exact congrArg₂ k0_pay17 (load_whole _ _ _ _) (load_whole _ _ _ _)
    · rw [outsAt0_B m c t h (by omega) (by omega) h3]
      dsimp only
      unfold out0_B_8 kernelRun0_B
      dsimp only
      rw [View.read_writes_full]
      exact congrArg₂ k0_pay17 (load_whole _ _ _ _) (load_whole _ _ _ _)

theorem acc_first (t : Fin cfg0.N) (h : t.val % 4 = 0) :
    (outsAt0 m c t.val t.isLt).2.2.2.2.2.2.2 = k0_pay1 (F := Ideal) (k0_pay20 (F := Ideal) (iblk m c 0 t) (iblk m c 1 t) (iblk m c 2 t)) := by
  by_cases hr : t.val % 32 = 0
  · rw [outsAt0_A m c t h (by omega) hr (by omega)]
    dsimp only
    unfold sout0_A_0 kernelRun0_A
    dsimp only
    rw [View.read_writes_full]
    unfold kernelRun0_A.sl.r
    exact congrArg k0_pay1 (congr (congrArg₂ k0_pay20 (load_whole _ _ _ _) (load_whole _ _ _ _)) (load_whole _ _ _ _))
  · rw [outsAt0_D m c t h (by omega) hr (by omega)]
    dsimp only
    unfold sout0_D_0 kernelRun0_D
    dsimp only
    rw [View.read_writes_full]
    unfold kernelRun0_D.sl.r
    exact congrArg k0_pay1 (congr (congrArg₂ k0_pay20 (load_whole _ _ _ _) (load_whole _ _ _ _)) (load_whole _ _ _ _))

theorem acc_later (t : Fin cfg0.N) (h : ¬t.val % 4 = 0) :
    (outsAt0 m c t.val t.isLt).2.2.2.2.2.2.2 = k0_pay2 (F := Ideal) (k0_pay20 (F := Ideal) (iblk m c 0 t) (iblk m c 1 t) (iblk m c 2 t)) (outsAt0 m c (t.val - 1) (by have := t.isLt; omega)).2.2.2.2.2.2.2 := by
  by_cases h3 : t.val % 4 = 3
  · rw [outsAt0_C m c t h (by omega) (by omega) h3]
    dsimp only
    unfold sout0_C_0 kernelRun0_C
    dsimp only
    unfold kernelRun0_C.sl.HS0_1
    rw [View.read_writes_full]
    unfold kernelRun0_C.sl.r
    exact congrArg₂ k0_pay2 (congr (congrArg₂ k0_pay20 (load_whole _ _ _ _) (load_whole _ _ _ _)) (load_whole _ _ _ _)) (load_whole _ _ _ _)
  · rw [outsAt0_B m c t h (by omega) (by omega) h3]
    dsimp only
    unfold sout0_B_0 kernelRun0_B
    dsimp only
    rw [View.read_writes_full]
    unfold kernelRun0_B.sl.r
    exact congrArg₂ k0_pay2 (congr (congrArg₂ k0_pay20 (load_whole _ _ _ _) (load_whole _ _ _ _)) (load_whole _ _ _ _)) (load_whole _ _ _ _)

theorem dh_out (t : Fin cfg0.N) (h3 : t.val % 4 = 3) :
    (outsAt0 m c t.val t.isLt).2.2.2.1 = k0_pay11 (F := Ideal) (outsAt0 m c t.val t.isLt).2.2.2.2.2.2.2 (iblk m c 3 t) (iblk m c 5 t) (iblk m c 4 t) := by
  have h : ¬t.val % 4 = 0 := by omega
  rw [outsAt0_C m c t h (by omega) (by omega) h3]
  dsimp only
  unfold out0_C_9 sout0_C_0 kernelRun0_C
  dsimp only
  rw [View.read_writes_full]
  unfold kernelRun0_C.sl.v50 kernelRun0_C.sl.HS0_1
  rw [View.read_writes_full, View.readCov_full]
  exact congr (congr (congrArg₂ k0_pay11 rfl (load_whole _ _ _ _)) (load_whole _ _ _ _)) (load_whole _ _ _ _)

theorem dy_out (t : Fin cfg0.N) (h3 : t.val % 4 = 3) :
    (outsAt0 m c t.val t.isLt).2.2.2.2.1 = k0_pay5 (F := Ideal) (k0_pay7 (F := Ideal) (outsAt0 m c t.val t.isLt).2.2.2.2.2.2.2) (k0_pay8 (F := Ideal) (outsAt0 m c t.val t.isLt).2.2.2.2.2.2.2) (k0_pay11 (F := Ideal) (outsAt0 m c t.val t.isLt).2.2.2.2.2.2.2 (iblk m c 3 t) (iblk m c 5 t) (iblk m c 4 t)) (iblk m c 5 t) := by
  have h : ¬t.val % 4 = 0 := by omega
  rw [outsAt0_C m c t h (by omega) (by omega) h3]
  dsimp only
  unfold out0_C_10 sout0_C_0 kernelRun0_C
  dsimp only
  rw [View.read_writes_full]
  unfold kernelRun0_C.sl.r_1 kernelRun0_C.sl.r_2 kernelRun0_C.sl.r_3
  unfold kernelRun0_C.sl.v50 kernelRun0_C.sl.HS0_1
  rw [View.read_writes_full, View.readCov_full]
  exact congr (congrArg (k0_pay5 _ _) (congr (congr (congrArg₂ k0_pay11 rfl (load_whole _ _ _ _)) (load_whole _ _ _ _)) (load_whole _ _ _ _))) (load_whole _ _ _ _)

theorem dg_zero (t : Fin cfg0.N) (hr : t.val % 32 = 0) :
    (outsAt0 m c t.val t.isLt).2.2.2.2.2.1 = k0_pay3 (F := Ideal) := by
  have h : t.val % 4 = 0 := by omega
  rw [outsAt0_A m c t h (by omega) hr (by omega)]
  dsimp only
  unfold out0_A_11 kernelRun0_A
  dsimp only
  rw [View.read_writes_full]

theorem dg_kept (t : Fin cfg0.N) (hr : ¬t.val % 32 = 0) (h3 : ¬t.val % 4 = 3) :
    (outsAt0 m c t.val t.isLt).2.2.2.2.2.1 = (outsAt0 m c (t.val - 1) (by have := t.isLt; omega)).2.2.2.2.2.1 := by
  by_cases h : t.val % 4 = 0
  · rw [outsAt0_D m c t h (by omega) hr (by omega)]
    rfl
  · rw [outsAt0_B m c t h (by omega) hr h3]
    rfl

theorem dg_add (t : Fin cfg0.N) (h3 : t.val % 4 = 3) :
    (outsAt0 m c t.val t.isLt).2.2.2.2.2.1 = k0_pay6 (F := Ideal) (k0_pay8 (F := Ideal) (outsAt0 m c t.val t.isLt).2.2.2.2.2.2.2) (k0_pay11 (F := Ideal) (outsAt0 m c t.val t.isLt).2.2.2.2.2.2.2 (iblk m c 3 t) (iblk m c 5 t) (iblk m c 4 t)) (outsAt0 m c (t.val - 1) (by have := t.isLt; omega)).2.2.2.2.2.1 := by
  have h : ¬t.val % 4 = 0 := by omega
  rw [outsAt0_C m c t h (by omega) (by omega) h3]
  dsimp only
  unfold out0_C_11 sout0_C_0 kernelRun0_C
  dsimp only
  rw [View.read_writes_full]
  unfold kernelRun0_C.sl.r_2 kernelRun0_C.sl.r_3
  unfold kernelRun0_C.sl.v50 kernelRun0_C.sl.HS0_1
  rw [View.read_writes_full, View.readCov_full]
  exact congr (congrArg (k0_pay6 _) (congr (congr (congrArg₂ k0_pay11 rfl (load_whole _ _ _ _)) (load_whole _ _ _ _)) (load_whole _ _ _ _))) (load_whole _ _ _ _)

theorem loss_zero (t : Fin cfg0.N) (hr : t.val % 32 = 0) :
    (outsAt0 m c t.val t.isLt).2.2.2.2.2.2.1 = k0_pay4 (F := Ideal) := by
  have h : t.val % 4 = 0 := by omega
  rw [outsAt0_A m c t h (by omega) hr (by omega)]
  dsimp only
  unfold out0_A_12 kernelRun0_A
  dsimp only
  rw [View.read_writes_full]

theorem loss_kept (t : Fin cfg0.N) (hr : ¬t.val % 32 = 0) (h3 : ¬t.val % 4 = 3) :
    (outsAt0 m c t.val t.isLt).2.2.2.2.2.2.1 = (outsAt0 m c (t.val - 1) (by have := t.isLt; omega)).2.2.2.2.2.2.1 := by
  by_cases h : t.val % 4 = 0
  · rw [outsAt0_D m c t h (by omega) hr (by omega)]
    rfl
  · rw [outsAt0_B m c t h (by omega) hr h3]
    rfl

theorem loss_add (t : Fin cfg0.N) (h3 : t.val % 4 = 3) :
    (outsAt0 m c t.val t.isLt).2.2.2.2.2.2.1 = k0_pay10 (F := Ideal) (outsAt0 m c t.val t.isLt).2.2.2.2.2.2.2 (iblk m c 3 t) (iblk m c 5 t) (iblk m c 4 t) (outsAt0 m c (t.val - 1) (by have := t.isLt; omega)).2.2.2.2.2.2.1 := by
  have h : ¬t.val % 4 = 0 := by omega
  rw [outsAt0_C m c t h (by omega) (by omega) h3]
  dsimp only
  unfold out0_C_12 sout0_C_0 kernelRun0_C
  dsimp only
  rw [View.read_writes_full]
  unfold kernelRun0_C.sl.v50 kernelRun0_C.sl.HS0_1
  rw [View.read_writes_full, View.readCov_full]
  exact congr (congr (congr (congrArg₂ k0_pay10 rfl (load_whole _ _ _ _)) (load_whole _ _ _ _)) (load_whole _ _ _ _)) (load_whole _ _ _ _)

end Cert.Kernel4Ideal.Head
-- ==== Proof.HeadHost.lean ====
module

public import proofs.«01_k».proof.Proof.HeadStep

@[expose] public section

set_option maxRecDepth 16384

noncomputable section

namespace Cert.Kernel4Ideal.Head

open Idealize.ShloMosaic Idealize.ShloMosaic.TcCoe Cert.Flash Cert.Ffn Cert.Head
open Idealize.SL Idealize.SL.Sem
open Cert.Kernel4Ideal Cert.Kernel4Ideal.Gen
open scoped BigOperators

variable (m : (ℓ : Loc nD τ sig) → Buf (Elt Ideal) ℓ) (c : Dev nD)

/-! ## The blocks of the arrays: a point `t` is at row block `t / 4` and column block `t % 4` -/

theorem lt32 (t : Fin cfg0.N) : t.val < 32 := Nat.lt_of_lt_of_eq t.isLt N_0

theorem index0 : ∀ t : Fin grid0.N, win0_0.index t 0 = t.val / 4 ∧ win0_0.index t 1 = 0 := by decide +kernel
theorem index1 : ∀ t : Fin grid0.N, win0_1.index t 0 = t.val % 4 ∧ win0_1.index t 1 = 0 := by decide +kernel
theorem index2 : ∀ t : Fin grid0.N, win0_2.index t 0 = t.val % 4 ∧ win0_2.index t 1 = 0 := by decide +kernel
theorem index3 : ∀ t : Fin grid0.N, win0_3.index t 0 = t.val / 4 ∧ win0_3.index t 1 = 0 := by decide +kernel
theorem index4 : ∀ t : Fin grid0.N, win0_4.index t 0 = t.val / 4 ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val / 4 ∧ win0_6.index t 1 = t.val % 4 := by decide +kernel
theorem index7 : ∀ t : Fin grid0.N, win0_7.index t 0 = t.val / 4 ∧ win0_7.index t 1 = t.val % 4 := by decide +kernel
theorem index8 : ∀ t : Fin grid0.N, win0_8.index t 0 = t.val / 4 ∧ win0_8.index t 1 = t.val % 4 := by decide +kernel
theorem index9 : ∀ t : Fin grid0.N, win0_9.index t 0 = t.val / 4 ∧ win0_9.index t 1 = 0 := by decide +kernel
theorem index10 : ∀ t : Fin grid0.N, win0_10.index t 0 = t.val / 4 ∧ win0_10.index t 1 = 0 := by decide +kernel
theorem index11 : ∀ t : Fin grid0.N, win0_11.index t 0 = 0 ∧ win0_11.index t 1 = 0 := by decide +kernel
theorem index12 : ∀ t : Fin grid0.N, win0_12.index t 0 = 0 ∧ win0_12.index t 1 = 0 := by decide +kernel

theorem read0_apply (A : (⟨2, ![4096, 1024]⟩ : Shape).Idx → EReal) (t : Fin grid0.N) (r : Fin 512) (x : Fin 1024) :
    (win0_0.blk t).view.read (Elt Ideal) A (ix2 r x) = at2 A (512 * (t.val / 4) + r.val) (x.val) := by
  have ht : t.val < 32 := lt32 t
  have hr := r.isLt
  have hx := x.isLt
  have hi := index0 t
  rw [at2_lt A (show 512 * (t.val / 4) + r.val < 4096 by omega) (show x.val < 1024 by omega), View.read_apply]
  refine congrArg A (funext fun a => Fin.ext ?_)
  match a with
  | ⟨0, _⟩ =>
    have e : win0_0.index t 0 * 512 + 1 * r.val = 512 * (t.val / 4) + r.val := by rw [hi.1]; omega
    exact e
  | ⟨1, _⟩ =>
    have e : win0_0.index t 1 * 1024 + 1 * x.val = x.val := by rw [hi.2]; omega
    exact e

theorem read1_apply (A : (⟨2, ![6144, 1024]⟩ : Shape).Idx → EReal) (t : Fin grid0.N) (r : Fin 1536) (x : Fin 1024) :
    (win0_1.blk t).view.read (Elt Ideal) A (ix2 r x) = at2 A (1536 * (t.val % 4) + r.val) (x.val) := by
  have ht : t.val < 32 := lt32 t
  have hr := r.isLt
  have hx := x.isLt
  have hi := index1 t
  rw [at2_lt A (show 1536 * (t.val % 4) + r.val < 6144 by omega) (show x.val < 1024 by omega), View.read_apply]
  refine congrArg A (funext fun a => Fin.ext ?_)
  match a with
  | ⟨0, _⟩ =>
    have e : win0_1.index t 0 * 1536 + 1 * r.val = 1536 * (t.val % 4) + r.val := by rw [hi.1]; omega
    exact e
  | ⟨1, _⟩ =>
    have e : win0_1.index t 1 * 1024 + 1 * x.val = x.val := by rw [hi.2]; omega
    exact e

theorem read2_apply (A : (⟨2, ![3072, 1024]⟩ : Shape).Idx → EReal) (t : Fin grid0.N) (r : Fin 768) (x : Fin 1024) :
    (win0_2.blk t).view.read (Elt Ideal) A (ix2 r x) = at2 A (768 * (t.val % 4) + r.val) (x.val) := by
  have ht : t.val < 32 := lt32 t
  have hr := r.isLt
  have hx := x.isLt
  have hi := index2 t
  rw [at2_lt A (show 768 * (t.val % 4) + r.val < 3072 by omega) (show x.val < 1024 by omega), View.read_apply]
  refine congrArg A (funext fun a => Fin.ext ?_)
  match a with
  | ⟨0, _⟩ =>
    have e : win0_2.index t 0 * 768 + 1 * r.val = 768 * (t.val % 4) + r.val := by rw [hi.1]; omega
    exact e
  | ⟨1, _⟩ =>
    have e : win0_2.index t 1 * 1024 + 1 * x.val = x.val := by rw [hi.2]; omega
    exact e

theorem read3_apply (A : (⟨2, ![4096, 1024]⟩ : Shape).Idx → EReal) (t : Fin grid0.N) (r : Fin 512) (x : Fin 1024) :
    (win0_3.blk t).view.read (Elt Ideal) A (ix2 r x) = at2 A (512 * (t.val / 4) + r.val) (x.val) := by
  have ht : t.val < 32 := lt32 t
  have hr := r.isLt
  have hx := x.isLt
  have hi := index3 t
  rw [at2_lt A (show 512 * (t.val / 4) + r.val < 4096 by omega) (show x.val < 1024 by omega), View.read_apply]
  refine congrArg A (funext fun a => Fin.ext ?_)
  match a with
  | ⟨0, _⟩ =>
    have e : win0_3.index t 0 * 512 + 1 * r.val = 512 * (t.val / 4) + r.val := by rw [hi.1]; omega
    exact e
  | ⟨1, _⟩ =>
    have e : win0_3.index t 1 * 1024 + 1 * x.val = x.val := by rw [hi.2]; omega
    exact e

theorem read4_apply (A : (⟨2, ![4096, 1024]⟩ : Shape).Idx → EReal) (t : Fin grid0.N) (r : Fin 512) (x : Fin 1024) :
    (win0_4.blk t).view.read (Elt Ideal) A (ix2 r x) = at2 A (512 * (t.val / 4) + r.val) (x.val) := by
  have ht : t.val < 32 := lt32 t
  have hr := r.isLt
  have hx := x.isLt
  have hi := index4 t
  rw [at2_lt A (show 512 * (t.val / 4) + r.val < 4096 by omega) (show x.val < 1024 by omega), View.read_apply]
  refine congrArg A (funext fun a => Fin.ext ?_)
  match a with
  | ⟨0, _⟩ =>
    have e : win0_4.index t 0 * 512 + 1 * r.val = 512 * (t.val / 4) + r.val := by rw [hi.1]; omega
    exact e
  | ⟨1, _⟩ =>
    have e : win0_4.index t 1 * 1024 + 1 * x.val = x.val := by rw [hi.2]; omega
    exact e

theorem read5_apply (A : (⟨2, ![1, 1024]⟩ : Shape).Idx → EReal) (t : Fin grid0.N) (r : Fin 1) (x : Fin 1024) :
    (win0_5.blk t).view.read (Elt Ideal) A (ix2 r x) = at2 A (r.val) (x.val) := by
  have ht : t.val < 32 := lt32 t
  have hr := r.isLt
  have hx := x.isLt
  have hi := index5 t
  rw [at2_lt A (show r.val < 1 by omega) (show x.val < 1024 by omega), View.read_apply]
  refine congrArg A (funext fun a => Fin.ext ?_)
  match a with
  | ⟨0, _⟩ =>
    have e : win0_5.index t 0 * 1 + 1 * r.val = r.val := by rw [hi.1]; omega
    exact e
  | ⟨1, _⟩ =>
    have e : win0_5.index t 1 * 1024 + 1 * x.val = x.val := by rw [hi.2]; omega
    exact e

theorem read6_apply (A : (⟨2, ![4096, 3072]⟩ : Shape).Idx → EReal) (t : Fin grid0.N) (r : Fin 512) (x : Fin 768) :
    (win0_6.blk t).view.read (Elt Ideal) A (ix2 r x) = at2 A (512 * (t.val / 4) + r.val) (768 * (t.val % 4) + x.val) := by
  have ht : t.val < 32 := lt32 t
  have hr := r.isLt
  have hx := x.isLt
  have hi := index6 t
  rw [at2_lt A (show 512 * (t.val / 4) + r.val < 4096 by omega) (show 768 * (t.val % 4) + x.val < 3072 by omega), View.read_apply]
  refine congrArg A (funext fun a => Fin.ext ?_)
  match a with
  | ⟨0, _⟩ =>
    have e : win0_6.index t 0 * 512 + 1 * r.val = 512 * (t.val / 4) + r.val := by rw [hi.1]; omega
    exact e
  | ⟨1, _⟩ =>
    have e : win0_6.index t 1 * 768 + 1 * x.val = 768 * (t.val % 4) + x.val := by rw [hi.2]; omega
    exact e

theorem read7_apply (A : (⟨2, ![4096, 3072]⟩ : Shape).Idx → EReal) (t : Fin grid0.N) (r : Fin 512) (x : Fin 768) :
    (win0_7.blk t).view.read (Elt Ideal) A (ix2 r x) = at2 A (512 * (t.val / 4) + r.val) (768 * (t.val % 4) + x.val) := by
  have ht : t.val < 32 := lt32 t
  have hr := r.isLt
  have hx := x.isLt
  have hi := index7 t
  rw [at2_lt A (show 512 * (t.val / 4) + r.val < 4096 by omega) (show 768 * (t.val % 4) + x.val < 3072 by omega), View.read_apply]
  refine congrArg A (funext fun a => Fin.ext ?_)
  match a with
  | ⟨0, _⟩ =>
    have e : win0_7.index t 0 * 512 + 1 * r.val = 512 * (t.val / 4) + r.val := by rw [hi.1]; omega
    exact e
  | ⟨1, _⟩ =>
    have e : win0_7.index t 1 * 768 + 1 * x.val = 768 * (t.val % 4) + x.val := by rw [hi.2]; omega
    exact e

theorem read8_apply (A : (⟨2, ![4096, 3072]⟩ : Shape).Idx → EReal) (t : Fin grid0.N) (r : Fin 512) (x : Fin 768) :
    (win0_8.blk t).view.read (Elt Ideal) A (ix2 r x) = at2 A (512 * (t.val / 4) + r.val) (768 * (t.val % 4) + x.val) := by
  have ht : t.val < 32 := lt32 t
  have hr := r.isLt
  have hx := x.isLt
  have hi := index8 t
  rw [at2_lt A (show 512 * (t.val / 4) + r.val < 4096 by omega) (show 768 * (t.val % 4) + x.val < 3072 by omega), View.read_apply]
  refine congrArg A (funext fun a => Fin.ext ?_)
  match a with
  | ⟨0, _⟩ =>
    have e : win0_8.index t 0 * 512 + 1 * r.val = 512 * (t.val / 4) + r.val := by rw [hi.1]; omega
    exact e
  | ⟨1, _⟩ =>
    have e : win0_8.index t 1 * 768 + 1 * x.val = 768 * (t.val % 4) + x.val := by rw [hi.2]; omega
    exact e

theorem read9_apply (A : (⟨2, ![4096, 1024]⟩ : Shape).Idx → EReal) (t : Fin grid0.N) (r : Fin 512) (x : Fin 1024) :
    (win0_9.blk t).view.read (Elt Ideal) A (ix2 r x) = at2 A (512 * (t.val / 4) + r.val) (x.val) := by
  have ht : t.val < 32 := lt32 t
  have hr := r.isLt
  have hx := x.isLt
  have hi := index9 t
  rw [at2_lt A (show 512 * (t.val / 4) + r.val < 4096 by omega) (show x.val < 1024 by omega), View.read_apply]
  refine congrArg A (funext fun a => Fin.ext ?_)
  match a with
  | ⟨0, _⟩ =>
    have e : win0_9.index t 0 * 512 + 1 * r.val = 512 * (t.val / 4) + r.val := by rw [hi.1]; omega
    exact e
  | ⟨1, _⟩ =>
    have e : win0_9.index t 1 * 1024 + 1 * x.val = x.val := by rw [hi.2]; omega
    exact e

theorem read10_apply (A : (⟨2, ![4096, 1024]⟩ : Shape).Idx → EReal) (t : Fin grid0.N) (r : Fin 512) (x : Fin 1024) :
    (win0_10.blk t).view.read (Elt Ideal) A (ix2 r x) = at2 A (512 * (t.val / 4) + r.val) (x.val) := by
  have ht : t.val < 32 := lt32 t
  have hr := r.isLt
  have hx := x.isLt
  have hi := index10 t
  rw [at2_lt A (show 512 * (t.val / 4) + r.val < 4096 by omega) (show x.val < 1024 by omega), View.read_apply]
  refine congrArg A (funext fun a => Fin.ext ?_)
  match a with
  | ⟨0, _⟩ =>
    have e : win0_10.index t 0 * 512 + 1 * r.val = 512 * (t.val / 4) + r.val := by rw [hi.1]; omega
    exact e
  | ⟨1, _⟩ =>
    have e : win0_10.index t 1 * 1024 + 1 * x.val = x.val := by rw [hi.2]; omega
    exact e

theorem read11_apply (A : (⟨2, ![1, 1024]⟩ : Shape).Idx → EReal) (t : Fin grid0.N) (r : Fin 1) (x : Fin 1024) :
    (win0_11.blk t).view.read (Elt Ideal) A (ix2 r x) = at2 A (r.val) (x.val) := by
  have ht : t.val < 32 := lt32 t
  have hr := r.isLt
  have hx := x.isLt
  have hi := index11 t
  rw [at2_lt A (show r.val < 1 by omega) (show x.val < 1024 by omega), View.read_apply]
  refine congrArg A (funext fun a => Fin.ext ?_)
  match a with
  | ⟨0, _⟩ =>
    have e : win0_11.index t 0 * 1 + 1 * r.val = r.val := by rw [hi.1]; omega
    exact e
  | ⟨1, _⟩ =>
    have e : win0_11.index t 1 * 1024 + 1 * x.val = x.val := by rw [hi.2]; omega
    exact e

theorem read12_apply (A : (⟨2, ![1, 128]⟩ : Shape).Idx → EReal) (t : Fin grid0.N) (r : Fin 1) (x : Fin 128) :
    (win0_12.blk t).view.read (Elt Ideal) A (ix2 r x) = at2 A (r.val) (x.val) := by
  have ht : t.val < 32 := lt32 t
  have hr := r.isLt
  have hx := x.isLt
  have hi := index12 t
  rw [at2_lt A (show r.val < 1 by omega) (show x.val < 128 by omega), View.read_apply]
  refine congrArg A (funext fun a => Fin.ext ?_)
  match a with
  | ⟨0, _⟩ =>
    have e : win0_12.index t 0 * 1 + 1 * r.val = r.val := by rw [hi.1]; omega
    exact e
  | ⟨1, _⟩ =>
    have e : win0_12.index t 1 * 128 + 1 * x.val = x.val := by rw [hi.2]; omega
    exact e

/-! ## The arrays the call reads -/

theorem V_arg1 : (V m c main_arg1 : (⟨2, ![4096, 1024]⟩ : Shape).Idx → EReal) = m ((c : Thread nD τ).loc main_arg1) := by
  simp only [V, hostOps0]
  after_results_simp

theorem V_arg2 : (V m c main_arg2 : (⟨2, ![4096, 1024]⟩ : Shape).Idx → EReal) = m ((c : Thread nD τ).loc main_arg2) := by
  simp only [V, hostOps0]
  after_results_simp

theorem V_arg3 : (V m c main_arg3 : (⟨2, ![1, 1024]⟩ : Shape).Idx → EReal) = m ((c : Thread nD τ).loc main_arg3) := by
  simp only [V, hostOps0]
  after_results_simp

theorem V_v0 : (V m c main_v0 : (⟨2, ![4096, 1024]⟩ : Shape).Idx → EReal) = m ((c : Thread nD τ).loc main_arg0) := by
  simp only [V, hostOps0]
  after_results_simp
  rfl

theorem V_v1 : (V m c main_v1 : (⟨2, ![6144, 1024]⟩ : Shape).Idx → EReal) = m ((c : Thread nD τ).loc main_arg4) := by
  simp only [V, hostOps0]
  after_results_simp
  rfl

theorem V_v2 : (V m c main_v2 : (⟨2, ![3072, 1024]⟩ : Shape).Idx → EReal) = m ((c : Thread nD τ).loc main_arg5) := by
  simp only [V, hostOps0]
  after_results_simp
  rfl

end Cert.Kernel4Ideal.Head
-- ==== Proof.HeadSum.lean ====
module

public import proofs.«01_k».proof.Proof.HeadHost

@[expose] public section

set_option maxRecDepth 16384

noncomputable section

namespace Cert.Kernel4Ideal.Head

open Idealize.ShloMosaic Idealize.ShloMosaic.TcCoe Cert.Flash Cert.Ffn Cert.Head
open Idealize.SL Idealize.SL.Sem
open Cert.Kernel4Ideal Cert.Kernel4Ideal.Gen
open scoped BigOperators

variable (m : (ℓ : Loc nD τ sig) → Buf (Elt Ideal) ℓ) (c : Dev nD)

/-! ## The call's results, entry by entry, from its arguments -/

/-- The normed rows. -/
def zA : ℕ → ℕ → EReal := at2 (m := 4096) (n := 1024) (m ((c : Thread nD τ).loc main_arg0))

/-- The residual. -/
def hA : ℕ → ℕ → EReal := at2 (m := 4096) (n := 1024) (m ((c : Thread nD τ).loc main_arg1))

/-- The target. -/
def tA : ℕ → ℕ → EReal := at2 (m := 4096) (n := 1024) (m ((c : Thread nD τ).loc main_arg2))

/-- The norm's weight. -/
def pA : ℕ → ℕ → EReal := at2 (m := 1) (n := 1024) (m ((c : Thread nD τ).loc main_arg3))

/-- The weight into the gate. -/
def wA : ℕ → ℕ → EReal := at2 (m := 6144) (n := 1024) (m ((c : Thread nD τ).loc main_arg4))

/-- The weight out of the gate. -/
def vA : ℕ → ℕ → EReal := at2 (m := 3072) (n := 1024) (m ((c : Thread nD τ).loc main_arg5))

/-- The first product. -/
def guN (R E : ℕ) : EReal := ∑ k : Fin 1024, zA m c R k.val * wA m c E k.val

/-- The gate's input. -/
def gN (R q : ℕ) : EReal := guN m c R (gateAt q)

/-- The up's input. -/
def uN (R q : ℕ) : EReal := guN m c R (gateAt q + 384)

/-- One column's part of the second product. -/
def yTerm (R : ℕ) (x : Fin 1024) (q : ℕ) : EReal := gated (gN m c R q) (uN m c R q) * vA m c q x.val

/-- The second product. -/
def yN (R : ℕ) (x : Fin 1024) : EReal := ∑ q ∈ Finset.range 3072, yTerm m c R x q

/-- The error. -/
def errN (R : ℕ) (x : Fin 1024) : EReal := errOf (yN m c R) (fun k => hA m c R k.val) (fun k => pA m c 0 k.val) (fun k => tA m c R k.val) x

/-- The gradient of the residual. -/
def dhN (R : ℕ) (x : Fin 1024) : EReal := errN m c R x * Ideal.ofBits .f32 0x3A800000#32

/-- The gradient of the second product. -/
def dyN (R : ℕ) (x : Fin 1024) : EReal := rowB (yN m c R) (dhN m c R) (fun k => pA m c 0 k.val) x

/-- One row's part of the gradient of the norm's weight. -/
def dgTerm (x : Fin 1024) (R : ℕ) : EReal := dhN m c R x * (yN m c R x * rowR (yN m c R))

/-- One row's mean square. -/
def lossTerm (R : ℕ) : EReal := (∑ k : Fin 1024, errN m c R k * errN m c R k) * Ideal.ofBits .f32 0x3A800000#32

/-- Half the mean squares of a block of rows. -/
def lossBlock (b : ℕ) : EReal := Ideal.ofBits .f32 0x3F000000#32 * ∑ k ∈ Finset.range 512, lossTerm m c (512 * b + k)

/-! ## The blocks -/

theorem blk0 (t : Fin cfg0.N) (r : Fin 512) (x : Fin 1024) : (iblk m c 0 t (ix2 r x) : EReal) = zA m c (512 * (t.val / 4) + r.val) x.val := by
  unfold zA
  rw [← V_v0 m c]
  exact read0_apply _ t r x

theorem blk1 (t : Fin cfg0.N) (r : Fin 1536) (x : Fin 1024) : (iblk m c 1 t (ix2 r x) : EReal) = wA m c (1536 * (t.val % 4) + r.val) x.val := by
  unfold wA
  rw [← V_v1 m c]
  exact read1_apply _ t r x

theorem blk2 (t : Fin cfg0.N) (r : Fin 768) (x : Fin 1024) : (iblk m c 2 t (ix2 r x) : EReal) = vA m c (768 * (t.val % 4) + r.val) x.val := by
  unfold vA
  rw [← V_v2 m c]
  exact read2_apply _ t r x

theorem blk3 (t : Fin cfg0.N) (r : Fin 512) (x : Fin 1024) : (iblk m c 3 t (ix2 r x) : EReal) = hA m c (512 * (t.val / 4) + r.val) x.val := by
  unfold hA
  rw [← V_arg1 m c]
  exact read3_apply _ t r x

theorem blk4 (t : Fin cfg0.N) (r : Fin 512) (x : Fin 1024) : (iblk m c 4 t (ix2 r x) : EReal) = tA m c (512 * (t.val / 4) + r.val) x.val := by
  unfold tA
  rw [← V_arg2 m c]
  exact read4_apply _ t r x

theorem blk5 (t : Fin cfg0.N) (x : Fin 1024) : (iblk m c 5 t (ix2 (0 : Fin 1) x) : EReal) = pA m c 0 x.val := by
  unfold pA
  rw [← V_arg3 m c]
  exact read5_apply _ t 0 x

theorem gu_block (t : Fin cfg0.N) (r : Fin 512) (e : Fin 1536) :
    (k0_pay12 (F := Ideal) (iblk m c 0 t) (iblk m c 1 t) (ix2 r e) : EReal) = guN m c (512 * (t.val / 4) + r.val) (1536 * (t.val % 4) + e.val) := by
  rw [gu_apply]
  exact Finset.sum_congr rfl fun k _ => congrArg₂ (fun a b : EReal => a * b) (blk0 m c t r k) (blk1 m c t e k)

theorem gateAt_block (b q : ℕ) : gateAt (768 * b + q) = 1536 * b + gateAt q := by unfold gateAt; omega

theorem gate_block (t : Fin cfg0.N) (r : Fin 512) (q : Fin 768) :
    (k0_pay13 (F := Ideal) (iblk m c 0 t) (iblk m c 1 t) (ix2 r q) : EReal) = gN m c (512 * (t.val / 4) + r.val) (768 * (t.val % 4) + q.val) := by
  have hq := q.isLt
  have he : gateAt q.val < 1536 := by unfold gateAt; omega
  rw [gate_apply _ _ r q ⟨gateAt q.val, he⟩ rfl, gu_block m c t r ⟨gateAt q.val, he⟩]
  unfold gN
  rw [gateAt_block]

theorem up_block (t : Fin cfg0.N) (r : Fin 512) (q : Fin 768) :
    (k0_pay14 (F := Ideal) (iblk m c 0 t) (iblk m c 1 t) (ix2 r q) : EReal) = uN m c (512 * (t.val / 4) + r.val) (768 * (t.val % 4) + q.val) := by
  have hq := q.isLt
  have he : gateAt q.val + 384 < 1536 := by unfold gateAt; omega
  rw [up_apply _ _ r q ⟨gateAt q.val + 384, he⟩ rfl, gu_block m c t r ⟨gateAt q.val + 384, he⟩]
  unfold uN
  rw [gateAt_block, Nat.add_assoc]

theorem y_block (t : Fin cfg0.N) (r : Fin 512) (x : Fin 1024) :
    (k0_pay20 (F := Ideal) (iblk m c 0 t) (iblk m c 1 t) (iblk m c 2 t) (ix2 r x) : EReal)
      = ∑ k ∈ Finset.range 768, yTerm m c (512 * (t.val / 4) + r.val) x (768 * (t.val % 4) + k) := by
  rw [part_apply]
  unfold partSum
  rw [← Cert.Flash.sum_fin]
  refine Finset.sum_congr rfl fun q _ => ?_
  unfold yTerm
  rw [← gate_block, ← up_block]
  exact congrArg₂ (fun a b : EReal => a * b) (ff_apply _ _ r q) (blk2 m c t q x)

/-! ## What the points leave -/

/-- The accumulator after a point: the column blocks so far. -/
theorem acc_after (r : Fin 512) (x : Fin 1024) : ∀ (n : ℕ) (hn : n < cfg0.N), ((outsAt0 m c n hn).2.2.2.2.2.2.2 (ix2 r x) : EReal)
    = ∑ k ∈ Finset.range (768 * (n % 4 + 1)), yTerm m c (512 * (n / 4) + r.val) x k := by
  have first : ∀ (n : ℕ) (hn : n < cfg0.N), n % 4 = 0 → ((outsAt0 m c n hn).2.2.2.2.2.2.2 (ix2 r x) : EReal)
      = ∑ k ∈ Finset.range (768 * (n % 4 + 1)), yTerm m c (512 * (n / 4) + r.val) x k := by
    intro n hn h
    refine (congrFun ((acc_first m c ⟨n, hn⟩ h).trans (part_first _)) (ix2 r x)).trans ((y_block m c ⟨n, hn⟩ r x).trans ?_)
    rw [h]
    refine Finset.sum_congr rfl fun k _ => ?_
    show yTerm m c (512 * (n / 4) + r.val) x (768 * 0 + k) = _
    rw [show 768 * 0 + k = k by omega]
  intro n
  induction n with
  | zero => exact fun hn => first 0 hn rfl
  | succ n ih =>
    intro hn
    by_cases h : (n + 1) % 4 = 0
    · exact first (n + 1) hn h
    · refine (congrFun (acc_later m c ⟨n + 1, hn⟩ h) (ix2 r x)).trans ((part_later _ _ r x).trans ?_)
      rw [y_block m c ⟨n + 1, hn⟩ r x, Nat.mul_succ, Finset.sum_range_add]
      refine congrArg₂ (fun p q : EReal => p + q) ((ih _).trans ?_) rfl
      rw [show n % 4 + 1 = (n + 1) % 4 by omega, show n / 4 = (n + 1) / 4 by omega]

theorem acc_last (t : Fin cfg0.N) (h : t.val % 4 = 3) (r : Fin 512) (x : Fin 1024) :
    ((outsAt0 m c t.val t.isLt).2.2.2.2.2.2.2 (ix2 r x) : EReal) = yN m c (512 * (t.val / 4) + r.val) x := by
  refine (acc_after m c r x t.val t.isLt).trans ?_
  rw [h]
  rfl

theorem err_last (t : Fin cfg0.N) (h : t.val % 4 = 3) (r : Fin 512) (x : Fin 1024) :
    (k0_pay9 (F := Ideal) (outsAt0 m c t.val t.isLt).2.2.2.2.2.2.2 (iblk m c 3 t) (iblk m c 5 t) (iblk m c 4 t) (ix2 r x) : EReal)
      = errN m c (512 * (t.val / 4) + r.val) x := by
  rw [err_apply]
  unfold errN
  rw [funext fun k => acc_last m c t h r k, funext fun k => blk3 m c t r k, funext fun k => blk5 m c t k, funext fun k => blk4 m c t r k]

theorem dh_pay (t : Fin cfg0.N) (h : t.val % 4 = 3) (r : Fin 512) (x : Fin 1024) :
    (k0_pay11 (F := Ideal) (outsAt0 m c t.val t.isLt).2.2.2.2.2.2.2 (iblk m c 3 t) (iblk m c 5 t) (iblk m c 4 t) (ix2 r x) : EReal)
      = dhN m c (512 * (t.val / 4) + r.val) x := by
  rw [dh_apply, ← err_apply, err_last m c t h r x]
  rfl

theorem dh_last (t : Fin cfg0.N) (h : t.val % 4 = 3) (r : Fin 512) (x : Fin 1024) :
    ((outsAt0 m c t.val t.isLt).2.2.2.1 (ix2 r x) : EReal) = dhN m c (512 * (t.val / 4) + r.val) x :=
  (congrFun (dh_out m c t h) (ix2 r x)).trans (dh_pay m c t h r x)

theorem dy_last (t : Fin cfg0.N) (h : t.val % 4 = 3) (r : Fin 512) (x : Fin 1024) :
    ((outsAt0 m c t.val t.isLt).2.2.2.2.1 (ix2 r x) : EReal) = dyN m c (512 * (t.val / 4) + r.val) x := by
  refine (congrFun (dy_out m c t h) (ix2 r x)).trans ((dy_apply _ _ _ r x).trans ?_)
  unfold dyN
  rw [funext fun k => acc_last m c t h r k, funext fun k => dh_pay m c t h r k, funext fun k => blk5 m c t k]

theorem dg_block (t : Fin cfg0.N) (h : t.val % 4 = 3) (y d : (⟨2, ![512, 1024]⟩ : Shape).Idx → EReal) (hy : ∀ r x, y (ix2 r x) = yN m c (512 * (t.val / 4) + r.val) x)
    (hd : ∀ r x, d (ix2 r x) = dhN m c (512 * (t.val / 4) + r.val) x) (x : Fin 1024) :
    normSum y d x = ∑ k ∈ Finset.range 512, dgTerm m c x (512 * (t.val / 4) + k) := by
  unfold normSum
  rw [← Cert.Flash.sum_fin]
  refine Finset.sum_congr rfl fun r _ => ?_
  unfold dgTerm
  rw [hd r x, hy r x, funext fun k => hy r k]

theorem loss_block (t : Fin cfg0.N) (e : (⟨2, ![512, 1024]⟩ : Shape).Idx → EReal) (he : ∀ r x, e (ix2 r x) = errN m c (512 * (t.val / 4) + r.val) x) :
    Ideal.ofBits .f32 0x3F000000#32 * squares e = lossBlock m c (t.val / 4) := by
  unfold squares lossBlock
  rw [← Cert.Flash.sum_fin]
  refine congrArg (fun s : EReal => _ * s) (Finset.sum_congr rfl fun r _ => ?_)
  unfold lossTerm
  simp only [he]

/-- The sum of the rows so far. -/
theorem dg_after (x : Fin 1024) : ∀ (n : ℕ) (hn : n < cfg0.N), ((outsAt0 m c n hn).2.2.2.2.2.1 (ix2 (0 : Fin 1) x) : EReal)
    = ∑ R ∈ Finset.range (512 * ((n + 1) / 4)), dgTerm m c x R := by
  intro n
  induction n with
  | zero =>
    intro hn
    exact (congrFun (dg_zero m c ⟨0, hn⟩ rfl) (ix2 (0 : Fin 1) x)).trans (zero_apply x)
  | succ n ih =>
    intro hn
    have hl := lt32 ⟨n + 1, hn⟩
    have hr : ¬(n + 1) % 32 = 0 := by
      have : n + 1 < 32 := hl
      omega
    by_cases h : (n + 1) % 4 = 3
    · refine (congrFun (dg_add m c ⟨n + 1, hn⟩ h) (ix2 (0 : Fin 1) x)).trans ((dg_apply _ _ _ x).trans ?_)
      rw [dg_block m c ⟨n + 1, hn⟩ h _ _ (fun r x => acc_last m c ⟨n + 1, hn⟩ h r x) (fun r x => dh_pay m c ⟨n + 1, hn⟩ h r x) x, show (n + 1 + 1) / 4 = (n + 1) / 4 + 1 by omega, Nat.mul_succ, Finset.sum_range_add]
      exact congrArg₂ (fun p q : EReal => p + q) (ih _) rfl
    · refine (congrFun (dg_kept m c ⟨n + 1, hn⟩ hr h) (ix2 (0 : Fin 1) x)).trans ((ih _).trans ?_)
      rw [show (n + 1 + 1) / 4 = (n + 1) / 4 by omega]

/-- The sum of the rows so far. -/
theorem loss_after (x : Fin 128) : ∀ (n : ℕ) (hn : n < cfg0.N), ((outsAt0 m c n hn).2.2.2.2.2.2.1 (ix2 (0 : Fin 1) x) : EReal)
    = ∑ b ∈ Finset.range ((n + 1) / 4), lossBlock m c b := by
  intro n
  induction n with
  | zero =>
    intro hn
    exact (congrFun (loss_zero m c ⟨0, hn⟩ rfl) (ix2 (0 : Fin 1) x)).trans (zero_apply' x)
  | succ n ih =>
    intro hn
    have hl := lt32 ⟨n + 1, hn⟩
    have hr : ¬(n + 1) % 32 = 0 := by
      have : n + 1 < 32 := hl
      omega
    by_cases h : (n + 1) % 4 = 3
    · refine (congrFun (loss_add m c ⟨n + 1, hn⟩ h) (ix2 (0 : Fin 1) x)).trans ((loss_apply _ _ _ _ _ x).trans ?_)
      rw [loss_block m c ⟨n + 1, hn⟩ _ (fun r x => err_last m c ⟨n + 1, hn⟩ h r x), show (n + 1 + 1) / 4 = (n + 1) / 4 + 1 by omega, Finset.sum_range_succ]
      exact congrArg₂ (fun p q : EReal => p + q) (ih _) rfl
    · refine (congrFun (loss_kept m c ⟨n + 1, hn⟩ hr h) (ix2 (0 : Fin 1) x)).trans ((ih _).trans ?_)
      rw [show (n + 1 + 1) / 4 = (n + 1) / 4 by omega]

/-! ## The arrays after the run -/

/-- The result as an array. -/
def aR : (⟨2, ![4096, 3072]⟩ : Shape).Idx → EReal := fun i => gateSlope (gN m c (i 0 : Nat) (i 1 : Nat)) (uN m c (i 0 : Nat) (i 1 : Nat))

theorem a_flushed (t : Fin cfg0.N) : (dats m 0 c).flushed 6 t = (win0_6.blk t).view.read (Elt Ideal) (aR m c) := by
  funext y
  obtain ⟨r, x, rfl⟩ : ∃ (r : Fin 512) (x : Fin 768), y = ix2 r x := ⟨y 0, y 1, eq_ix2 (n0 := 512) (n1 := 768) y⟩
  have ht := lt32 t
  have hr := r.isLt
  have hx := x.isLt
  rw [read6_apply, at2_lt (m := 4096) (n := 3072) _ (show 512 * (t.val / 4) + r.val < 4096 by omega) (show 768 * (t.val % 4) + x.val < 3072 by omega)]
  exact (congrFun (after0_6 m c t) (ix2 r x)).trans ((congrFun (a_out m c t) (ix2 r x)).trans ((a_apply _ _ r x).trans (congrArg₂ gateSlope (gate_block m c t r x) (up_block m c t r x))))

theorem a_mem (t : Fin cfg0.N) (i : S4096x3072.Idx) (h0 : (i 0 : Nat) / 512 = t.val / 4) (h1 : (i 1 : Nat) / 768 = t.val % 4) : i ∈ (win0_6.blk t).view.set := by
  have hb : (i 1 : Nat) < 3072 := (i 1).isLt
  show i ∈ ((View.whole main_v3_0).slice (win0_6.rect t)).set
  rw [View.set_slice_whole, Rect.mem_set_unit]
  intro a
  match a with
  | ⟨0, _⟩ =>
    show win0_6.index t 0 * 512 ≤ (i 0 : Nat) ∧ (i 0 : Nat) < win0_6.index t 0 * 512 + 512
    rw [(index6 t).1]; omega
  | ⟨1, _⟩ =>
    show win0_6.index t 1 * 768 ≤ (i 1 : Nat) ∧ (i 1 : Nat) < win0_6.index t 1 * 768 + 768
    rw [(index6 t).2]; omega

theorem a_final : (dats m 0 c).arrAt 6 cfg0.N = aR m c :=
  (dats m 0 c).arrAt_eq_of_cover 6 _ (fun t _ => a_flushed m c t) fun i => by
    have h0 : (i 0 : Nat) < 4096 := (i 0).isLt
    have h1 : (i 1 : Nat) < 3072 := (i 1).isLt
    have e : cfg0.N = 32 := N_0
    refine ⟨⟨4 * ((i 0 : Nat) / 512) + (i 1 : Nat) / 768, by omega⟩, flush0_6 _, a_mem _ i ?_ ?_⟩
    · show _ = (4 * ((i 0 : Nat) / 512) + (i 1 : Nat) / 768) / 4; omega
    · show _ = (4 * ((i 0 : Nat) / 512) + (i 1 : Nat) / 768) % 4; omega

/-- The result as an array. -/
def bR : (⟨2, ![4096, 3072]⟩ : Shape).Idx → EReal := fun i => gN m c (i 0 : Nat) (i 1 : Nat) * sigm (gN m c (i 0 : Nat) (i 1 : Nat))

theorem b_flushed (t : Fin cfg0.N) : (dats m 0 c).flushed 7 t = (win0_7.blk t).view.read (Elt Ideal) (bR m c) := by
  funext y
  obtain ⟨r, x, rfl⟩ : ∃ (r : Fin 512) (x : Fin 768), y = ix2 r x := ⟨y 0, y 1, eq_ix2 (n0 := 512) (n1 := 768) y⟩
  have ht := lt32 t
  have hr := r.isLt
  have hx := x.isLt
  rw [read7_apply, at2_lt (m := 4096) (n := 3072) _ (show 512 * (t.val / 4) + r.val < 4096 by omega) (show 768 * (t.val % 4) + x.val < 3072 by omega)]
  exact (congrFun (after0_7 m c t) (ix2 r x)).trans ((congrFun (b_out m c t) (ix2 r x)).trans ((b_apply _ _ r x).trans (congrArg (fun g : EReal => g * sigm g) (gate_block m c t r x))))

theorem b_mem (t : Fin cfg0.N) (i : S4096x3072.Idx) (h0 : (i 0 : Nat) / 512 = t.val / 4) (h1 : (i 1 : Nat) / 768 = t.val % 4) : i ∈ (win0_7.blk t).view.set := by
  have hb : (i 1 : Nat) < 3072 := (i 1).isLt
  show i ∈ ((View.whole main_v3_1).slice (win0_7.rect t)).set
  rw [View.set_slice_whole, Rect.mem_set_unit]
  intro a
  match a with
  | ⟨0, _⟩ =>
    show win0_7.index t 0 * 512 ≤ (i 0 : Nat) ∧ (i 0 : Nat) < win0_7.index t 0 * 512 + 512
    rw [(index7 t).1]; omega
  | ⟨1, _⟩ =>
    show win0_7.index t 1 * 768 ≤ (i 1 : Nat) ∧ (i 1 : Nat) < win0_7.index t 1 * 768 + 768
    rw [(index7 t).2]; omega

theorem b_final : (dats m 0 c).arrAt 7 cfg0.N = bR m c :=
  (dats m 0 c).arrAt_eq_of_cover 7 _ (fun t _ => b_flushed m c t) fun i => by
    have h0 : (i 0 : Nat) < 4096 := (i 0).isLt
    have h1 : (i 1 : Nat) < 3072 := (i 1).isLt
    have e : cfg0.N = 32 := N_0
    refine ⟨⟨4 * ((i 0 : Nat) / 512) + (i 1 : Nat) / 768, by omega⟩, flush0_7 _, b_mem _ i ?_ ?_⟩
    · show _ = (4 * ((i 0 : Nat) / 512) + (i 1 : Nat) / 768) / 4; omega
    · show _ = (4 * ((i 0 : Nat) / 512) + (i 1 : Nat) / 768) % 4; omega

/-- The result as an array. -/
def ffR : (⟨2, ![4096, 3072]⟩ : Shape).Idx → EReal := fun i => gated (gN m c (i 0 : Nat) (i 1 : Nat)) (uN m c (i 0 : Nat) (i 1 : Nat))

theorem ff_flushed (t : Fin cfg0.N) : (dats m 0 c).flushed 8 t = (win0_8.blk t).view.read (Elt Ideal) (ffR m c) := by
  funext y
  obtain ⟨r, x, rfl⟩ : ∃ (r : Fin 512) (x : Fin 768), y = ix2 r x := ⟨y 0, y 1, eq_ix2 (n0 := 512) (n1 := 768) y⟩
  have ht := lt32 t
  have hr := r.isLt
  have hx := x.isLt
  rw [read8_apply, at2_lt (m := 4096) (n := 3072) _ (show 512 * (t.val / 4) + r.val < 4096 by omega) (show 768 * (t.val % 4) + x.val < 3072 by omega)]
  exact (congrFun (after0_8 m c t) (ix2 r x)).trans ((congrFun (ff_out m c t) (ix2 r x)).trans ((ff_apply _ _ r x).trans (congrArg₂ gated (gate_block m c t r x) (up_block m c t r x))))

theorem ff_mem (t : Fin cfg0.N) (i : S4096x3072.Idx) (h0 : (i 0 : Nat) / 512 = t.val / 4) (h1 : (i 1 : Nat) / 768 = t.val % 4) : i ∈ (win0_8.blk t).view.set := by
  have hb : (i 1 : Nat) < 3072 := (i 1).isLt
  show i ∈ ((View.whole main_v3_2).slice (win0_8.rect t)).set
  rw [View.set_slice_whole, Rect.mem_set_unit]
  intro a
  match a with
  | ⟨0, _⟩ =>
    show win0_8.index t 0 * 512 ≤ (i 0 : Nat) ∧ (i 0 : Nat) < win0_8.index t 0 * 512 + 512
    rw [(index8 t).1]; omega
  | ⟨1, _⟩ =>
    show win0_8.index t 1 * 768 ≤ (i 1 : Nat) ∧ (i 1 : Nat) < win0_8.index t 1 * 768 + 768
    rw [(index8 t).2]; omega

theorem ff_final : (dats m 0 c).arrAt 8 cfg0.N = ffR m c :=
  (dats m 0 c).arrAt_eq_of_cover 8 _ (fun t _ => ff_flushed m c t) fun i => by
    have h0 : (i 0 : Nat) < 4096 := (i 0).isLt
    have h1 : (i 1 : Nat) < 3072 := (i 1).isLt
    have e : cfg0.N = 32 := N_0
    refine ⟨⟨4 * ((i 0 : Nat) / 512) + (i 1 : Nat) / 768, by omega⟩, flush0_8 _, ff_mem _ i ?_ ?_⟩
    · show _ = (4 * ((i 0 : Nat) / 512) + (i 1 : Nat) / 768) / 4; omega
    · show _ = (4 * ((i 0 : Nat) / 512) + (i 1 : Nat) / 768) % 4; omega

/-- The result as an array. -/
def dhR : (⟨2, ![4096, 1024]⟩ : Shape).Idx → EReal := fun i => dhN m c (i 0 : Nat) (i 1)

theorem dh_flushed (t : Fin cfg0.N) (h : t.val % 4 = 3) : (dats m 0 c).flushed 9 t = (win0_9.blk t).view.read (Elt Ideal) (dhR m c) := by
  funext y
  obtain ⟨r, x, rfl⟩ : ∃ (r : Fin 512) (x : Fin 1024), y = ix2 r x := ⟨y 0, y 1, eq_ix2 (n0 := 512) (n1 := 1024) y⟩
  have ht := lt32 t
  have hr := r.isLt
  have hx := x.isLt
  rw [read9_apply, at2_lt (m := 4096) (n := 1024) _ (show 512 * (t.val / 4) + r.val < 4096 by omega) (show x.val < 1024 by omega)]
  exact (congrFun (after0_9 m c t) (ix2 r x)).trans (dh_last m c t h r x)

theorem dh_mem (t : Fin cfg0.N) (i : S4096x1024.Idx) (h0 : (i 0 : Nat) / 512 = t.val / 4) : i ∈ (win0_9.blk t).view.set := by
  have hb : (i 1 : Nat) < 1024 := (i 1).isLt
  show i ∈ ((View.whole main_v3_3).slice (win0_9.rect t)).set
  rw [View.set_slice_whole, Rect.mem_set_unit]
  intro a
  match a with
  | ⟨0, _⟩ =>
    show win0_9.index t 0 * 512 ≤ (i 0 : Nat) ∧ (i 0 : Nat) < win0_9.index t 0 * 512 + 512
    rw [(index9 t).1]; omega
  | ⟨1, _⟩ =>
    show win0_9.index t 1 * 1024 ≤ (i 1 : Nat) ∧ (i 1 : Nat) < win0_9.index t 1 * 1024 + 1024
    rw [(index9 t).2]; omega

theorem dh_final : (dats m 0 c).arrAt 9 cfg0.N = dhR m c :=
  (dats m 0 c).arrAt_eq_of_cover 9 _ (fun t h => dh_flushed m c t ((flush0_9 t).mp h)) fun i => by
    have h0 : (i 0 : Nat) < 4096 := (i 0).isLt
    have e : cfg0.N = 32 := N_0
    refine ⟨⟨4 * ((i 0 : Nat) / 512) + 3, by omega⟩, (flush0_9 _).mpr ?_, dh_mem _ i ?_⟩
    · show (4 * ((i 0 : Nat) / 512) + 3) % 4 = 3; omega
    · show _ = (4 * ((i 0 : Nat) / 512) + 3) / 4; omega

/-- The result as an array. -/
def dyR : (⟨2, ![4096, 1024]⟩ : Shape).Idx → EReal := fun i => dyN m c (i 0 : Nat) (i 1)

theorem dy_flushed (t : Fin cfg0.N) (h : t.val % 4 = 3) : (dats m 0 c).flushed 10 t = (win0_10.blk t).view.read (Elt Ideal) (dyR m c) := by
  funext y
  obtain ⟨r, x, rfl⟩ : ∃ (r : Fin 512) (x : Fin 1024), y = ix2 r x := ⟨y 0, y 1, eq_ix2 (n0 := 512) (n1 := 1024) y⟩
  have ht := lt32 t
  have hr := r.isLt
  have hx := x.isLt
  rw [read10_apply, at2_lt (m := 4096) (n := 1024) _ (show 512 * (t.val / 4) + r.val < 4096 by omega) (show x.val < 1024 by omega)]
  exact (congrFun (after0_10 m c t) (ix2 r x)).trans (dy_last m c t h r x)

theorem dy_mem (t : Fin cfg0.N) (i : S4096x1024.Idx) (h0 : (i 0 : Nat) / 512 = t.val / 4) : i ∈ (win0_10.blk t).view.set := by
  have hb : (i 1 : Nat) < 1024 := (i 1).isLt
  show i ∈ ((View.whole main_v3_4).slice (win0_10.rect t)).set
  rw [View.set_slice_whole, Rect.mem_set_unit]
  intro a
  match a with
  | ⟨0, _⟩ =>
    show win0_10.index t 0 * 512 ≤ (i 0 : Nat) ∧ (i 0 : Nat) < win0_10.index t 0 * 512 + 512
    rw [(index10 t).1]; omega
  | ⟨1, _⟩ =>
    show win0_10.index t 1 * 1024 ≤ (i 1 : Nat) ∧ (i 1 : Nat) < win0_10.index t 1 * 1024 + 1024
    rw [(index10 t).2]; omega

theorem dy_final : (dats m 0 c).arrAt 10 cfg0.N = dyR m c :=
  (dats m 0 c).arrAt_eq_of_cover 10 _ (fun t h => dy_flushed m c t ((flush0_10 t).mp h)) fun i => by
    have h0 : (i 0 : Nat) < 4096 := (i 0).isLt
    have e : cfg0.N = 32 := N_0
    refine ⟨⟨4 * ((i 0 : Nat) / 512) + 3, by omega⟩, (flush0_10 _).mpr ?_, dy_mem _ i ?_⟩
    · show (4 * ((i 0 : Nat) / 512) + 3) % 4 = 3; omega
    · show _ = (4 * ((i 0 : Nat) / 512) + 3) / 4; omega

/-- The result as an array. -/
def dgR : (⟨2, ![1, 1024]⟩ : Shape).Idx → EReal := fun i => ∑ R ∈ Finset.range 4096, dgTerm m c (i 1) R

theorem dg_flushed (t : Fin cfg0.N) (h : t.val % 32 = 31) : (dats m 0 c).flushed 11 t = (win0_11.blk t).view.read (Elt Ideal) (dgR m c) := by
  funext y
  obtain ⟨r, x, rfl⟩ : ∃ (r : Fin 1) (x : Fin 1024), y = ix2 r x := ⟨y 0, y 1, eq_ix2 (n0 := 1) (n1 := 1024) y⟩
  obtain rfl : r = 0 := Subsingleton.elim _ _
  have ht := lt32 t
  rw [read11_apply, show ((0 : Fin 1).val) = 0 from rfl, at2_lt (m := 1) (n := 1024) _ (show 0 < 1 by omega) x.isLt]
  refine (congrFun (after0_11 m c t) (ix2 0 x)).trans ((dg_after m c x t.val t.isLt).trans ?_)
  rw [show (t.val + 1) / 4 = 8 by omega]
  rfl

theorem dg_mem (t : Fin cfg0.N) (i : S1x1024.Idx) : i ∈ (win0_11.blk t).view.set := by
  have ha : (i 0 : Nat) < 1 := (i 0).isLt
  have hb : (i 1 : Nat) < 1024 := (i 1).isLt
  show i ∈ ((View.whole main_v3_5).slice (win0_11.rect t)).set
  rw [View.set_slice_whole, Rect.mem_set_unit]
  intro a
  match a with
  | ⟨0, _⟩ =>
    show win0_11.index t 0 * 1 ≤ (i 0 : Nat) ∧ (i 0 : Nat) < win0_11.index t 0 * 1 + 1
    rw [(index11 t).1]; omega
  | ⟨1, _⟩ =>
    show win0_11.index t 1 * 1024 ≤ (i 1 : Nat) ∧ (i 1 : Nat) < win0_11.index t 1 * 1024 + 1024
    rw [(index11 t).2]; omega

theorem dg_final : (dats m 0 c).arrAt 11 cfg0.N = dgR m c :=
  (dats m 0 c).arrAt_eq_of_cover 11 _ (fun t h => dg_flushed m c t ((flush0_11 t).mp h)) fun i =>
    ⟨⟨31, Nat.lt_of_lt_of_eq (by omega) N_0.symm⟩, (flush0_11 _).mpr rfl, dg_mem _ i⟩

/-- The result as an array. -/
def lossR : (⟨2, ![1, 128]⟩ : Shape).Idx → EReal := fun _ => ∑ b ∈ Finset.range 8, lossBlock m c b

theorem loss_flushed (t : Fin cfg0.N) (h : t.val % 32 = 31) : (dats m 0 c).flushed 12 t = (win0_12.blk t).view.read (Elt Ideal) (lossR m c) := by
  funext y
  obtain ⟨r, x, rfl⟩ : ∃ (r : Fin 1) (x : Fin 128), y = ix2 r x := ⟨y 0, y 1, eq_ix2 (n0 := 1) (n1 := 128) y⟩
  obtain rfl : r = 0 := Subsingleton.elim _ _
  have ht := lt32 t
  rw [read12_apply, show ((0 : Fin 1).val) = 0 from rfl, at2_lt (m := 1) (n := 128) _ (show 0 < 1 by omega) x.isLt]
  refine (congrFun (after0_12 m c t) (ix2 0 x)).trans ((loss_after m c x t.val t.isLt).trans ?_)
  rw [show (t.val + 1) / 4 = 8 by omega]
  rfl

theorem loss_mem (t : Fin cfg0.N) (i : S1x128.Idx) : i ∈ (win0_12.blk t).view.set := by
  have ha : (i 0 : Nat) < 1 := (i 0).isLt
  have hb : (i 1 : Nat) < 128 := (i 1).isLt
  show i ∈ ((View.whole main_v3_6).slice (win0_12.rect t)).set
  rw [View.set_slice_whole, Rect.mem_set_unit]
  intro a
  match a with
  | ⟨0, _⟩ =>
    show win0_12.index t 0 * 1 ≤ (i 0 : Nat) ∧ (i 0 : Nat) < win0_12.index t 0 * 1 + 1
    rw [(index12 t).1]; omega
  | ⟨1, _⟩ =>
    show win0_12.index t 1 * 128 ≤ (i 1 : Nat) ∧ (i 1 : Nat) < win0_12.index t 1 * 128 + 128
    rw [(index12 t).2]; omega

theorem loss_final : (dats m 0 c).arrAt 12 cfg0.N = lossR m c :=
  (dats m 0 c).arrAt_eq_of_cover 12 _ (fun t h => loss_flushed m c t ((flush0_12 t).mp h)) fun i =>
    ⟨⟨31, Nat.lt_of_lt_of_eq (by omega) N_0.symm⟩, (flush0_12 _).mpr rfl, loss_mem _ i⟩

end Cert.Kernel4Ideal.Head
-- ==== Proof.HeadRef.lean ====
module

public import proofs.«01_k».proof.Proof.Gen.Reference4Ideal.Read
public import proofs.«01_k».proof.Proof.Base
public import proofs.«01_k».proof.Proof.HeadMath
public import Idealize.ShloMosaic.Lib.ValueIdxRank1

@[expose] public section

set_option maxRecDepth 16384

noncomputable section

namespace Cert.Reference4Ideal.Head

open Idealize.ShloMosaic Idealize.ShloMosaic.TcCoe Cert.Flash Cert.Ffn Cert.Head
open Cert.Reference4Ideal Cert.Reference4Ideal.Read
open scoped BigOperators

variable (x0 x1 x2 : (⟨2, ![4096, 1024]⟩ : Shape).Idx → EReal) (x3 : (⟨2, ![1, 1024]⟩ : Shape).Idx → EReal)
  (x4 : (⟨2, ![6144, 1024]⟩ : Shape).Idx → EReal) (x5 : (⟨2, ![3072, 1024]⟩ : Shape).Idx → EReal)

/-! ## The reference's stages, element by element -/

theorem gu_at (r : Fin 4096) (e : Fin 6144) : val_main_v0 (F := Ideal) x0 x4 (ix2 r e) = ∑ k : Fin 1024, x0 (ix2 r k) * x4 (ix2 e k) := by
  unfold val_main_v0
  pointwise

theorem gate_at (r : Fin 4096) (q : Fin 3072) (e : Fin 6144) (he : e.val = gateAt q.val) :
    val_main_v4 (F := Ideal) x0 x4 (ix2 r q) = val_main_v0 (F := Ideal) x0 x4 (ix2 r e) := by
  have hq := q.isLt
  unfold gateAt at he
  unfold val_main_v4 val_main_v3 val_main_v2 val_main_v1
  generalize val_main_v0 (F := Ideal) x0 x4 = a
  pointwise
  exact congrArg (fun k => a (ix2 r k)) (Fin.ext (by show q.val / 384 * 768 + q.val % 384 = e.val; rw [he, mul_comm]))

theorem up_at (r : Fin 4096) (q : Fin 3072) (e : Fin 6144) (he : e.val = gateAt q.val + 384) :
    val_main_v7 (F := Ideal) x0 x4 (ix2 r q) = val_main_v0 (F := Ideal) x0 x4 (ix2 r e) := by
  have hq := q.isLt
  unfold gateAt at he
  unfold val_main_v7 val_main_v6 val_main_v5 val_main_v1
  generalize val_main_v0 (F := Ideal) x0 x4 = a
  pointwise
  exact congrArg (fun k => a (ix2 r k)) (Fin.ext (by show q.val / 384 * 768 + 384 + q.val % 384 = e.val; rw [he]; omega))

section
variable (r : Fin 4096) (q : Fin 3072)

theorem sigm_at : val_main_v8_2 (F := Ideal) x0 x4 (ix2 r q) = sigm (val_main_v4 (F := Ideal) x0 x4 (ix2 r q)) := by
  unfold sigm val_main_v8_2 val_main_call0_v4 val_main_call0_v3 val_main_call0_v2 val_main_call0_v1 val_main_call0_v0 val_main_call0_cst val_main_call0_cst_0
  pointwise

theorem ff_at : val_main_v9 (F := Ideal) x0 x4 (ix2 r q) = gated (val_main_v4 (F := Ideal) x0 x4 (ix2 r q)) (val_main_v7 (F := Ideal) x0 x4 (ix2 r q)) := by
  unfold gated
  rw [← sigm_at]
  unfold val_main_v9 val_main_v8_0
  pointwise

theorem b_at : val_main_v11 (F := Ideal) x0 x4 (ix2 r q) = (val_main_v4 (F := Ideal) x0 x4 (ix2 r q) : EReal) * sigm (val_main_v4 (F := Ideal) x0 x4 (ix2 r q)) := by
  rw [← sigm_at]
  unfold val_main_v11 val_main_v8_0 val_main_v10 val_main_cst
  pointwise

theorem a_at (g u : EReal) (hg : val_main_v4 (F := Ideal) x0 x4 (ix2 r q) = g) (hu : val_main_v7 (F := Ideal) x0 x4 (ix2 r q) = u) :
    val_main_v13 (F := Ideal) x0 x4 (ix2 r q) = 1 * u * sigm g + g * (1 * u) * (sigm g * (1 - sigm g)) := by
  have hs := sigm_at x0 x4 r q
  rw [hg] at hs
  unfold val_main_v13 val_main_call1_v2 val_main_call1_v1 val_main_call1_v0 val_main_v12 val_main_v10 val_main_cst val_main_v8_1 val_main_call0_v7 val_main_call0_v6 val_main_call0_cst_1
  pointwise
  rw [hg, hu, hs]

end

theorem y_at (r : Fin 4096) (x : Fin 1024) : val_main_v14 (F := Ideal) x0 x4 x5 (ix2 r x)
    = ∑ q : Fin 3072, (val_main_v9 (F := Ideal) x0 x4 (ix2 r q) : EReal) * x5 (ix2 q x) := by
  unfold val_main_v14
  generalize val_main_v9 (F := Ideal) x0 x4 = a
  pointwise

theorem ms_at (r : Fin 4096) : val_main_v21 (F := Ideal) x0 x4 x5 (ix2 r 0) = meanSq fun k => val_main_v14 (F := Ideal) x0 x4 x5 (ix2 r k) := by
  unfold meanSq val_main_v21 val_main_v19 val_main_v17 val_main_v16 val_main_v15 val_main_v18 val_main_v20 val_main_cst_0 val_main_cst_1 val_main_cst_2
  generalize val_main_v14 (F := Ideal) x0 x4 x5 = a
  pointwise

theorem err_at (r : Fin 4096) (x : Fin 1024) : val_main_v31 (F := Ideal) x0 x1 x2 x3 x4 x5 (ix2 r x)
    = x1 (ix2 r x) + val_main_v14 (F := Ideal) x0 x4 x5 (ix2 r x) * Ideal.rsqrt (meanSq fun k => val_main_v14 (F := Ideal) x0 x4 x5 (ix2 r k)) * x3 (ix2 0 x) - x2 (ix2 r x) := by
  rw [← ms_at]
  unfold val_main_v31 val_main_v30 val_main_v29 val_main_v28 val_main_v27 val_main_v26 val_main_v22
  generalize val_main_v14 (F := Ideal) x0 x4 x5 = a
  generalize val_main_v21 (F := Ideal) x0 x4 x5 = b
  pointwise

theorem dh_at (r : Fin 4096) (x : Fin 1024) : val_main_v45 (F := Ideal) x0 x1 x2 x3 x4 x5 (ix2 r x)
    = Ideal.div (Ideal.ofBits .f32 0x3F000000#32 * 1) (Ideal.ofBits .f32 0x44800000#32) * (Ideal.ofBits .f32 0x40000000#32 * val_main_v31 (F := Ideal) x0 x1 x2 x3 x4 x5 (ix2 r x)) := by
  unfold val_main_v45 val_main_v44 val_main_v43 val_main_v42 val_main_v41 val_main_v40 val_main_v34 val_main_v33 val_main_cst_4 val_main_cst_9 val_main_cst_10 val_main_cst_11
  generalize val_main_v31 (F := Ideal) x0 x1 x2 x3 x4 x5 = a
  pointwise

theorem dy_at (r : Fin 4096) (x : Fin 1024) (y d : Fin 1024 → EReal) (hy : ∀ k, val_main_v14 (F := Ideal) x0 x4 x5 (ix2 r k) = y k)
    (hd : ∀ k, val_main_v45 (F := Ideal) x0 x1 x2 x3 x4 x5 (ix2 r k) = d k) : val_main_v64 (F := Ideal) x0 x1 x2 x3 x4 x5 (ix2 r x)
    = (d x * x3 (ix2 0 x) * Ideal.rsqrt (meanSq y) + y x * through y d fun k => x3 (ix2 0 k)) + through y d (fun k => x3 (ix2 0 k)) * y x := by
  have hm := ms_at x0 x4 x5 r
  obtain rfl : (fun k => val_main_v14 (F := Ideal) x0 x4 x5 (ix2 r k)) = y := funext hy
  obtain rfl : (fun k => val_main_v45 (F := Ideal) x0 x1 x2 x3 x4 x5 (ix2 r k)) = d := funext hd
  unfold through
  rw [← hm]
  unfold val_main_v64 val_main_v63 val_main_v62 val_main_v61 val_main_v60 val_main_v59 val_main_v58 val_main_v57 val_main_v56 val_main_v55 val_main_v54 val_main_v53 val_main_v52 val_main_v51
    val_main_v50 val_main_v49 val_main_v25 val_main_v24 val_main_v23 val_main_v22 val_main_cst_3 val_main_cst_13 val_main_cst_14 val_main_cst_15
  generalize val_main_v14 (F := Ideal) x0 x4 x5 = a
  generalize val_main_v21 (F := Ideal) x0 x4 x5 = b
  generalize val_main_v45 (F := Ideal) x0 x1 x2 x3 x4 x5 = e
  pointwise
  rw [Fin.sum_univ_one]

theorem dg_at (x : Fin 1024) : val_main_v48 (F := Ideal) x0 x1 x2 x3 x4 x5 (ix2 0 x)
    = ∑ r : Fin 4096, (val_main_v14 (F := Ideal) x0 x4 x5 (ix2 r x) : EReal) * Ideal.rsqrt (meanSq fun k => val_main_v14 (F := Ideal) x0 x4 x5 (ix2 r k))
        * val_main_v45 (F := Ideal) x0 x1 x2 x3 x4 x5 (ix2 r x) := by
  simp only [← ms_at]
  unfold val_main_v48 val_main_v47 val_main_v46 val_main_v27 val_main_v26 val_main_v22 val_main_cst_12
  generalize val_main_v14 (F := Ideal) x0 x4 x5 = a
  generalize val_main_v21 (F := Ideal) x0 x4 x5 = b
  generalize val_main_v45 (F := Ideal) x0 x1 x2 x3 x4 x5 = e
  pointwise

theorem squares_at (r : Fin 4096) : val_main_v37 (F := Ideal) x0 x1 x2 x3 x4 x5 (ix1 r)
    = Ideal.div (∑ k : Fin 1024, (val_main_v31 (F := Ideal) x0 x1 x2 x3 x4 x5 (ix2 r k) : EReal) * val_main_v31 (F := Ideal) x0 x1 x2 x3 x4 x5 (ix2 r k)) (Ideal.ofBits .f32 0x44800000#32) := by
  unfold val_main_v37 val_main_v36 val_main_v35 val_main_v32 val_main_cst_5 val_main_cst_6
  generalize val_main_v31 (F := Ideal) x0 x1 x2 x3 x4 x5 = a
  pointwise

theorem loss_at (x : Fin 128) : val_main_v69 (F := Ideal) x0 x1 x2 x3 x4 x5 (ix2 0 x)
    = Ideal.ofBits .f32 0x3F000000#32 * ∑ r : Fin 4096, Ideal.div (∑ k : Fin 1024, (val_main_v31 (F := Ideal) x0 x1 x2 x3 x4 x5 (ix2 r k) : EReal) * val_main_v31 (F := Ideal) x0 x1 x2 x3 x4 x5 (ix2 r k)) (Ideal.ofBits .f32 0x44800000#32) := by
  rw [val_main_v69_apply, val_main_v39_apply, val_main_v38_apply, ← Equiv.sum_comp (ValueIdx.idxEquiv1 (n := 4096)).symm]
  simp only [← squares_at]
  refine congrArg₂ (fun a b : EReal => a * b) rfl ?_
  show Ideal.ofBits .f32 0x00000000#32 + _ = _
  rw [Ideal.ofBits_zero_f32, zero_add]
  refine Finset.sum_congr rfl fun r _ => congrArg (val_main_v37 (F := Ideal) x0 x1 x2 x3 x4 x5) (funext fun a => ?_)
  match a with
  | ⟨0, _⟩ => rfl

/-! ## Numbers stay numbers -/

variable {x0 x1 x2 x3 x4 x5}

theorem gu_num (h0 : ∀ i, IsNum (x0 i)) (h4 : ∀ i, IsNum (x4 i)) (r : Fin 4096) (e : Fin 6144) : IsNum (val_main_v0 (F := Ideal) x0 x4 (ix2 r e)) := by
  rw [gu_at]
  exact IsNum.sum fun k => (h0 _).mul (h4 _)

theorem gate_num (h0 : ∀ i, IsNum (x0 i)) (h4 : ∀ i, IsNum (x4 i)) (r : Fin 4096) (q : Fin 3072) : IsNum (val_main_v4 (F := Ideal) x0 x4 (ix2 r q)) := by
  have hq := q.isLt
  rw [gate_at x0 x4 r q ⟨gateAt q.val, by unfold gateAt; omega⟩ rfl]
  exact gu_num h0 h4 r _

theorem up_num (h0 : ∀ i, IsNum (x0 i)) (h4 : ∀ i, IsNum (x4 i)) (r : Fin 4096) (q : Fin 3072) : IsNum (val_main_v7 (F := Ideal) x0 x4 (ix2 r q)) := by
  have hq := q.isLt
  rw [up_at x0 x4 r q ⟨gateAt q.val + 384, by unfold gateAt; omega⟩ rfl]
  exact gu_num h0 h4 r _

/-! ## The reference's results as the kernel computes them -/

theorem a_eq (h0 : ∀ i, IsNum (x0 i)) (h4 : ∀ i, IsNum (x4 i)) (r : Fin 4096) (q : Fin 3072) :
    val_main_v13 (F := Ideal) x0 x4 (ix2 r q) = gateSlope (val_main_v4 (F := Ideal) x0 x4 (ix2 r q)) (val_main_v7 (F := Ideal) x0 x4 (ix2 r q)) := by
  rw [a_at x0 x4 r q _ _ rfl rfl]
  exact slope_of_num (gate_num h0 h4 r q) (up_num h0 h4 r q)

theorem y_num (h0 : ∀ i, IsNum (x0 i)) (h4 : ∀ i, IsNum (x4 i)) (h5 : ∀ i, IsNum (x5 i)) (r : Fin 4096) (x : Fin 1024) :
    IsNum (val_main_v14 (F := Ideal) x0 x4 x5 (ix2 r x)) := by
  rw [y_at]
  refine IsNum.sum fun q => IsNum.mul ?_ (h5 _)
  rw [ff_at]
  exact gated_num (gate_num h0 h4 r q) (up_num h0 h4 r q)

section
variable (h0 : ∀ i, IsNum (x0 i)) (h1 : ∀ i, IsNum (x1 i)) (h2 : ∀ i, IsNum (x2 i)) (h3 : ∀ i, IsNum (x3 i)) (h4 : ∀ i, IsNum (x4 i)) (h5 : ∀ i, IsNum (x5 i))
include h0 h4 h5

theorem err_eq (r : Fin 4096) (x : Fin 1024) : val_main_v31 (F := Ideal) x0 x1 x2 x3 x4 x5 (ix2 r x)
    = errOf (fun k => val_main_v14 (F := Ideal) x0 x4 x5 (ix2 r k)) (fun k => x1 (ix2 r k)) (fun k => x3 (ix2 0 k)) (fun k => x2 (ix2 r k)) x := by
  rw [err_at, rowR_of_num fun k => y_num h0 h4 h5 r k]
  rfl

include h1 h2 h3

theorem err_num (r : Fin 4096) (x : Fin 1024) : IsNum (val_main_v31 (F := Ideal) x0 x1 x2 x3 x4 x5 (ix2 r x)) := by
  rw [err_eq h0 h4 h5]
  exact errOf_num (fun k => y_num h0 h4 h5 r k) (fun k => h1 _) (fun k => h3 _) (fun k => h2 _) x

theorem dh_eq (r : Fin 4096) (x : Fin 1024) : val_main_v45 (F := Ideal) x0 x1 x2 x3 x4 x5 (ix2 r x)
    = (val_main_v31 (F := Ideal) x0 x1 x2 x3 x4 x5 (ix2 r x) : EReal) * Ideal.ofBits .f32 0x3A800000#32 := by
  rw [dh_at]
  exact grad_of_num (err_num h0 h1 h2 h3 h4 h5 r x)

theorem dh_num (r : Fin 4096) (x : Fin 1024) : IsNum (val_main_v45 (F := Ideal) x0 x1 x2 x3 x4 x5 (ix2 r x)) := by
  rw [dh_eq h0 h1 h2 h3 h4 h5]
  exact (err_num h0 h1 h2 h3 h4 h5 r x).mul inv1024_num

theorem dy_eq (r : Fin 4096) (x : Fin 1024) : val_main_v64 (F := Ideal) x0 x1 x2 x3 x4 x5 (ix2 r x)
    = rowB (fun k => val_main_v14 (F := Ideal) x0 x4 x5 (ix2 r k)) (fun k => val_main_v45 (F := Ideal) x0 x1 x2 x3 x4 x5 (ix2 r k)) (fun k => x3 (ix2 0 k)) x := by
  rw [dy_at x0 x1 x2 x3 x4 x5 r x _ _ (fun k => rfl) fun k => rfl]
  have e := rowB_of_num (a := 0) (fun k => y_num h0 h4 h5 r k) (fun k => dh_num h0 h1 h2 h3 h4 h5 r k) (fun k => h3 (ix2 0 k)) ⟨0, EReal.coe_zero.symm⟩ x
  rw [zero_add, zero_add] at e
  exact e

theorem loss_eq (x : Fin 128) : val_main_v69 (F := Ideal) x0 x1 x2 x3 x4 x5 (ix2 0 x)
    = Ideal.ofBits .f32 0x3F000000#32 * ∑ r : Fin 4096, (∑ k : Fin 1024, (val_main_v31 (F := Ideal) x0 x1 x2 x3 x4 x5 (ix2 r k) : EReal) * val_main_v31 (F := Ideal) x0 x1 x2 x3 x4 x5 (ix2 r k)) * Ideal.ofBits .f32 0x3A800000#32 := by
  rw [loss_at]
  refine congrArg (fun s : EReal => _ * s) (Finset.sum_congr rfl fun r _ => div_of_num (IsNum.sum fun k => ?_))
  exact (err_num h0 h1 h2 h3 h4 h5 r k).mul (err_num h0 h1 h2 h3 h4 h5 r k)

end

theorem dg_eq (h0 : ∀ i, IsNum (x0 i)) (h4 : ∀ i, IsNum (x4 i)) (h5 : ∀ i, IsNum (x5 i)) (x : Fin 1024) : val_main_v48 (F := Ideal) x0 x1 x2 x3 x4 x5 (ix2 0 x)
    = ∑ r : Fin 4096, (val_main_v45 (F := Ideal) x0 x1 x2 x3 x4 x5 (ix2 r x) : EReal)
        * (val_main_v14 (F := Ideal) x0 x4 x5 (ix2 r x) * rowR fun k => val_main_v14 (F := Ideal) x0 x4 x5 (ix2 r k)) := by
  rw [dg_at]
  exact Finset.sum_congr rfl fun r _ => by rw [rowR_of_num fun k => y_num h0 h4 h5 r k, mul_comm]

end Cert.Reference4Ideal.Head
-- ==== Proof.HeadValue.lean ====
module

public import proofs.«01_k».proof.Pre_finite4
public import proofs.«01_k».proof.Proof.HeadSum
public import proofs.«01_k».proof.Proof.HeadRef
public import proofs.«01_k».proof.Proof.Finite

@[expose] public section

set_option maxRecDepth 16384

noncomputable section

namespace Cert.Kernel4Ideal.Head

open Idealize.ShloMosaic Idealize.ShloMosaic.TcCoe Cert.Flash Cert.Ffn Cert.Head
open Idealize.SL Idealize.SL.Sem
open Cert.Kernel4Ideal Cert.Kernel4Ideal.Gen
open Cert.Reference4Ideal.Read
open scoped BigOperators

/-! ## The precondition: every element of the six arguments is a number -/

/-- The side conditions the precondition's text takes. -/
theorem finiteFacts : Cert.Pre_finite4.Facts :=
  ⟨⟨fun a => a.elim0, fun a => a.elim0⟩, ⟨fun a => a.elim0, fun a => a.elim0⟩, ⟨fun a => a.elim0, fun a => a.elim0⟩, ⟨fun a => a.elim0, fun a => a.elim0⟩⟩

theorem numbers [hP : Cert.Pre_finite4.Facts] (x0 : FVec Ideal Cert.Pre_finite4.S4096x1024 .f32) (x1 : FVec Ideal Cert.Pre_finite4.S4096x1024 .f32) (x2 : FVec Ideal Cert.Pre_finite4.S4096x1024 .f32) (x3 : FVec Ideal Cert.Pre_finite4.S1x1024 .f32) (x4 : FVec Ideal Cert.Pre_finite4.S6144x1024 .f32) (x5 : FVec Ideal Cert.Pre_finite4.S3072x1024 .f32)
    (h : (Cert.Pre_finite4.fn (F := Ideal) x0 x1 x2 x3 x4 x5).1 = (fun _ => 1#1) ∧ (Cert.Pre_finite4.fn (F := Ideal) x0 x1 x2 x3 x4 x5).2.1 = (fun _ => 1#1) ∧ (Cert.Pre_finite4.fn (F := Ideal) x0 x1 x2 x3 x4 x5).2.2.1 = (fun _ => 1#1) ∧ (Cert.Pre_finite4.fn (F := Ideal) x0 x1 x2 x3 x4 x5).2.2.2.1 = (fun _ => 1#1) ∧ (Cert.Pre_finite4.fn (F := Ideal) x0 x1 x2 x3 x4 x5).2.2.2.2.1 = (fun _ => 1#1) ∧ (Cert.Pre_finite4.fn (F := Ideal) x0 x1 x2 x3 x4 x5).2.2.2.2.2 = (fun _ => 1#1)) :
    (∀ i, IsNum (x0 i)) ∧ (∀ i, IsNum (x1 i)) ∧ (∀ i, IsNum (x2 i)) ∧ (∀ i, IsNum (x3 i)) ∧ (∀ i, IsNum (x4 i)) ∧ (∀ i, IsNum (x5 i)) :=
  ⟨fun i => number_of_lt _ x0 i (congrFun h.1 i), fun i => number_of_lt _ x1 i (congrFun h.2.1 i), fun i => number_of_lt _ x2 i (congrFun h.2.2.1 i), fun i => number_of_lt _ x3 i (congrFun h.2.2.2.1 i), fun i => number_of_lt _ x4 i (congrFun h.2.2.2.2.1 i), fun i => number_of_lt _ x5 i (congrFun h.2.2.2.2.2 i)⟩

/-! ## The results are the reference's -/

theorem row0 (A : (⟨2, ![1, 1024]⟩ : Shape).Idx → EReal) : (fun k : Fin 1024 => at2 A 0 k.val) = fun k => A (ix2 0 k) := funext fun k => at2_of A 0 k

section

variable (m : (ℓ : Loc nD τ sig) → Buf (Elt Ideal) ℓ) (c : Dev nD)

/-- The first product. -/
theorem guN_eq (r : Fin 4096) (e : Fin 6144) : guN m c r.val e.val = val_main_v0 (F := Ideal) (m ((c : Thread nD τ).loc main_arg0)) (m ((c : Thread nD τ).loc main_arg4)) (ix2 r e) := by
  rw [Cert.Reference4Ideal.Head.gu_at]
  unfold guN zA wA
  exact Finset.sum_congr rfl fun k _ => congrArg₂ (fun a b : EReal => a * b) (at2_of _ r k) (at2_of _ e k)

theorem gN_eq (r : Fin 4096) (q : Fin 3072) : gN m c r.val q.val = val_main_v4 (F := Ideal) (m ((c : Thread nD τ).loc main_arg0)) (m ((c : Thread nD τ).loc main_arg4)) (ix2 r q) := by
  have hq := q.isLt
  have he : gateAt q.val < 6144 := by unfold gateAt; omega
  rw [Cert.Reference4Ideal.Head.gate_at _ _ r q ⟨gateAt q.val, he⟩ rfl]
  exact guN_eq m c r ⟨gateAt q.val, he⟩

theorem uN_eq (r : Fin 4096) (q : Fin 3072) : uN m c r.val q.val = val_main_v7 (F := Ideal) (m ((c : Thread nD τ).loc main_arg0)) (m ((c : Thread nD τ).loc main_arg4)) (ix2 r q) := by
  have hq := q.isLt
  have he : gateAt q.val + 384 < 6144 := by unfold gateAt; omega
  rw [Cert.Reference4Ideal.Head.up_at _ _ r q ⟨gateAt q.val + 384, he⟩ rfl]
  exact guN_eq m c r ⟨gateAt q.val + 384, he⟩

theorem b_result : (dats m 0 c).arrAt 7 cfg0.N = val_main_v66 (F := Ideal) (m ((c : Thread nD τ).loc main_arg0)) (m ((c : Thread nD τ).loc main_arg4)) := by
  rw [b_final]
  funext i
  obtain ⟨r, q, rfl⟩ : ∃ (r : Fin 4096) (q : Fin 3072), i = ix2 r q := ⟨i 0, i 1, eq_ix2 (n0 := 4096) (n1 := 3072) i⟩
  refine Eq.trans ?_ (Cert.Reference4Ideal.Head.b_at _ _ r q).symm
  show gN m c r.val q.val * sigm (gN m c r.val q.val) = _
  rw [gN_eq]

theorem ff_result : (dats m 0 c).arrAt 8 cfg0.N = val_main_v67 (F := Ideal) (m ((c : Thread nD τ).loc main_arg0)) (m ((c : Thread nD τ).loc main_arg4)) := by
  rw [ff_final]
  funext i
  obtain ⟨r, q, rfl⟩ : ∃ (r : Fin 4096) (q : Fin 3072), i = ix2 r q := ⟨i 0, i 1, eq_ix2 (n0 := 4096) (n1 := 3072) i⟩
  refine Eq.trans ?_ (Cert.Reference4Ideal.Head.ff_at _ _ r q).symm
  show gated (gN m c r.val q.val) (uN m c r.val q.val) = _
  rw [gN_eq, uN_eq]

/-- The second product. -/
theorem yN_eq (r : Fin 4096) (x : Fin 1024) : yN m c r.val x = val_main_v14 (F := Ideal) (m ((c : Thread nD τ).loc main_arg0)) (m ((c : Thread nD τ).loc main_arg4)) (m ((c : Thread nD τ).loc main_arg5)) (ix2 r x) := by
  rw [Cert.Reference4Ideal.Head.y_at]
  unfold yN
  rw [← Cert.Flash.sum_fin]
  refine Finset.sum_congr rfl fun q _ => ?_
  unfold yTerm vA
  rw [gN_eq, uN_eq, at2_of, Cert.Reference4Ideal.Head.ff_at]

variable (h0 : ∀ i, IsNum ((m ((c : Thread nD τ).loc main_arg0) : (⟨2, ![4096, 1024]⟩ : Shape).Idx → EReal) i)) (h1 : ∀ i, IsNum ((m ((c : Thread nD τ).loc main_arg1) : (⟨2, ![4096, 1024]⟩ : Shape).Idx → EReal) i)) (h2 : ∀ i, IsNum ((m ((c : Thread nD τ).loc main_arg2) : (⟨2, ![4096, 1024]⟩ : Shape).Idx → EReal) i)) (h3 : ∀ i, IsNum ((m ((c : Thread nD τ).loc main_arg3) : (⟨2, ![1, 1024]⟩ : Shape).Idx → EReal) i)) (h4 : ∀ i, IsNum ((m ((c : Thread nD τ).loc main_arg4) : (⟨2, ![6144, 1024]⟩ : Shape).Idx → EReal) i)) (h5 : ∀ i, IsNum ((m ((c : Thread nD τ).loc main_arg5) : (⟨2, ![3072, 1024]⟩ : Shape).Idx → EReal) i))
include h0 h4

theorem a_result : (dats m 0 c).arrAt 6 cfg0.N = val_main_v65 (F := Ideal) (m ((c : Thread nD τ).loc main_arg0)) (m ((c : Thread nD τ).loc main_arg4)) := by
  rw [a_final]
  funext i
  obtain ⟨r, q, rfl⟩ : ∃ (r : Fin 4096) (q : Fin 3072), i = ix2 r q := ⟨i 0, i 1, eq_ix2 (n0 := 4096) (n1 := 3072) i⟩
  refine Eq.trans ?_ (Cert.Reference4Ideal.Head.a_eq h0 h4 r q).symm
  show gateSlope (gN m c r.val q.val) (uN m c r.val q.val) = _
  rw [gN_eq, uN_eq]

include h5

theorem errN_eq (r : Fin 4096) (x : Fin 1024) : errN m c r.val x = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r x) := by
  rw [Cert.Reference4Ideal.Head.err_eq h0 h4 h5 r x]
  unfold errN hA pA tA
  rw [show yN m c r.val = _ from funext fun k => yN_eq m c r k, row0, funext fun k => at2_of _ r k, funext fun k => at2_of _ r k]

include h1 h2 h3

theorem dhN_eq (r : Fin 4096) (x : Fin 1024) : dhN m c r.val x = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r x) := by
  rw [Cert.Reference4Ideal.Head.dh_eq h0 h1 h2 h3 h4 h5 r x]
  unfold dhN
  rw [errN_eq m c h0 h4 h5 r x]

theorem dh_result : (dats m 0 c).arrAt 9 cfg0.N = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [dh_final]
  funext i
  obtain ⟨r, x, rfl⟩ : ∃ (r : Fin 4096) (x : Fin 1024), i = ix2 r x := ⟨i 0, i 1, eq_ix2 (n0 := 4096) (n1 := 1024) i⟩
  exact dhN_eq m c h0 h1 h2 h3 h4 h5 r x

theorem dy_result : (dats m 0 c).arrAt 10 cfg0.N = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [dy_final]
  funext i
  obtain ⟨r, x, rfl⟩ : ∃ (r : Fin 4096) (x : Fin 1024), i = ix2 r x := ⟨i 0, i 1, eq_ix2 (n0 := 4096) (n1 := 1024) i⟩
  refine Eq.trans ?_ (Cert.Reference4Ideal.Head.dy_eq h0 h1 h2 h3 h4 h5 r x).symm
  show dyN m c r.val x = _
  unfold dyN pA
  rw [row0, show yN m c r.val = _ from funext fun k => yN_eq m c r k, show dhN m c r.val = _ from funext fun k => dhN_eq m c h0 h1 h2 h3 h4 h5 r k]

theorem dg_result : (dats m 0 c).arrAt 11 cfg0.N = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [dg_final]
  funext i
  obtain ⟨r, x, rfl⟩ : ∃ (r : Fin 1) (x : Fin 1024), i = ix2 r x := ⟨i 0, i 1, eq_ix2 (n0 := 1) (n1 := 1024) i⟩
  obtain rfl : r = 0 := Subsingleton.elim _ _
  refine Eq.trans ?_ (Cert.Reference4Ideal.Head.dg_eq h0 h4 h5 x).symm
  refine (Cert.Flash.sum_fin 4096 (dgTerm m c x)).symm.trans (Finset.sum_congr rfl fun R _ => ?_)
  unfold dgTerm
  rw [dhN_eq m c h0 h1 h2 h3 h4 h5 R x, yN_eq, show yN m c R.val = _ from funext fun k => yN_eq m c R k]

theorem lossTerm_num (r : Fin 4096) : IsNum (lossTerm m c r.val) := by
  have he : ∀ k, IsNum (errN m c r.val k) := fun k => by
    rw [errN_eq m c h0 h4 h5 r k]
    exact Cert.Reference4Ideal.Head.err_num h0 h1 h2 h3 h4 h5 r k
  unfold lossTerm
  exact (IsNum.sum fun k => (he k).mul (he k)).mul inv1024_num

theorem loss_result : (dats m 0 c).arrAt 12 cfg0.N = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [loss_final]
  funext i
  obtain ⟨r, x, rfl⟩ : ∃ (r : Fin 1) (x : Fin 128), i = ix2 r x := ⟨i 0, i 1, eq_ix2 (n0 := 1) (n1 := 128) i⟩
  obtain rfl : r = 0 := Subsingleton.elim _ _
  refine Eq.trans ?_ (Cert.Reference4Ideal.Head.loss_eq h0 h1 h2 h3 h4 h5 x).symm
  show ∑ b ∈ Finset.range 8, lossBlock m c b = _
  unfold lossBlock
  refine (half_blocks fun R hR => lossTerm_num m c h0 h1 h2 h3 h4 h5 ⟨R, hR⟩).trans ?_
  rw [← Cert.Flash.sum_fin]
  refine congrArg (fun s : EReal => _ * s) (Finset.sum_congr rfl fun R _ => ?_)
  unfold lossTerm
  simp only [errN_eq m c h0 h4 h5]

end

end Cert.Kernel4Ideal.Head
-- ==== Proof.ProjRow.lean ====
module

public import proofs.«01_k».proof.Proof.Gen.Kernel5Ideal.Value
public import proofs.«01_k».proof.Proof.FfnMath
public import proofs.«01_k».proof.Proof.Base
public import Idealize.ShloMosaic.Lib.Pipeline.ValueKit.Basic

@[expose] public section

set_option maxRecDepth 16384

noncomputable section

namespace Cert.Kernel5Ideal.Proj

open Idealize.ShloMosaic Idealize.ShloMosaic.TcCoe Cert.Flash Cert.Ffn
open Idealize.SL Idealize.SL.Sem
open Cert.Kernel5Ideal Cert.Kernel5Ideal.Gen
open scoped BigOperators

/-! ## What the kernel computes from its blocks, element by element -/

theorem u_apply (x : FVec Ideal S512x1024 .f32) (g : FVec Ideal S1x1024 .f32) (r : Fin 512) (k : Fin 1024) :
    (k0_pay1 (F := Ideal) x g (ix2 r k) : EReal) = x (ix2 r k) * rowR (fun j => x (ix2 r j)) * g (ix2 0 k) := by
  unfold rowR k0_pay1
  pointwise

theorem m_apply (x : FVec Ideal S512x1024 .f32) (g : FVec Ideal S1x1024 .f32) (w : FVec Ideal S1024x640 .bf16) (r : Fin 512) (e : Fin 640) :
    (k0_pay2 (F := Ideal) x g w (ix2 r e) : EReal) = ∑ k : Fin 1024, (k0_pay1 (F := Ideal) x g (ix2 r k) : EReal) * w (ix2 k e) := by
  simp only [k0_pay2, shapeCast_self]
  generalize k0_pay1 (F := Ideal) x g = a
  pointwise

theorem h_apply (x : FVec Ideal S512x1024 .f32) (g : FVec Ideal S1x1024 .f32) (w : FVec Ideal S1024x2048 .bf16) (r : Fin 512) (e : Fin 2048) :
    (k0_pay3 (F := Ideal) x g w (ix2 r e) : EReal) = ∑ k : Fin 1024, (k0_pay1 (F := Ideal) x g (ix2 r k) : EReal) * w (ix2 k e) := by
  simp only [k0_pay3, shapeCast_self]
  generalize k0_pay1 (F := Ideal) x g = a
  pointwise

/-! ## What it leaves in its blocks -/

variable (x : FVec Ideal S512x1024 .f32) (g : FVec Ideal S1x1024 .f32) (w : FVec Ideal S1024x2688 .bf16)

theorem u_out : out0_5 (F := Ideal) x g w = k0_pay1 (F := Ideal) x g := by
  unfold out0_5
  rw [View.canon_cons_unit_lit, View.ld_unit_lit, View.ld_unit_lit] <;> decide

theorem m_out : out0_3 (F := Ideal) x g w = k0_pay2 (F := Ideal) x g (View.ld w r0_2) := by
  unfold out0_3
  rw [View.canon_cons_unit_lit, View.ld_unit_lit, View.ld_unit_lit] <;> decide

theorem h_out : out0_4 (F := Ideal) x g w = k0_pay3 (F := Ideal) x g (View.ld w r0_4) := by
  unfold out0_4
  rw [View.canon_cons_unit_lit, View.ld_unit_lit, View.ld_unit_lit] <;> decide

/-- The first 640 columns of the weight. -/
theorem m_cols (k : Fin 1024) (e : Fin 640) : (View.ld (Val := Elt Ideal) (e' := .bf16) w r0_2 (ix2 k e) : EReal) = at2 (m := 1024) (n := 2688) w k.val e.val := by
  have hk := k.isLt
  have he := e.isLt
  rw [at2_lt (m := 1024) (n := 2688) w hk (show e.val < 2688 by omega)]
  refine congrArg w (funext fun a => Fin.ext ?_)
  match a with
  | ⟨0, _⟩ => show 0 + 1 * k.val = k.val; omega
  | ⟨1, _⟩ => show 0 + 1 * e.val = e.val; omega

/-- The columns of the weight after those. -/
theorem h_cols (k : Fin 1024) (e : Fin 2048) : (View.ld (Val := Elt Ideal) (e' := .bf16) w r0_4 (ix2 k e) : EReal) = at2 (m := 1024) (n := 2688) w k.val (640 + e.val) := by
  have hk := k.isLt
  have he := e.isLt
  rw [at2_lt (m := 1024) (n := 2688) w hk (show 640 + e.val < 2688 by omega)]
  refine congrArg w (funext fun a => Fin.ext ?_)
  match a with
  | ⟨0, _⟩ => show 0 + 1 * k.val = k.val; omega
  | ⟨1, _⟩ => show 640 + 1 * e.val = 640 + e.val; omega

end Cert.Kernel5Ideal.Proj

end
-- ==== Proof.ProjSum.lean ====
module

public import proofs.«01_k».proof.Proof.ProjRow

@[expose] public section

set_option maxRecDepth 16384

noncomputable section

namespace Cert.Kernel5Ideal.Proj

open Idealize.ShloMosaic Idealize.ShloMosaic.TcCoe Cert.Flash Cert.Ffn
open Idealize.SL Idealize.SL.Sem
open Cert.Kernel5Ideal Cert.Kernel5Ideal.Gen
open scoped BigOperators

variable (m : (ℓ : Loc nD τ sig) → Buf (Elt Ideal) ℓ) (c : Dev nD)

/-! ## The blocks of the arrays: a point `t` is at row block `t` -/

theorem lt8 (t : Fin cfg0.N) : t.val < 8 := Nat.lt_of_lt_of_eq t.isLt N_0

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel

theorem read0_apply (A : (⟨2, ![4096, 1024]⟩ : Shape).Idx → EReal) (t : Fin grid0.N) (r : Fin 512) (x : Fin 1024) :
    (win0_0.blk t).view.read (Elt Ideal) A (ix2 r x) = at2 A (512 * t.val + r.val) x.val := by
  have ht : t.val < 8 := lt8 t
  have hr := r.isLt
  have hx := x.isLt
  have hi := index0 t
  rw [at2_lt A (show 512 * t.val + r.val < 4096 by omega) (show x.val < 1024 by omega), View.read_apply]
  refine congrArg A (funext fun a => Fin.ext ?_)
  match a with
  | ⟨0, _⟩ =>
    have e : win0_0.index t 0 * 512 + 1 * r.val = 512 * t.val + r.val := by rw [hi.1]; omega
    exact e
  | ⟨1, _⟩ =>
    have e : win0_0.index t 1 * 1024 + 1 * x.val = x.val := by rw [hi.2]; omega
    exact e

theorem read1_apply (A : (⟨2, ![1, 1024]⟩ : Shape).Idx → EReal) (t : Fin grid0.N) (r : Fin 1) (x : Fin 1024) :
    (win0_1.blk t).view.read (Elt Ideal) A (ix2 r x) = at2 A (r.val) x.val := by
  have ht : t.val < 8 := lt8 t
  have hr := r.isLt
  have hx := x.isLt
  have hi := index1 t
  rw [at2_lt A (show r.val < 1 by omega) (show x.val < 1024 by omega), View.read_apply]
  refine congrArg A (funext fun a => Fin.ext ?_)
  match a with
  | ⟨0, _⟩ =>
    have e : win0_1.index t 0 * 1 + 1 * r.val = r.val := by rw [hi.1]; omega
    exact e
  | ⟨1, _⟩ =>
    have e : win0_1.index t 1 * 1024 + 1 * x.val = x.val := by rw [hi.2]; omega
    exact e

theorem read2_apply (A : (⟨2, ![1024, 2688]⟩ : Shape).Idx → EReal) (t : Fin grid0.N) (r : Fin 1024) (x : Fin 2688) :
    (win0_2.blk t).view.read (Elt Ideal) A (ix2 r x) = at2 A (r.val) x.val := by
  have ht : t.val < 8 := lt8 t
  have hr := r.isLt
  have hx := x.isLt
  have hi := index2 t
  rw [at2_lt A (show r.val < 1024 by omega) (show x.val < 2688 by omega), View.read_apply]
  refine congrArg A (funext fun a => Fin.ext ?_)
  match a with
  | ⟨0, _⟩ =>
    have e : win0_2.index t 0 * 1024 + 1 * r.val = r.val := by rw [hi.1]; omega
    exact e
  | ⟨1, _⟩ =>
    have e : win0_2.index t 1 * 2688 + 1 * x.val = x.val := by rw [hi.2]; omega
    exact e

theorem read3_apply (A : (⟨2, ![4096, 640]⟩ : Shape).Idx → EReal) (t : Fin grid0.N) (r : Fin 512) (x : Fin 640) :
    (win0_3.blk t).view.read (Elt Ideal) A (ix2 r x) = at2 A (512 * t.val + r.val) x.val := by
  have ht : t.val < 8 := lt8 t
  have hr := r.isLt
  have hx := x.isLt
  have hi := index3 t
  rw [at2_lt A (show 512 * t.val + r.val < 4096 by omega) (show x.val < 640 by omega), View.read_apply]
  refine congrArg A (funext fun a => Fin.ext ?_)
  match a with
  | ⟨0, _⟩ =>
    have e : win0_3.index t 0 * 512 + 1 * r.val = 512 * t.val + r.val := by rw [hi.1]; omega
    exact e
  | ⟨1, _⟩ =>
    have e : win0_3.index t 1 * 640 + 1 * x.val = x.val := by rw [hi.2]; omega
    exact e

theorem read4_apply (A : (⟨2, ![4096, 2048]⟩ : Shape).Idx → EReal) (t : Fin grid0.N) (r : Fin 512) (x : Fin 2048) :
    (win0_4.blk t).view.read (Elt Ideal) A (ix2 r x) = at2 A (512 * t.val + r.val) x.val := by
  have ht : t.val < 8 := lt8 t
  have hr := r.isLt
  have hx := x.isLt
  have hi := index4 t
  rw [at2_lt A (show 512 * t.val + r.val < 4096 by omega) (show x.val < 2048 by omega), View.read_apply]
  refine congrArg A (funext fun a => Fin.ext ?_)
  match a with
  | ⟨0, _⟩ =>
    have e : win0_4.index t 0 * 512 + 1 * r.val = 512 * t.val + r.val := by rw [hi.1]; omega
    exact e
  | ⟨1, _⟩ =>
    have e : win0_4.index t 1 * 2048 + 1 * x.val = x.val := by rw [hi.2]; omega
    exact e

theorem read5_apply (A : (⟨2, ![4096, 1024]⟩ : Shape).Idx → EReal) (t : Fin grid0.N) (r : Fin 512) (x : Fin 1024) :
    (win0_5.blk t).view.read (Elt Ideal) A (ix2 r x) = at2 A (512 * t.val + r.val) x.val := by
  have ht : t.val < 8 := lt8 t
  have hr := r.isLt
  have hx := x.isLt
  have hi := index5 t
  rw [at2_lt A (show 512 * t.val + r.val < 4096 by omega) (show x.val < 1024 by omega), View.read_apply]
  refine congrArg A (funext fun a => Fin.ext ?_)
  match a with
  | ⟨0, _⟩ =>
    have e : win0_5.index t 0 * 512 + 1 * r.val = 512 * t.val + r.val := by rw [hi.1]; omega
    exact e
  | ⟨1, _⟩ =>
    have e : win0_5.index t 1 * 1024 + 1 * x.val = x.val := by rw [hi.2]; omega
    exact e

/-! ## The arrays the call reads -/

theorem V_arg0 : (V m c main_arg0 : (⟨2, ![4096, 1024]⟩ : Shape).Idx → EReal) = m ((c : Thread nD τ).loc main_arg0) := by
  simp only [V, hostOps0]
  after_results_simp

theorem V_arg1 : (V m c main_arg1 : (⟨2, ![1, 1024]⟩ : Shape).Idx → EReal) = m ((c : Thread nD τ).loc main_arg1) := by
  simp only [V, hostOps0]
  after_results_simp

theorem V_v0 : (V m c main_v0 : (⟨2, ![1024, 2688]⟩ : Shape).Idx → EReal) = m ((c : Thread nD τ).loc main_arg2) := by
  simp only [V, hostOps0]
  after_results_simp
  rfl

/-- The stream. -/
def xA : ℕ → ℕ → EReal := at2 (m := 4096) (n := 1024) (m ((c : Thread nD τ).loc main_arg0))

/-- The norm's weight. -/
def gA : ℕ → ℕ → EReal := at2 (m := 1) (n := 1024) (m ((c : Thread nD τ).loc main_arg1))

/-- The projection's weight. -/
def wA : ℕ → ℕ → EReal := at2 (m := 1024) (n := 2688) (m ((c : Thread nD τ).loc main_arg2))

/-- The normed stream. -/
def uN (R k : ℕ) : EReal := xA m c R k * rowR (fun j => xA m c R j.val) * gA m c 0 k

/-- The projection. -/
def pN (R e : ℕ) : EReal := ∑ k : Fin 1024, uN m c R k.val * wA m c k.val e

theorem blk0 (t : Fin cfg0.N) (r : Fin 512) (x : Fin 1024) : (iblk m c 0 t (ix2 r x) : EReal) = xA m c (512 * t.val + r.val) x.val := by
  unfold xA
  rw [← V_arg0 m c]
  exact read0_apply _ t r x

theorem blk1 (t : Fin cfg0.N) (x : Fin 1024) : (iblk m c 1 t (ix2 (0 : Fin 1) x) : EReal) = gA m c 0 x.val := by
  unfold gA
  rw [← V_arg1 m c]
  exact read1_apply _ t 0 x

theorem blk2 (t : Fin cfg0.N) (r : Fin 1024) (x : Fin 2688) : (iblk m c 2 t (ix2 r x) : EReal) = wA m c r.val x.val := by
  unfold wA
  rw [← V_v0 m c]
  exact read2_apply _ t r x

theorem u_block (t : Fin cfg0.N) (r : Fin 512) (k : Fin 1024) :
    (k0_pay1 (F := Ideal) (iblk m c 0 t) (iblk m c 1 t) (ix2 r k) : EReal) = uN m c (512 * t.val + r.val) k.val := by
  rw [u_apply]
  unfold uN
  rw [funext fun j => blk0 m c t r j, blk0 m c t r k, blk1 m c t k]

theorem w_block (t : Fin cfg0.N) (k e : ℕ) (hk : k < 1024) (he : e < 2688) :
    at2 (m := 1024) (n := 2688) (iblk m c 2 t) k e = wA m c k e :=
  (at2_lt (m := 1024) (n := 2688) (iblk m c 2 t) hk he).trans (blk2 m c t ⟨k, hk⟩ ⟨e, he⟩)

theorem m_block (t : Fin cfg0.N) (r : Fin 512) (e : Fin 640) :
    (k0_pay2 (F := Ideal) (iblk m c 0 t) (iblk m c 1 t) (View.ld (iblk m c 2 t) r0_2) (ix2 r e) : EReal) = pN m c (512 * t.val + r.val) e.val := by
  have he := e.isLt
  rw [m_apply]
  exact Finset.sum_congr rfl fun k _ => congrArg₂ (fun a b : EReal => a * b) (u_block m c t r k)
    ((m_cols _ k e).trans (w_block m c t k.val e.val k.isLt (by omega)))

theorem h_block (t : Fin cfg0.N) (r : Fin 512) (e : Fin 2048) :
    (k0_pay3 (F := Ideal) (iblk m c 0 t) (iblk m c 1 t) (View.ld (iblk m c 2 t) r0_4) (ix2 r e) : EReal) = pN m c (512 * t.val + r.val) (640 + e.val) := by
  have he := e.isLt
  rw [h_apply]
  exact Finset.sum_congr rfl fun k _ => congrArg₂ (fun a b : EReal => a * b) (u_block m c t r k)
    ((h_cols _ k e).trans (w_block m c t k.val (640 + e.val) k.isLt (by omega)))

/-! ## The arrays after the run -/

/-- The result as an array. -/
def mR : (⟨2, ![4096, 640]⟩ : Shape).Idx → EReal := fun i => pN m c (i 0 : Nat) (i 1 : Nat)

theorem m_flushed (t : Fin cfg0.N) : (dats m 0 c).flushed 3 t = (win0_3.blk t).view.read (Elt Ideal) (mR m c) := by
  funext y
  obtain ⟨r, x, rfl⟩ : ∃ (r : Fin 512) (x : Fin 640), y = ix2 r x := ⟨y 0, y 1, eq_ix2 (n0 := 512) (n1 := 640) y⟩
  have ht := lt8 t
  have hr := r.isLt
  have hx := x.isLt
  rw [read3_apply, at2_lt (m := 4096) (n := 640) _ (show 512 * t.val + r.val < 4096 by omega) hx]
  exact (congrFun ((after0_3 m c t).trans (m_out _ _ _)) (ix2 r x)).trans (m_block m c t r x)

theorem m_mem (t : Fin cfg0.N) (i : S4096x640.Idx) (h0 : (i 0 : Nat) / 512 = t.val) : i ∈ (win0_3.blk t).view.set := by
  have h1 : (i 1 : Nat) < 640 := (i 1).isLt
  show i ∈ ((View.whole main_v1_0).slice (win0_3.rect t)).set
  rw [View.set_slice_whole, Rect.mem_set_unit]
  intro a
  match a with
  | ⟨0, _⟩ =>
    show win0_3.index t 0 * 512 ≤ (i 0 : Nat) ∧ (i 0 : Nat) < win0_3.index t 0 * 512 + 512
    rw [(index3 t).1]; omega
  | ⟨1, _⟩ =>
    show win0_3.index t 1 * 640 ≤ (i 1 : Nat) ∧ (i 1 : Nat) < win0_3.index t 1 * 640 + 640
    rw [(index3 t).2]; omega

theorem m_final : (dats m 0 c).arrAt 3 cfg0.N = mR m c :=
  (dats m 0 c).arrAt_eq_of_cover 3 _ (fun t _ => m_flushed m c t) fun i => by
    have h0 : (i 0 : Nat) < 4096 := (i 0).isLt
    have e : cfg0.N = 8 := N_0
    exact ⟨⟨(i 0 : Nat) / 512, by omega⟩, flush0_3 _, m_mem _ i rfl⟩

/-- The result as an array. -/
def hR : (⟨2, ![4096, 2048]⟩ : Shape).Idx → EReal := fun i => pN m c (i 0 : Nat) (640 + (i 1 : Nat))

theorem h_flushed (t : Fin cfg0.N) : (dats m 0 c).flushed 4 t = (win0_4.blk t).view.read (Elt Ideal) (hR m c) := by
  funext y
  obtain ⟨r, x, rfl⟩ : ∃ (r : Fin 512) (x : Fin 2048), y = ix2 r x := ⟨y 0, y 1, eq_ix2 (n0 := 512) (n1 := 2048) y⟩
  have ht := lt8 t
  have hr := r.isLt
  have hx := x.isLt
  rw [read4_apply, at2_lt (m := 4096) (n := 2048) _ (show 512 * t.val + r.val < 4096 by omega) hx]
  exact (congrFun ((after0_4 m c t).trans (h_out _ _ _)) (ix2 r x)).trans (h_block m c t r x)

theorem h_mem (t : Fin cfg0.N) (i : S4096x2048.Idx) (h0 : (i 0 : Nat) / 512 = t.val) : i ∈ (win0_4.blk t).view.set := by
  have h1 : (i 1 : Nat) < 2048 := (i 1).isLt
  show i ∈ ((View.whole main_v1_1).slice (win0_4.rect t)).set
  rw [View.set_slice_whole, Rect.mem_set_unit]
  intro a
  match a with
  | ⟨0, _⟩ =>
    show win0_4.index t 0 * 512 ≤ (i 0 : Nat) ∧ (i 0 : Nat) < win0_4.index t 0 * 512 + 512
    rw [(index4 t).1]; omega
  | ⟨1, _⟩ =>
    show win0_4.index t 1 * 2048 ≤ (i 1 : Nat) ∧ (i 1 : Nat) < win0_4.index t 1 * 2048 + 2048
    rw [(index4 t).2]; omega

theorem h_final : (dats m 0 c).arrAt 4 cfg0.N = hR m c :=
  (dats m 0 c).arrAt_eq_of_cover 4 _ (fun t _ => h_flushed m c t) fun i => by
    have h0 : (i 0 : Nat) < 4096 := (i 0).isLt
    have e : cfg0.N = 8 := N_0
    exact ⟨⟨(i 0 : Nat) / 512, by omega⟩, flush0_4 _, h_mem _ i rfl⟩

/-- The result as an array. -/
def uR : (⟨2, ![4096, 1024]⟩ : Shape).Idx → EReal := fun i => uN m c (i 0 : Nat) (i 1 : Nat)

theorem u_flushed (t : Fin cfg0.N) : (dats m 0 c).flushed 5 t = (win0_5.blk t).view.read (Elt Ideal) (uR m c) := by
  funext y
  obtain ⟨r, x, rfl⟩ : ∃ (r : Fin 512) (x : Fin 1024), y = ix2 r x := ⟨y 0, y 1, eq_ix2 (n0 := 512) (n1 := 1024) y⟩
  have ht := lt8 t
  have hr := r.isLt
  have hx := x.isLt
  rw [read5_apply, at2_lt (m := 4096) (n := 1024) _ (show 512 * t.val + r.val < 4096 by omega) hx]
  exact (congrFun ((after0_5 m c t).trans (u_out _ _ _)) (ix2 r x)).trans (u_block m c t r x)

theorem u_mem (t : Fin cfg0.N) (i : S4096x1024.Idx) (h0 : (i 0 : Nat) / 512 = t.val) : i ∈ (win0_5.blk t).view.set := by
  have h1 : (i 1 : Nat) < 1024 := (i 1).isLt
  show i ∈ ((View.whole main_v1_2).slice (win0_5.rect t)).set
  rw [View.set_slice_whole, Rect.mem_set_unit]
  intro a
  match a with
  | ⟨0, _⟩ =>
    show win0_5.index t 0 * 512 ≤ (i 0 : Nat) ∧ (i 0 : Nat) < win0_5.index t 0 * 512 + 512
    rw [(index5 t).1]; omega
  | ⟨1, _⟩ =>
    show win0_5.index t 1 * 1024 ≤ (i 1 : Nat) ∧ (i 1 : Nat) < win0_5.index t 1 * 1024 + 1024
    rw [(index5 t).2]; omega

theorem u_final : (dats m 0 c).arrAt 5 cfg0.N = uR m c :=
  (dats m 0 c).arrAt_eq_of_cover 5 _ (fun t _ => u_flushed m c t) fun i => by
    have h0 : (i 0 : Nat) < 4096 := (i 0).isLt
    have e : cfg0.N = 8 := N_0
    exact ⟨⟨(i 0 : Nat) / 512, by omega⟩, flush0_5 _, u_mem _ i rfl⟩

end Cert.Kernel5Ideal.Proj

end
-- ==== Proof.ProjValue.lean ====
module

public import proofs.«01_k».proof.Proof.ProjSum
public import proofs.«01_k».proof.Proof.Gen.Reference5Ideal.Read

@[expose] public section

set_option maxRecDepth 16384

noncomputable section

namespace Cert.Reference5Ideal.Proj

open Idealize.ShloMosaic Idealize.ShloMosaic.TcCoe Cert.Flash Cert.Ffn
open Cert.Reference5Ideal Cert.Reference5Ideal.Read
open scoped BigOperators

/-- The mean of a row's squares, by a quotient or by a product: the same reciprocal root. -/
theorem rsqrt_mean (h : Fin 1024 → EReal) : Ideal.rsqrt (meanSq h) = rowR h := by
  unfold meanSq rowR
  rw [lit1024, inv1024, Ideal.div_coe (by norm_num)]

variable (x0 : (⟨2, ![4096, 1024]⟩ : Shape).Idx → EReal) (x1 : (⟨2, ![1, 1024]⟩ : Shape).Idx → EReal) (x2 : (⟨2, ![1024, 2688]⟩ : Shape).Idx → EReal)

/-! ## The reference's stages, element by element -/

theorem u_at (r : Fin 4096) (k : Fin 1024) : val_main_v11 (F := Ideal) x0 x1 (ix2 r k) = x0 (ix2 r k) * rowR (fun j => x0 (ix2 r j)) * x1 (ix2 0 k) := by
  rw [← rsqrt_mean]
  unfold meanSq val_main_v11 val_main_v10 val_main_v9 val_main_v8 val_main_v7 val_main_v6 val_main_v5 val_main_v4 val_main_v3 val_main_v2 val_main_v1 val_main_v0 val_main_cst val_main_cst_0 val_main_cst_1
  pointwise

theorem p_at (r : Fin 4096) (e : Fin 2688) : val_main_v12 (F := Ideal) x0 x1 x2 (ix2 r e)
    = ∑ k : Fin 1024, (val_main_v11 (F := Ideal) x0 x1 (ix2 r k) : EReal) * x2 (ix2 k e) := by
  unfold val_main_v12
  generalize val_main_v11 (F := Ideal) x0 x1 = a
  pointwise

theorem m_at (r : Fin 4096) (e : Fin 640) (e' : Fin 2688) (he : e'.val = e.val) : val_main_v13 (F := Ideal) x0 x1 x2 (ix2 r e) = val_main_v12 (F := Ideal) x0 x1 x2 (ix2 r e') := by
  unfold val_main_v13
  generalize val_main_v12 (F := Ideal) x0 x1 x2 = a
  pointwise
  exact congrArg (fun k => a (ix2 r k)) (Fin.ext he.symm)

theorem h_at (r : Fin 4096) (e : Fin 2048) (e' : Fin 2688) (he : e'.val = 640 + e.val) : val_main_v14 (F := Ideal) x0 x1 x2 (ix2 r e) = val_main_v12 (F := Ideal) x0 x1 x2 (ix2 r e') := by
  unfold val_main_v14
  generalize val_main_v12 (F := Ideal) x0 x1 x2 = a
  pointwise
  exact congrArg (fun k => a (ix2 r k)) (Fin.ext he.symm)

theorem u_bf (r : Fin 4096) (k : Fin 1024) : (val_main_v15 (F := Ideal) x0 x1 (ix2 r k) : EReal) = val_main_v11 (F := Ideal) x0 x1 (ix2 r k) := by
  unfold val_main_v15
  generalize val_main_v11 (F := Ideal) x0 x1 = a
  pointwise

end Cert.Reference5Ideal.Proj

namespace Cert.Kernel5Ideal.Proj

open Idealize.ShloMosaic Idealize.ShloMosaic.TcCoe Cert.Flash Cert.Ffn
open Idealize.SL Idealize.SL.Sem
open Cert.Kernel5Ideal Cert.Kernel5Ideal.Gen
open Cert.Reference5Ideal.Read Cert.Reference5Ideal.Proj
open scoped BigOperators

variable (m : (ℓ : Loc nD τ sig) → Buf (Elt Ideal) ℓ) (c : Dev nD)

/-! ## The three results are the reference's -/

theorem u_eq (r : Fin 4096) (k : Fin 1024) : uN m c r.val k.val
    = val_main_v11 (F := Ideal) (m ((c : Thread nD τ).loc main_arg0)) (m ((c : Thread nD τ).loc main_arg1)) (ix2 r k) := by
  rw [u_at]
  unfold uN
  have e : (fun j : Fin 1024 => xA m c r.val j.val) = fun j => m ((c : Thread nD τ).loc main_arg0) (ix2 r j) := funext fun j => at2_of _ r j
  rw [e]
  exact congrArg₂ (fun a b : EReal => a * _ * b) (at2_of _ r k) (at2_of _ (0 : Fin 1) k)

theorem p_eq (r : Fin 4096) (e : Fin 2688) : pN m c r.val e.val
    = val_main_v12 (F := Ideal) (m ((c : Thread nD τ).loc main_arg0)) (m ((c : Thread nD τ).loc main_arg1)) (m ((c : Thread nD τ).loc main_arg2)) (ix2 r e) := by
  rw [p_at]
  exact Finset.sum_congr rfl fun k _ => congrArg₂ (fun a b : EReal => a * b) (u_eq m c r k) (at2_of _ k e)

theorem m_result : (dats m 0 c).arrAt 3 cfg0.N
    = val_main_v13 (F := Ideal) (m ((c : Thread nD τ).loc main_arg0)) (m ((c : Thread nD τ).loc main_arg1)) (m ((c : Thread nD τ).loc main_arg2)) := by
  rw [m_final]
  funext i
  obtain ⟨r, e, rfl⟩ : ∃ (r : Fin 4096) (e : Fin 640), i = ix2 r e := ⟨i 0, i 1, eq_ix2 (n0 := 4096) (n1 := 640) i⟩
  have he := e.isLt
  exact (p_eq m c r ⟨e.val, by omega⟩).trans (m_at _ _ _ r e ⟨e.val, by omega⟩ rfl).symm

theorem h_result : (dats m 0 c).arrAt 4 cfg0.N
    = val_main_v14 (F := Ideal) (m ((c : Thread nD τ).loc main_arg0)) (m ((c : Thread nD τ).loc main_arg1)) (m ((c : Thread nD τ).loc main_arg2)) := by
  rw [h_final]
  funext i
  obtain ⟨r, e, rfl⟩ : ∃ (r : Fin 4096) (e : Fin 2048), i = ix2 r e := ⟨i 0, i 1, eq_ix2 (n0 := 4096) (n1 := 2048) i⟩
  have he := e.isLt
  exact (p_eq m c r ⟨640 + e.val, by omega⟩).trans (h_at _ _ _ r e ⟨640 + e.val, by omega⟩ rfl).symm

theorem u_result : (dats m 0 c).arrAt 5 cfg0.N
    = val_main_v15 (F := Ideal) (m ((c : Thread nD τ).loc main_arg0)) (m ((c : Thread nD τ).loc main_arg1)) := by
  rw [u_final]
  funext i
  obtain ⟨r, k, rfl⟩ : ∃ (r : Fin 4096) (k : Fin 1024), i = ix2 r k := ⟨i 0, i 1, eq_ix2 (n0 := 4096) (n1 := 1024) i⟩
  exact (u_eq m c r k).trans (u_bf _ _ r k).symm

end Cert.Kernel5Ideal.Proj

end
-- ==== Proof.MixRow.lean ====
module

public import proofs.«01_k».proof.Proof.Gen.Kernel6Ideal.Skeleton
public import proofs.«01_k».proof.Proof.FfnMath
public import proofs.«01_k».proof.Proof.Base
public import Idealize.ShloMosaic.Lib.Pipeline.ValueKit.Basic

@[expose] public section

set_option maxRecDepth 16384

noncomputable section

namespace Cert.Kernel6Ideal.Mix

open Idealize.ShloMosaic Idealize.ShloMosaic.TcCoe Cert.Flash Cert.Ffn
open Idealize.SL Idealize.SL.Sem
open Cert.Kernel6Ideal Cert.Kernel6Ideal.Gen
open scoped BigOperators

/-- The reciprocal root of a padded head's mean square, the mean taken over its 64 lanes that are not padding. -/
def headR (h : Fin 128 → EReal) : EReal :=
  Ideal.rsqrt ((∑ k, h k * h k) * Ideal.ofBits .f32 0x3C800000#32 + Ideal.ofBits .f32 0x358637BD#32)

/-! ## What the kernel computes from its blocks, element by element -/

theorem head_apply (x : FVec Ideal S512x128 .bf16) (g : FVec Ideal S1x128 .f32) (r : Fin 512) (k : Fin 128) :
    (k0_pay1 (F := Ideal) x g (ix2 r k) : EReal) = x (ix2 r k) * headR (fun j => x (ix2 r j)) * g (ix2 0 k) := by
  simp only [headR, k0_pay1, shapeCast_self]
  pointwise

theorem head1 : k0_pay2 (F := Ideal) = k0_pay1 := rfl
theorem head2 : k0_pay3 (F := Ideal) = k0_pay1 := rfl
theorem head3 : k0_pay4 (F := Ideal) = k0_pay1 := rfl
theorem head4 (x : FVec Ideal S512x128 .bf16) : k0_pay7 (F := Ideal) (k0_pay5 x) (k0_pay6 x) = k0_pay1 x := rfl
theorem head5 : k0_pay8 (F := Ideal) = k0_pay1 := rfl
theorem head6 (x : FVec Ideal S512x128 .bf16) : k0_pay12 (F := Ideal) (k0_pay9 x) (k0_pay10 x) k0_pay11 = k0_pay1 x := rfl
theorem head7 : k0_pay13 (F := Ideal) = k0_pay1 := rfl

theorem tail_apply (x : FVec Ideal S512x512 .f32) (r : Fin 512) (k : Fin 512) : (k0_pay14 (F := Ideal) x (ix2 r k) : EReal) = x (ix2 r k) := rfl

theorem y_apply (a : FVec Ideal S512x1536 .bf16) (w : FVec Ideal S1536x1024 .bf16) (r : Fin 512) (e : Fin 1024) :
    (k0_pay16 (F := Ideal) a w (ix2 r e) : EReal) = ∑ k : Fin 1536, (a (ix2 r k) : EReal) * w (ix2 k e) := by
  simp only [k0_pay16, shapeCast_self]
  pointwise

theorem h_apply (a : FVec Ideal S512x1536 .bf16) (w : FVec Ideal S1536x1024 .bf16) (x : FVec Ideal S512x1024 .f32) (g : FVec Ideal S1x1024 .f32) (r : Fin 512) (e : Fin 1024) :
    (k0_pay17 (F := Ideal) a w x g (ix2 r e) : EReal)
      = x (ix2 r e) + k0_pay16 (F := Ideal) a w (ix2 r e) * rowR (fun j => k0_pay16 (F := Ideal) a w (ix2 r j)) * g (ix2 0 e) := by
  unfold rowR k0_pay17
  generalize k0_pay16 (F := Ideal) a w = y
  pointwise

theorem z_apply (a : FVec Ideal S512x1536 .bf16) (w : FVec Ideal S1536x1024 .bf16) (x : FVec Ideal S512x1024 .f32) (g f : FVec Ideal S1x1024 .f32) (r : Fin 512) (e : Fin 1024) :
    (k0_pay18 (F := Ideal) a w x g f (ix2 r e) : EReal)
      = k0_pay17 (F := Ideal) a w x g (ix2 r e) * rowR (fun j => k0_pay17 (F := Ideal) a w x g (ix2 r j)) * f (ix2 0 e) := by
  unfold rowR k0_pay18
  generalize k0_pay17 (F := Ideal) a w x g = y
  pointwise

end Cert.Kernel6Ideal.Mix

end
-- ==== Proof.MixStep.lean ====
module

public import proofs.«01_k».proof.Proof.Gen.Kernel6Ideal.Frame
public import proofs.«01_k».proof.Proof.MixRow
public import Idealize.ShloMosaic.Lib.Pipeline.Value

@[expose] public section

set_option maxRecDepth 16384

noncomputable section

namespace Cert.Kernel6Ideal.Mix

open Idealize.ShloMosaic Idealize.ShloMosaic.TcCoe Cert.Flash Cert.Ffn
open Idealize.SL Idealize.SL.Sem
open Cert.Kernel6Ideal Cert.Kernel6Ideal.Gen
open scoped BigOperators

/-- A load of a whole memref's own sizes reads its contents. -/
theorem load_whole {S : Shape} {e : EltTy} {cs : Space} (r : Memref sig .tc cs S e) (h : r.IsWhole) (x : S.Idx → Elt Ideal e) {off : Fin S.rank → ℕ}
    (inb : ∀ a, off a + S.size a ≤ S.size a) :
    r.view.readAt (Elt Ideal) (Rect.unit off S.size inb).toLoadRect (h.unread x) = x := by
  rw [View.readAt_full, h.read_unread]

/-- The mix of the heads' outputs, each normed, and the gated state's. -/
def mixE (x g s : ℕ → ℕ → EReal) (r e : ℕ) : EReal :=
  if e < 1024 then x r e * headR (fun j => x r (128 * (e / 128) + j.val)) * g 0 e else s r (e - 1024)

/-- The norm of the head whose lanes begin at `p`, of two arrays' windows there. -/
theorem head_window (a1 : Memref sig .tc .vmem S512x1024 .bf16) (h1 : a1.IsWhole) (a4 : Memref sig .tc .vmem S1x1024 .f32) (h4 : a4.IsWhole)
    (x : FVec Ideal S512x1024 .bf16) (g : FVec Ideal S1x1024 .f32) (s : ℕ → ℕ → EReal) (p : ℕ) (hp : p + 128 ≤ 1024) (hd : p % 128 = 0)
    (i1 : ∀ a, (![0, p] : Fin 2 → ℕ) a + S512x128.size a ≤ S512x1024.size a) (i4 : ∀ a, (![0, p] : Fin 2 → ℕ) a + S1x128.size a ≤ S1x1024.size a)
    (r : Fin 512) (k : Fin 128) :
    (k0_pay1 (F := Ideal) (a1.view.readAt (Elt Ideal) (Rect.unit (s := S512x1024) ![0, p] S512x128.size i1).toLoadRect (h1.unread x))
      (a4.view.readAt (Elt Ideal) (Rect.unit (s := S1x1024) ![0, p] S1x128.size i4).toLoadRect (h4.unread g)) (ix2 r k) : EReal)
      = mixE (at2 (m := 512) (n := 1024) x) (at2 (m := 1) (n := 1024) g) s r.val (p + k.val) := by
  have hk := k.isLt
  have ex : ∀ j : Fin 128, (a1.view.readAt (Elt Ideal) (Rect.unit (s := S512x1024) ![0, p] S512x128.size i1).toLoadRect (h1.unread x) (ix2 r j) : EReal)
      = at2 (m := 512) (n := 1024) x r.val (p + j.val) := fun j => by
    rw [View.readAt_unit (h := rfl) (inb' := i1), h1.read_unread]
    refine (window_ix2 (m := 512) (n := 1024) (p := 512) (q := 128) x ![0, p] i1 r j).trans ?_
    show at2 x (0 + r.val) (p + j.val) = _
    rw [Nat.zero_add]
  have eg : (a4.view.readAt (Elt Ideal) (Rect.unit (s := S1x1024) ![0, p] S1x128.size i4).toLoadRect (h4.unread g) (ix2 (0 : Fin 1) k) : EReal)
      = at2 (m := 1) (n := 1024) g 0 (p + k.val) := by
    rw [View.readAt_unit (h := rfl) (inb' := i4), h4.read_unread]
    exact window_ix2 (m := 1) (n := 1024) (p := 1) (q := 128) g ![0, p] i4 (0 : Fin 1) k
  rw [head_apply]
  unfold mixE
  rw [if_pos (show p + k.val < 1024 by omega), show 128 * ((p + k.val) / 128) = p by omega]
  have e : (fun j : Fin 128 => (a1.view.readAt (Elt Ideal) (Rect.unit (s := S512x1024) ![0, p] S512x128.size i1).toLoadRect (h1.unread x) (ix2 r j) : EReal))
      = fun j => at2 (m := 512) (n := 1024) x r.val (p + j.val) := funext ex
  rw [e]
  exact congrArg₂ (fun a b : EReal => a * _ * b) (ex k) eg

/-- A window of whole rows stored: inside it the stored block, outside what was there. -/
theorem put_step {q : ℕ} (x : (⟨2, ![512, 1536]⟩ : Shape).Idx → EReal) (p : ℕ) (w : (⟨2, ![512, q]⟩ : Shape).Idx → EReal) (E : ℕ → ℕ → EReal)
    (r : Fin 512) (e : Fin 1536) (hw : ∀ k : Fin q, w (ix2 r k) = E r.val (p + k.val)) (hx : ¬(p ≤ e.val ∧ e.val < p + q) → x (ix2 r e) = E r.val e.val) :
    VecWindow.put (s := ⟨2, ![512, 1536]⟩) x ![0, p] ![512, q] w (ix2 r e) = E r.val e.val := by
  have hr := r.isLt
  rw [put_ix2]
  by_cases h : p ≤ e.val ∧ e.val < p + q
  · refine (if_pos ⟨Nat.zero_le _, by show r.val < 0 + 512; omega, h.1, h.2⟩).trans ?_
    refine (at2_lt w (show r.val - 0 < 512 by omega) (show e.val - p < q by omega)).trans ?_
    refine (hw ⟨e.val - p, by omega⟩).trans ?_
    show E r.val (p + (e.val - p)) = _
    rw [Nat.add_sub_cancel' h.1]
  · exact (if_neg fun H => h ⟨H.2.2.1, H.2.2.2⟩).trans (hx h)

/-- What the nine stores of the mix leave. -/
theorem mix_stores (c : Dev nD) (v : View sig .tc .vmem S512x1536 .bf16) (f : v.ty.Contents (Elt Ideal))
    (a1 : Memref sig .tc .vmem S512x1024 .bf16) (h1 : a1.IsWhole) (a2 : Memref sig .tc .vmem S512x512 .f32) (h2 : a2.IsWhole)
    (a4 : Memref sig .tc .vmem S1x1024 .f32) (h4 : a4.IsWhole) (x : FVec Ideal S512x1024 .bf16) (s : FVec Ideal S512x512 .f32) (g : FVec Ideal S1x1024 .f32)
    (r : Fin 512) (e : Fin 1536) :
    (v.read (Elt Ideal) (v.writes (Elt Ideal) f (kernelRun0_A.sl.H10_9 (F := Ideal) c a1 h1 a2 h2 a4 h4 x s g)) (ix2 r e) : EReal)
      = mixE (at2 (m := 512) (n := 1024) x) (at2 (m := 1) (n := 1024) g) (at2 (m := 512) (n := 512) s) r.val e.val := by
  have he := e.isLt
  unfold kernelRun0_A.sl.H10_9 kernelRun0_A.sl.r kernelRun0_A.sl.r_1 kernelRun0_A.sl.r_2 kernelRun0_A.sl.r_3 kernelRun0_A.sl.r_4
  simp only [head1, head2, head3, head4, head5, head6, head7]
  rw [View.read_writes_cons_put (h := rfl), View.read_writes_cons_put (h := rfl), View.read_writes_cons_put (h := rfl), View.read_writes_cons_put (h := rfl),
    View.read_writes_cons_put (h := rfl), View.read_writes_cons_put (h := rfl), View.read_writes_cons_put (h := rfl), View.read_writes_cons_put (h := rfl),
    View.read_writes_cons_put (h := rfl)]
  refine put_step (q := 512) _ 1024 _ _ r e (fun k => ?_) fun n8 => ?_
  · refine (tail_apply _ r k).trans ?_
    rw [load_whole]
    unfold mixE
    rw [if_neg (by omega), Nat.add_sub_cancel_left]
    exact (at2_of (m := 512) (n := 512) s r k).symm
  refine put_step (q := 128) _ 896 _ _ r e (fun k => head_window a1 h1 a4 h4 x g _ 896 (by decide) (by decide) _ _ r k) fun n7 => ?_
  refine put_step (q := 128) _ 768 _ _ r e (fun k => head_window a1 h1 a4 h4 x g _ 768 (by decide) (by decide) _ _ r k) fun n6 => ?_
  refine put_step (q := 128) _ 640 _ _ r e (fun k => head_window a1 h1 a4 h4 x g _ 640 (by decide) (by decide) _ _ r k) fun n5 => ?_
  refine put_step (q := 128) _ 512 _ _ r e (fun k => head_window a1 h1 a4 h4 x g _ 512 (by decide) (by decide) _ _ r k) fun n4 => ?_
  refine put_step (q := 128) _ 384 _ _ r e (fun k => head_window a1 h1 a4 h4 x g _ 384 (by decide) (by decide) _ _ r k) fun n3 => ?_
  refine put_step (q := 128) _ 256 _ _ r e (fun k => head_window a1 h1 a4 h4 x g _ 256 (by decide) (by decide) _ _ r k) fun n2 => ?_
  refine put_step (q := 128) _ 128 _ _ r e (fun k => head_window a1 h1 a4 h4 x g _ 128 (by decide) (by decide) _ _ r k) fun n1 => ?_
  refine put_step (q := 128) _ 0 _ _ r e (fun k => head_window a1 h1 a4 h4 x g _ 0 (by decide) (by decide) _ _ r k) fun n0 => ?_
  omega

variable (m : (ℓ : Loc nD τ sig) → Buf (Elt Ideal) ℓ) (c : Dev nD)

/-! ## What a grid point leaves in the results' blocks -/

/-- The block of the mix. -/
def mixB (t : Fin cfg0.N) : FVec Ideal S512x1536 .bf16 := fun i =>
  mixE (at2 (m := 512) (n := 1024) (iblk m c 0 t)) (at2 (m := 1) (n := 1024) (iblk m c 3 t)) (at2 (m := 512) (n := 512) (iblk m c 1 t)) (i 0 : Nat) (i 1 : Nat)

theorem stores_eq (t : Fin cfg0.N) (v : View sig .tc .vmem S512x1536 .bf16) (f : v.ty.Contents (Elt Ideal)) :
    v.read (Elt Ideal) (v.writes (Elt Ideal) f (kernelRun0_A.sl.H10_9 (F := Ideal) c (ms0_0 t) (hs0_0 t) (ms0_1 t) (hs0_1 t) (ms0_3 t) (hs0_3 t) (iblk m c 0 t) (iblk m c 1 t) (iblk m c 3 t)))
      = mixB m c t := by
  funext y
  obtain ⟨r, e, rfl⟩ : ∃ (r : Fin 512) (e : Fin 1536), y = ix2 r e := ⟨y 0, y 1, eq_ix2 (n0 := 512) (n1 := 1536) y⟩
  exact mix_stores c v f _ _ _ _ _ _ _ _ _ r e

theorem mix_out (t : Fin cfg0.N) : (outsAt0 m c t).2.2.2 = mixB m c t := by
  unfold outsAt0 out0_A_10 kernelRun0_A
  dsimp only
  exact stores_eq m c t _ _

theorem mix_load (t : Fin cfg0.N) :
    kernelRun0_A.sl.r_5 (F := Ideal) c (ms0_0 t) (hs0_0 t) (ms0_1 t) (hs0_1 t) (ms0_3 t) (hs0_3 t) (ms0_10 t) (iblk m c 0 t) (iblk m c 1 t) (iblk m c 3 t)
      = mixB m c t := by
  unfold kernelRun0_A.sl.r_5 kernelRun0_A.sl.v147 k0_pay15 View.readCov
  rw [View.readAt_full]
  exact (shapeCast_self _ _).trans (stores_eq m c t _ _)

theorem w_load (t : Fin cfg0.N) : kernelRun0_A.sl.r_6 (F := Ideal) c (ms0_4 t) (hs0_4 t) (iblk m c 4 t) = iblk m c 4 t := by
  unfold kernelRun0_A.sl.r_6
  exact load_whole _ _ _ _

theorem y_out (t : Fin cfg0.N) : (outsAt0 m c t).2.1 = k0_pay16 (F := Ideal) (mixB m c t) (iblk m c 4 t) := by
  unfold outsAt0 out0_A_8 kernelRun0_A
  dsimp only
  rw [View.read_writes_full, mix_load, w_load]

theorem h_out (t : Fin cfg0.N) : (outsAt0 m c t).1 = k0_pay17 (F := Ideal) (mixB m c t) (iblk m c 4 t) (iblk m c 2 t) (iblk m c 5 t) := by
  unfold outsAt0 out0_A_7 kernelRun0_A
  dsimp only
  rw [View.read_writes_full, mix_load, w_load]
  exact congrArg₂ (k0_pay17 _ _) (load_whole _ _ _ _) (load_whole _ _ _ _)

theorem z_out (t : Fin cfg0.N) : (outsAt0 m c t).2.2.1 = k0_pay18 (F := Ideal) (mixB m c t) (iblk m c 4 t) (iblk m c 2 t) (iblk m c 5 t) (iblk m c 6 t) := by
  unfold outsAt0 out0_A_9 kernelRun0_A
  dsimp only
  rw [View.read_writes_full, mix_load, w_load]
  exact congr (congrArg₂ (k0_pay18 _ _) (load_whole _ _ _ _) (load_whole _ _ _ _)) (load_whole _ _ _ _)

end Cert.Kernel6Ideal.Mix

end
-- ==== Proof.MixSum.lean ====
module

public import proofs.«01_k».proof.Proof.MixStep

@[expose] public section

set_option maxRecDepth 16384

noncomputable section

namespace Cert.Kernel6Ideal.Mix

open Idealize.ShloMosaic Idealize.ShloMosaic.TcCoe Cert.Flash Cert.Ffn
open Idealize.SL Idealize.SL.Sem
open Cert.Kernel6Ideal Cert.Kernel6Ideal.Gen
open scoped BigOperators

variable (m : (ℓ : Loc nD τ sig) → Buf (Elt Ideal) ℓ) (c : Dev nD)

/-! ## The blocks of the arrays: a point `t` is at row block `t` -/

theorem lt8 (t : Fin cfg0.N) : t.val < 8 := Nat.lt_of_lt_of_eq t.isLt N_0

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel
theorem index7 : ∀ t : Fin grid0.N, win0_7.index t 0 = t.val ∧ win0_7.index t 1 = 0 := by decide +kernel
theorem index8 : ∀ t : Fin grid0.N, win0_8.index t 0 = t.val ∧ win0_8.index t 1 = 0 := by decide +kernel
theorem index9 : ∀ t : Fin grid0.N, win0_9.index t 0 = t.val ∧ win0_9.index t 1 = 0 := by decide +kernel
theorem index10 : ∀ t : Fin grid0.N, win0_10.index t 0 = t.val ∧ win0_10.index t 1 = 0 := by decide +kernel

theorem read0_apply (A : (⟨2, ![4096, 1024]⟩ : Shape).Idx → EReal) (t : Fin grid0.N) (r : Fin 512) (x : Fin 1024) :
    (win0_0.blk t).view.read (Elt Ideal) A (ix2 r x) = at2 A (512 * t.val + r.val) x.val := by
  have ht : t.val < 8 := lt8 t
  have hr := r.isLt
  have hx := x.isLt
  have hi := index0 t
  rw [at2_lt A (show 512 * t.val + r.val < 4096 by omega) (show x.val < 1024 by omega), View.read_apply]
  refine congrArg A (funext fun a => Fin.ext ?_)
  match a with
  | ⟨0, _⟩ =>
    have e : win0_0.index t 0 * 512 + 1 * r.val = 512 * t.val + r.val := by rw [hi.1]; omega
    exact e
  | ⟨1, _⟩ =>
    have e : win0_0.index t 1 * 1024 + 1 * x.val = x.val := by rw [hi.2]; omega
    exact e

theorem read1_apply (A : (⟨2, ![4096, 512]⟩ : Shape).Idx → EReal) (t : Fin grid0.N) (r : Fin 512) (x : Fin 512) :
    (win0_1.blk t).view.read (Elt Ideal) A (ix2 r x) = at2 A (512 * t.val + r.val) x.val := by
  have ht : t.val < 8 := lt8 t
  have hr := r.isLt
  have hx := x.isLt
  have hi := index1 t
  rw [at2_lt A (show 512 * t.val + r.val < 4096 by omega) (show x.val < 512 by omega), View.read_apply]
  refine congrArg A (funext fun a => Fin.ext ?_)
  match a with
  | ⟨0, _⟩ =>
    have e : win0_1.index t 0 * 512 + 1 * r.val = 512 * t.val + r.val := by rw [hi.1]; omega
    exact e
  | ⟨1, _⟩ =>
    have e : win0_1.index t 1 * 512 + 1 * x.val = x.val := by rw [hi.2]; omega
    exact e

theorem read2_apply (A : (⟨2, ![4096, 1024]⟩ : Shape).Idx → EReal) (t : Fin grid0.N) (r : Fin 512) (x : Fin 1024) :
    (win0_2.blk t).view.read (Elt Ideal) A (ix2 r x) = at2 A (512 * t.val + r.val) x.val := by
  have ht : t.val < 8 := lt8 t
  have hr := r.isLt
  have hx := x.isLt
  have hi := index2 t
  rw [at2_lt A (show 512 * t.val + r.val < 4096 by omega) (show x.val < 1024 by omega), View.read_apply]
  refine congrArg A (funext fun a => Fin.ext ?_)
  match a with
  | ⟨0, _⟩ =>
    have e : win0_2.index t 0 * 512 + 1 * r.val = 512 * t.val + r.val := by rw [hi.1]; omega
    exact e
  | ⟨1, _⟩ =>
    have e : win0_2.index t 1 * 1024 + 1 * x.val = x.val := by rw [hi.2]; omega
    exact e

theorem read3_apply (A : (⟨2, ![1, 1024]⟩ : Shape).Idx → EReal) (t : Fin grid0.N) (r : Fin 1) (x : Fin 1024) :
    (win0_3.blk t).view.read (Elt Ideal) A (ix2 r x) = at2 A (r.val) x.val := by
  have ht : t.val < 8 := lt8 t
  have hr := r.isLt
  have hx := x.isLt
  have hi := index3 t
  rw [at2_lt A (show r.val < 1 by omega) (show x.val < 1024 by omega), View.read_apply]
  refine congrArg A (funext fun a => Fin.ext ?_)
  match a with
  | ⟨0, _⟩ =>
    have e : win0_3.index t 0 * 1 + 1 * r.val = r.val := by rw [hi.1]; omega
    exact e
  | ⟨1, _⟩ =>
    have e : win0_3.index t 1 * 1024 + 1 * x.val = x.val := by rw [hi.2]; omega
    exact e

theorem read4_apply (A : (⟨2, ![1536, 1024]⟩ : Shape).Idx → EReal) (t : Fin grid0.N) (r : Fin 1536) (x : Fin 1024) :
    (win0_4.blk t).view.read (Elt Ideal) A (ix2 r x) = at2 A (r.val) x.val := by
  have ht : t.val < 8 := lt8 t
  have hr := r.isLt
  have hx := x.isLt
  have hi := index4 t
  rw [at2_lt A (show r.val < 1536 by omega) (show x.val < 1024 by omega), View.read_apply]
  refine congrArg A (funext fun a => Fin.ext ?_)
  match a with
  | ⟨0, _⟩ =>
    have e : win0_4.index t 0 * 1536 + 1 * r.val = r.val := by rw [hi.1]; omega
    exact e
  | ⟨1, _⟩ =>
    have e : win0_4.index t 1 * 1024 + 1 * x.val = x.val := by rw [hi.2]; omega
    exact e

theorem read5_apply (A : (⟨2, ![1, 1024]⟩ : Shape).Idx → EReal) (t : Fin grid0.N) (r : Fin 1) (x : Fin 1024) :
    (win0_5.blk t).view.read (Elt Ideal) A (ix2 r x) = at2 A (r.val) x.val := by
  have ht : t.val < 8 := lt8 t
  have hr := r.isLt
  have hx := x.isLt
  have hi := index5 t
  rw [at2_lt A (show r.val < 1 by omega) (show x.val < 1024 by omega), View.read_apply]
  refine congrArg A (funext fun a => Fin.ext ?_)
  match a with
  | ⟨0, _⟩ =>
    have e : win0_5.index t 0 * 1 + 1 * r.val = r.val := by rw [hi.1]; omega
    exact e
  | ⟨1, _⟩ =>
    have e : win0_5.index t 1 * 1024 + 1 * x.val = x.val := by rw [hi.2]; omega
    exact e

theorem read6_apply (A : (⟨2, ![1, 1024]⟩ : Shape).Idx → EReal) (t : Fin grid0.N) (r : Fin 1) (x : Fin 1024) :
    (win0_6.blk t).view.read (Elt Ideal) A (ix2 r x) = at2 A (r.val) x.val := by
  have ht : t.val < 8 := lt8 t
  have hr := r.isLt
  have hx := x.isLt
  have hi := index6 t
  rw [at2_lt A (show r.val < 1 by omega) (show x.val < 1024 by omega), View.read_apply]
  refine congrArg A (funext fun a => Fin.ext ?_)
  match a with
  | ⟨0, _⟩ =>
    have e : win0_6.index t 0 * 1 + 1 * r.val = r.val := by rw [hi.1]; omega
    exact e
  | ⟨1, _⟩ =>
    have e : win0_6.index t 1 * 1024 + 1 * x.val = x.val := by rw [hi.2]; omega
    exact e

theorem read7_apply (A : (⟨2, ![4096, 1024]⟩ : Shape).Idx → EReal) (t : Fin grid0.N) (r : Fin 512) (x : Fin 1024) :
    (win0_7.blk t).view.read (Elt Ideal) A (ix2 r x) = at2 A (512 * t.val + r.val) x.val := by
  have ht : t.val < 8 := lt8 t
  have hr := r.isLt
  have hx := x.isLt
  have hi := index7 t
  rw [at2_lt A (show 512 * t.val + r.val < 4096 by omega) (show x.val < 1024 by omega), View.read_apply]
  refine congrArg A (funext fun a => Fin.ext ?_)
  match a with
  | ⟨0, _⟩ =>
    have e : win0_7.index t 0 * 512 + 1 * r.val = 512 * t.val + r.val := by rw [hi.1]; omega
    exact e
  | ⟨1, _⟩ =>
    have e : win0_7.index t 1 * 1024 + 1 * x.val = x.val := by rw [hi.2]; omega
    exact e

theorem read8_apply (A : (⟨2, ![4096, 1024]⟩ : Shape).Idx → EReal) (t : Fin grid0.N) (r : Fin 512) (x : Fin 1024) :
    (win0_8.blk t).view.read (Elt Ideal) A (ix2 r x) = at2 A (512 * t.val + r.val) x.val := by
  have ht : t.val < 8 := lt8 t
  have hr := r.isLt
  have hx := x.isLt
  have hi := index8 t
  rw [at2_lt A (show 512 * t.val + r.val < 4096 by omega) (show x.val < 1024 by omega), View.read_apply]
  refine congrArg A (funext fun a => Fin.ext ?_)
  match a with
  | ⟨0, _⟩ =>
    have e : win0_8.index t 0 * 512 + 1 * r.val = 512 * t.val + r.val := by rw [hi.1]; omega
    exact e
  | ⟨1, _⟩ =>
    have e : win0_8.index t 1 * 1024 + 1 * x.val = x.val := by rw [hi.2]; omega
    exact e

theorem read9_apply (A : (⟨2, ![4096, 1024]⟩ : Shape).Idx → EReal) (t : Fin grid0.N) (r : Fin 512) (x : Fin 1024) :
    (win0_9.blk t).view.read (Elt Ideal) A (ix2 r x) = at2 A (512 * t.val + r.val) x.val := by
  have ht : t.val < 8 := lt8 t
  have hr := r.isLt
  have hx := x.isLt
  have hi := index9 t
  rw [at2_lt A (show 512 * t.val + r.val < 4096 by omega) (show x.val < 1024 by omega), View.read_apply]
  refine congrArg A (funext fun a => Fin.ext ?_)
  match a with
  | ⟨0, _⟩ =>
    have e : win0_9.index t 0 * 512 + 1 * r.val = 512 * t.val + r.val := by rw [hi.1]; omega
    exact e
  | ⟨1, _⟩ =>
    have e : win0_9.index t 1 * 1024 + 1 * x.val = x.val := by rw [hi.2]; omega
    exact e

theorem read10_apply (A : (⟨2, ![4096, 1536]⟩ : Shape).Idx → EReal) (t : Fin grid0.N) (r : Fin 512) (x : Fin 1536) :
    (win0_10.blk t).view.read (Elt Ideal) A (ix2 r x) = at2 A (512 * t.val + r.val) x.val := by
  have ht : t.val < 8 := lt8 t
  have hr := r.isLt
  have hx := x.isLt
  have hi := index10 t
  rw [at2_lt A (show 512 * t.val + r.val < 4096 by omega) (show x.val < 1536 by omega), View.read_apply]
  refine congrArg A (funext fun a => Fin.ext ?_)
  match a with
  | ⟨0, _⟩ =>
    have e : win0_10.index t 0 * 512 + 1 * r.val = 512 * t.val + r.val := by rw [hi.1]; omega
    exact e
  | ⟨1, _⟩ =>
    have e : win0_10.index t 1 * 1536 + 1 * x.val = x.val := by rw [hi.2]; omega
    exact e

/-! ## The arrays the call reads -/

theorem V_arg1 : (V m c main_arg1 : (⟨2, ![4096, 512]⟩ : Shape).Idx → EReal) = m ((c : Thread nD τ).loc main_arg1) := by
  simp only [V, hostOps0]
  after_results_simp

theorem V_arg2 : (V m c main_arg2 : (⟨2, ![4096, 1024]⟩ : Shape).Idx → EReal) = m ((c : Thread nD τ).loc main_arg2) := by
  simp only [V, hostOps0]
  after_results_simp

theorem V_arg3 : (V m c main_arg3 : (⟨2, ![1, 1024]⟩ : Shape).Idx → EReal) = m ((c : Thread nD τ).loc main_arg3) := by
  simp only [V, hostOps0]
  after_results_simp

theorem V_arg5 : (V m c main_arg5 : (⟨2, ![1, 1024]⟩ : Shape).Idx → EReal) = m ((c : Thread nD τ).loc main_arg5) := by
  simp only [V, hostOps0]
  after_results_simp

theorem V_arg6 : (V m c main_arg6 : (⟨2, ![1, 1024]⟩ : Shape).Idx → EReal) = m ((c : Thread nD τ).loc main_arg6) := by
  simp only [V, hostOps0]
  after_results_simp

theorem V_v4 : (V m c main_v4 : (⟨2, ![1536, 1024]⟩ : Shape).Idx → EReal) = m ((c : Thread nD τ).loc main_arg4) := by
  simp only [V, hostOps0]
  after_results_simp
  rfl

/-- The heads' outputs, each padded to 128 lanes. -/
def oA : ℕ → ℕ → EReal := at2 (m := 4096) (n := 1024) (V m c main_v3)

/-- The gated state's output. -/
def sA : ℕ → ℕ → EReal := at2 (m := 4096) (n := 512) (m ((c : Thread nD τ).loc main_arg1))

/-- The stream. -/
def xA : ℕ → ℕ → EReal := at2 (m := 4096) (n := 1024) (m ((c : Thread nD τ).loc main_arg2))

/-- The heads' norms' weight. -/
def gA : ℕ → ℕ → EReal := at2 (m := 1) (n := 1024) (m ((c : Thread nD τ).loc main_arg3))

/-- The projection's weight. -/
def wA : ℕ → ℕ → EReal := at2 (m := 1536) (n := 1024) (m ((c : Thread nD τ).loc main_arg4))

/-- The weight of the product's norm. -/
def pA : ℕ → ℕ → EReal := at2 (m := 1) (n := 1024) (m ((c : Thread nD τ).loc main_arg5))

/-- The weight of the sum's norm. -/
def fA : ℕ → ℕ → EReal := at2 (m := 1) (n := 1024) (m ((c : Thread nD τ).loc main_arg6))

/-- The mix. -/
def mixN (R e : ℕ) : EReal := mixE (oA m c) (gA m c) (sA m c) R e

/-- Its product with the weight. -/
def yN (R e : ℕ) : EReal := ∑ k : Fin 1536, mixN m c R k.val * wA m c k.val e

/-- The stream with the normed product added. -/
def hN (R e : ℕ) : EReal := xA m c R e + yN m c R e * rowR (fun j => yN m c R j.val) * pA m c 0 e

/-- That, normed. -/
def zN (R e : ℕ) : EReal := hN m c R e * rowR (fun j => hN m c R j.val) * fA m c 0 e

theorem blk0 (t : Fin cfg0.N) (r : Fin 512) (x : Fin 1024) : (iblk m c 0 t (ix2 r x) : EReal) = oA m c (512 * t.val + r.val) x.val := by
  unfold oA
  exact read0_apply _ t r x

theorem blk1 (t : Fin cfg0.N) (r : Fin 512) (x : Fin 512) : (iblk m c 1 t (ix2 r x) : EReal) = sA m c (512 * t.val + r.val) x.val := by
  unfold sA
  rw [← V_arg1 m c]
  exact read1_apply _ t r x

theorem blk2 (t : Fin cfg0.N) (r : Fin 512) (x : Fin 1024) : (iblk m c 2 t (ix2 r x) : EReal) = xA m c (512 * t.val + r.val) x.val := by
  unfold xA
  rw [← V_arg2 m c]
  exact read2_apply _ t r x

theorem blk3 (t : Fin cfg0.N) (x : Fin 1024) : (iblk m c 3 t (ix2 (0 : Fin 1) x) : EReal) = gA m c 0 x.val := by
  unfold gA
  rw [← V_arg3 m c]
  exact read3_apply _ t 0 x

theorem blk4 (t : Fin cfg0.N) (r : Fin 1536) (x : Fin 1024) : (iblk m c 4 t (ix2 r x) : EReal) = wA m c r.val x.val := by
  unfold wA
  rw [← V_v4 m c]
  exact read4_apply _ t r x

theorem blk5 (t : Fin cfg0.N) (x : Fin 1024) : (iblk m c 5 t (ix2 (0 : Fin 1) x) : EReal) = pA m c 0 x.val := by
  unfold pA
  rw [← V_arg5 m c]
  exact read5_apply _ t 0 x

theorem blk6 (t : Fin cfg0.N) (x : Fin 1024) : (iblk m c 6 t (ix2 (0 : Fin 1) x) : EReal) = fA m c 0 x.val := by
  unfold fA
  rw [← V_arg6 m c]
  exact read6_apply _ t 0 x

/-! ## What a point leaves, of the arrays -/

theorem mix_block (t : Fin cfg0.N) (r : Fin 512) (e : Fin 1536) : (mixB m c t (ix2 r e) : EReal) = mixN m c (512 * t.val + r.val) e.val := by
  have he := e.isLt
  have e0 : ∀ j, j < 1024 → at2 (m := 512) (n := 1024) (iblk m c 0 t) r.val j = oA m c (512 * t.val + r.val) j := fun j hj =>
    (at2_of (m := 512) (n := 1024) (iblk m c 0 t) r ⟨j, hj⟩).trans (blk0 m c t r ⟨j, hj⟩)
  show mixE _ _ _ r.val e.val = _
  unfold mixN mixE
  by_cases h : e.val < 1024
  · rw [if_pos h, if_pos h, e0 e.val h]
    have eh : (fun j : Fin 128 => at2 (m := 512) (n := 1024) (iblk m c 0 t) r.val (128 * (e.val / 128) + j.val))
        = fun j => oA m c (512 * t.val + r.val) (128 * (e.val / 128) + j.val) :=
      funext fun j => e0 _ (by have := j.isLt; omega)
    rw [eh]
    exact congrArg (fun a : EReal => _ * _ * a) ((at2_of (m := 1) (n := 1024) (iblk m c 3 t) 0 ⟨e.val, h⟩).trans (blk3 m c t ⟨e.val, h⟩))
  · rw [if_neg h, if_neg h]
    exact (at2_of (m := 512) (n := 512) (iblk m c 1 t) r ⟨e.val - 1024, by omega⟩).trans (blk1 m c t r ⟨e.val - 1024, by omega⟩)

theorem y_block (t : Fin cfg0.N) (r : Fin 512) (e : Fin 1024) :
    (k0_pay16 (F := Ideal) (mixB m c t) (iblk m c 4 t) (ix2 r e) : EReal) = yN m c (512 * t.val + r.val) e.val := by
  rw [y_apply]
  exact Finset.sum_congr rfl fun k _ => congrArg₂ (fun a b : EReal => a * b) (mix_block m c t r k) (blk4 m c t k e)

theorem h_block (t : Fin cfg0.N) (r : Fin 512) (e : Fin 1024) :
    (k0_pay17 (F := Ideal) (mixB m c t) (iblk m c 4 t) (iblk m c 2 t) (iblk m c 5 t) (ix2 r e) : EReal) = hN m c (512 * t.val + r.val) e.val := by
  rw [h_apply]
  unfold hN
  rw [funext fun j => y_block m c t r j, y_block m c t r e, blk2 m c t r e, blk5 m c t e]

theorem z_block (t : Fin cfg0.N) (r : Fin 512) (e : Fin 1024) :
    (k0_pay18 (F := Ideal) (mixB m c t) (iblk m c 4 t) (iblk m c 2 t) (iblk m c 5 t) (iblk m c 6 t) (ix2 r e) : EReal) = zN m c (512 * t.val + r.val) e.val := by
  rw [z_apply]
  unfold zN
  rw [funext fun j => h_block m c t r j, h_block m c t r e, blk6 m c t e]

/-! ## The arrays after the run -/

/-- The result as an array. -/
def hR : (⟨2, ![4096, 1024]⟩ : Shape).Idx → EReal := fun i => hN m c (i 0 : Nat) (i 1 : Nat)

theorem h_flushed (t : Fin cfg0.N) : (dats m 0 c).flushed 7 t = (win0_7.blk t).view.read (Elt Ideal) (hR m c) := by
  funext y
  obtain ⟨r, x, rfl⟩ : ∃ (r : Fin 512) (x : Fin 1024), y = ix2 r x := ⟨y 0, y 1, eq_ix2 (n0 := 512) (n1 := 1024) y⟩
  have ht := lt8 t
  have hr := r.isLt
  have hx := x.isLt
  rw [read7_apply, at2_lt (m := 4096) (n := 1024) _ (show 512 * t.val + r.val < 4096 by omega) hx]
  exact (congrFun ((after0_7 m c t).trans (h_out m c t)) (ix2 r x)).trans (h_block m c t r x)

theorem h_mem (t : Fin cfg0.N) (i : S4096x1024.Idx) (h0 : (i 0 : Nat) / 512 = t.val) : i ∈ (win0_7.blk t).view.set := by
  have h1 : (i 1 : Nat) < 1024 := (i 1).isLt
  show i ∈ ((View.whole main_v5_0).slice (win0_7.rect t)).set
  rw [View.set_slice_whole, Rect.mem_set_unit]
  intro a
  match a with
  | ⟨0, _⟩ =>
    show win0_7.index t 0 * 512 ≤ (i 0 : Nat) ∧ (i 0 : Nat) < win0_7.index t 0 * 512 + 512
    rw [(index7 t).1]; omega
  | ⟨1, _⟩ =>
    show win0_7.index t 1 * 1024 ≤ (i 1 : Nat) ∧ (i 1 : Nat) < win0_7.index t 1 * 1024 + 1024
    rw [(index7 t).2]; omega

theorem h_final : (dats m 0 c).arrAt 7 cfg0.N = hR m c :=
  (dats m 0 c).arrAt_eq_of_cover 7 _ (fun t _ => h_flushed m c t) fun i => by
    have h0 : (i 0 : Nat) < 4096 := (i 0).isLt
    have e : cfg0.N = 8 := N_0
    exact ⟨⟨(i 0 : Nat) / 512, by omega⟩, flush0_7 _, h_mem _ i rfl⟩

/-- The result as an array. -/
def yR : (⟨2, ![4096, 1024]⟩ : Shape).Idx → EReal := fun i => yN m c (i 0 : Nat) (i 1 : Nat)

theorem y_flushed (t : Fin cfg0.N) : (dats m 0 c).flushed 8 t = (win0_8.blk t).view.read (Elt Ideal) (yR m c) := by
  funext y
  obtain ⟨r, x, rfl⟩ : ∃ (r : Fin 512) (x : Fin 1024), y = ix2 r x := ⟨y 0, y 1, eq_ix2 (n0 := 512) (n1 := 1024) y⟩
  have ht := lt8 t
  have hr := r.isLt
  have hx := x.isLt
  rw [read8_apply, at2_lt (m := 4096) (n := 1024) _ (show 512 * t.val + r.val < 4096 by omega) hx]
  exact (congrFun ((after0_8 m c t).trans (y_out m c t)) (ix2 r x)).trans (y_block m c t r x)

theorem y_mem (t : Fin cfg0.N) (i : S4096x1024.Idx) (h0 : (i 0 : Nat) / 512 = t.val) : i ∈ (win0_8.blk t).view.set := by
  have h1 : (i 1 : Nat) < 1024 := (i 1).isLt
  show i ∈ ((View.whole main_v5_1).slice (win0_8.rect t)).set
  rw [View.set_slice_whole, Rect.mem_set_unit]
  intro a
  match a with
  | ⟨0, _⟩ =>
    show win0_8.index t 0 * 512 ≤ (i 0 : Nat) ∧ (i 0 : Nat) < win0_8.index t 0 * 512 + 512
    rw [(index8 t).1]; omega
  | ⟨1, _⟩ =>
    show win0_8.index t 1 * 1024 ≤ (i 1 : Nat) ∧ (i 1 : Nat) < win0_8.index t 1 * 1024 + 1024
    rw [(index8 t).2]; omega

theorem y_final : (dats m 0 c).arrAt 8 cfg0.N = yR m c :=
  (dats m 0 c).arrAt_eq_of_cover 8 _ (fun t _ => y_flushed m c t) fun i => by
    have h0 : (i 0 : Nat) < 4096 := (i 0).isLt
    have e : cfg0.N = 8 := N_0
    exact ⟨⟨(i 0 : Nat) / 512, by omega⟩, flush0_8 _, y_mem _ i rfl⟩

/-- The result as an array. -/
def zR : (⟨2, ![4096, 1024]⟩ : Shape).Idx → EReal := fun i => zN m c (i 0 : Nat) (i 1 : Nat)

theorem z_flushed (t : Fin cfg0.N) : (dats m 0 c).flushed 9 t = (win0_9.blk t).view.read (Elt Ideal) (zR m c) := by
  funext y
  obtain ⟨r, x, rfl⟩ : ∃ (r : Fin 512) (x : Fin 1024), y = ix2 r x := ⟨y 0, y 1, eq_ix2 (n0 := 512) (n1 := 1024) y⟩
  have ht := lt8 t
  have hr := r.isLt
  have hx := x.isLt
  rw [read9_apply, at2_lt (m := 4096) (n := 1024) _ (show 512 * t.val + r.val < 4096 by omega) hx]
  exact (congrFun ((after0_9 m c t).trans (z_out m c t)) (ix2 r x)).trans (z_block m c t r x)

theorem z_mem (t : Fin cfg0.N) (i : S4096x1024.Idx) (h0 : (i 0 : Nat) / 512 = t.val) : i ∈ (win0_9.blk t).view.set := by
  have h1 : (i 1 : Nat) < 1024 := (i 1).isLt
  show i ∈ ((View.whole main_v5_2).slice (win0_9.rect t)).set
  rw [View.set_slice_whole, Rect.mem_set_unit]
  intro a
  match a with
  | ⟨0, _⟩ =>
    show win0_9.index t 0 * 512 ≤ (i 0 : Nat) ∧ (i 0 : Nat) < win0_9.index t 0 * 512 + 512
    rw [(index9 t).1]; omega
  | ⟨1, _⟩ =>
    show win0_9.index t 1 * 1024 ≤ (i 1 : Nat) ∧ (i 1 : Nat) < win0_9.index t 1 * 1024 + 1024
    rw [(index9 t).2]; omega

theorem z_final : (dats m 0 c).arrAt 9 cfg0.N = zR m c :=
  (dats m 0 c).arrAt_eq_of_cover 9 _ (fun t _ => z_flushed m c t) fun i => by
    have h0 : (i 0 : Nat) < 4096 := (i 0).isLt
    have e : cfg0.N = 8 := N_0
    exact ⟨⟨(i 0 : Nat) / 512, by omega⟩, flush0_9 _, z_mem _ i rfl⟩

/-- The result as an array. -/
def mixR : (⟨2, ![4096, 1536]⟩ : Shape).Idx → EReal := fun i => mixN m c (i 0 : Nat) (i 1 : Nat)

theorem mix_flushed (t : Fin cfg0.N) : (dats m 0 c).flushed 10 t = (win0_10.blk t).view.read (Elt Ideal) (mixR m c) := by
  funext y
  obtain ⟨r, x, rfl⟩ : ∃ (r : Fin 512) (x : Fin 1536), y = ix2 r x := ⟨y 0, y 1, eq_ix2 (n0 := 512) (n1 := 1536) y⟩
  have ht := lt8 t
  have hr := r.isLt
  have hx := x.isLt
  rw [read10_apply, at2_lt (m := 4096) (n := 1536) _ (show 512 * t.val + r.val < 4096 by omega) hx]
  exact (congrFun ((after0_10 m c t).trans (mix_out m c t)) (ix2 r x)).trans (mix_block m c t r x)

theorem mix_mem (t : Fin cfg0.N) (i : S4096x1536.Idx) (h0 : (i 0 : Nat) / 512 = t.val) : i ∈ (win0_10.blk t).view.set := by
  have h1 : (i 1 : Nat) < 1536 := (i 1).isLt
  show i ∈ ((View.whole main_v5_3).slice (win0_10.rect t)).set
  rw [View.set_slice_whole, Rect.mem_set_unit]
  intro a
  match a with
  | ⟨0, _⟩ =>
    show win0_10.index t 0 * 512 ≤ (i 0 : Nat) ∧ (i 0 : Nat) < win0_10.index t 0 * 512 + 512
    rw [(index10 t).1]; omega
  | ⟨1, _⟩ =>
    show win0_10.index t 1 * 1536 ≤ (i 1 : Nat) ∧ (i 1 : Nat) < win0_10.index t 1 * 1536 + 1536
    rw [(index10 t).2]; omega

theorem mix_final : (dats m 0 c).arrAt 10 cfg0.N = mixR m c :=
  (dats m 0 c).arrAt_eq_of_cover 10 _ (fun t _ => mix_flushed m c t) fun i => by
    have h0 : (i 0 : Nat) < 4096 := (i 0).isLt
    have e : cfg0.N = 8 := N_0
    exact ⟨⟨(i 0 : Nat) / 512, by omega⟩, flush0_10 _, mix_mem _ i rfl⟩

end Cert.Kernel6Ideal.Mix

end
-- ==== Proof.MixHost.lean ====
module

public import proofs.«01_k».proof.Proof.MixSum
public import proofs.«01_k».proof.Proof.ProjValue
public import proofs.«01_k».proof.Proof.Gen.Reference6Ideal.Read

@[expose] public section

set_option maxRecDepth 16384

noncomputable section

namespace Cert.Reference6Ideal.Mix

open Idealize.ShloMosaic Idealize.ShloMosaic.TcCoe Cert.Flash Cert.Ffn
open Cert.Reference6Ideal Cert.Reference6Ideal.Read Cert.Kernel6Ideal.Mix Cert.Reference5Ideal.Proj
open scoped BigOperators

/-- Two arrays set side by side in the lanes of each head, and the heads laid in a row. -/
theorem pad_apply (y z : (⟨3, ![4096, 8, 64]⟩ : Shape).Idx → EReal)
    (hc : Shape.Concatenates [⟨3, ![4096, 8, 64]⟩, ⟨3, ![4096, 8, 64]⟩] ⟨3, ![4096, 8, 128]⟩ 2)
    (hs : (⟨3, ![4096, 8, 128]⟩ : Shape).ShapeCasts ⟨2, ![4096, 1024]⟩) (R : Fin 4096) (X : Fin 1024) :
    shapeCast (⟨2, ![4096, 1024]⟩ : Shape) (concatenate (⟨3, ![4096, 8, 128]⟩ : Shape) 2 [⟨⟨3, ![4096, 8, 64]⟩, y⟩, ⟨⟨3, ![4096, 8, 64]⟩, z⟩] hc) hs (ix2 R X)
      = if h : X.val % 128 < 64 then y (ix3 R ⟨X.val / 128, by have := X.isLt; omega⟩ ⟨X.val % 128, h⟩)
        else z (ix3 R ⟨X.val / 128, by have := X.isLt; omega⟩ ⟨X.val % 128 - 64, by omega⟩) := by
  have hX := X.isLt
  refine (shapeCast_apply _ hs (ix2 R X) (ix3 R (⟨X.val / 128, by omega⟩ : Fin 8) (⟨X.val % 128, by omega⟩ : Fin 128))
    (by rewrite [Shape.rowMajor_val_three, Shape.rowMajor_val_two]; show (R.val * 8 + X.val / 128) * 128 + X.val % 128 = R.val * 1024 + X.val; omega)).trans ?_
  by_cases h : X.val % 128 < 64
  · rw [dif_pos h]
    exact concatenate_pair_apply_left 2 y z hc _ rfl _ fun b => match b with
      | ⟨0, _⟩ => rfl
      | ⟨1, _⟩ => rfl
      | ⟨2, _⟩ => rfl
  · rw [dif_neg h]
    refine concatenate_pair_apply_right 2 y z hc _ rfl rfl _ (fun b hb => match b with
      | ⟨0, _⟩ => rfl
      | ⟨1, _⟩ => rfl
      | ⟨2, _⟩ => absurd rfl hb) ?_
    show X.val % 128 - 64 + 64 = X.val % 128
    omega

/-- The reciprocal root of a head's mean square, the mean taken by a quotient. -/
def headM (f : Fin 64 → EReal) : EReal :=
  Ideal.rsqrt (Ideal.div (∑ j, f j * f j) (Ideal.ofBits .f32 0x42800000#32) + Ideal.ofBits .f32 0x358637BD#32)

theorem inv64 : Ideal.ofBits .f32 0x3C800000#32 = ((1 / 64 : ℝ) : EReal) := by
  simp [Ideal.ofBits, Ideal.ieee, -EReal.coe_mul]
  norm_num

theorem lit64 : Ideal.ofBits .f32 0x42800000#32 = ((64 : ℝ) : EReal) := by
  simp [Ideal.ofBits, Ideal.ieee, -EReal.coe_mul]
  norm_num

/-- A head padded by zeros has the head's mean square. -/
theorem headR_pad (p : Fin 128 → EReal) (f : Fin 64 → EReal) (hl : ∀ j : Fin 64, p ⟨j.val, by omega⟩ = f j)
    (hr : ∀ j : Fin 64, p ⟨64 + j.val, by omega⟩ = 0) : headR p = headM f := by
  have e : ∑ k, p k * p k = ∑ j, f j * f j := by
    refine (Fin.sum_univ_add (a := 64) (b := 64) fun k => p k * p k).trans ?_
    have e1 : ∀ j : Fin 64, p (Fin.castAdd 64 j) * p (Fin.castAdd 64 j) = f j * f j := fun j => congrArg₂ (fun a b : EReal => a * b) (hl j) (hl j)
    have e2 : ∀ j : Fin 64, p (Fin.natAdd 64 j) * p (Fin.natAdd 64 j) = 0 := fun j =>
      (congrArg₂ (fun a b : EReal => a * b) (hr j) (hr j)).trans (zero_mul _)
    rw [Finset.sum_congr rfl fun j _ => e1 j, Finset.sum_congr rfl fun j _ => e2 j, Finset.sum_const_zero, add_zero]
  unfold headR headM
  rw [e, lit64, inv64, Ideal.div_coe (by norm_num)]

variable (x0 : (⟨3, ![4096, 8, 64]⟩ : Shape).Idx → EReal) (x1 : (⟨2, ![4096, 512]⟩ : Shape).Idx → EReal) (x2 : (⟨2, ![4096, 1024]⟩ : Shape).Idx → EReal)
  (x3 : (⟨2, ![1, 1024]⟩ : Shape).Idx → EReal) (x4 : (⟨2, ![1536, 1024]⟩ : Shape).Idx → EReal) (x5 x6 : (⟨2, ![1, 1024]⟩ : Shape).Idx → EReal)

/-! ## The reference's stages, element by element -/

theorem inv_at (R : Fin 4096) (h : Fin 8) (l : Fin 64) : val_main_v11 (F := Ideal) x0 (ix3 R h l) = x0 (ix3 R h l) * headM (fun j => x0 (ix3 R h j)) := by
  unfold headM val_main_v11 val_main_v10 val_main_v9 val_main_v8 val_main_v7 val_main_v6 val_main_v5 val_main_v4 val_main_v3 val_main_v2 val_main_cst val_main_cst_0 val_main_cst_1
  pointwise

theorem g_at (R : Fin 4096) (h : Fin 8) (l : Fin 64) : val_main_v13 (F := Ideal) x3 (ix3 R h l) = at2 (m := 1) (n := 1024) x3 0 (128 * h.val + l.val) := by
  have hh := h.isLt
  have hl := l.isLt
  rw [val_main_v13_apply, val_main_v12_apply, val_main_v1_apply, val_main_v0_apply,
    at2_lt (m := 1) (n := 1024) x3 (show 0 < 1 by omega) (show 128 * h.val + l.val < 1024 by omega)]
  refine congrArg x3 (funext fun a => Fin.ext ?_)
  match a with
  | ⟨0, _⟩ => rfl
  | ⟨1, _⟩ => show (h.val * 128 + l.val) % 1024 = 128 * h.val + l.val; omega

/-- The mix, in the lanes of the heads and in the lanes after them. -/
theorem mix_head (r : Fin 4096) (e : Fin 1536) (X : Fin 1024) (hX : X.val = e.val) : val_main_v18 (F := Ideal) x0 x1 x3 (ix2 r e)
    = if h : X.val % 128 < 64 then val_main_v14 (F := Ideal) x0 x3 (ix3 r ⟨X.val / 128, by have := X.isLt; omega⟩ ⟨X.val % 128, h⟩) else 0 := by
  unfold val_main_v18
  refine (concatenate_pair_apply_left (t := S4096x1536) 1 (val_main_v17 (F := Ideal) x0 x3) x1 _ (ix2 r e) rfl (ix2 r X) fun b => match b with
      | ⟨0, _⟩ => rfl
      | ⟨1, _⟩ => hX).trans ?_
  unfold val_main_v17 val_main_v16
  refine (pad_apply (val_main_v14 (F := Ideal) x0 x3) (val_main_v15 (F := Ideal)) _ _ r X).trans ?_
  by_cases h : X.val % 128 < 64
  · rw [dif_pos h, dif_pos h]
  · rw [dif_neg h, dif_neg h]
    exact Ideal.ofBits_zero_f32

theorem mix_tail (r : Fin 4096) (e : Fin 1536) (k : Fin 512) (hk : 1024 + k.val = e.val) : val_main_v18 (F := Ideal) x0 x1 x3 (ix2 r e) = x1 (ix2 r k) := by
  unfold val_main_v18
  exact concatenate_pair_apply_right (t := S4096x1536) 1 (val_main_v17 (F := Ideal) x0 x3) x1 _ (ix2 r e) rfl rfl (ix2 r k) (fun b hb => match b with
      | ⟨0, _⟩ => rfl
      | ⟨1, _⟩ => absurd rfl hb) (by show k.val + 1024 = e.val; omega)

theorem y_at (r : Fin 4096) (e : Fin 1024) : val_main_v19 (F := Ideal) x0 x1 x3 x4 (ix2 r e)
    = ∑ k : Fin 1536, (val_main_v18 (F := Ideal) x0 x1 x3 (ix2 r k) : EReal) * x4 (ix2 k e) := by
  unfold val_main_v19
  generalize val_main_v18 (F := Ideal) x0 x1 x3 = a
  pointwise

theorem h_at (r : Fin 4096) (e : Fin 1024) : val_main_v32 (F := Ideal) x0 x1 x2 x3 x4 x5 (ix2 r e)
    = x2 (ix2 r e) + val_main_v19 (F := Ideal) x0 x1 x3 x4 (ix2 r e) * rowR (fun j => val_main_v19 (F := Ideal) x0 x1 x3 x4 (ix2 r j)) * x5 (ix2 0 e) := by
  rw [← rsqrt_mean]
  unfold meanSq val_main_v32 val_main_v31 val_main_v30 val_main_v29 val_main_v28 val_main_v27 val_main_v26 val_main_v25 val_main_v24 val_main_v23 val_main_v22 val_main_v21 val_main_v20 val_main_cst_3 val_main_cst_4 val_main_cst_5
  generalize val_main_v19 (F := Ideal) x0 x1 x3 x4 = a
  pointwise

theorem z_at (r : Fin 4096) (e : Fin 1024) : (val_main_v45 (F := Ideal) x0 x1 x2 x3 x4 x5 x6 (ix2 r e) : EReal)
    = val_main_v32 (F := Ideal) x0 x1 x2 x3 x4 x5 (ix2 r e) * rowR (fun j => val_main_v32 (F := Ideal) x0 x1 x2 x3 x4 x5 (ix2 r j)) * x6 (ix2 0 e) := by
  rw [← rsqrt_mean]
  unfold meanSq val_main_v45 val_main_v44 val_main_v43 val_main_v42 val_main_v41 val_main_v40 val_main_v39 val_main_v38 val_main_v37 val_main_v36 val_main_v35 val_main_v34 val_main_v33 val_main_cst_6 val_main_cst_7 val_main_cst_8
  generalize val_main_v32 (F := Ideal) x0 x1 x2 x3 x4 x5 = a
  pointwise

end Cert.Reference6Ideal.Mix

end
-- ==== Proof.MixValue.lean ====
module

public import proofs.«01_k».proof.Proof.MixHost

@[expose] public section

set_option maxRecDepth 16384

noncomputable section

namespace Cert.Kernel6Ideal.Mix

open Idealize.ShloMosaic Idealize.ShloMosaic.TcCoe Cert.Flash Cert.Ffn
open Idealize.SL Idealize.SL.Sem
open Cert.Kernel6Ideal Cert.Kernel6Ideal.Gen
open Cert.Reference6Ideal.Read Cert.Reference6Ideal.Mix
open scoped BigOperators

variable (m : (ℓ : Loc nD τ sig) → Buf (Elt Ideal) ℓ) (c : Dev nD)

/-- The heads' outputs. -/
abbrev O : (⟨3, ![4096, 8, 64]⟩ : Shape).Idx → EReal := m ((c : Thread nD τ).loc main_arg0)

/-! ## The padded heads -/

theorem V_v3 : (V m c main_v3 : (⟨2, ![4096, 1024]⟩ : Shape).Idx → EReal)
    = shapeCast S4096x1024 (concatenate S4096x8x128 2 [⟨S4096x8x64, O m c⟩, ⟨S4096x8x64, fun _ => (0 : EReal)⟩] concatenates_S4096x8x64_S4096x8x64_S4096x8x128_d2) shapeCasts_S4096x8x128_S4096x1024 := by
  have z : (broadcastInDim S4096x8x64 ![] bcast_S_S4096x8x64 (constant (F := Ideal) S_ .bf16 0x0000#16) : S4096x8x64.Idx → EReal) = fun _ => 0 :=
    funext fun _ => Ideal.ofBits_zero_bf16
  rw [← z]
  simp only [V, hostOps0]
  after_results_simp
  rfl

theorem o_at (r : Fin 4096) (X : ℕ) (hX : X < 1024) :
    oA m c r.val X = if h : X % 128 < 64 then O m c (ix3 r ⟨X / 128, by omega⟩ ⟨X % 128, h⟩) else 0 := by
  unfold oA
  rw [V_v3]
  exact (at2_of (m := 4096) (n := 1024) _ r ⟨X, hX⟩).trans (pad_apply (O m c) (fun _ => 0) _ _ r ⟨X, hX⟩)

theorem o_low (r : Fin 4096) (h : Fin 8) (l : Fin 64) : oA m c r.val (128 * h.val + l.val) = O m c (ix3 r h l) := by
  have hh := h.isLt
  have hl := l.isLt
  rw [o_at m c r _ (by omega), dif_pos (show (128 * h.val + l.val) % 128 < 64 by omega)]
  exact congrArg₂ (fun a b => O m c (ix3 r a b)) (Fin.ext (show (128 * h.val + l.val) / 128 = h.val by omega)) (Fin.ext (show (128 * h.val + l.val) % 128 = l.val by omega))

theorem o_high (r : Fin 4096) (h : Fin 8) (l : Fin 64) : oA m c r.val (128 * h.val + (64 + l.val)) = 0 := by
  have hh := h.isLt
  have hl := l.isLt
  rw [o_at m c r _ (by omega), dif_neg (by omega)]

/-! ## The four results are the reference's -/

theorem mix_eq (r : Fin 4096) (e : Fin 1536) : mixN m c r.val e.val
    = val_main_v18 (F := Ideal) (O m c) (m ((c : Thread nD τ).loc main_arg1)) (m ((c : Thread nD τ).loc main_arg3)) (ix2 r e) := by
  have he := e.isLt
  unfold mixN mixE
  by_cases h : e.val < 1024
  · rw [if_pos h, mix_head _ _ _ r e ⟨e.val, h⟩ rfl]
    by_cases hl : e.val % 128 < 64
    · rw [dif_pos hl, val_main_v14_apply, inv_at, g_at,
        headR_pad _ (fun j => O m c (ix3 r ⟨e.val / 128, by omega⟩ j)) (fun j => o_low m c r ⟨e.val / 128, by omega⟩ j) (fun j => o_high m c r ⟨e.val / 128, by omega⟩ j),
        o_at m c r _ h, dif_pos hl]
      show _ * _ * gA m c 0 e.val = _ * _ * at2 _ 0 (128 * (e.val / 128) + e.val % 128)
      rw [Nat.div_add_mod]
      rfl
    · rw [dif_neg hl, o_at m c r _ h, dif_neg hl, zero_mul, zero_mul]
  · rw [if_neg h, mix_tail _ _ _ r e ⟨e.val - 1024, by omega⟩ (by show 1024 + (e.val - 1024) = e.val; omega)]
    exact at2_of (m := 4096) (n := 512) _ r ⟨e.val - 1024, by omega⟩

theorem y_eq (r : Fin 4096) (e : Fin 1024) : yN m c r.val e.val
    = val_main_v19 (F := Ideal) (O m c) (m ((c : Thread nD τ).loc main_arg1)) (m ((c : Thread nD τ).loc main_arg3)) (m ((c : Thread nD τ).loc main_arg4)) (ix2 r e) := by
  rw [y_at]
  exact Finset.sum_congr rfl fun k _ => congrArg₂ (fun a b : EReal => a * b) (mix_eq m c r k) (at2_of _ k e)

theorem h_eq (r : Fin 4096) (e : Fin 1024) : hN m c r.val e.val
    = val_main_v32 (F := Ideal) (O m c) (m ((c : Thread nD τ).loc main_arg1)) (m ((c : Thread nD τ).loc main_arg2)) (m ((c : Thread nD τ).loc main_arg3))
      (m ((c : Thread nD τ).loc main_arg4)) (m ((c : Thread nD τ).loc main_arg5)) (ix2 r e) := by
  rw [h_at]
  unfold hN
  rw [funext fun j => y_eq m c r j, y_eq m c r e]
  exact congrArg₂ (fun a b : EReal => a + _ * _ * b) (at2_of _ r e) (at2_of _ (0 : Fin 1) e)

theorem z_eq (r : Fin 4096) (e : Fin 1024) : zN m c r.val e.val
    = (val_main_v45 (F := Ideal) (O m c) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (ix2 r e) : EReal) := by
  rw [z_at]
  unfold zN
  rw [funext fun j => h_eq m c r j, h_eq m c r e]
  exact congrArg (fun a : EReal => _ * _ * a) (at2_of _ (0 : Fin 1) e)

theorem h_result : (dats m 0 c).arrAt 7 cfg0.N
    = val_main_v32 (F := Ideal) (O m c) (m ((c : Thread nD τ).loc main_arg1)) (m ((c : Thread nD τ).loc main_arg2)) (m ((c : Thread nD τ).loc main_arg3))
      (m ((c : Thread nD τ).loc main_arg4)) (m ((c : Thread nD τ).loc main_arg5)) := by
  rw [h_final]
  funext i
  obtain ⟨r, e, rfl⟩ : ∃ (r : Fin 4096) (e : Fin 1024), i = ix2 r e := ⟨i 0, i 1, eq_ix2 (n0 := 4096) (n1 := 1024) i⟩
  exact h_eq m c r e

theorem y_result : (dats m 0 c).arrAt 8 cfg0.N
    = val_main_v19 (F := Ideal) (O m c) (m ((c : Thread nD τ).loc main_arg1)) (m ((c : Thread nD τ).loc main_arg3)) (m ((c : Thread nD τ).loc main_arg4)) := by
  rw [y_final]
  funext i
  obtain ⟨r, e, rfl⟩ : ∃ (r : Fin 4096) (e : Fin 1024), i = ix2 r e := ⟨i 0, i 1, eq_ix2 (n0 := 4096) (n1 := 1024) i⟩
  exact y_eq m c r e

theorem z_result : (dats m 0 c).arrAt 9 cfg0.N
    = val_main_v45 (F := Ideal) (O m c) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
  rw [z_final]
  funext i
  obtain ⟨r, e, rfl⟩ : ∃ (r : Fin 4096) (e : Fin 1024), i = ix2 r e := ⟨i 0, i 1, eq_ix2 (n0 := 4096) (n1 := 1024) i⟩
  exact z_eq m c r e

theorem mix_result : (dats m 0 c).arrAt 10 cfg0.N
    = val_main_v46 (F := Ideal) (O m c) (m ((c : Thread nD τ).loc main_arg1)) (m ((c : Thread nD τ).loc main_arg3)) := by
  rw [mix_final]
  funext i
  obtain ⟨r, e, rfl⟩ : ∃ (r : Fin 4096) (e : Fin 1536), i = ix2 r e := ⟨i 0, i 1, eq_ix2 (n0 := 4096) (n1 := 1536) i⟩
  exact mix_eq m c r e

end Cert.Kernel6Ideal.Mix

end
-- ==== Proof.lean ====
/-
  The proof of `Cert.Claim` (Defs.lean): the gradient of the attention, one blocked backward call, against the derivative
  of the attention written plainly; the gradients of the feed-forward weights, a second call, against the derivative of
  the two products they are in; and the gradient through the feed-forward layer and its two norms, a third call, against
  the derivative of the layer and the norms; and the layer forward with the loss after it and the gradients there, a
  fourth call, against the layer, the loss and its derivative; and the norm and the input projection before the mixers, a
  fifth call, against the norm and the product; and the norm of the heads' outputs, the output projection and the two norms
  after it, a sixth call, against those norms and the product.

  Proof/KernelFrame: the frame of the kernel as printed.
  Proof/Trip, Body, Run: what the call's body does at a grid point, its inner loop by induction, and the run of @main.
  Proof/Base, Tile, Block, BlockSum: what one block computes, and the sums of blocks along a row and a column.
  Proof/Arrays, Global: what the three result arrays hold, as sums over all the rows or columns.
  Proof/Prefix, HostValue: what the host lines before the call compute.
  Proof/RealMath, RefValue: the real identities, and what the reference computes.
  Proof/Equation, Finite, Value: the two are equal where the arguments are numbers.

  Proof/WeightStep: what the second call's body leaves in its accumulators and its blocks at a grid point.
  Proof/WeightSum: its two result arrays as sums over the rows, and the reference's entries, the same sums.

  Proof/FfnMath: the gradient of a row's norm and of the gate, written two ways, equal on numbers.
  Proof/FfnRow, FfnStep: what the third call's body computes from its blocks, and what it leaves at a grid point.
  Proof/FfnHost, FfnSum: the arrays it reads, and its five result arrays as sums over the columns and the rows.
  Proof/FfnRef, FfnValue: the reference's entries, and the five results equal where the arguments are numbers.

  Proof/HeadMath: the gate's slope and the gradient of half a mean square, written two ways, equal on numbers.
  Proof/HeadRow, HeadStep: what the fourth call's body computes from its blocks, and what it leaves at a grid point.
  Proof/HeadHost, HeadSum: the arrays it reads, and its seven result arrays as sums over the columns and the rows.
  Proof/HeadRef, HeadValue: the reference's entries, and the seven results equal where the arguments are numbers.

  Proof/ProjRow, ProjSum: what the fifth call's body computes and leaves, and its three result arrays as sums.
  Proof/ProjValue: the reference's entries, and the three results equal.

  Proof/MixRow, MixStep, MixSum: what the sixth call's body computes and leaves, and its four result arrays.
  Proof/MixHost, MixValue: the padded heads and the reference's entries, and the four results equal.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.KernelFrame
public import proofs.«01_k».proof.Proof.Value
public import proofs.«01_k».proof.Proof.WeightSum
public import proofs.«01_k».proof.Proof.FfnValue
public import proofs.«01_k».proof.Proof.HeadValue
public import proofs.«01_k».proof.Proof.ProjValue
public import proofs.«01_k».proof.Proof.MixValue
public import proofs.«01_k».proof.Proof.Finite
public import Idealize.ShloMosaic.Lib.Quiescent

@[expose] public section

noncomputable section

namespace Cert.Proof

open Idealize.ShloMosaic Idealize.SL.Sem

instance : Cert.Pre_finite.Facts := Cert.Flash.finiteFacts

instance : Cert.Pre_finite3.Facts := Cert.Kernel3Ideal.Ffn.finiteFacts

instance : Cert.Pre_finite4.Facts := Cert.Kernel4Ideal.Head.finiteFacts

theorem frame_kernel : Cert.quiescent_Kernel := fun m g _ => Cert.Kernel.Flash.frame m g

theorem frame_ideal : Cert.quiescent_KernelIdeal := fun m g _ => Cert.KernelIdeal.Flash.frame m g

theorem frame_ideal_finite : Cert.quiescent_KernelIdeal_pre_finite := fun m g _ => Cert.KernelIdeal.Flash.frame m g

/-- The reference's run, read at its arguments; it declares no semaphore. -/
theorem frame_reference : Cert.quiescent_ReferenceIdeal := fun m g _ =>
  (θ_run Cert.ReferenceIdeal.defs _ _).mono
    (fun r h => ⟨fun c => (h c).2.2.2, sem_eq_zero_of_no_sems (by decide) r.2⟩) (Cert.ReferenceIdeal.Value.run m g)

theorem frame_reference_finite : Cert.quiescent_ReferenceIdeal_pre_finite := fun m g _ => frame_reference m g trivial

theorem preserves : Cert.preserves_Kernel_KernelIdeal :=
  IdealRules.named_const.statement Cert.KernelIdeal.κ "mask" .f32 0xF149F2CA#32 ⊥ rfl

/-- The kernel's three results are the reference's. -/
theorem algebraic : Cert.algebraic_KernelIdeal_ReferenceIdeal_pre_finite := by
  intro m g m' g' hpre harg
  refine ⟨fun c => (Cert.KernelIdeal.Flash.dats m 0 c).arrAt 6 Cert.KernelIdeal.cfg0.N,
    fun c => (Cert.KernelIdeal.Flash.dats m 0 c).arrAt 7 Cert.KernelIdeal.cfg0.N,
    fun c => (Cert.KernelIdeal.Flash.dats m 0 c).arrAt 8 Cert.KernelIdeal.cfg0.N, ?_, ?_⟩
  · exact (θ_run Cert.KernelIdeal.defs _ _).mono (fun r h c => ⟨(h c).1.1, (h c).1.2.1, (h c).1.2.2, (h c).2⟩)
      (Cert.KernelIdeal.Flash.run m g)
  · refine (θ_run Cert.ReferenceIdeal.defs _ _).mono (fun r h c => ?_) (Cert.ReferenceIdeal.Value.run m' g')
    have hn := Cert.Flash.numbers _ _ _ _ (hpre c)
    obtain ⟨q, hq⟩ := Cert.Flash.exists_real _ fun i => (hn i).1
    obtain ⟨k, hk⟩ := Cert.Flash.exists_real _ fun i => (hn i).2.1
    obtain ⟨v, hv⟩ := Cert.Flash.exists_real _ fun i => (hn i).2.2.1
    obtain ⟨d, hd⟩ := Cert.Flash.exists_real _ fun i => (hn i).2.2.2
    obtain ⟨a0, a1, a2, a3⟩ := harg c
    refine ⟨(h c).1.trans ?_, (h c).2.1.trans ?_, (h c).2.2.1.trans ?_, (h c).2.2.2⟩
    · refine (Cert.ReferenceIdeal.Read.val_main_v71_eq m' c).trans (Eq.trans ?_ (Cert.KernelIdeal.Flash.dk_result m c q k v d hq hk hv hd).symm)
      rw [a0, a1, a2, a3]
    · refine (Cert.ReferenceIdeal.Read.val_main_v72_eq m' c).trans (Eq.trans ?_ (Cert.KernelIdeal.Flash.dv_result m c q k d hq hk hd).symm)
      rw [a0, a1, a3]
    · refine (Cert.ReferenceIdeal.Read.val_main_v70_eq m' c).trans (Eq.trans ?_ (Cert.KernelIdeal.Flash.dq_result m c q k v d hq hk hv hd).symm)
      rw [a0, a1, a2, a3]

theorem frame_kernel2 : Cert.quiescent_Kernel2 := fun m g _ => Cert.Kernel2.Gen.frame m g

theorem frame_ideal2 : Cert.quiescent_Kernel2Ideal := fun m g _ => Cert.Kernel2Ideal.Gen.frame m g

theorem frame_reference2 : Cert.quiescent_Reference2Ideal := fun m g _ =>
  (θ_run Cert.Reference2Ideal.defs _ _).mono
    (fun r h => ⟨fun c => (h c).2.2, sem_eq_zero_of_no_sems (by decide) r.2⟩) (Cert.Reference2Ideal.Value.run m g)

/-- The second kernel's two results are the reference's. -/
theorem algebraic2 : Cert.algebraic_Kernel2Ideal_Reference2Ideal := by
  intro m g m' g' _ harg
  refine ⟨fun c => (Cert.Kernel2Ideal.Gen.dats m 0 c).arrAt 4 Cert.Kernel2Ideal.cfg0.N,
    fun c => (Cert.Kernel2Ideal.Gen.dats m 0 c).arrAt 5 Cert.Kernel2Ideal.cfg0.N, Cert.Kernel2Ideal.Value.run_blocks m g, ?_⟩
  refine (θ_run Cert.Reference2Ideal.defs _ _).mono (fun r h c => ?_) (Cert.Reference2Ideal.Value.run m' g')
  obtain ⟨a0, a1, a2, a3, -, -⟩ := harg c
  refine ⟨(h c).1.trans ?_, (h c).2.1.trans ?_, (h c).2.2⟩
  · refine (Cert.Reference2Ideal.Read.val_main_v5_eq _ _).trans (Eq.trans ?_ (Cert.Kernel2Ideal.Weight.gu_result m c).symm)
    rw [a0, a2]
  · refine (Cert.Reference2Ideal.Read.val_main_v6_eq _ _).trans (Eq.trans ?_ (Cert.Kernel2Ideal.Weight.d_result m c).symm)
    rw [a1, a3]

theorem frame_kernel3 : Cert.quiescent_Kernel3 := fun m g _ => Cert.Kernel3.Gen.frame m g

theorem frame_ideal3 : Cert.quiescent_Kernel3Ideal := fun m g _ => Cert.Kernel3Ideal.Gen.frame m g

theorem frame_ideal3_finite : Cert.quiescent_Kernel3Ideal_pre_finite3 := fun m g _ => Cert.Kernel3Ideal.Gen.frame m g

theorem frame_reference3 : Cert.quiescent_Reference3Ideal := fun m g _ =>
  (θ_run Cert.Reference3Ideal.defs _ _).mono
    (fun r h => ⟨fun c => (h c).2.2.2.2.2, sem_eq_zero_of_no_sems (by decide) r.2⟩) (Cert.Reference3Ideal.Value.run m g)

theorem frame_reference3_finite : Cert.quiescent_Reference3Ideal_pre_finite3 := fun m g _ => frame_reference3 m g trivial

/-- The third kernel's five results are the reference's. -/
theorem algebraic3 : Cert.algebraic_Kernel3Ideal_Reference3Ideal_pre_finite3 := by
  intro m g m' g' hpre harg
  refine ⟨fun c => (Cert.Kernel3Ideal.Gen.dats m 0 c).arrAt 10 Cert.Kernel3Ideal.cfg0.N,
    fun c => (Cert.Kernel3Ideal.Gen.dats m 0 c).arrAt 11 Cert.Kernel3Ideal.cfg0.N,
    fun c => (Cert.Kernel3Ideal.Gen.dats m 0 c).arrAt 12 Cert.Kernel3Ideal.cfg0.N,
    fun c => (Cert.Kernel3Ideal.Gen.dats m 0 c).arrAt 13 Cert.Kernel3Ideal.cfg0.N,
    fun c => (Cert.Kernel3Ideal.Gen.dats m 0 c).arrAt 14 Cert.Kernel3Ideal.cfg0.N,
    Cert.Kernel3Ideal.Value.run_blocks m g, ?_⟩
  refine (θ_run Cert.Reference3Ideal.defs _ _).mono (fun r h c => ?_) (Cert.Reference3Ideal.Value.run m' g')
  obtain ⟨h0, h1, h2, h3, h4, h5, h6, h7, h8⟩ := Cert.Kernel3Ideal.Ffn.numbers _ _ _ _ _ _ _ _ _ (hpre c)
  obtain ⟨a0, a1, a2, a3, a4, a5, a6, a7, a8⟩ := harg c
  refine ⟨(h c).1.trans ?_, (h c).2.1.trans ?_, (h c).2.2.1.trans ?_, (h c).2.2.2.1.trans ?_, (h c).2.2.2.2.1.trans ?_, (h c).2.2.2.2.2⟩
  · refine (Cert.Reference3Ideal.Read.val_main_v93_eq _ _).trans (Eq.trans ?_ (Cert.Kernel3Ideal.Ffn.gu_result m c h2 h6 h8).symm)
    rw [a2, a6, a8]
  · refine (Cert.Reference3Ideal.Read.val_main_v58_eq _ _).trans (Eq.trans ?_ (Cert.Kernel3Ideal.Ffn.dx_result m c h0 h2 h4 h5 h6 h7 h8).symm)
    rw [a0, a2, a4, a5, a6, a7, a8]
  · refine (Cert.Reference3Ideal.Read.val_main_v94_eq _ _).trans (Eq.trans ?_ (Cert.Kernel3Ideal.Ffn.dy_result m c h0 h1 h2 h3 h4 h5 h6 h7 h8).symm)
    rw [a0, a1, a2, a3, a4, a5, a6, a7, a8]
  · refine (Cert.Reference3Ideal.Read.val_main_v41_eq _ _).trans (Eq.trans ?_ (Cert.Kernel3Ideal.Ffn.pre_result m c h0 h2 h6 h8).symm)
    rw [a0, a2, a5, a6, a8]
  · refine (Cert.Reference3Ideal.Read.val_main_v76_eq _ _).trans (Eq.trans ?_ (Cert.Kernel3Ideal.Ffn.post_result m c h0 h1 h2 h4 h5 h6 h7 h8).symm)
    rw [a0, a1, a2, a4, a5, a6, a7, a8]

theorem frame_kernel4 : Cert.quiescent_Kernel4 := fun m g _ => Cert.Kernel4.Gen.frame m g

theorem frame_ideal4 : Cert.quiescent_Kernel4Ideal := fun m g _ => Cert.Kernel4Ideal.Gen.frame m g

theorem frame_ideal4_finite : Cert.quiescent_Kernel4Ideal_pre_finite4 := fun m g _ => Cert.Kernel4Ideal.Gen.frame m g

theorem frame_reference4 : Cert.quiescent_Reference4Ideal := fun m g _ =>
  (θ_run Cert.Reference4Ideal.defs _ _).mono
    (fun r h => ⟨fun c => (h c).2.2.2.2.2.2.2, sem_eq_zero_of_no_sems (by decide) r.2⟩) (Cert.Reference4Ideal.Value.run m g)

theorem frame_reference4_finite : Cert.quiescent_Reference4Ideal_pre_finite4 := fun m g _ => frame_reference4 m g trivial

/-- The fourth kernel's seven results are the reference's. -/
theorem algebraic4 : Cert.algebraic_Kernel4Ideal_Reference4Ideal_pre_finite4 := by
  intro m g m' g' hpre harg
  refine ⟨fun c => (Cert.Kernel4Ideal.Gen.dats m 0 c).arrAt 6 Cert.Kernel4Ideal.cfg0.N,
    fun c => (Cert.Kernel4Ideal.Gen.dats m 0 c).arrAt 7 Cert.Kernel4Ideal.cfg0.N,
    fun c => (Cert.Kernel4Ideal.Gen.dats m 0 c).arrAt 8 Cert.Kernel4Ideal.cfg0.N,
    fun c => (Cert.Kernel4Ideal.Gen.dats m 0 c).arrAt 9 Cert.Kernel4Ideal.cfg0.N,
    fun c => (Cert.Kernel4Ideal.Gen.dats m 0 c).arrAt 10 Cert.Kernel4Ideal.cfg0.N,
    fun c => (Cert.Kernel4Ideal.Gen.dats m 0 c).arrAt 11 Cert.Kernel4Ideal.cfg0.N,
    fun c => (Cert.Kernel4Ideal.Gen.dats m 0 c).arrAt 12 Cert.Kernel4Ideal.cfg0.N,
    Cert.Kernel4Ideal.Value.run_blocks m g, ?_⟩
  refine (θ_run Cert.Reference4Ideal.defs _ _).mono (fun r h c => ?_) (Cert.Reference4Ideal.Value.run m' g')
  obtain ⟨h0, h1, h2, h3, h4, h5⟩ := Cert.Kernel4Ideal.Head.numbers _ _ _ _ _ _ (hpre c)
  obtain ⟨a0, a1, a2, a3, a4, a5⟩ := harg c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
  · refine (Cert.Reference4Ideal.Read.val_main_v65_eq _ _).trans (Eq.trans ?_ (Cert.Kernel4Ideal.Head.a_result m c h0 h4).symm)
    rw [a0, a4]
  · refine (Cert.Reference4Ideal.Read.val_main_v66_eq _ _).trans (Eq.trans ?_ (Cert.Kernel4Ideal.Head.b_result m c).symm)
    rw [a0, a4]
  · refine (Cert.Reference4Ideal.Read.val_main_v67_eq _ _).trans (Eq.trans ?_ (Cert.Kernel4Ideal.Head.ff_result m c).symm)
    rw [a0, a4]
  · refine (Cert.Reference4Ideal.Read.val_main_v45_eq _ _).trans (Eq.trans ?_ (Cert.Kernel4Ideal.Head.dh_result m c h0 h1 h2 h3 h4 h5).symm)
    rw [a0, a1, a2, a3, a4, a5]
  · refine (Cert.Reference4Ideal.Read.val_main_v68_eq _ _).trans (Eq.trans ?_ (Cert.Kernel4Ideal.Head.dy_result m c h0 h1 h2 h3 h4 h5).symm)
    rw [a0, a1, a2, a3, a4, a5]
  · refine (Cert.Reference4Ideal.Read.val_main_v48_eq _ _).trans (Eq.trans ?_ (Cert.Kernel4Ideal.Head.dg_result m c h0 h1 h2 h3 h4 h5).symm)
    rw [a0, a1, a2, a3, a4, a5]
  · refine (Cert.Reference4Ideal.Read.val_main_v69_eq _ _).trans (Eq.trans ?_ (Cert.Kernel4Ideal.Head.loss_result m c h0 h1 h2 h3 h4 h5).symm)
    rw [a0, a1, a2, a3, a4, a5]

theorem frame_kernel5 : Cert.quiescent_Kernel5 := fun m g _ => Cert.Kernel5.Gen.frame m g

theorem frame_ideal5 : Cert.quiescent_Kernel5Ideal := fun m g _ => Cert.Kernel5Ideal.Gen.frame m g

theorem frame_reference5 : Cert.quiescent_Reference5Ideal := fun m g _ =>
  (θ_run Cert.Reference5Ideal.defs _ _).mono
    (fun r h => ⟨fun c => (h c).2.2.2, sem_eq_zero_of_no_sems (by decide) r.2⟩) (Cert.Reference5Ideal.Value.run m g)

/-- The fifth kernel's three results are the reference's. -/
theorem algebraic5 : Cert.algebraic_Kernel5Ideal_Reference5Ideal := by
  intro m g m' g' _ harg
  refine ⟨fun c => (Cert.Kernel5Ideal.Gen.dats m 0 c).arrAt 3 Cert.Kernel5Ideal.cfg0.N,
    fun c => (Cert.Kernel5Ideal.Gen.dats m 0 c).arrAt 4 Cert.Kernel5Ideal.cfg0.N,
    fun c => (Cert.Kernel5Ideal.Gen.dats m 0 c).arrAt 5 Cert.Kernel5Ideal.cfg0.N, Cert.Kernel5Ideal.Value.run_blocks m g, ?_⟩
  refine (θ_run Cert.Reference5Ideal.defs _ _).mono (fun r h c => ?_) (Cert.Reference5Ideal.Value.run m' g')
  obtain ⟨a0, a1, a2⟩ := harg c
  refine ⟨(h c).1.trans ?_, (h c).2.1.trans ?_, (h c).2.2.1.trans ?_, (h c).2.2.2⟩
  · refine (Cert.Reference5Ideal.Read.val_main_v13_eq _ _ _).trans (Eq.trans ?_ (Cert.Kernel5Ideal.Proj.m_result m c).symm)
    rw [a0, a1, a2]
  · refine (Cert.Reference5Ideal.Read.val_main_v14_eq _ _ _).trans (Eq.trans ?_ (Cert.Kernel5Ideal.Proj.h_result m c).symm)
    rw [a0, a1, a2]
  · refine (Cert.Reference5Ideal.Read.val_main_v15_eq _ _).trans (Eq.trans ?_ (Cert.Kernel5Ideal.Proj.u_result m c).symm)
    rw [a0, a1]

theorem frame_kernel6 : Cert.quiescent_Kernel6 := fun m g _ => Cert.Kernel6.Gen.frame m g

theorem frame_ideal6 : Cert.quiescent_Kernel6Ideal := fun m g _ => Cert.Kernel6Ideal.Gen.frame m g

theorem frame_reference6 : Cert.quiescent_Reference6Ideal := fun m g _ =>
  (θ_run Cert.Reference6Ideal.defs _ _).mono
    (fun r h => ⟨fun c => (h c).2.2.2.2, sem_eq_zero_of_no_sems (by decide) r.2⟩) (Cert.Reference6Ideal.Value.run m g)

/-- The sixth kernel's four results are the reference's. -/
theorem algebraic6 : Cert.algebraic_Kernel6Ideal_Reference6Ideal := by
  intro m g m' g' _ harg
  refine ⟨fun c => (Cert.Kernel6Ideal.Gen.dats m 0 c).arrAt 7 Cert.Kernel6Ideal.cfg0.N,
    fun c => (Cert.Kernel6Ideal.Gen.dats m 0 c).arrAt 8 Cert.Kernel6Ideal.cfg0.N,
    fun c => (Cert.Kernel6Ideal.Gen.dats m 0 c).arrAt 9 Cert.Kernel6Ideal.cfg0.N,
    fun c => (Cert.Kernel6Ideal.Gen.dats m 0 c).arrAt 10 Cert.Kernel6Ideal.cfg0.N, Cert.Kernel6Ideal.Value.run_blocks m g, ?_⟩
  refine (θ_run Cert.Reference6Ideal.defs _ _).mono (fun r h c => ?_) (Cert.Reference6Ideal.Value.run m' g')
  obtain ⟨a0, a1, a2, a3, a4, a5, a6⟩ := harg c
  refine ⟨(h c).1.trans ?_, (h c).2.1.trans ?_, (h c).2.2.1.trans ?_, (h c).2.2.2.1.trans ?_, (h c).2.2.2.2⟩
  · refine (Cert.Reference6Ideal.Read.val_main_v32_eq _ _).trans (Eq.trans ?_ (Cert.Kernel6Ideal.Mix.h_result m c).symm)
    rw [a0, a1, a2, a3, a4, a5]
  · refine (Cert.Reference6Ideal.Read.val_main_v19_eq _ _ _ _).trans (Eq.trans ?_ (Cert.Kernel6Ideal.Mix.y_result m c).symm)
    rw [a0, a1, a3, a4]
  · refine (Cert.Reference6Ideal.Read.val_main_v45_eq _ _).trans (Eq.trans ?_ (Cert.Kernel6Ideal.Mix.z_result m c).symm)
    rw [a0, a1, a2, a3, a4, a5, a6]
  · refine (Cert.Reference6Ideal.Read.val_main_v46_eq _ _ _).trans (Eq.trans ?_ (Cert.Kernel6Ideal.Mix.mix_result m c).symm)
    rw [a0, a1, a3]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Flash.finiteFacts, Cert.Kernel3Ideal.Ffn.finiteFacts, Cert.Kernel4Ideal.Head.finiteFacts,
  frame_kernel, frame_ideal, frame_ideal_finite, frame_reference, frame_reference_finite,
  frame_kernel2, frame_ideal2, frame_reference2,
  frame_kernel3, frame_ideal3, frame_ideal3_finite, frame_reference3, frame_reference3_finite,
  frame_kernel4, frame_ideal4, frame_ideal4_finite, frame_reference4, frame_reference4_finite,
  frame_kernel5, frame_ideal5, frame_reference5,
  frame_kernel6, frame_ideal6, frame_reference6,
  preserves, algebraic, trivial, algebraic2, trivial, algebraic3, trivial, algebraic4, trivial, algebraic5, trivial, algebraic6⟩

end Cert.Proof

end
